-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelCombine (m : (ℓ : Loc Cert.KernelCombine.nD Cert.KernelCombine.τ Cert.KernelCombine.sig) → Buf (Elt Bits) ℓ) : Prop :=
  True

def Pre_KernelCombineIdeal (m : (ℓ : Loc Cert.KernelCombineIdeal.nD Cert.KernelCombineIdeal.τ Cert.KernelCombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_KernelFourier (m : (ℓ : Loc Cert.KernelFourier.nD Cert.KernelFourier.τ Cert.KernelFourier.sig) → Buf (Elt Bits) ℓ) : Prop :=
  True

def Pre_KernelFourierIdeal (m : (ℓ : Loc Cert.KernelFourierIdeal.nD Cert.KernelFourierIdeal.τ Cert.KernelFourierIdeal.sig) → Buf (Elt Ideal) ℓ) : Prop :=
  True

def Pre_ReferenceFourierIdeal (m : (ℓ : Loc Cert.ReferenceFourierIdeal.nD Cert.ReferenceFourierIdeal.τ Cert.ReferenceFourierIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7))
      ∧ r.2.sem = fun _ => 0)

def quiescent_KernelCombine [hKernelCombine : Cert.KernelCombine.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0)
      ∧ r.2.mem ((c.tc : Thread Cert.KernelCombine.nD Cert.KernelCombine.τ).loc Cert.KernelCombine.main_arg1) = m ((c.tc : Thread Cert.KernelCombine.nD Cert.KernelCombine.τ).loc Cert.KernelCombine.main_arg1)
      ∧ r.2.mem ((c.tc : Thread Cert.KernelCombine.nD Cert.KernelCombine.τ).loc Cert.KernelCombine.main_arg2) = m ((c.tc : Thread Cert.KernelCombine.nD Cert.KernelCombine.τ).loc Cert.KernelCombine.main_arg2)
      ∧ r.2.mem ((c.tc : Thread Cert.KernelCombine.nD Cert.KernelCombine.τ).loc Cert.KernelCombine.main_arg3) = m ((c.tc : Thread Cert.KernelCombine.nD Cert.KernelCombine.τ).loc Cert.KernelCombine.main_arg3)
      ∧ r.2.mem ((c.tc : Thread Cert.KernelCombine.nD Cert.KernelCombine.τ).loc Cert.KernelCombine.main_arg4) = m ((c.tc : Thread Cert.KernelCombine.nD Cert.KernelCombine.τ).loc Cert.KernelCombine.main_arg4)
      ∧ r.2.mem ((c.tc : Thread Cert.KernelCombine.nD Cert.KernelCombine.τ).loc Cert.KernelCombine.main_arg5) = m ((c.tc : Thread Cert.KernelCombine.nD Cert.KernelCombine.τ).loc Cert.KernelCombine.main_arg5)
      ∧ r.2.mem ((c.tc : Thread Cert.KernelCombine.nD Cert.KernelCombine.τ).loc Cert.KernelCombine.main_arg6) = m ((c.tc : Thread Cert.KernelCombine.nD Cert.KernelCombine.τ).loc Cert.KernelCombine.main_arg6)
      ∧ r.2.mem ((c.tc : Thread Cert.KernelCombine.nD Cert.KernelCombine.τ).loc Cert.KernelCombine.main_arg7) = m ((c.tc : Thread Cert.KernelCombine.nD Cert.KernelCombine.τ).loc Cert.KernelCombine.main_arg7)
      ∧ r.2.mem ((c.tc : Thread Cert.KernelCombine.nD Cert.KernelCombine.τ).loc Cert.KernelCombine.main_arg8) = m ((c.tc : Thread Cert.KernelCombine.nD Cert.KernelCombine.τ).loc Cert.KernelCombine.main_arg8)
      ∧ r.2.mem ((c.tc : Thread Cert.KernelCombine.nD Cert.KernelCombine.τ).loc Cert.KernelCombine.main_arg9) = m ((c.tc : Thread Cert.KernelCombine.nD Cert.KernelCombine.τ).loc Cert.KernelCombine.main_arg9)
      ∧ r.2.mem ((c.tc : Thread Cert.KernelCombine.nD Cert.KernelCombine.τ).loc Cert.KernelCombine.main_arg10) = m ((c.tc : Thread Cert.KernelCombine.nD Cert.KernelCombine.τ).loc Cert.KernelCombine.main_arg10))
      ∧ r.2.sem = fun _ => 0)

def quiescent_KernelCombineIdeal [hKernelCombineIdeal : Cert.KernelCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
      ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
      ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
      ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
      ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
      ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5)
      ∧ r.2.mem ((c.tc : Thread Cert.KernelCombineIdeal.nD Cert.KernelCombineIdeal.τ).loc Cert.KernelCombineIdeal.main_arg6) = m ((c.tc : Thread Cert.KernelCombineIdeal.nD Cert.KernelCombineIdeal.τ).loc Cert.KernelCombineIdeal.main_arg6)
      ∧ r.2.mem ((c.tc : Thread Cert.KernelCombineIdeal.nD Cert.KernelCombineIdeal.τ).loc Cert.KernelCombineIdeal.main_arg7) = m ((c.tc : Thread Cert.KernelCombineIdeal.nD Cert.KernelCombineIdeal.τ).loc Cert.KernelCombineIdeal.main_arg7)
      ∧ r.2.mem ((c.tc : Thread Cert.KernelCombineIdeal.nD Cert.KernelCombineIdeal.τ).loc Cert.KernelCombineIdeal.main_arg8) = m ((c.tc : Thread Cert.KernelCombineIdeal.nD Cert.KernelCombineIdeal.τ).loc Cert.KernelCombineIdeal.main_arg8)
      ∧ r.2.mem ((c.tc : Thread Cert.KernelCombineIdeal.nD Cert.KernelCombineIdeal.τ).loc Cert.KernelCombineIdeal.main_arg9) = m ((c.tc : Thread Cert.KernelCombineIdeal.nD Cert.KernelCombineIdeal.τ).loc Cert.KernelCombineIdeal.main_arg9)
      ∧ r.2.mem ((c.tc : Thread Cert.KernelCombineIdeal.nD Cert.KernelCombineIdeal.τ).loc Cert.KernelCombineIdeal.main_arg10) = m ((c.tc : Thread Cert.KernelCombineIdeal.nD Cert.KernelCombineIdeal.τ).loc Cert.KernelCombineIdeal.main_arg10))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4)
      ∧ r.2.mem ((c.tc : Thread Cert.ReferenceCombineIdeal.nD Cert.ReferenceCombineIdeal.τ).loc Cert.ReferenceCombineIdeal.main_arg5) = m ((c.tc : Thread Cert.ReferenceCombineIdeal.nD Cert.ReferenceCombineIdeal.τ).loc Cert.ReferenceCombineIdeal.main_arg5)
      ∧ r.2.mem ((c.tc : Thread Cert.ReferenceCombineIdeal.nD Cert.ReferenceCombineIdeal.τ).loc Cert.ReferenceCombineIdeal.main_arg6) = m ((c.tc : Thread Cert.ReferenceCombineIdeal.nD Cert.ReferenceCombineIdeal.τ).loc Cert.ReferenceCombineIdeal.main_arg6)
      ∧ r.2.mem ((c.tc : Thread Cert.ReferenceCombineIdeal.nD Cert.ReferenceCombineIdeal.τ).loc Cert.ReferenceCombineIdeal.main_arg7) = m ((c.tc : Thread Cert.ReferenceCombineIdeal.nD Cert.ReferenceCombineIdeal.τ).loc Cert.ReferenceCombineIdeal.main_arg7)
      ∧ r.2.mem ((c.tc : Thread Cert.ReferenceCombineIdeal.nD Cert.ReferenceCombineIdeal.τ).loc Cert.ReferenceCombineIdeal.main_arg8) = m ((c.tc : Thread Cert.ReferenceCombineIdeal.nD Cert.ReferenceCombineIdeal.τ).loc Cert.ReferenceCombineIdeal.main_arg8)
      ∧ r.2.mem ((c.tc : Thread Cert.ReferenceCombineIdeal.nD Cert.ReferenceCombineIdeal.τ).loc Cert.ReferenceCombineIdeal.main_arg9) = m ((c.tc : Thread Cert.ReferenceCombineIdeal.nD Cert.ReferenceCombineIdeal.τ).loc Cert.ReferenceCombineIdeal.main_arg9)
      ∧ r.2.mem ((c.tc : Thread Cert.ReferenceCombineIdeal.nD Cert.ReferenceCombineIdeal.τ).loc Cert.ReferenceCombineIdeal.main_arg10) = m ((c.tc : Thread Cert.ReferenceCombineIdeal.nD Cert.ReferenceCombineIdeal.τ).loc Cert.ReferenceCombineIdeal.main_arg10))
      ∧ r.2.sem = fun _ => 0)

def quiescent_KernelFourier [hKernelFourier : Cert.KernelFourier.Facts] : Prop :=
  ∀ (m : (ℓ : Loc Cert.KernelFourier.nD Cert.KernelFourier.τ Cert.KernelFourier.sig) → Buf (Elt Bits) ℓ) (g : Dev Cert.KernelFourier.nD → PrngReg), Pre_KernelFourier m →
    θ_run (Cert.KernelFourier.defs (F := Bits)) (onTc (τ := Cert.KernelFourier.τ) (Cert.KernelFourier.main (F := Bits))) ⟨m, fun _ => 0, g⟩ (fun r => (∀ c : Dev Cert.KernelFourier.nD,
      r.2.mem ((c.tc : Thread Cert.KernelFourier.nD Cert.KernelFourier.τ).loc Cert.KernelFourier.main_arg0) = m ((c.tc : Thread Cert.KernelFourier.nD Cert.KernelFourier.τ).loc Cert.KernelFourier.main_arg0))
      ∧ r.2.sem = fun _ => 0)

def quiescent_KernelFourierIdeal [hKernelFourierIdeal : Cert.KernelFourierIdeal.Facts] : Prop :=
  ∀ (m : (ℓ : Loc Cert.KernelFourierIdeal.nD Cert.KernelFourierIdeal.τ Cert.KernelFourierIdeal.sig) → Buf (Elt Ideal) ℓ) (g : Dev Cert.KernelFourierIdeal.nD → PrngReg), Pre_KernelFourierIdeal m →
    θ_run (Cert.KernelFourierIdeal.defs (F := Ideal)) (onTc (τ := Cert.KernelFourierIdeal.τ) (Cert.KernelFourierIdeal.main (F := Ideal))) ⟨m, fun _ => 0, g⟩ (fun r => (∀ c : Dev Cert.KernelFourierIdeal.nD,
      r.2.mem ((c.tc : Thread Cert.KernelFourierIdeal.nD Cert.KernelFourierIdeal.τ).loc Cert.KernelFourierIdeal.main_arg0) = m ((c.tc : Thread Cert.KernelFourierIdeal.nD Cert.KernelFourierIdeal.τ).loc Cert.KernelFourierIdeal.main_arg0))
      ∧ r.2.sem = fun _ => 0)

def quiescent_ReferenceFourierIdeal [hReferenceFourierIdeal : Cert.ReferenceFourierIdeal.Facts] : Prop :=
  ∀ (m : (ℓ : Loc Cert.ReferenceFourierIdeal.nD Cert.ReferenceFourierIdeal.τ Cert.ReferenceFourierIdeal.sig) → Buf (Elt Ideal) ℓ) (g : Dev Cert.ReferenceFourierIdeal.nD → PrngReg), Pre_ReferenceFourierIdeal m →
    θ_run (Cert.ReferenceFourierIdeal.defs (F := Ideal)) (onTc (τ := Cert.ReferenceFourierIdeal.τ) (Cert.ReferenceFourierIdeal.main (F := Ideal))) ⟨m, fun _ => 0, g⟩ (fun r => (∀ c : Dev Cert.ReferenceFourierIdeal.nD,
      r.2.mem ((c.tc : Thread Cert.ReferenceFourierIdeal.nD Cert.ReferenceFourierIdeal.τ).loc Cert.ReferenceFourierIdeal.main_arg0) = m ((c.tc : Thread Cert.ReferenceFourierIdeal.nD Cert.ReferenceFourierIdeal.τ).loc Cert.ReferenceFourierIdeal.main_arg0))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v10)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v10) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v44) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)) →
    ∃ (v0 : (c : Dev Cert.KernelProjIdeal.nD) → Buf (Elt Ideal) ((c.tc : Thread Cert.KernelProjIdeal.nD Cert.KernelProjIdeal.τ).loc Cert.KernelProjIdeal.main_v32_0)) (v1 : (c : Dev Cert.KernelProjIdeal.nD) → Buf (Elt Ideal) ((c.tc : Thread Cert.KernelProjIdeal.nD Cert.KernelProjIdeal.τ).loc Cert.KernelProjIdeal.main_v32_1)) (v2 : (c : Dev Cert.KernelProjIdeal.nD) → Buf (Elt Ideal) ((c.tc : Thread Cert.KernelProjIdeal.nD Cert.KernelProjIdeal.τ).loc Cert.KernelProjIdeal.main_v32_2)) (v3 : (c : Dev Cert.KernelProjIdeal.nD) → Buf (Elt Ideal) ((c.tc : Thread Cert.KernelProjIdeal.nD Cert.KernelProjIdeal.τ).loc Cert.KernelProjIdeal.main_v32_3)) (v4 : (c : Dev Cert.KernelProjIdeal.nD) → Buf (Elt Ideal) ((c.tc : Thread Cert.KernelProjIdeal.nD Cert.KernelProjIdeal.τ).loc Cert.KernelProjIdeal.main_v32_4)) (v5 : (c : Dev Cert.KernelProjIdeal.nD) → Buf (Elt Ideal) ((c.tc : Thread Cert.KernelProjIdeal.nD Cert.KernelProjIdeal.τ).loc Cert.KernelProjIdeal.main_v32_5)) (v6 : (c : Dev Cert.KernelProjIdeal.nD) → Buf (Elt Ideal) ((c.tc : Thread Cert.KernelProjIdeal.nD Cert.KernelProjIdeal.τ).loc Cert.KernelProjIdeal.main_v32_6)) (v7 : (c : Dev Cert.KernelProjIdeal.nD) → Buf (Elt Ideal) ((c.tc : Thread Cert.KernelProjIdeal.nD Cert.KernelProjIdeal.τ).loc Cert.KernelProjIdeal.main_v32_7)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v32_0) = v0 c
          ∧ r.2.mem ((c.tc : Thread Cert.KernelProjIdeal.nD Cert.KernelProjIdeal.τ).loc Cert.KernelProjIdeal.main_v32_1) = v1 c
          ∧ r.2.mem ((c.tc : Thread Cert.KernelProjIdeal.nD Cert.KernelProjIdeal.τ).loc Cert.KernelProjIdeal.main_v32_2) = v2 c
          ∧ r.2.mem ((c.tc : Thread Cert.KernelProjIdeal.nD Cert.KernelProjIdeal.τ).loc Cert.KernelProjIdeal.main_v32_3) = v3 c
          ∧ r.2.mem ((c.tc : Thread Cert.KernelProjIdeal.nD Cert.KernelProjIdeal.τ).loc Cert.KernelProjIdeal.main_v32_4) = v4 c
          ∧ r.2.mem ((c.tc : Thread Cert.KernelProjIdeal.nD Cert.KernelProjIdeal.τ).loc Cert.KernelProjIdeal.main_v32_5) = v5 c
          ∧ r.2.mem ((c.tc : Thread Cert.KernelProjIdeal.nD Cert.KernelProjIdeal.τ).loc Cert.KernelProjIdeal.main_v32_6) = v6 c
          ∧ r.2.mem ((c.tc : Thread Cert.KernelProjIdeal.nD Cert.KernelProjIdeal.τ).loc Cert.KernelProjIdeal.main_v32_7) = v7 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v175) = v0 c
          ∧ r.2.mem ((c.tc : Thread Cert.ReferenceProjIdeal.nD Cert.ReferenceProjIdeal.τ).loc Cert.ReferenceProjIdeal.main_v177) = v1 c
          ∧ r.2.mem ((c.tc : Thread Cert.ReferenceProjIdeal.nD Cert.ReferenceProjIdeal.τ).loc Cert.ReferenceProjIdeal.main_v179) = v2 c
          ∧ r.2.mem ((c.tc : Thread Cert.ReferenceProjIdeal.nD Cert.ReferenceProjIdeal.τ).loc Cert.ReferenceProjIdeal.main_v181) = v3 c
          ∧ r.2.mem ((c.tc : Thread Cert.ReferenceProjIdeal.nD Cert.ReferenceProjIdeal.τ).loc Cert.ReferenceProjIdeal.main_v183) = v4 c
          ∧ r.2.mem ((c.tc : Thread Cert.ReferenceProjIdeal.nD Cert.ReferenceProjIdeal.τ).loc Cert.ReferenceProjIdeal.main_v186) = v5 c
          ∧ r.2.mem ((c.tc : Thread Cert.ReferenceProjIdeal.nD Cert.ReferenceProjIdeal.τ).loc Cert.ReferenceProjIdeal.main_v167) = v6 c
          ∧ r.2.mem ((c.tc : Thread Cert.ReferenceProjIdeal.nD Cert.ReferenceProjIdeal.τ).loc Cert.ReferenceProjIdeal.main_v188) = v7 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7))

def preserves_KernelCombine_KernelCombineIdeal : Prop :=
  True

def algebraic_KernelCombineIdeal_ReferenceCombineIdeal [hKernelCombineIdeal : Cert.KernelCombineIdeal.Facts] [hReferenceCombineIdeal : Cert.ReferenceCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)
      ∧ m' ((c.tc : Thread Cert.ReferenceCombineIdeal.nD Cert.ReferenceCombineIdeal.τ).loc Cert.ReferenceCombineIdeal.main_arg1) = m ((c.tc : Thread Cert.KernelCombineIdeal.nD Cert.KernelCombineIdeal.τ).loc Cert.KernelCombineIdeal.main_arg1)
      ∧ m' ((c.tc : Thread Cert.ReferenceCombineIdeal.nD Cert.ReferenceCombineIdeal.τ).loc Cert.ReferenceCombineIdeal.main_arg2) = m ((c.tc : Thread Cert.KernelCombineIdeal.nD Cert.KernelCombineIdeal.τ).loc Cert.KernelCombineIdeal.main_arg2)
      ∧ m' ((c.tc : Thread Cert.ReferenceCombineIdeal.nD Cert.ReferenceCombineIdeal.τ).loc Cert.ReferenceCombineIdeal.main_arg3) = m ((c.tc : Thread Cert.KernelCombineIdeal.nD Cert.KernelCombineIdeal.τ).loc Cert.KernelCombineIdeal.main_arg3)
      ∧ m' ((c.tc : Thread Cert.ReferenceCombineIdeal.nD Cert.ReferenceCombineIdeal.τ).loc Cert.ReferenceCombineIdeal.main_arg4) = m ((c.tc : Thread Cert.KernelCombineIdeal.nD Cert.KernelCombineIdeal.τ).loc Cert.KernelCombineIdeal.main_arg4)
      ∧ m' ((c.tc : Thread Cert.ReferenceCombineIdeal.nD Cert.ReferenceCombineIdeal.τ).loc Cert.ReferenceCombineIdeal.main_arg5) = m ((c.tc : Thread Cert.KernelCombineIdeal.nD Cert.KernelCombineIdeal.τ).loc Cert.KernelCombineIdeal.main_arg5)
      ∧ m' ((c.tc : Thread Cert.ReferenceCombineIdeal.nD Cert.ReferenceCombineIdeal.τ).loc Cert.ReferenceCombineIdeal.main_arg6) = m ((c.tc : Thread Cert.KernelCombineIdeal.nD Cert.KernelCombineIdeal.τ).loc Cert.KernelCombineIdeal.main_arg6)
      ∧ m' ((c.tc : Thread Cert.ReferenceCombineIdeal.nD Cert.ReferenceCombineIdeal.τ).loc Cert.ReferenceCombineIdeal.main_arg7) = m ((c.tc : Thread Cert.KernelCombineIdeal.nD Cert.KernelCombineIdeal.τ).loc Cert.KernelCombineIdeal.main_arg7)
      ∧ m' ((c.tc : Thread Cert.ReferenceCombineIdeal.nD Cert.ReferenceCombineIdeal.τ).loc Cert.ReferenceCombineIdeal.main_arg8) = m ((c.tc : Thread Cert.KernelCombineIdeal.nD Cert.KernelCombineIdeal.τ).loc Cert.KernelCombineIdeal.main_arg8)
      ∧ m' ((c.tc : Thread Cert.ReferenceCombineIdeal.nD Cert.ReferenceCombineIdeal.τ).loc Cert.ReferenceCombineIdeal.main_arg9) = m ((c.tc : Thread Cert.KernelCombineIdeal.nD Cert.KernelCombineIdeal.τ).loc Cert.KernelCombineIdeal.main_arg9)
      ∧ m' ((c.tc : Thread Cert.ReferenceCombineIdeal.nD Cert.ReferenceCombineIdeal.τ).loc Cert.ReferenceCombineIdeal.main_arg10) = m ((c.tc : Thread Cert.KernelCombineIdeal.nD Cert.KernelCombineIdeal.τ).loc Cert.KernelCombineIdeal.main_arg10)) →
    ∃ (v0 : (c : Dev Cert.KernelCombineIdeal.nD) → Buf (Elt Ideal) ((c.tc : Thread Cert.KernelCombineIdeal.nD Cert.KernelCombineIdeal.τ).loc Cert.KernelCombineIdeal.main_v10)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v10) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
          ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
          ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
          ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
          ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
          ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5)
          ∧ r.2.mem ((c.tc : Thread Cert.KernelCombineIdeal.nD Cert.KernelCombineIdeal.τ).loc Cert.KernelCombineIdeal.main_arg6) = m ((c.tc : Thread Cert.KernelCombineIdeal.nD Cert.KernelCombineIdeal.τ).loc Cert.KernelCombineIdeal.main_arg6)
          ∧ r.2.mem ((c.tc : Thread Cert.KernelCombineIdeal.nD Cert.KernelCombineIdeal.τ).loc Cert.KernelCombineIdeal.main_arg7) = m ((c.tc : Thread Cert.KernelCombineIdeal.nD Cert.KernelCombineIdeal.τ).loc Cert.KernelCombineIdeal.main_arg7)
          ∧ r.2.mem ((c.tc : Thread Cert.KernelCombineIdeal.nD Cert.KernelCombineIdeal.τ).loc Cert.KernelCombineIdeal.main_arg8) = m ((c.tc : Thread Cert.KernelCombineIdeal.nD Cert.KernelCombineIdeal.τ).loc Cert.KernelCombineIdeal.main_arg8)
          ∧ r.2.mem ((c.tc : Thread Cert.KernelCombineIdeal.nD Cert.KernelCombineIdeal.τ).loc Cert.KernelCombineIdeal.main_arg9) = m ((c.tc : Thread Cert.KernelCombineIdeal.nD Cert.KernelCombineIdeal.τ).loc Cert.KernelCombineIdeal.main_arg9)
          ∧ r.2.mem ((c.tc : Thread Cert.KernelCombineIdeal.nD Cert.KernelCombineIdeal.τ).loc Cert.KernelCombineIdeal.main_arg10) = m ((c.tc : Thread Cert.KernelCombineIdeal.nD Cert.KernelCombineIdeal.τ).loc Cert.KernelCombineIdeal.main_arg10))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v64) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3)
          ∧ r.2.mem ((c.tc : Thread Cert.ReferenceCombineIdeal.nD Cert.ReferenceCombineIdeal.τ).loc Cert.ReferenceCombineIdeal.main_arg4) = m' ((c.tc : Thread Cert.ReferenceCombineIdeal.nD Cert.ReferenceCombineIdeal.τ).loc Cert.ReferenceCombineIdeal.main_arg4)
          ∧ r.2.mem ((c.tc : Thread Cert.ReferenceCombineIdeal.nD Cert.ReferenceCombineIdeal.τ).loc Cert.ReferenceCombineIdeal.main_arg5) = m' ((c.tc : Thread Cert.ReferenceCombineIdeal.nD Cert.ReferenceCombineIdeal.τ).loc Cert.ReferenceCombineIdeal.main_arg5)
          ∧ r.2.mem ((c.tc : Thread Cert.ReferenceCombineIdeal.nD Cert.ReferenceCombineIdeal.τ).loc Cert.ReferenceCombineIdeal.main_arg6) = m' ((c.tc : Thread Cert.ReferenceCombineIdeal.nD Cert.ReferenceCombineIdeal.τ).loc Cert.ReferenceCombineIdeal.main_arg6)
          ∧ r.2.mem ((c.tc : Thread Cert.ReferenceCombineIdeal.nD Cert.ReferenceCombineIdeal.τ).loc Cert.ReferenceCombineIdeal.main_arg7) = m' ((c.tc : Thread Cert.ReferenceCombineIdeal.nD Cert.ReferenceCombineIdeal.τ).loc Cert.ReferenceCombineIdeal.main_arg7)
          ∧ r.2.mem ((c.tc : Thread Cert.ReferenceCombineIdeal.nD Cert.ReferenceCombineIdeal.τ).loc Cert.ReferenceCombineIdeal.main_arg8) = m' ((c.tc : Thread Cert.ReferenceCombineIdeal.nD Cert.ReferenceCombineIdeal.τ).loc Cert.ReferenceCombineIdeal.main_arg8)
          ∧ r.2.mem ((c.tc : Thread Cert.ReferenceCombineIdeal.nD Cert.ReferenceCombineIdeal.τ).loc Cert.ReferenceCombineIdeal.main_arg9) = m' ((c.tc : Thread Cert.ReferenceCombineIdeal.nD Cert.ReferenceCombineIdeal.τ).loc Cert.ReferenceCombineIdeal.main_arg9)
          ∧ r.2.mem ((c.tc : Thread Cert.ReferenceCombineIdeal.nD Cert.ReferenceCombineIdeal.τ).loc Cert.ReferenceCombineIdeal.main_arg10) = m' ((c.tc : Thread Cert.ReferenceCombineIdeal.nD Cert.ReferenceCombineIdeal.τ).loc Cert.ReferenceCombineIdeal.main_arg10))

def preserves_KernelFourier_KernelFourierIdeal : Prop :=
  True

def algebraic_KernelFourierIdeal_ReferenceFourierIdeal [hKernelFourierIdeal : Cert.KernelFourierIdeal.Facts] [hReferenceFourierIdeal : Cert.ReferenceFourierIdeal.Facts] : Prop :=
  ∀ (m : (ℓ : Loc Cert.KernelFourierIdeal.nD Cert.KernelFourierIdeal.τ Cert.KernelFourierIdeal.sig) → Buf (Elt Ideal) ℓ) (g : Dev Cert.KernelFourierIdeal.nD → PrngReg)
    (m' : (ℓ : Loc Cert.ReferenceFourierIdeal.nD Cert.ReferenceFourierIdeal.τ Cert.ReferenceFourierIdeal.sig) → Buf (Elt Ideal) ℓ) (g' : Dev Cert.ReferenceFourierIdeal.nD → PrngReg), Pre_KernelFourierIdeal m →
    (∀ c : Dev Cert.KernelFourierIdeal.nD,
      m' ((c.tc : Thread Cert.ReferenceFourierIdeal.nD Cert.ReferenceFourierIdeal.τ).loc Cert.ReferenceFourierIdeal.main_arg0) = m ((c.tc : Thread Cert.KernelFourierIdeal.nD Cert.KernelFourierIdeal.τ).loc Cert.KernelFourierIdeal.main_arg0)) →
    ∃ (v0 : (c : Dev Cert.KernelFourierIdeal.nD) → Buf (Elt Ideal) ((c.tc : Thread Cert.KernelFourierIdeal.nD Cert.KernelFourierIdeal.τ).loc Cert.KernelFourierIdeal.main_v18)),
      θ_run (Cert.KernelFourierIdeal.defs (F := Ideal)) (onTc (τ := Cert.KernelFourierIdeal.τ) (Cert.KernelFourierIdeal.main (F := Ideal))) ⟨m, fun _ => 0, g⟩ (fun r => ∀ c : Dev Cert.KernelFourierIdeal.nD,
          r.2.mem ((c.tc : Thread Cert.KernelFourierIdeal.nD Cert.KernelFourierIdeal.τ).loc Cert.KernelFourierIdeal.main_v18) = v0 c
          ∧ r.2.mem ((c.tc : Thread Cert.KernelFourierIdeal.nD Cert.KernelFourierIdeal.τ).loc Cert.KernelFourierIdeal.main_arg0) = m ((c.tc : Thread Cert.KernelFourierIdeal.nD Cert.KernelFourierIdeal.τ).loc Cert.KernelFourierIdeal.main_arg0))
      ∧ θ_run (Cert.ReferenceFourierIdeal.defs (F := Ideal)) (onTc (τ := Cert.ReferenceFourierIdeal.τ) (Cert.ReferenceFourierIdeal.main (F := Ideal))) ⟨m', fun _ => 0, g'⟩ (fun r => ∀ c : Dev Cert.ReferenceFourierIdeal.nD,
          r.2.mem ((c.tc : Thread Cert.ReferenceFourierIdeal.nD Cert.ReferenceFourierIdeal.τ).loc Cert.ReferenceFourierIdeal.main_v36) = v0 c
          ∧ r.2.mem ((c.tc : Thread Cert.ReferenceFourierIdeal.nD Cert.ReferenceFourierIdeal.τ).loc Cert.ReferenceFourierIdeal.main_arg0) = m' ((c.tc : Thread Cert.ReferenceFourierIdeal.nD Cert.ReferenceFourierIdeal.τ).loc Cert.ReferenceFourierIdeal.main_arg0))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelCombine : Cert.KernelCombine.Facts) (hKernelCombineIdeal : Cert.KernelCombineIdeal.Facts) (hReferenceCombineIdeal : Cert.ReferenceCombineIdeal.Facts) (hKernelFourier : Cert.KernelFourier.Facts) (hKernelFourierIdeal : Cert.KernelFourierIdeal.Facts) (hReferenceFourierIdeal : Cert.ReferenceFourierIdeal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelCombine (hKernelCombine := hKernelCombine)
    ∧ quiescent_KernelCombineIdeal (hKernelCombineIdeal := hKernelCombineIdeal)
    ∧ quiescent_ReferenceCombineIdeal (hReferenceCombineIdeal := hReferenceCombineIdeal)
    ∧ quiescent_KernelFourier (hKernelFourier := hKernelFourier)
    ∧ quiescent_KernelFourierIdeal (hKernelFourierIdeal := hKernelFourierIdeal)
    ∧ quiescent_ReferenceFourierIdeal (hReferenceFourierIdeal := hReferenceFourierIdeal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelCombine_KernelCombineIdeal
    ∧ algebraic_KernelCombineIdeal_ReferenceCombineIdeal (hKernelCombineIdeal := hKernelCombineIdeal) (hReferenceCombineIdeal := hReferenceCombineIdeal)
    ∧ preserves_KernelFourier_KernelFourierIdeal
    ∧ algebraic_KernelFourierIdeal_ReferenceFourierIdeal (hKernelFourierIdeal := hKernelFourierIdeal) (hReferenceFourierIdeal := hReferenceFourierIdeal)
-- ==== Pre_finite_qkv.lean ====
abbrev S4 : Shape := ⟨1, ![4]⟩
abbrev S32768x512 : Shape := ⟨2, ![32768, 512]⟩
abbrev S128x4x128x128 : Shape := ⟨4, ![128, 4, 128, 128]⟩
abbrev S512 : Shape := ⟨1, ![512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S4 .f32) (main_arg1 : FVec F S4 .f32) (main_arg2 : FVec F S32768x512 .bf16) (main_arg3 : FVec F S32768x512 .bf16) (main_arg4 : FVec F S32768x512 .bf16) (main_arg5 : FVec F S32768x512 .bf16) (main_arg6 : FVec F S128x4x128x128 .bf16) (main_arg7 : FVec F S512 .f32) (main_arg8 : FVec F S512 .f32) : IVec S_ 1 :=
  let main_v0 : FVec F S32768x512 .f32 := (extf .f32 · bitsLt_bf16_f32) main_arg2
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg3
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S32768x512 .f32 := (extf .f32 · bitsLt_bf16_f32) main_arg4
  let main_v12 : FVec F S32768x512 .f32 := Host.absf main_v11
  let main_cst_2 : FVec F S_ .f32 := constant S_ .f32 0x7F800000#32
  let main_v13 : FVec F S32768x512 .f32 := broadcastInDim S32768x512 ![] bcast_S_S32768x512 main_cst_2
  let main_v14 : IVec S32768x512 1 := cmpf .olt main_v12 main_v13
  let main_c_3 : IVec S_ 1 := constantI S_ 1 1#1
  let main_v15 : IVec S_ 1 := (fun x v => Host.reduce IntOp.andi x v reducesTo_S32768x512_S_d0_1 h_S_) main_v14 main_c_3
  let main_v16 : IVec S_ 1 := andi main_v10 main_v15
  main_v16
-- ==== Kernel.lean ====
abbrev S4 : Shape := ⟨1, ![4]⟩
abbrev S32768x512 : Shape := ⟨2, ![32768, 512]⟩
abbrev S128x4x128x128 : Shape := ⟨4, ![128, 4, 128, 128]⟩
abbrev S512 : Shape := ⟨1, ![512]⟩
abbrev S1x512 : Shape := ⟨2, ![1, 512]⟩
abbrev S2048x512 : Shape := ⟨2, ![2048, 512]⟩
abbrev S8x4x128x128 : Shape := ⟨4, ![8, 4, 128, 128]⟩
abbrev S4x128x128 : Shape := ⟨3, ![4, 128, 128]⟩
abbrev S4x256x256 : Shape := ⟨3, ![4, 256, 256]⟩
abbrev S4x256x128 : Shape := ⟨3, ![4, 256, 128]⟩
abbrev S256x256 : Shape := ⟨2, ![256, 256]⟩
abbrev S256x128 : Shape := ⟨2, ![256, 128]⟩
abbrev S1 : Shape := ⟨1, ![1]⟩
abbrev S1x256x256 : Shape := ⟨3, ![1, 256, 256]⟩
abbrev S1x256x128 : Shape := ⟨3, ![1, 256, 128]⟩
abbrev S128x128 : Shape := ⟨2, ![128, 128]⟩
abbrev S1x128x128 : Shape := ⟨3, ![1, 128, 128]⟩
abbrev S1x1x128x128 : Shape := ⟨4, ![1, 1, 128, 128]⟩
abbrev S128x256 : Shape := ⟨2, ![128, 256]⟩
abbrev S256 : Shape := ⟨1, ![256]⟩
abbrev S256x1 : Shape := ⟨2, ![256, 1]⟩
abbrev S1x128 : Shape := ⟨2, ![1, 128]⟩

abbrev nBuf : Space → Nat
  | .hbm => 12
  | .vmem => 20
  | .smem => 2
  | _ => 0

abbrev bufTy : (tb : Table) → Fin (tcTables nBuf tb) → BufTy
  | .hbm, ⟨0, _⟩ => ⟨S4, .f32⟩
  | .hbm, ⟨1, _⟩ => ⟨S4, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S128x4x128x128, .bf16⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S32768x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S8x4x128x128, .bf16⟩
  | .local _ .vmem, ⟨9, _⟩ => ⟨S8x4x128x128, .bf16⟩
  | .local _ .vmem, ⟨10, _⟩ => ⟨S1x512, .f32⟩
  | .local _ .vmem, ⟨11, _⟩ => ⟨S1x512, .f32⟩
  | .local _ .vmem, ⟨12, _⟩ => ⟨S2048x512, .bf16⟩
  | .local _ .vmem, ⟨13, _⟩ => ⟨S2048x512, .bf16⟩
  | .local _ .vmem, ⟨14, _⟩ => ⟨S4x128x128, .f32⟩
  | .local _ .vmem, ⟨15, _⟩ => ⟨S4x256x256, .bf16⟩
  | .local _ .vmem, ⟨16, _⟩ => ⟨S4x256x128, .f32⟩
  | .local _ .vmem, ⟨17, _⟩ => ⟨S4x256x128, .bf16⟩
  | .local _ .vmem, ⟨18, _⟩ => ⟨S4x256x128, .bf16⟩
  | .local _ .vmem, ⟨19, _⟩ => ⟨S4x128x128, .f32⟩
  | .local _ .smem, ⟨0, _⟩ => ⟨S4, .f32⟩
  | .local _ .smem, ⟨1, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4 : Shape := ⟨1, ![4]⟩
abbrev S32768x512 : Shape := ⟨2, ![32768, 512]⟩
abbrev S128x4x128x128 : Shape := ⟨4, ![128, 4, 128, 128]⟩
abbrev S512 : Shape := ⟨1, ![512]⟩
abbrev S2x16384x4x128 : Shape := ⟨4, ![2, 16384, 4, 128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S2x4x16384x16384 : Shape := ⟨4, ![2, 4, 16384, 16384]⟩
abbrev S1x4x16384x16384 : Shape := ⟨4, ![1, 4, 16384, 16384]⟩
abbrev S2x4x128x16384 : Shape := ⟨4, ![2, 4, 128, 16384]⟩
abbrev S1x4 : Shape := ⟨2, ![1, 4]⟩
abbrev S16384x4 : Shape := ⟨2, ![16384, 4]⟩
abbrev S16384x4x1 : Shape := ⟨3, ![16384, 4, 1]⟩
abbrev S1x16384x4x1 : Shape := ⟨4, ![1, 16384, 4, 1]⟩
abbrev S2x64x4x128x128 : Shape := ⟨5, ![2, 64, 4, 128, 128]⟩
abbrev S2x64x256x4x128 : Shape := ⟨5, ![2, 64, 256, 4, 128]⟩
abbrev S2x64x4x128x256 : Shape := ⟨5, ![2, 64, 4, 128, 256]⟩
abbrev S2x16384x4 : Shape := ⟨3, ![2, 16384, 4]⟩
abbrev S2x16384x4x1 : Shape := ⟨4, ![2, 16384, 4, 1]⟩
abbrev S2x16384x512 : Shape := ⟨3, ![2, 16384, 512]⟩
abbrev S1x1x512 : Shape := ⟨3, ![1, 1, 512]⟩

abbrev nBuf : Space → Nat
  | .hbm => 210
  | .vmem => 0
  | .smem => 0
  | _ => 0

abbrev hbmTy0_0 (i : Nat) : BufTy := match i % 128 with
  | 0 => ⟨S4, .f32⟩
  | 1 => ⟨S4, .f32⟩
  | 2 => ⟨S32768x512, .bf16⟩
  | 3 => ⟨S32768x512, .bf16⟩
  | 4 => ⟨S32768x512, .bf16⟩
  | 5 => ⟨S32768x512, .bf16⟩
  | 6 => ⟨S128x4x128x128, .bf16⟩
  | 7 => ⟨S512, .f32⟩
  | 8 => ⟨S512, .f32⟩
  | 9 => ⟨S32768x512, .f32⟩
  | 10 => ⟨S2x16384x4x128, .f32⟩
  | 11 => ⟨S32768x512, .f32⟩
  | 12 => ⟨S2x16384x4x128, .f32⟩
  | 13 => ⟨S32768x512, .f32⟩
  | 14 => ⟨S2x16384x4x128, .f32⟩
  | 15 => ⟨S4, .f32⟩
  | 16 => ⟨S_, .f32⟩
  | 17 => ⟨S4, .f32⟩
  | 18 => ⟨S4, .f32⟩
  | 19 => ⟨S4, .f32⟩
  | 20 => ⟨S4, .f32⟩
  | 21 => ⟨S4, .i1⟩
  | 22 => ⟨S4, .f32⟩
  | 23 => ⟨S4, .f32⟩
  | 24 => ⟨S4, .f32⟩
  | 25 => ⟨S4, .f32⟩
  | 26 => ⟨S4, .f32⟩
  | 27 => ⟨S4, .f32⟩
  | 28 => ⟨S4, .f32⟩
  | 29 => ⟨S4, .f32⟩
  | 30 => ⟨S4, .f32⟩
  | 31 => ⟨S4, .f32⟩
  | 32 => ⟨S_, .f32⟩
  | 33 => ⟨S4, .f32⟩
  | 34 => ⟨S4, .f32⟩
  | 35 => ⟨S4, .f32⟩
  | 36 => ⟨S4, .f32⟩
  | 37 => ⟨S4, .i1⟩
  | 38 => ⟨S4, .f32⟩
  | 39 => ⟨S4, .f32⟩
  | 40 => ⟨S4, .f32⟩
  | 41 => ⟨S4, .f32⟩
  | 42 => ⟨S4, .f32⟩
  | 43 => ⟨S4, .f32⟩
  | 44 => ⟨S4, .f32⟩
  | 45 => ⟨S4, .f32⟩
  | 46 => ⟨S4, .f32⟩
  | 47 => ⟨S16384, .i32⟩
  | 48 => ⟨S16384x1, .i32⟩
  | 49 => ⟨S1x16384, .i32⟩
  | 50 => ⟨S16384x16384, .i32⟩
  | 51 => ⟨S16384x16384, .i32⟩
  | 52 => ⟨S16384x16384, .i32⟩
  | 53 => ⟨S16384x16384, .f32⟩
  | 54 => ⟨S16384x1, .i32⟩
  | 55 => ⟨S_, .i32⟩
  | 56 => ⟨S_, .i32⟩
  | 57 => ⟨S16384x1, .i32⟩
  | 58 => ⟨S16384x1, .i32⟩
  | 59 => ⟨S16384x1, .i32⟩
  | 60 => ⟨S_, .i32⟩
  | 61 => ⟨S16384x1, .i32⟩
  | 62 => ⟨S16384x1, .i1⟩
  | 63 => ⟨S16384x1, .i32⟩
  | 64 => ⟨S16384x1, .i32⟩
  | 65 => ⟨S_, .i32⟩
  | 66 => ⟨S16384x1, .i32⟩
  | 67 => ⟨S16384x1, .i1⟩
  | 68 => ⟨S16384x1, .i1⟩
  | 69 => ⟨S_, .i32⟩
  | 70 => ⟨S16384x1, .i32⟩
  | 71 => ⟨S16384x1, .i32⟩
  | 72 => ⟨S16384x1, .i32⟩
  | 73 => ⟨S1x16384, .i32⟩
  | 74 => ⟨S_, .i32⟩
  | 75 => ⟨S_, .i32⟩
  | 76 => ⟨S1x16384, .i32⟩
  | 77 => ⟨S1x16384, .i32⟩
  | 78 => ⟨S1x16384, .i32⟩
  | 79 => ⟨S_, .i32⟩
  | 80 => ⟨S1x16384, .i32⟩
  | 81 => ⟨S1x16384, .i1⟩
  | 82 => ⟨S1x16384, .i32⟩
  | 83 => ⟨S1x16384, .i32⟩
  | 84 => ⟨S_, .i32⟩
  | 85 => ⟨S1x16384, .i32⟩
  | 86 => ⟨S1x16384, .i1⟩
  | 87 => ⟨S1x16384, .i1⟩
  | 88 => ⟨S_, .i32⟩
  | 89 => ⟨S1x16384, .i32⟩
  | 90 => ⟨S1x16384, .i32⟩
  | 91 => ⟨S1x16384, .i32⟩
  | 92 => ⟨S16384x16384, .i32⟩
  | 93 => ⟨S16384x16384, .i32⟩
  | 94 => ⟨S16384x16384, .i1⟩
  | 95 => ⟨S_, .i32⟩
  | 96 => ⟨S16384x16384, .i32⟩
  | 97 => ⟨S16384x16384, .i1⟩
  | 98 => ⟨S4x1x1, .f32⟩
  | 99 => ⟨S1x16384x16384, .f32⟩
  | 100 => ⟨S4x16384x16384, .f32⟩
  | 101 => ⟨S4x16384x16384, .f32⟩
  | 102 => ⟨S4x16384x16384, .f32⟩
  | 103 => ⟨S4x16384x16384, .f32⟩
  | 104 => ⟨S_, .f32⟩
  | 105 => ⟨S_, .f32⟩
  | 106 => ⟨S4x16384x16384, .i1⟩
  | 107 => ⟨S4x16384x16384, .f32⟩
  | 108 => ⟨S4x16384x16384, .f32⟩
  | 109 => ⟨S_, .i32⟩
  | 110 => ⟨S16384x16384, .i32⟩
  | 111 => ⟨S16384x16384, .i1⟩
  | 112 => ⟨S16384x16384, .i1⟩
  | 113 => ⟨S16384x16384, .f32⟩
  | 114 => ⟨S4x1x1, .f32⟩
  | 115 => ⟨S1x16384x16384, .f32⟩
  | 116 => ⟨S4x16384x16384, .f32⟩
  | 117 => ⟨S4x16384x16384, .f32⟩
  | 118 => ⟨S4x16384x16384, .f32⟩
  | 119 => ⟨S4x16384x16384, .f32⟩
  | 120 => ⟨S_, .f32⟩
  | 121 => ⟨S_, .f32⟩
  | 122 => ⟨S4x16384x16384, .i1⟩
  | 123 => ⟨S4x16384x16384, .f32⟩
  | 124 => ⟨S4x16384x16384, .f32⟩
  | 125 => ⟨S2x4x16384x16384, .f32⟩
  | 126 => ⟨S4x16384x16384, .f32⟩
  | 127 => ⟨S1x4x16384x16384, .f32⟩
  | _ => ⟨S4, .f32⟩

abbrev hbmTy0_1 (i : Nat) : BufTy := match i % 128 with
  | 0 => ⟨S2x4x16384x16384, .f32⟩
  | 1 => ⟨S2x4x16384x16384, .f32⟩
  | 2 => ⟨S2x4x128x16384, .f32⟩
  | 3 => ⟨S2x16384x4x128, .f32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i1⟩
  | 18 => ⟨S_, .i32⟩
  | 19 => ⟨S_, .i1⟩
  | 20 => ⟨S16384, .i1⟩
  | 21 => ⟨S16384, .i1⟩
  | 22 => ⟨S16384, .i1⟩
  | 23 => ⟨S16384, .i32⟩
  | 24 => ⟨S16384, .i32⟩
  | 25 => ⟨S16384, .i32⟩
  | 26 => ⟨S_, .i32⟩
  | 27 => ⟨S16384, .i32⟩
  | 28 => ⟨S16384, .i32⟩
  | 29 => ⟨S16384, .f32⟩
  | 30 => ⟨S16384x1, .f32⟩
  | 31 => ⟨S1x4, .f32⟩
  | 32 => ⟨S16384x4, .f32⟩
  | 33 => ⟨S16384x4, .f32⟩
  | 34 => ⟨S16384x4, .f32⟩
  | 35 => ⟨S16384x4, .f32⟩
  | 36 => ⟨S16384x4x1, .f32⟩
  | 37 => ⟨S1x16384x4x1, .f32⟩
  | 38 => ⟨S2x16384x4x128, .f32⟩
  | 39 => ⟨S2x16384x4x128, .f32⟩
  | 40 => ⟨S128x4x128x128, .f32⟩
  | 41 => ⟨S2x64x4x128x128, .f32⟩
  | 42 => ⟨S2x64x256x4x128, .f32⟩
  | 43 => ⟨S2x64x4x128x256, .f32⟩
  | 44 => ⟨S2x64x256x4x128, .f32⟩
  | 45 => ⟨S2x16384x4x128, .f32⟩
  | 46 => ⟨S2x16384x4x128, .f32⟩
  | 47 => ⟨S_, .f32⟩
  | 48 => ⟨S2x16384x4, .f32⟩
  | 49 => ⟨S2x16384x4x1, .f32⟩
  | 50 => ⟨S_, .f32⟩
  | 51 => ⟨S2x16384x4x1, .f32⟩
  | 52 => ⟨S2x16384x4x1, .f32⟩
  | 53 => ⟨S2x16384x4x128, .f32⟩
  | 54 => ⟨S2x16384x4x128, .f32⟩
  | 55 => ⟨S2x16384x4x128, .f32⟩
  | 56 => ⟨S_, .f32⟩
  | 57 => ⟨S2x16384x4, .f32⟩
  | 58 => ⟨S2x16384x4x1, .f32⟩
  | 59 => ⟨S_, .f32⟩
  | 60 => ⟨S2x16384x4x1, .f32⟩
  | 61 => ⟨S2x16384x4x1, .f32⟩
  | 62 => ⟨S2x16384x4x128, .f32⟩
  | 63 => ⟨S2x16384x4x128, .f32⟩
  | 64 => ⟨S_, .f32⟩
  | 65 => ⟨S2x16384x4x1, .f32⟩
  | 66 => ⟨S2x16384x4x1, .f32⟩
  | 67 => ⟨S2x16384x4x1, .f32⟩
  | 68 => ⟨S2x16384x4x128, .f32⟩
  | 69 => ⟨S2x16384x4x128, .f32⟩
  | 70 => ⟨S2x16384x512, .f32⟩
  | 71 => ⟨S1x1x512, .f32⟩
  | 72 => ⟨S2x16384x512, .f32⟩
  | 73 => ⟨S2x16384x512, .f32⟩
  | 74 => ⟨S1x1x512, .f32⟩
  | 75 => ⟨S2x16384x512, .f32⟩
  | 76 => ⟨S2x16384x512, .f32⟩
  | 77 => ⟨S32768x512, .f32⟩
  | 78 => ⟨S2x16384x512, .f32⟩
  | 79 => ⟨S2x16384x512, .f32⟩
  | 80 => ⟨S32768x512, .f32⟩
  | 81 => ⟨S32768x512, .bf16⟩
  | _ => ⟨S4, .f32⟩

abbrev hbmTy (i : Nat) : BufTy := match i / 128 with
  | 0 => hbmTy0_0 i
  | 1 => hbmTy0_1 i
  | _ => ⟨S4, .f32⟩

abbrev bufTy : (tb : Table) → Fin (tcTables nBuf tb) → BufTy
  | .hbm, ⟨i, _⟩ => hbmTy i
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v6 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v16 : Ref sig .tc := ⟨.hbm, 72, rfl⟩
abbrev main_v17 : Ref sig .tc := ⟨.hbm, 73, rfl⟩
abbrev main_c_0 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_c_1 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_cst : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v30 : Ref sig .tc := ⟨.hbm, 108, rfl⟩
abbrev main_c_2 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_cst_3 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_c_4 : Ref sig .tc := ⟨.hbm, 132, rfl⟩
abbrev main_call6_v0 : Ref sig .tc := ⟨.hbm, 133, rfl⟩
abbrev main_call6_c : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_c_1 : Ref sig .tc := ⟨.hbm, 140, rfl⟩
abbrev main_call6_v5 : Ref sig .tc := ⟨.hbm, 141, rfl⟩
abbrev main_call6_v6 : Ref sig .tc := ⟨.hbm, 142, rfl⟩
abbrev main_call6_c_2 : Ref sig .tc := ⟨.hbm, 143, rfl⟩
abbrev main_call6_v7 : Ref sig .tc := ⟨.hbm, 144, rfl⟩
abbrev main_call6_v8 : Ref sig .tc := ⟨.hbm, 145, rfl⟩
abbrev main_call6_c_3 : Ref sig .tc := ⟨.hbm, 146, rfl⟩
abbrev main_call6_v9 : Ref sig .tc := ⟨.hbm, 147, rfl⟩
abbrev main_call6_v10 : Ref sig .tc := ⟨.hbm, 148, rfl⟩
abbrev main_call6_v11 : Ref sig .tc := ⟨.hbm, 149, rfl⟩
abbrev main_call6_v12 : Ref sig .tc := ⟨.hbm, 150, rfl⟩
abbrev main_call6_v13 : Ref sig .tc := ⟨.hbm, 151, rfl⟩
abbrev main_call6_v14 : Ref sig .tc := ⟨.hbm, 152, rfl⟩
abbrev main_v49 : Ref sig .tc := ⟨.hbm, 153, rfl⟩
abbrev main_c_5 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_v69 : Ref sig .tc := ⟨.hbm, 174, rfl⟩
abbrev main_cst_6 : Ref sig .tc := ⟨.hbm, 175, rfl⟩
abbrev main_v70 : Ref sig .tc := ⟨.hbm, 176, rfl⟩
abbrev main_v71 : Ref sig .tc := ⟨.hbm, 177, rfl⟩
abbrev main_cst_7 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_cst_8 : Ref sig .tc := ⟨.hbm, 184, rfl⟩
abbrev main_v77 : Ref sig .tc := ⟨.hbm, 185, rfl⟩
abbrev main_v78 : Ref sig .tc := ⟨.hbm, 186, rfl⟩
abbrev main_cst_9 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_cst_10 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_v98 : Ref sig .tc := ⟨.hbm, 208, rfl⟩
abbrev main_v99 : Ref sig .tc := ⟨.hbm, 209, rfl⟩

abbrev nD : Nat := 1
abbrev τ : Topo := Topo.v7x

variable {F : FTy → Type} [FloatOps F]
-- ==== KernelFfn.lean ====
abbrev S2x16384x1024 : Shape := ⟨3, ![2, 16384, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1x1024x256 : Shape := ⟨3, ![1, 1024, 256]⟩
abbrev S1024x256 : Shape := ⟨2, ![1024, 256]⟩
abbrev S128x1024 : Shape := ⟨2, ![128, 1024]⟩
abbrev S128 : Shape := ⟨1, ![128]⟩
abbrev S128x1 : Shape := ⟨2, ![128, 1]⟩
abbrev S2816x1024 : Shape := ⟨2, ![2816, 1024]⟩
abbrev S1024x1 : Shape := ⟨2, ![1024, 1]⟩

abbrev nBuf : Space → Nat
  | .hbm => 17
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S2x1024, .f32⟩
  | .hbm, ⟨5, _⟩ => ⟨S2x1024, .f32⟩
  | .hbm, ⟨6, _⟩ => ⟨S32768x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x2816, .bf16⟩
  | .local _ .vmem, ⟨11, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFfnIdeal.lean ====
abbrev S2x16384x1024 : Shape := ⟨3, ![2, 16384, 1024]⟩
abbrev S2x1024x2816 : Shape := ⟨3, ![2, 1024, 2816]⟩
abbrev S2x2816x1024 : Shape := ⟨3, ![2, 2816, 1024]⟩
abbrev S2x1024 : Shape := ⟨2, ![2, 1024]⟩
abbrev S_ : Shape := ⟨0, ![]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x16384x2816 : Shape := ⟨3, ![2, 16384, 2816]⟩
abbrev S1x1024 : Shape := ⟨2, ![1, 1024]⟩
abbrev S1024 : Shape := ⟨1, ![1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x16384x1024, .f32⟩
  | .hbm, ⟨8, _⟩ => ⟨S2x16384x1024, .f32⟩
  | .hbm, ⟨9, _⟩ => ⟨S1x1024x2816, .f32⟩
  | .hbm, ⟨10, _⟩ => ⟨S1024x2816, .f32⟩
  | .hbm, ⟨11, _⟩ => ⟨S1x1024x2816, .f32⟩
  | .hbm, ⟨12, _⟩ => ⟨S1024x2816, .f32⟩
  | .hbm, ⟨13, _⟩ => ⟨S1x2816x1024, .f32⟩
  | .hbm, ⟨14, _⟩ => ⟨S2816x1024, .f32⟩
  | .hbm, ⟨15, _⟩ => ⟨S2x16384x2816, .f32⟩
  | .hbm, ⟨16, _⟩ => ⟨S2x16384x2816, .f32⟩
  | .hbm, ⟨17, _⟩ => ⟨S2x16384x2816, .f32⟩
  | .hbm, ⟨18, _⟩ => ⟨S_, .f32⟩
  | .hbm, ⟨19, _⟩ => ⟨S2x16384x2816, .f32⟩
  | .hbm, ⟨20, _⟩ => ⟨S2x16384x2816, .f32⟩
  | .hbm, ⟨21, _⟩ => ⟨S_, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S2x16384x2816, .f32⟩
  | .hbm, ⟨26, _⟩ => ⟨S2x16384x2816, .f32⟩
  | .hbm, ⟨27, _⟩ => ⟨S2x16384x1024, .f32⟩
  | .hbm, ⟨28, _⟩ => ⟨S_, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1024, .f32⟩
  | .hbm, ⟨52, _⟩ => ⟨S2x16384x1024, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x1024, .f32⟩
  | .hbm, ⟨58, _⟩ => ⟨S2x16384x1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | .hbm, ⟨62, _⟩ => ⟨S1x1x1024, .f32⟩
  | .hbm, ⟨63, _⟩ => ⟨S2x16384x1024, .f32⟩
  | .hbm, ⟨64, _⟩ => ⟨S2x16384x1024, .f32⟩
  | .hbm, ⟨65, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== KernelProj.lean ====
abbrev S32768x1024 : Shape := ⟨2, ![32768, 1024]⟩
abbrev S4 : Shape := ⟨1, ![4]⟩
abbrev S2x1024x6656 : Shape := ⟨3, ![2, 1024, 6656]⟩
abbrev S2x6656 : Shape := ⟨2, ![2, 6656]⟩
abbrev S2x512 : Shape := ⟨2, ![2, 512]⟩
abbrev S2x4x128x128 : Shape := ⟨4, ![2, 4, 128, 128]⟩
abbrev S2x4x128 : Shape := ⟨3, ![2, 4, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S1x6656 : Shape := ⟨2, ![1, 6656]⟩
abbrev S6656 : Shape := ⟨1, ![6656]⟩
abbrev S1x512 : Shape := ⟨2, ![1, 512]⟩
abbrev S512 : Shape := ⟨1, ![512]⟩
abbrev S1x4x128 : Shape := ⟨3, ![1, 4, 128]⟩
abbrev S4x128 : Shape := ⟨2, ![4, 128]⟩
abbrev S4x128x1 : Shape := ⟨3, ![4, 128, 1]⟩
abbrev S4x128x128 : Shape := ⟨3, ![4, 128, 128]⟩
abbrev S32768x3072 : Shape := ⟨2, ![32768, 3072]⟩
abbrev S32768x512 : Shape := ⟨2, ![32768, 512]⟩
abbrev S4x2x16x128x8x128 : Shape := ⟨6, ![4, 2, 16, 128, 8, 128]⟩
abbrev S128x4x128x128 : Shape := ⟨4, ![128, 4, 128, 128]⟩
abbrev S512x1024 : Shape := ⟨2, ![512, 1024]⟩
abbrev S1x1024x6656 : Shape := ⟨3, ![1, 1024, 6656]⟩
abbrev S1x4x128x128 : Shape := ⟨4, ![1, 4, 128, 128]⟩
abbrev S512x128 : Shape := ⟨2, ![512, 128]⟩
abbrev S512x3072 : Shape := ⟨2, ![512, 3072]⟩
abbrev S512x512 : Shape := ⟨2, ![512, 512]⟩
abbrev S4x1x16x4x8x128 : Shape := ⟨6, ![4, 1, 16, 4, 8, 128]⟩
abbrev S4x256x128 : Shape := ⟨3, ![4, 256, 128]⟩
abbrev S256x128 : Shape := ⟨2, ![256, 128]⟩
abbrev S1 : Shape := ⟨1, ![1]⟩
abbrev S1x256x128 : Shape := ⟨3, ![1, 256, 128]⟩
abbrev S128x128 : Shape := ⟨2, ![128, 128]⟩
abbrev S1x128x128 : Shape := ⟨3, ![1, 128, 128]⟩
abbrev S1x1024x1024 : Shape := ⟨3, ![1, 1024, 1024]⟩
abbrev S1024x1024 : Shape := ⟨2, ![1024, 1024]⟩
abbrev S1x1024 : Shape := ⟨2, ![1, 1024]⟩
abbrev S512x1 : Shape := ⟨2, ![512, 1]⟩
abbrev S1x1024x512 : Shape := ⟨3, ![1, 1024, 512]⟩
abbrev S1024x512 : Shape := ⟨2, ![1024, 512]⟩
abbrev S1x1x128x128 : Shape := ⟨4, ![1, 1, 128, 128]⟩
abbrev S128x256 : Shape := ⟨2, ![128, 256]⟩
abbrev S16x8x128 : Shape := ⟨3, ![16, 8, 128]⟩
abbrev S1x1x16x1x8x128 : Shape := ⟨6, ![1, 1, 16, 1, 8, 128]⟩

abbrev nBuf : Space → Nat
  | .hbm => 50
  | .vmem => 32
  | .smem => 1
  | _ => 0

abbrev bufTy : (tb : Table) → Fin (tcTables nBuf tb) → BufTy
  | .hbm, ⟨0, _⟩ => ⟨S32768x1024, .f32⟩
  | .hbm, ⟨1, _⟩ => ⟨S4, .f32⟩
  | .hbm, ⟨2, _⟩ => ⟨S2x1024x6656, .f32⟩
  | .hbm, ⟨3, _⟩ => ⟨S2x6656, .f32⟩
  | .hbm, ⟨4, _⟩ => ⟨S2x512, .f32⟩
  | .hbm, ⟨5, _⟩ => ⟨S2x512, .f32⟩
  | .hbm, ⟨6, _⟩ => ⟨S2x4x128x128, .f32⟩
  | .hbm, ⟨7, _⟩ => ⟨S2x4x128, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S16384, .f32⟩
  | .hbm, ⟨17, _⟩ => ⟨S16384x1, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x128, .f32⟩
  | .hbm, ⟨25, _⟩ => ⟨S16384x64, .f32⟩
  | .hbm, ⟨26, _⟩ => ⟨S16384x128, .f32⟩
  | .hbm, ⟨27, _⟩ => ⟨S2x1024x6656, .bf16⟩
  | .hbm, ⟨28, _⟩ => ⟨S1x6656, .f32⟩
  | .hbm, ⟨29, _⟩ => ⟨S6656, .f32⟩
  | .hbm, ⟨30, _⟩ => ⟨S1x6656, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S2x4x128x128, .bf16⟩
  | .hbm, ⟨38, _⟩ => ⟨S1x4x128, .f32⟩
  | .hbm, ⟨39, _⟩ => ⟨S4x128, .f32⟩
  | .hbm, ⟨40, _⟩ => ⟨S4x128x1, .f32⟩
  | .hbm, ⟨41, _⟩ => ⟨S4x128x128, .f32⟩
  | .hbm, ⟨42, _⟩ => ⟨S32768x3072, .bf16⟩
  | .hbm, ⟨43, _⟩ => ⟨S32768x512, .bf16⟩
  | .hbm, ⟨44, _⟩ => ⟨S32768x512, .bf16⟩
  | .hbm, ⟨45, _⟩ => ⟨S32768x512, .bf16⟩
  | .hbm, ⟨46, _⟩ => ⟨S32768x512, .bf16⟩
  | .hbm, ⟨47, _⟩ => ⟨S32768x512, .bf16⟩
  | .hbm, ⟨48, _⟩ => ⟨S4x2x16x128x8x128, .bf16⟩
  | .hbm, ⟨49, _⟩ => ⟨S128x4x128x128, .bf16⟩
  | .local _ .vmem, ⟨0, _⟩ => ⟨S512x1024, .f32⟩
  | .local _ .vmem, ⟨1, _⟩ => ⟨S512x1024, .f32⟩
  | .local _ .vmem, ⟨2, _⟩ => ⟨S1x1024x6656, .bf16⟩
  | .local _ .vmem, ⟨3, _⟩ => ⟨S1x6656, .f32⟩
  | .local _ .vmem, ⟨4, _⟩ => ⟨S1x512, .f32⟩
  | .local _ .vmem, ⟨5, _⟩ => ⟨S1x512, .f32⟩
  | .local _ .vmem, ⟨6, _⟩ => ⟨S1x4x128x128, .bf16⟩
  | .local _ .vmem, ⟨7, _⟩ => ⟨S4x128x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x3072, .bf16⟩
  | .local _ .vmem, ⟨13, _⟩ => ⟨S512x3072, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x1x16x4x8x128, .bf16⟩
  | .local _ .vmem, ⟨25, _⟩ => ⟨S4x1x16x4x8x128, .bf16⟩
  | .local _ .vmem, ⟨26, _⟩ => ⟨S2x4x128x128, .bf16⟩
  | .local _ .vmem, ⟨27, _⟩ => ⟨S2x4x128x128, .bf16⟩
  | .local _ .vmem, ⟨28, _⟩ => ⟨S512x1024, .bf16⟩
  | .local _ .vmem, ⟨29, _⟩ => ⟨S4x128x128, .f32⟩
  | .local _ .vmem, ⟨30, _⟩ => ⟨S4x256x128, .f32⟩
  | .local _ .vmem, ⟨31, _⟩ => ⟨S4x128x128, .f32⟩
  | .local _ .smem, ⟨0, _⟩ => ⟨S4, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev main_v32_5 : Ref sig .tc := ⟨.hbm, 47, rfl⟩
abbrev main_v32_6 : Ref sig .tc := ⟨.hbm, 48, rfl⟩
abbrev main_v32_7 : Ref sig .tc := ⟨.hbm, 49, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_16 (i : grid0.Coords) : Fin 6 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, v0.toNat, c0_i32_1.toNat, c0_i32_2.toNat]

def cc0_transform_17 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.addi v0 c32_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  let c0_i32_3 : BitVec 32 := 0#32
  ![v3.toNat, c0_i32.toNat, c0_i32_1.toNat, c0_i32_2.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x1x16x4x8x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2x4x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceProjIdeal.lean ====
abbrev S32768x1024 : Shape := ⟨2, ![32768, 1024]⟩
abbrev S4 : Shape := ⟨1, ![4]⟩
abbrev S2x1024x6656 : Shape := ⟨3, ![2, 1024, 6656]⟩
abbrev S2x6656 : Shape := ⟨2, ![2, 6656]⟩
abbrev S2x512 : Shape := ⟨2, ![2, 512]⟩
abbrev S2x4x128x128 : Shape := ⟨4, ![2, 4, 128, 128]⟩
abbrev S2x4x128 : Shape := ⟨3, ![2, 4, 128]⟩
abbrev S1x1024x6656 : Shape := ⟨3, ![1, 1024, 6656]⟩
abbrev S1024x6656 : Shape := ⟨2, ![1024, 6656]⟩
abbrev S32768x6656 : Shape := ⟨2, ![32768, 6656]⟩
abbrev S1x6656 : Shape := ⟨2, ![1, 6656]⟩
abbrev S6656 : Shape := ⟨1, ![6656]⟩
abbrev S2x16384x6656 : Shape := ⟨3, ![2, 16384, 6656]⟩
abbrev S2x16384x3072 : Shape := ⟨3, ![2, 16384, 3072]⟩
abbrev S2x16384x1024 : Shape := ⟨3, ![2, 16384, 1024]⟩
abbrev S2x16384x512 : Shape := ⟨3, ![2, 16384, 512]⟩
abbrev S_ : Shape := ⟨0, ![]⟩
abbrev S1x512 : Shape := ⟨2, ![1, 512]⟩
abbrev S512 : Shape := ⟨1, ![512]⟩
abbrev S2x16384 : Shape := ⟨2, ![2, 16384]⟩
abbrev S2x16384x1 : Shape := ⟨3, ![2, 16384, 1]⟩
abbrev S1x1x512 : Shape := ⟨3, ![1, 1, 512]⟩
abbrev S2x128x128x4x128 : Shape := ⟨5, ![2, 128, 128, 4, 128]⟩
abbrev S1x4x128x128 : Shape := ⟨4, ![1, 4, 128, 128]⟩
abbrev S4x128x128 : Shape := ⟨3, ![4, 128, 128]⟩
abbrev S4x2x128x128x128 : Shape := ⟨5, ![4, 2, 128, 128, 128]⟩
abbrev S1x4x128 : Shape := ⟨3, ![1, 4, 128]⟩
abbrev S4x128 : Shape := ⟨2, ![4, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x16384x4x128 : Shape := ⟨4, ![2, 16384, 4, 128]⟩
abbrev S64 : Shape := ⟨1, ![64]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S1x16384x1x64 : Shape := ⟨4, ![1, 16384, 1, 64]⟩
abbrev S2x16384x4x64 : Shape := ⟨4, ![2, 16384, 4, 64]⟩
abbrev S1x16384 : Shape := ⟨2, ![1, 16384]⟩
abbrev S64x1 : Shape := ⟨2, ![64, 1]⟩
abbrev S64x16384 : Shape := ⟨2, ![64, 16384]⟩
abbrev S4x1x1 : Shape := ⟨3, ![4, 1, 1]⟩
abbrev S1x64x16384 : Shape := ⟨3, ![1, 64, 16384]⟩
abbrev S4x64x16384 : Shape := ⟨3, ![4, 64, 16384]⟩
abbrev S2x16384x4x128x1 : Shape := ⟨5, ![2, 16384, 4, 128, 1]⟩
abbrev S2x16384x4x1x128 : Shape := ⟨5, ![2, 16384, 4, 1, 128]⟩
abbrev S2x16384x4x128x128 : Shape := ⟨5, ![2, 16384, 4, 128, 128]⟩
abbrev S4x2x128x128x64 : Shape := ⟨5, ![4, 2, 128, 128, 64]⟩
abbrev S2x64x4x128x128 : Shape := ⟨5, ![2, 64, 4, 128, 128]⟩
abbrev S2x128x16x8x4x128 : Shape := ⟨6, ![2, 128, 16, 8, 4, 128]⟩
abbrev S4x2x16x128x8x128 : Shape := ⟨6, ![4, 2, 16, 128, 8, 128]⟩
abbrev S32768x3072 : Shape := ⟨2, ![32768, 3072]⟩
abbrev S32768x512 : Shape := ⟨2, ![32768, 512]⟩
abbrev S128x4x128x128 : Shape := ⟨4, ![128, 4, 128, 128]⟩

abbrev nBuf : Space → Nat
  | .hbm => 243
  | .vmem => 0
  | .smem => 0
  | _ => 0

abbrev hbmTy0_0 (i : Nat) : BufTy := match i % 128 with
  | 0 => ⟨S32768x1024, .f32⟩
  | 1 => ⟨S4, .f32⟩
  | 2 => ⟨S2x1024x6656, .f32⟩
  | 3 => ⟨S2x6656, .f32⟩
  | 4 => ⟨S2x512, .f32⟩
  | 5 => ⟨S2x512, .f32⟩
  | 6 => ⟨S2x4x128x128, .f32⟩
  | 7 => ⟨S2x4x128, .f32⟩
  | 8 => ⟨S1x1024x6656, .f32⟩
  | 9 => ⟨S1024x6656, .f32⟩
  | 10 => ⟨S32768x6656, .f32⟩
  | 11 => ⟨S1x6656, .f32⟩
  | 12 => ⟨S6656, .f32⟩
  | 13 => ⟨S1x6656, .f32⟩
  | 14 => ⟨S32768x6656, .f32⟩
  | 15 => ⟨S32768x6656, .f32⟩
  | 16 => ⟨S2x16384x6656, .f32⟩
  | 17 => ⟨S2x16384x3072, .f32⟩
  | 18 => ⟨S2x16384x1024, .f32⟩
  | 19 => ⟨S2x16384x512, .f32⟩
  | 20 => ⟨S2x16384x512, .f32⟩
  | 21 => ⟨S2x16384x512, .f32⟩
  | 22 => ⟨S2x16384x512, .f32⟩
  | 23 => ⟨S2x16384x512, .f32⟩
  | 24 => ⟨S2x16384x1024, .f32⟩
  | 25 => ⟨S2x16384x1024, .f32⟩
  | 26 => ⟨S_, .f32⟩
  | 27 => ⟨S2x16384x1024, .f32⟩
  | 28 => ⟨S2x16384x1024, .f32⟩
  | 29 => ⟨S2x16384x1024, .f32⟩
  | 30 => ⟨S_, .f32⟩
  | 31 => ⟨S2x16384x1024, .f32⟩
  | 32 => ⟨S2x16384x1024, .f32⟩
  | 33 => ⟨S2x16384x1024, .f32⟩
  | 34 => ⟨S_, .f32⟩
  | 35 => ⟨S2x16384x1024, .f32⟩
  | 36 => ⟨S2x16384x1024, .f32⟩
  | 37 => ⟨S_, .f32⟩
  | 38 => ⟨S2x16384x1024, .f32⟩
  | 39 => ⟨S2x16384x1024, .f32⟩
  | 40 => ⟨S2x16384x1024, .f32⟩
  | 41 => ⟨S2x16384x512, .f32⟩
  | 42 => ⟨S2x16384x512, .f32⟩
  | 43 => ⟨S1x512, .f32⟩
  | 44 => ⟨S512, .f32⟩
  | 45 => ⟨S1x512, .f32⟩
  | 46 => ⟨S512, .f32⟩
  | 47 => ⟨S_, .f32⟩
  | 48 => ⟨S2x16384, .f32⟩
  | 49 => ⟨S2x16384x1, .f32⟩
  | 50 => ⟨S_, .f32⟩
  | 51 => ⟨S2x16384x1, .f32⟩
  | 52 => ⟨S2x16384x1, .f32⟩
  | 53 => ⟨S2x16384x512, .f32⟩
  | 54 => ⟨S2x16384x512, .f32⟩
  | 55 => ⟨S2x16384x512, .f32⟩
  | 56 => ⟨S_, .f32⟩
  | 57 => ⟨S2x16384, .f32⟩
  | 58 => ⟨S2x16384x1, .f32⟩
  | 59 => ⟨S_, .f32⟩
  | 60 => ⟨S2x16384x1, .f32⟩
  | 61 => ⟨S2x16384x1, .f32⟩
  | 62 => ⟨S2x16384x512, .f32⟩
  | 63 => ⟨S2x16384x512, .f32⟩
  | 64 => ⟨S_, .f32⟩
  | 65 => ⟨S2x16384x1, .f32⟩
  | 66 => ⟨S2x16384x1, .f32⟩
  | 67 => ⟨S2x16384x1, .f32⟩
  | 68 => ⟨S2x16384x512, .f32⟩
  | 69 => ⟨S2x16384x512, .f32⟩
  | 70 => ⟨S1x1x512, .f32⟩
  | 71 => ⟨S2x16384x512, .f32⟩
  | 72 => ⟨S2x16384x512, .f32⟩
  | 73 => ⟨S1x1x512, .f32⟩
  | 74 => ⟨S2x16384x512, .f32⟩
  | 75 => ⟨S2x16384x512, .f32⟩
  | 76 => ⟨S2x128x128x4x128, .f32⟩
  | 77 => ⟨S1x4x128x128, .f32⟩
  | 78 => ⟨S4x128x128, .f32⟩
  | 79 => ⟨S4x2x128x128x128, .f32⟩
  | 80 => ⟨S2x128x128x4x128, .f32⟩
  | 81 => ⟨S1x4x128, .f32⟩
  | 82 => ⟨S4x128, .f32⟩
  | 83 => ⟨S128x4, .f32⟩
  | 84 => ⟨S128x4x1, .f32⟩
  | 85 => ⟨S1x1x128x4x1, .f32⟩
  | 86 => ⟨S2x128x128x4x128, .f32⟩
  | 87 => ⟨S2x128x128x4x128, .f32⟩
  | 88 => ⟨S2x16384x512, .f32⟩
  | 89 => ⟨S2x16384x512, .f32⟩
  | 90 => ⟨S2x16384x4x128, .f32⟩
  | 91 => ⟨S64, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S16384, .f32⟩
  | 100 => ⟨S16384x1, .f32⟩
  | 101 => ⟨S1x64, .f32⟩
  | 102 => ⟨S16384x64, .f32⟩
  | 103 => ⟨S16384x64, .f32⟩
  | 104 => ⟨S16384x64, .f32⟩
  | 105 => ⟨S16384x64, .f32⟩
  | 106 => ⟨S1x16384x1x64, .f32⟩
  | 107 => ⟨S16384x64, .f32⟩
  | 108 => ⟨S1x16384x1x64, .f32⟩
  | 109 => ⟨S2x16384x4x64, .f32⟩
  | 110 => ⟨S2x16384x4x64, .f32⟩
  | 111 => ⟨S2x16384x4x64, .f32⟩
  | 112 => ⟨S2x16384x4x64, .f32⟩
  | 113 => ⟨S2x16384x4x64, .f32⟩
  | 114 => ⟨S2x16384x4x64, .f32⟩
  | 115 => ⟨S2x16384x4x64, .f32⟩
  | 116 => ⟨S2x16384x4x64, .f32⟩
  | 117 => ⟨S2x16384x4x64, .f32⟩
  | 118 => ⟨S2x16384x4x64, .f32⟩
  | 119 => ⟨S2x16384x4x64, .f32⟩
  | 120 => ⟨S2x16384x4x64, .f32⟩
  | 121 => ⟨S2x16384x4x128, .f32⟩
  | 122 => ⟨S_, .f32⟩
  | 123 => ⟨S2x16384x4x128, .f32⟩
  | 124 => ⟨S2x16384x4x128, .f32⟩
  | 125 => ⟨S2x16384x4x128, .f32⟩
  | 126 => ⟨S64, .f32⟩
  | 127 => ⟨S64, .f32⟩
  | _ => ⟨S32768x1024, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S16384, .f32⟩
  | 7 => ⟨S16384x1, .f32⟩
  | 8 => ⟨S1x64, .f32⟩
  | 9 => ⟨S16384x64, .f32⟩
  | 10 => ⟨S16384x64, .f32⟩
  | 11 => ⟨S16384x64, .f32⟩
  | 12 => ⟨S16384x64, .f32⟩
  | 13 => ⟨S1x16384x1x64, .f32⟩
  | 14 => ⟨S16384x64, .f32⟩
  | 15 => ⟨S1x16384x1x64, .f32⟩
  | 16 => ⟨S2x16384x4x64, .f32⟩
  | 17 => ⟨S2x16384x4x64, .f32⟩
  | 18 => ⟨S2x16384x4x64, .f32⟩
  | 19 => ⟨S2x16384x4x64, .f32⟩
  | 20 => ⟨S2x16384x4x64, .f32⟩
  | 21 => ⟨S2x16384x4x64, .f32⟩
  | 22 => ⟨S2x16384x4x64, .f32⟩
  | 23 => ⟨S2x16384x4x64, .f32⟩
  | 24 => ⟨S2x16384x4x64, .f32⟩
  | 25 => ⟨S2x16384x4x64, .f32⟩
  | 26 => ⟨S2x16384x4x64, .f32⟩
  | 27 => ⟨S2x16384x4x64, .f32⟩
  | 28 => ⟨S2x16384x4x128, .f32⟩
  | 29 => ⟨S16384, .i32⟩
  | 30 => ⟨S1x16384, .i32⟩
  | 31 => ⟨S64, .i32⟩
  | 32 => ⟨S_, .i32⟩
  | 33 => ⟨S64, .i32⟩
  | 34 => ⟨S64, .i32⟩
  | 35 => ⟨S64x1, .i32⟩
  | 36 => ⟨S_, .i32⟩
  | 37 => ⟨S64x1, .i32⟩
  | 38 => ⟨S64x1, .i32⟩
  | 39 => ⟨S64x16384, .i32⟩
  | 40 => ⟨S64x16384, .i32⟩
  | 41 => ⟨S64x16384, .i32⟩
  | 42 => ⟨S_, .i32⟩
  | 43 => ⟨S64x16384, .i32⟩
  | 44 => ⟨S64x16384, .i1⟩
  | 45 => ⟨S64x16384, .f32⟩
  | 46 => ⟨S4, .f32⟩
  | 47 => ⟨S_, .f32⟩
  | 48 => ⟨S4, .f32⟩
  | 49 => ⟨S4, .f32⟩
  | 50 => ⟨S4, .f32⟩
  | 51 => ⟨S4, .f32⟩
  | 52 => ⟨S4, .i1⟩
  | 53 => ⟨S4, .f32⟩
  | 54 => ⟨S4, .f32⟩
  | 55 => ⟨S4, .f32⟩
  | 56 => ⟨S4, .f32⟩
  | 57 => ⟨S4, .f32⟩
  | 58 => ⟨S4, .f32⟩
  | 59 => ⟨S4, .f32⟩
  | 60 => ⟨S4, .f32⟩
  | 61 => ⟨S4, .f32⟩
  | 62 => ⟨S4x1x1, .f32⟩
  | 63 => ⟨S1x64x16384, .f32⟩
  | 64 => ⟨S4x64x16384, .f32⟩
  | 65 => ⟨S4x64x16384, .f32⟩
  | 66 => ⟨S4x64x16384, .f32⟩
  | 67 => ⟨S4x64x16384, .f32⟩
  | 68 => ⟨S_, .f32⟩
  | 69 => ⟨S_, .f32⟩
  | 70 => ⟨S4x64x16384, .i1⟩
  | 71 => ⟨S4x64x16384, .f32⟩
  | 72 => ⟨S4x64x16384, .f32⟩
  | 73 => ⟨S2x16384x4x128x1, .f32⟩
  | 74 => ⟨S2x16384x4x128, .f32⟩
  | 75 => ⟨S2x16384x4x1x128, .f32⟩
  | 76 => ⟨S2x16384x4x128x128, .f32⟩
  | 77 => ⟨S2x16384x4x128x128, .f32⟩
  | 78 => ⟨S2x16384x4x128x128, .f32⟩
  | 79 => ⟨S4x2x128x128x64, .f32⟩
  | 80 => ⟨S2x64x4x128x128, .f32⟩
  | 81 => ⟨S2x128x16x8x4x128, .f32⟩
  | 82 => ⟨S4x2x16x128x8x128, .f32⟩
  | 83 => ⟨S4x2x16x128x8x128, .bf16⟩
  | 84 => ⟨S2x16384x3072, .f32⟩
  | 85 => ⟨S2x16384x3072, .f32⟩
  | 86 => ⟨S_, .f32⟩
  | 87 => ⟨S2x16384x3072, .f32⟩
  | 88 => ⟨S2x16384x3072, .f32⟩
  | 89 => ⟨S_, .f32⟩
  | 90 => ⟨S2x16384x3072, .f32⟩
  | 91 => ⟨S2x16384x3072, .f32⟩
  | 92 => ⟨S32768x3072, .f32⟩
  | 93 => ⟨S32768x3072, .bf16⟩
  | 94 => ⟨S32768x512, .f32⟩
  | 95 => ⟨S32768x512, .bf16⟩
  | 96 => ⟨S32768x512, .f32⟩
  | 97 => ⟨S32768x512, .bf16⟩
  | 98 => ⟨S32768x512, .f32⟩
  | 99 => ⟨S32768x512, .bf16⟩
  | 100 => ⟨S32768x512, .f32⟩
  | 101 => ⟨S32768x512, .bf16⟩
  | 102 => ⟨S2x16384x512, .f32⟩
  | 103 => ⟨S2x16384x512, .f32⟩
  | 104 => ⟨S_, .f32⟩
  | 105 => ⟨S2x16384x512, .f32⟩
  | 106 => ⟨S2x16384x512, .f32⟩
  | 107 => ⟨S_, .f32⟩
  | 108 => ⟨S2x16384x512, .f32⟩
  | 109 => ⟨S2x16384x512, .f32⟩
  | 110 => ⟨S2x16384x512, .f32⟩
  | 111 => ⟨S32768x512, .f32⟩
  | 112 => ⟨S32768x512, .bf16⟩
  | 113 => ⟨S128x4x128x128, .f32⟩
  | 114 => ⟨S128x4x128x128, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_8 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_10 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_11 : Ref sig .tc := ⟨.hbm, 128, rfl⟩
abbrev main_v108 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_c : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_c_13 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_c_14 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_call0_v0 : Ref sig .tc := ⟨.hbm, 174, rfl⟩
abbrev main_call0_call0_cst : Ref sig .tc := ⟨.hbm, 175, rfl⟩
abbrev main_call0_call0_v0 : Ref sig .tc := ⟨.hbm, 176, rfl⟩
abbrev main_call0_call0_v1 : Ref sig .tc := ⟨.hbm, 177, rfl⟩
abbrev main_call0_call0_v2 : Ref sig .tc := ⟨.hbm, 178, rfl⟩
abbrev main_call0_call0_v3 : Ref sig .tc := ⟨.hbm, 179, rfl⟩
abbrev main_call0_call0_v4 : Ref sig .tc := ⟨.hbm, 180, rfl⟩
abbrev main_call0_call0_v5 : Ref sig .tc := ⟨.hbm, 181, rfl⟩
abbrev main_call0_call0_v6 : Ref sig .tc := ⟨.hbm, 182, rfl⟩
abbrev main_call0_call0_v7 : Ref sig .tc := ⟨.hbm, 183, rfl⟩
abbrev main_call0_call0_v8 : Ref sig .tc := ⟨.hbm, 184, rfl⟩
abbrev main_call0_call0_v9 : Ref sig .tc := ⟨.hbm, 185, rfl⟩
abbrev main_call0_call0_v10 : Ref sig .tc := ⟨.hbm, 186, rfl⟩
abbrev main_call0_call0_v11 : Ref sig .tc := ⟨.hbm, 187, rfl⟩
abbrev main_call0_v1 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_15 : Ref sig .tc := ⟨.hbm, 196, rfl⟩
abbrev main_call1_v0 : Ref sig .tc := ⟨.hbm, 197, rfl⟩
abbrev main_call1_v1 : Ref sig .tc := ⟨.hbm, 198, rfl⟩
abbrev main_call1_v2 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_cst_16 : Ref sig .tc := ⟨.hbm, 214, rfl⟩
abbrev main_v170 : Ref sig .tc := ⟨.hbm, 215, rfl⟩
abbrev main_v171 : Ref sig .tc := ⟨.hbm, 216, rfl⟩
abbrev main_cst_17 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_call2_v0 : Ref sig .tc := ⟨.hbm, 230, rfl⟩
abbrev main_call2_v1 : Ref sig .tc := ⟨.hbm, 231, rfl⟩
abbrev main_call2_cst : Ref sig .tc := ⟨.hbm, 232, rfl⟩
abbrev main_call2_v2 : Ref sig .tc := ⟨.hbm, 233, rfl⟩
abbrev main_call2_v3 : Ref sig .tc := ⟨.hbm, 234, rfl⟩
abbrev main_call2_cst_0 : Ref sig .tc := ⟨.hbm, 235, rfl⟩
abbrev main_call2_v4 : Ref sig .tc := ⟨.hbm, 236, rfl⟩
abbrev main_call2_v5 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩

abbrev nD : Nat := 1
abbrev τ : Topo := Topo.v7x

variable {F : FTy → Type} [FloatOps F]
-- ==== KernelCombine.lean ====
abbrev S32768x1024 : Shape := ⟨2, ![32768, 1024]⟩
abbrev S32768x3072 : Shape := ⟨2, ![32768, 3072]⟩
abbrev S32768x512 : Shape := ⟨2, ![32768, 512]⟩
abbrev S2x2x16x128x8x128 : Shape := ⟨6, ![2, 2, 16, 128, 8, 128]⟩
abbrev S2x512x1024 : Shape := ⟨3, ![2, 512, 1024]⟩
abbrev S2x1024x1024 : Shape := ⟨3, ![2, 1024, 1024]⟩
abbrev S2x1024 : Shape := ⟨2, ![2, 1024]⟩
abbrev S1x1024 : Shape := ⟨2, ![1, 1024]⟩
abbrev S1024 : Shape := ⟨1, ![1024]⟩
abbrev S1024x1024 : Shape := ⟨2, ![1024, 1024]⟩
abbrev S1024x3072 : Shape := ⟨2, ![1024, 3072]⟩
abbrev S1024x512 : Shape := ⟨2, ![1024, 512]⟩
abbrev S2x1x16x8x8x128 : Shape := ⟨6, ![2, 1, 16, 8, 8, 128]⟩
abbrev S1x512x1024 : Shape := ⟨3, ![1, 512, 1024]⟩
abbrev S1x1024x1024 : Shape := ⟨3, ![1, 1024, 1024]⟩
abbrev S1x1x1x1x8x128 : Shape := ⟨6, ![1, 1, 1, 1, 8, 128]⟩
abbrev S8x128 : Shape := ⟨2, ![8, 128]⟩
abbrev S1024x128 : Shape := ⟨2, ![1024, 128]⟩
abbrev S128x1024 : Shape := ⟨2, ![128, 1024]⟩
abbrev S128 : Shape := ⟨1, ![128]⟩
abbrev S128x1 : Shape := ⟨2, ![128, 1]⟩
abbrev S512x1024 : Shape := ⟨2, ![512, 1024]⟩
abbrev S1024x1 : Shape := ⟨2, ![1024, 1]⟩

abbrev nBuf : Space → Nat
  | .hbm => 22
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x3072, .bf16⟩
  | .hbm, ⟨2, _⟩ => ⟨S32768x512, .bf16⟩
  | .hbm, ⟨3, _⟩ => ⟨S32768x512, .bf16⟩
  | .hbm, ⟨4, _⟩ => ⟨S2x2x16x128x8x128, .i32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x512x1024, .bf16⟩
  | .hbm, ⟨12, _⟩ => ⟨S2x512x1024, .bf16⟩
  | .hbm, ⟨13, _⟩ => ⟨S2x512x1024, .bf16⟩
  | .hbm, ⟨14, _⟩ => ⟨S2x1024x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2x1x16x8x8x128, .i32⟩
  | .local _ .vmem, ⟨9, _⟩ => ⟨S2x1x16x8x8x128, .i32⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 6 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  let c0_i32_13 : BitVec 32 := 0#32
  let c0_i32_14 : BitVec 32 := 0#32
  ![c0_i32_10.toNat, v17.toNat, c0_i32_11.toNat, v27.toNat, c0_i32_12.toNat, c0_i32_13.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x16x8x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceCombineIdeal.lean ====
abbrev S32768x1024 : Shape := ⟨2, ![32768, 1024]⟩
abbrev S32768x3072 : Shape := ⟨2, ![32768, 3072]⟩
abbrev S32768x512 : Shape := ⟨2, ![32768, 512]⟩
abbrev S2x2x16x128x8x128 : Shape := ⟨6, ![2, 2, 16, 128, 8, 128]⟩
abbrev S2x512x1024 : Shape := ⟨3, ![2, 512, 1024]⟩
abbrev S2x1024x1024 : Shape := ⟨3, ![2, 1024, 1024]⟩
abbrev S2x1024 : Shape := ⟨2, ![2, 1024]⟩
abbrev S_ : Shape := ⟨0, ![]⟩
abbrev S2x1x2x16x128x8x128 : Shape := ⟨7, ![2, 1, 2, 16, 128, 8, 128]⟩
abbrev S2x2x2x16x128x8x128 : Shape := ⟨7, ![2, 2, 2, 16, 128, 8, 128]⟩
abbrev S2x128x16x8x2x2x128 : Shape := ⟨7, ![2, 128, 16, 8, 2, 2, 128]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x3072, .bf16⟩
  | .hbm, ⟨2, _⟩ => ⟨S32768x512, .bf16⟩
  | .hbm, ⟨3, _⟩ => ⟨S32768x512, .bf16⟩
  | .hbm, ⟨4, _⟩ => ⟨S2x2x16x128x8x128, .i32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S_, .i32⟩
  | .hbm, ⟨12, _⟩ => ⟨S2x2x16x128x8x128, .i32⟩
  | .hbm, ⟨13, _⟩ => ⟨S2x2x16x128x8x128, .i32⟩
  | .hbm, ⟨14, _⟩ => ⟨S2x2x16x128x8x128, .f32⟩
  | .hbm, ⟨15, _⟩ => ⟨S_, .i32⟩
  | .hbm, ⟨16, _⟩ => ⟨S2x2x16x128x8x128, .i32⟩
  | .hbm, ⟨17, _⟩ => ⟨S2x2x16x128x8x128, .i32⟩
  | .hbm, ⟨18, _⟩ => ⟨S2x2x16x128x8x128, .f32⟩
  | .hbm, ⟨19, _⟩ => ⟨S2x1x2x16x128x8x128, .f32⟩
  | .hbm, ⟨20, _⟩ => ⟨S2x1x2x16x128x8x128, .f32⟩
  | .hbm, ⟨21, _⟩ => ⟨S2x2x2x16x128x8x128, .f32⟩
  | .hbm, ⟨22, _⟩ => ⟨S2x128x16x8x2x2x128, .f32⟩
  | .hbm, ⟨23, _⟩ => ⟨S32768x512, .f32⟩
  | .hbm, ⟨24, _⟩ => ⟨S32768x3072, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x512, .f32⟩
  | .hbm, ⟨29, _⟩ => ⟨S1x512x1024, .f32⟩
  | .hbm, ⟨30, _⟩ => ⟨S512x1024, .f32⟩
  | .hbm, ⟨31, _⟩ => ⟨S32768x1024, .f32⟩
  | .hbm, ⟨32, _⟩ => ⟨S32768x1024, .f32⟩
  | .hbm, ⟨33, _⟩ => ⟨S32768x512, .f32⟩
  | .hbm, ⟨34, _⟩ => ⟨S1x512x1024, .f32⟩
  | .hbm, ⟨35, _⟩ => ⟨S512x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S1x512x1024, .f32⟩
  | .hbm, ⟨40, _⟩ => ⟨S512x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1x1024x1024, .f32⟩
  | .hbm, ⟨45, _⟩ => ⟨S1024x1024, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x1, .f32⟩
  | .hbm, ⟨76, _⟩ => ⟨S32768x1024, .f32⟩
  | .hbm, ⟨77, _⟩ => ⟨S32768x1024, .f32⟩
  | .hbm, ⟨78, _⟩ => ⟨S1x1024, .f32⟩
  | .hbm, ⟨79, _⟩ => ⟨S32768x1024, .f32⟩
  | .hbm, ⟨80, _⟩ => ⟨S32768x1024, .f32⟩
  | .hbm, ⟨81, _⟩ => ⟨S1x1024, .f32⟩
  | .hbm, ⟨82, _⟩ => ⟨S32768x1024, .f32⟩
  | .hbm, ⟨83, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== KernelFourier.lean ====
abbrev S2x2x16x128x8x128 : Shape := ⟨6, ![2, 2, 16, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S256x128 : Shape := ⟨2, ![256, 128]⟩
abbrev S2x2x16x1024x128 : Shape := ⟨5, ![2, 2, 16, 1024, 128]⟩
abbrev S2x4x2x16x1024x128 : Shape := ⟨6, ![2, 4, 2, 16, 1024, 128]⟩
abbrev S2x1x4x1024x128 : Shape := ⟨5, ![2, 1, 4, 1024, 128]⟩
abbrev S2x4x1x4x1024x128 : Shape := ⟨6, ![2, 4, 1, 4, 1024, 128]⟩
abbrev S1x1x1x128x128 : Shape := ⟨5, ![1, 1, 1, 128, 128]⟩
abbrev S128x512 : Shape := ⟨2, ![128, 512]⟩
abbrev S256x512 : Shape := ⟨2, ![256, 512]⟩
abbrev S128x1x128 : Shape := ⟨3, ![128, 1, 128]⟩
abbrev S128x8x128 : Shape := ⟨3, ![128, 8, 128]⟩
abbrev S1024x128 : Shape := ⟨2, ![1024, 128]⟩
abbrev S1x1x1x1x1024x128 : Shape := ⟨6, ![1, 1, 1, 1, 1024, 128]⟩

abbrev nBuf : Space → Nat
  | .hbm => 43
  | .vmem => 5
  | .smem => 0
  | _ => 0

abbrev bufTy : (tb : Table) → Fin (tcTables nBuf tb) → BufTy
  | .hbm, ⟨0, _⟩ => ⟨S2x2x16x128x8x128, .i32⟩
  | .hbm, ⟨1, _⟩ => ⟨S128, .i32⟩
  | .hbm, ⟨2, _⟩ => ⟨S128x1, .i32⟩
  | .hbm, ⟨3, _⟩ => ⟨S1x128, .i32⟩
  | .hbm, ⟨4, _⟩ => ⟨S128x128, .i32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S128x128, .i32⟩
  | .hbm, ⟨20, _⟩ => ⟨S128x128, .i1⟩
  | .hbm, ⟨21, _⟩ => ⟨S_, .i32⟩
  | .hbm, ⟨22, _⟩ => ⟨S_, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | .hbm, ⟨40, _⟩ => ⟨S256x128, .bf16⟩
  | .hbm, ⟨41, _⟩ => ⟨S2x2x16x1024x128, .i32⟩
  | .hbm, ⟨42, _⟩ => ⟨S2x4x2x16x1024x128, .bf16⟩
  | .local _ .vmem, ⟨0, _⟩ => ⟨S256x128, .bf16⟩
  | .local _ .vmem, ⟨1, _⟩ => ⟨S2x1x4x1024x128, .i32⟩
  | .local _ .vmem, ⟨2, _⟩ => ⟨S2x1x4x1024x128, .i32⟩
  | .local _ .vmem, ⟨3, _⟩ => ⟨S2x4x1x4x1024x128, .bf16⟩
  | .local _ .vmem, ⟨4, _⟩ => ⟨S2x4x1x4x1024x128, .bf16⟩
  | _, _ => ⟨S2x2x16x128x8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, arg1.toNat, c0_i32_1.toNat, c0_i32_2.toNat]

abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x1x4x1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x4x1x4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFourierIdeal.lean ====
abbrev S2x2x16x128x8x128 : Shape := ⟨6, ![2, 2, 16, 128, 8, 128]⟩
abbrev S_ : Shape := ⟨0, ![]⟩
abbrev S2x1x2x16x128x8x128 : Shape := ⟨7, ![2, 1, 2, 16, 128, 8, 128]⟩
abbrev S2x2x2x16x128x8x128 : Shape := ⟨7, ![2, 2, 2, 16, 128, 8, 128]⟩
abbrev S128x2x2x2x16x8x128 : Shape := ⟨7, ![128, 2, 2, 2, 16, 8, 128]⟩
abbrev S128x131072 : Shape := ⟨2, ![128, 131072]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x131072 : Shape := ⟨3, ![1, 128, 131072]⟩
abbrev S2x128x131072 : Shape := ⟨3, ![2, 128, 131072]⟩
abbrev S2x128x4x2x16x8x128 : Shape := ⟨7, ![2, 128, 4, 2, 16, 8, 128]⟩
abbrev S2x4x2x16x128x8x128 : Shape := ⟨7, ![2, 4, 2, 16, 128, 8, 128]⟩
abbrev S2x4x2x16x1024x128 : Shape := ⟨6, ![2, 4, 2, 16, 1024, 128]⟩

abbrev nBuf : Space → Nat
  | .hbm => 64
  | .vmem => 0
  | .smem => 0
  | _ => 0

abbrev bufTy : (tb : Table) → Fin (tcTables nBuf tb) → BufTy
  | .hbm, ⟨0, _⟩ => ⟨S2x2x16x128x8x128, .i32⟩
  | .hbm, ⟨1, _⟩ => ⟨S_, .i32⟩
  | .hbm, ⟨2, _⟩ => ⟨S2x2x16x128x8x128, .i32⟩
  | .hbm, ⟨3, _⟩ => ⟨S2x2x16x128x8x128, .i32⟩
  | .hbm, ⟨4, _⟩ => ⟨S2x2x16x128x8x128, .f32⟩
  | .hbm, ⟨5, _⟩ => ⟨S_, .i32⟩
  | .hbm, ⟨6, _⟩ => ⟨S2x2x16x128x8x128, .i32⟩
  | .hbm, ⟨7, _⟩ => ⟨S2x2x16x128x8x128, .i32⟩
  | .hbm, ⟨8, _⟩ => ⟨S2x2x16x128x8x128, .f32⟩
  | .hbm, ⟨9, _⟩ => ⟨S2x1x2x16x128x8x128, .f32⟩
  | .hbm, ⟨10, _⟩ => ⟨S2x1x2x16x128x8x128, .f32⟩
  | .hbm, ⟨11, _⟩ => ⟨S2x2x2x16x128x8x128, .f32⟩
  | .hbm, ⟨12, _⟩ => ⟨S128x2x2x2x16x8x128, .f32⟩
  | .hbm, ⟨13, _⟩ => ⟨S128x131072, .f32⟩
  | .hbm, ⟨14, _⟩ => ⟨S128, .i32⟩
  | .hbm, ⟨15, _⟩ => ⟨S128x1, .i32⟩
  | .hbm, ⟨16, _⟩ => ⟨S1x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S_, .i32⟩
  | .hbm, ⟨29, _⟩ => ⟨S128x128, .i32⟩
  | .hbm, ⟨30, _⟩ => ⟨S128x128, .i1⟩
  | .hbm, ⟨31, _⟩ => ⟨S_, .i32⟩
  | .hbm, ⟨32, _⟩ => ⟨S128x128, .i32⟩
  | .hbm, ⟨33, _⟩ => ⟨S128x128, .i1⟩
  | .hbm, ⟨34, _⟩ => ⟨S_, .i32⟩
  | .hbm, ⟨35, _⟩ => ⟨S_, .i1⟩
  | .hbm, ⟨36, _⟩ => ⟨S128x128, .i1⟩
  | .hbm, ⟨37, _⟩ => ⟨S128x128, .i1⟩
  | .hbm, ⟨38, _⟩ => ⟨S128x128, .i1⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x131072, .f32⟩
  | .hbm, ⟨51, _⟩ => ⟨S128x128, .f32⟩
  | .hbm, ⟨52, _⟩ => ⟨S128x128, .f32⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S128x131072, .f32⟩
  | .hbm, ⟨57, _⟩ => ⟨S1x128x131072, .f32⟩
  | .hbm, ⟨58, _⟩ => ⟨S1x128x131072, .f32⟩
  | .hbm, ⟨59, _⟩ => ⟨S2x128x131072, .f32⟩
  | .hbm, ⟨60, _⟩ => ⟨S2x128x4x2x16x8x128, .f32⟩
  | .hbm, ⟨61, _⟩ => ⟨S2x4x2x16x128x8x128, .f32⟩
  | .hbm, ⟨62, _⟩ => ⟨S2x4x2x16x1024x128, .f32⟩
  | .hbm, ⟨63, _⟩ => ⟨S2x4x2x16x1024x128, .bf16⟩
  | _, _ => ⟨S2x2x16x128x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]
-- ==== Proof.FfnRow.lean ====
/-
  The feed-forward block with its residual and layer norm, one row at a time, over the extended reals: what both the
  tiled kernel and the plain reference compute from a row of 1024 inputs, the three weight matrices, and the norm's
  scale and shift. Nothing in this file mentions a tile, a grid or a program.
-/
module

public import Idealize.ShloMosaic.PureOps.Ideal
public import Idealize.ShloMosaic.Lib.Pointwise
public import Mathlib.Algebra.BigOperators.Fin

@[expose] public section

noncomputable section

open scoped BigOperators

namespace Cert.FfnRow

open Idealize.ShloMosaic

/-- One hidden unit: the gate product through the sigmoid-weighted linear unit, times the up product. -/
def hiddenUnit (x : Fin 1024 → EReal) (wg wu : Fin 1024 → Fin 2816 → EReal) (j : Fin 2816) : EReal :=
  (∑ k, x k * wg k j) * Ideal.logistic (∑ k, x k * wg k j) * ∑ k, x k * wu k j

/-- One output of the residual sum: the scaled input plus half the down projection of the hidden row. -/
def mixed (x : Fin 1024 → EReal) (wg wu : Fin 1024 → Fin 2816 → EReal) (wd : Fin 2816 → Fin 1024 → EReal)
    (o : Fin 1024) : EReal :=
  Ideal.ofBits .f32 0x3FB504F3#32 * x o + Ideal.ofBits .f32 0x3F000000#32 * ∑ j, hiddenUnit x wg wu j * wd j o

/-- The mean of a row. -/
def mean (y : Fin 1024 → EReal) : EReal := Ideal.div (∑ k, y k) (Ideal.ofBits .f32 0x44800000#32)

/-- One output of the layer norm of a row: the deviation from the mean over the root of the variance plus a small
    constant, scaled and shifted. -/
def layerNorm (y g b : Fin 1024 → EReal) (o : Fin 1024) : EReal :=
  (y o - mean y)
    * Ideal.rsqrt (Ideal.div (∑ k, (y k - mean y) * (y k - mean y)) (Ideal.ofBits .f32 0x44800000#32)
        + Ideal.ofBits .f32 0x3727C5AC#32)
    * g o + b o

/-- The whole result, rows numbered through both sequences: row `i 0` is token `i 0 mod 16384` of sequence
    `i 0 / 16384`; every weight and both norm vectors are the first of the two they are stacked with. -/
def ffn (x : (⟨3, ![2, 16384, 1024]⟩ : Shape).Idx → EReal) (wg wu : (⟨3, ![2, 1024, 2816]⟩ : Shape).Idx → EReal)
    (wd : (⟨3, ![2, 2816, 1024]⟩ : Shape).Idx → EReal) (g b : (⟨2, ![2, 1024]⟩ : Shape).Idx → EReal) :
    (⟨2, ![32768, 1024]⟩ : Shape).Idx → EReal := fun i =>
  layerNorm
    (mixed (fun k => x (ix3 ⟨(i 0).val / 16384, Nat.div_lt_of_lt_mul (i 0).isLt⟩ ⟨(i 0).val % 16384, Nat.mod_lt _ (by decide)⟩ k))
      (fun k j => wg (ix3 0 k j)) (fun k j => wu (ix3 0 k j)) (fun j o => wd (ix3 0 j o)))
    (fun k => g (ix2 0 k)) (fun k => b (ix2 0 k)) (i 1)

end Cert.FfnRow

end
-- ==== Proof.FfnPay.lean ====
/-
  The values the feed-forward kernel stores, each read at an index: a chunk of 256 hidden units of every row, the
  residual sum, and the layer norm of a slice of 128 rows. The body writes the same chunk computation eleven times and the
  same norm eight times over; each copy is one function.
-/
module

public import proofs.«01_k».proof.Proof.FfnRow
public import proofs.«01_k».proof.Proof.Gen.KernelFfnIdeal.Value
public import Idealize.ShloMosaic.Lib.Pointwise

@[expose] public section

set_option maxRecDepth 16384

noncomputable section

open scoped BigOperators

namespace Cert.KernelFfnIdeal.Val

open Cert.KernelFfnIdeal Cert.KernelFfnIdeal.Gen Cert.FfnRow
open Idealize.ShloMosaic Idealize.ShloMosaic.TcCoe Idealize.SL.Sem

/-- A chunk of hidden units at row `p`, column `q` of the chunk. -/
theorem pay5_at (x : Vec Ideal S1024x1024 .bf16) (wg wu : Vec Ideal S1x1024x256 .bf16) (p : Fin 1024) (q : Fin 256) :
    k0_pay5 x wg wu (ix2 p q)
      = (∑ k : Fin 1024, x (ix2 p k) * wg (ix3 0 k q)) * Ideal.logistic (∑ k : Fin 1024, x (ix2 p k) * wg (ix3 0 k q))
        * ∑ k : Fin 1024, x (ix2 p k) * wu (ix3 0 k q) := by
  pointwise [k0_pay5]

/-- The residual sum at row `p`, column `q`. -/
theorem pay37_at (h : Vec Ideal S1024x2816 .bf16) (wd : Vec Ideal S1x2816x1024 .bf16) (x : Vec Ideal S1024x1024 .f32)
    (p q : Fin 1024) :
    k0_pay37 h wd x (ix2 p q)
      = Ideal.ofBits .f32 0x3FB504F3#32 * x (ix2 p q)
        + Ideal.ofBits .f32 0x3F000000#32 * ∑ j : Fin 2816, h (ix2 p j) * wd (ix3 0 j q) := by
  pointwise [k0_pay37]

/-- The norm of a slice of rows at row `p`, column `q`. -/
theorem pay20_at (y : Vec Ideal S128x1024 .f32) (g b : Vec Ideal S1x1024 .f32) (p : Fin 128) (q : Fin 1024) :
    k0_pay20 y g b (ix2 p q)
      = layerNorm (fun k => y (ix2 p k)) (fun k => g (ix2 0 k)) (fun k => b (ix2 0 k)) q := by
  unfold layerNorm mean
  pointwise [k0_pay20]

/-- The norm of a whole block at row `p`, column `q`. -/
theorem pay3_at (y : Vec Ideal S1024x1024 .f32) (g b : Vec Ideal S1x1024 .f32) (p q : Fin 1024) :
    k0_pay3 y g b (ix2 p q)
      = layerNorm (fun k => y (ix2 p k)) (fun k => g (ix2 0 k)) (fun k => b (ix2 0 k)) q := by
  unfold layerNorm mean
  pointwise [k0_pay3]

end Cert.KernelFfnIdeal.Val

end
-- ==== Proof.FfnBlock.lean ====
/-
  What one grid point of the feed-forward kernel leaves in its buffers, as functions of the blocks it reads: the carried
  scratch holds the residual sum of the point's rows, and the output block the layer norm of what the scratch held before.
-/
module

public import proofs.«01_k».proof.Proof.FfnPay

@[expose] public section

set_option maxRecDepth 16384

noncomputable section

open scoped BigOperators

namespace Cert.KernelFfnIdeal.Val

open Cert.KernelFfnIdeal Cert.KernelFfnIdeal.Gen Cert.FfnRow
open Idealize.ShloMosaic Idealize.ShloMosaic.TcCoe Idealize.SL.Sem

/-- The residual sums of a block of 1024 rows. -/
def mixBlock (x : Vec Ideal S1024x1024 .f32) (wg wu : Vec Ideal S1x1024x2816 .bf16) (wd : Vec Ideal S1x2816x1024 .bf16) :
    Vec Ideal S1024x1024 .f32 := fun i =>
  mixed (fun k => x (ix2 (i 0) k)) (fun k j => wg (ix3 0 k j)) (fun k j => wu (ix3 0 k j)) (fun j o => wd (ix3 0 j o)) (i 1)

/-- The hidden units of a block of 1024 rows. -/
def hidBlock (x : Vec Ideal S1024x1024 .f32) (wg wu : Vec Ideal S1x1024x2816 .bf16) : Vec Ideal S1024x2816 .bf16 := fun i =>
  hiddenUnit (fun k => x (ix2 (i 0) k)) (fun k j => wg (ix3 0 k j)) (fun k j => wu (ix3 0 k j)) (i 1)

/-- The layer norm of every row of a block of 1024 rows. -/
def normBlock (y : Vec Ideal S1024x1024 .f32) (g b : Vec Ideal S1x1024 .f32) : Vec Ideal S1024x1024 .f32 := fun i =>
  layerNorm (fun k => y (ix2 (i 0) k)) (fun k => g (ix2 0 k)) (fun k => b (ix2 0 k)) (i 1)

/-- Zero offsets on two axes, however they are spelt. -/
theorem off2 : (![0, 0] : Fin 2 → Nat) = fun _ => 0 := funext fun a => by fin_cases a <;> rfl

/-- Zero offsets on three axes. -/
theorem off3 : (![0, 0, 0] : Fin 3 → Nat) = fun _ => 0 := funext fun a => by fin_cases a <;> rfl

/-- A norm slice stored at rows `r0 …`, computed from the same rows of the block, is those rows of the block's norm. -/
theorem slice_norm (r0 : Nat) (h : ∀ a, (![r0, 0] : Fin 2 → Nat) a + (![128, 1024] : Fin 2 → Nat) a ≤ S1024x1024.size a)
    (y : Vec Ideal S1024x1024 .f32) (g b : Vec Ideal S1x1024 .f32)
    (x : (Rect.unit (s := S1024x1024) ![r0, 0] ![128, 1024] h).shape.Idx) :
    k0_pay20 (View.ld y (Rect.unit (s := S1024x1024) ![r0, 0] ![128, 1024] h)) g b x
      = normBlock y g b ((Rect.unit (s := S1024x1024) ![r0, 0] ![128, 1024] h).emb x) := by
  have hx : x = (ix2 (n0 := 128) (n1 := 1024) (x 0) (x 1) : S128x1024.Idx) := by
    funext a; match a with | ⟨0, _⟩ => rfl | ⟨1, _⟩ => rfl
  have h1 : (Rect.unit (s := S1024x1024) ![r0, 0] ![128, 1024] h).emb x 1 = x 1 :=
    Fin.ext (show 0 + 1 * (x 1).val = (x 1).val by omega)
  have hr : ∀ k : Fin 1024, (Rect.unit (s := S1024x1024) ![r0, 0] ![128, 1024] h).emb (ix2 (n0 := 128) (n1 := 1024) (x 0) k)
      = ix2 (n0 := 1024) (n1 := 1024) ((Rect.unit (s := S1024x1024) ![r0, 0] ![128, 1024] h).emb x 0) k := fun k => by
    funext a
    match a with
    | ⟨0, _⟩ => rfl
    | ⟨1, _⟩ => exact Fin.ext (show 0 + 1 * k.val = k.val by omega)
  refine (congrArg (k0_pay20 _ g b) hx).trans ((pay20_at _ g b (x 0) (x 1)).trans ?_)
  unfold normBlock
  rw [h1]
  exact congrArg (fun f => layerNorm f _ _ _) (funext fun k => congrArg y (hr k))

/-- A chunk of hidden units stored at columns `c0 …`, computed from the same columns of the weights, is those columns of
    the block's hidden units. -/
theorem slice_hid (c0 : Nat) (h : ∀ a, (![0, c0] : Fin 2 → Nat) a + (![1024, 256] : Fin 2 → Nat) a ≤ S1024x2816.size a)
    (h' : ∀ a, (![0, 0, c0] : Fin 3 → Nat) a + (![1, 1024, 256] : Fin 3 → Nat) a ≤ S1x1024x2816.size a)
    (y : Vec Ideal S1024x1024 .bf16) (wg wu : Vec Ideal S1x1024x2816 .bf16)
    (x : (Rect.unit (s := S1024x2816) ![0, c0] ![1024, 256] h).shape.Idx) :
    k0_pay5 y (View.ld wg (Rect.unit (s := S1x1024x2816) ![0, 0, c0] ![1, 1024, 256] h'))
        (View.ld wu (Rect.unit (s := S1x1024x2816) ![0, 0, c0] ![1, 1024, 256] h')) x
      = hidBlock y wg wu ((Rect.unit (s := S1024x2816) ![0, c0] ![1024, 256] h).emb x) := by
  have hx : x = (ix2 (n0 := 1024) (n1 := 256) (x 0) (x 1) : S1024x256.Idx) := by
    funext a; match a with | ⟨0, _⟩ => rfl | ⟨1, _⟩ => rfl
  have h0 : (Rect.unit (s := S1024x2816) ![0, c0] ![1024, 256] h).emb x 0 = x 0 :=
    Fin.ext (show 0 + 1 * (x 0).val = (x 0).val by omega)
  have hr : ∀ k : Fin 1024, (Rect.unit (s := S1x1024x2816) ![0, 0, c0] ![1, 1024, 256] h').emb
        (ix3 (n0 := 1) (n1 := 1024) (n2 := 256) 0 k (x 1))
      = ix3 (n0 := 1) (n1 := 1024) (n2 := 2816) 0 k ((Rect.unit (s := S1024x2816) ![0, c0] ![1024, 256] h).emb x 1) :=
    fun k => by
    funext a
    match a with
    | ⟨0, _⟩ => rfl
    | ⟨1, _⟩ => exact Fin.ext (show 0 + 1 * k.val = k.val by omega)
    | ⟨2, _⟩ => rfl
  have e : ∀ w : Vec Ideal S1x1024x2816 .bf16, ∀ k : Fin 1024,
      View.ld w (Rect.unit (s := S1x1024x2816) ![0, 0, c0] ![1, 1024, 256] h') (ix3 (n0 := 1) (n1 := 1024) (n2 := 256) 0 k (x 1))
        = w (ix3 0 k ((Rect.unit (s := S1024x2816) ![0, c0] ![1024, 256] h).emb x 1)) := fun w k => congrArg w (hr k)
  refine (congrArg (k0_pay5 y _ _) hx).trans ((pay5_at y _ _ (x 0) (x 1)).trans ?_)
  unfold hidBlock hiddenUnit
  rw [h0]
  exact congrArg₂ (fun a b : Fin 1024 → EReal => (∑ k, y (ix2 (x 0) k) * a k)
    * Ideal.logistic (∑ k, y (ix2 (x 0) k) * a k) * ∑ k, y (ix2 (x 0) k) * b k) (funext (e wg)) (funext (e wu))

/-- A load of a whole buffer that was stored in pieces, all of them pieces of one function, reads that function. -/
theorem readCov_pieces {S : Shape} {e : EltTy} {sig : RefSig} {κ : Kind} {sp : Space} (v : View sig κ sp S e)
    (L : List (View.Piece (Elt Ideal) S e)) (G : S.Idx → Elt Ideal e) {off : Fin S.rank → Nat} (h0 : off = fun _ => 0)
    (inb : ∀ a, off a + S.size a ≤ S.size a)
    (hL : ∀ p ∈ L, ∀ x : p.1.shape.Idx, p.2 x = G (p.1.emb x)) (hc : ∀ y : S.Idx, ∃ p ∈ L, y ∈ p.1.set) :
    v.readCov L (Rect.unit off S.size inb).toLoadRect = G := by
  refine (View.readCov_eq_canon_ld v L (Rect.unit off S.size inb) hc).trans ?_
  rw [View.ld_unit_zero h0]
  exact funext fun y => View.canon_apply_of_pieces G L hL y (hc y)

/-- The residual sum of a block from its hidden units. -/
theorem pay37_block (wg wu : Vec Ideal S1x1024x2816 .bf16) (wd : Vec Ideal S1x2816x1024 .bf16) (x : Vec Ideal S1024x1024 .f32) :
    k0_pay37 (hidBlock x wg wu) wd x = mixBlock x wg wu wd := by
  funext y
  have hy : y = (ix2 (n0 := 1024) (n1 := 1024) (y 0) (y 1) : S1024x1024.Idx) := by
    funext a; match a with | ⟨0, _⟩ => rfl | ⟨1, _⟩ => rfl
  exact (congrArg (k0_pay37 _ wd x) hy).trans (pay37_at _ wd x (y 0) (y 1))

/-- The store of the residual sum stores it. -/
theorem pay2_eq (y : FVec Ideal S1024x1024 .f32) : k0_pay2 y = y := by
  unfold k0_pay2
  simp only [shapeCast_self]

/-- The rounding of the input block to half precision keeps every value. -/
theorem pay4_eq (x : Vec Ideal S1024x1024 .f32) : k0_pay4 x = x := by
  unfold k0_pay4
  simp only [shapeCast_self]
  rfl

theorem pay11_eq : k0_pay11 (F := Ideal) = k0_pay5 := rfl
theorem pay16_eq : k0_pay16 (F := Ideal) = k0_pay5 := rfl
theorem pay19_eq : k0_pay19 (F := Ideal) = k0_pay5 := rfl
theorem pay27_eq : k0_pay27 (F := Ideal) = k0_pay5 := rfl
theorem pay29_eq : k0_pay29 (F := Ideal) = k0_pay5 := rfl
theorem pay34_eq : k0_pay34 (F := Ideal) = k0_pay5 := rfl
theorem pay35_eq : k0_pay35 (F := Ideal) = k0_pay5 := rfl
theorem pay36_eq : k0_pay36 (F := Ideal) = k0_pay5 := rfl
theorem pay22_eq (x : Vec Ideal S1024x1024 .bf16) (wg wu : Vec Ideal S1x1024x256 .bf16) :
    k0_pay22 (k0_pay21 x wg wu) = k0_pay5 x wg wu := rfl
theorem pay25_eq (x : Vec Ideal S1024x1024 .bf16) (wg wu : Vec Ideal S1x1024x256 .bf16) :
    k0_pay25 x (k0_pay24 x wg) wu = k0_pay5 x wg wu := rfl

section Block

variable (c : Dev nD) (i : grid0.Coords) (arg1 : Memref sig .tc .vmem S1024x1024 .f32) (harg1 : arg1.IsWhole)
   (arg2 : Memref sig .tc .vmem S1x1024x2816 .bf16) (harg2 : arg2.IsWhole)
   (arg3 : Memref sig .tc .vmem S1x1024x2816 .bf16) (harg3 : arg3.IsWhole)
   (arg4 : Memref sig .tc .vmem S1x2816x1024 .bf16) (harg4 : arg4.IsWhole)
   (arg5 : Memref sig .tc .vmem S1x1024 .f32) (harg5 : arg5.IsWhole) (arg6 : Memref sig .tc .vmem S1x1024 .f32)
   (harg6 : arg6.IsWhole) (arg7 : Memref sig .tc .vmem S1024x1024 .f32) (harg7 : arg7.IsWhole)
   (arg8 : Memref sig .tc .vmem S1024x1024 .bf16) (harg8 : arg8.IsWhole)
   (arg9 : Memref sig .tc .vmem S1024x2816 .bf16) (harg9 : arg9.IsWhole)
   (arg10 : Memref sig .tc .vmem S1024x1024 .f32) (harg10 : arg10.IsWhole)

/-- In the middle of the grid the output block is the norm of the scratch's contents. -/
theorem out_B (hc0 : ¬cond0_0 i) (hc1 : cond0_1 i) (hc2 : ¬cond0_2 i)
    (x0 : Vec Ideal S1024x1024 .f32) (x1 x2 : Vec Ideal S1x1024x2816 .bf16) (x3 : Vec Ideal S1x2816x1024 .bf16)
    (x4 x5 : Vec Ideal S1x1024 .f32) (xs2 : Vec Ideal S1024x1024 .f32) :
    out0_B_6 c i arg1 harg1 arg2 harg2 arg3 harg3 arg4 harg4 arg5 harg5 arg6 harg6 arg7 harg7 arg8 harg8 arg9 harg9 arg10 harg10 hc0 hc1 hc2 x0 x1 x2 x3 x4 x5 xs2 = normBlock xs2 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 hc2 x0 x1 x2 x3 x4 x5 xs2)]
  funext y
  refine View.canon_apply_of_pieces (normBlock xs2 x4 x5) _ ?_ y (cover0_B_6 c i arg1 harg1 arg2 harg2 arg3 harg3 arg4 harg4 arg5 harg5 arg6 harg6 arg7 harg7 arg8 harg8 arg9 harg9 arg10 harg10 hc0 hc1 hc2 x0 x1 x2 x3 x4 x5 xs2 y)
  unfold kernelRun0_B
  dsimp only
  sl_unfold_words
  simp only [View.readAt_eq_ld, harg10.read_unread, harg5.read_unread, harg6.read_unread, View.ld_unit_zero (S := S1x1024) off2]
  exact List.forall_mem_cons.mpr ⟨fun x => slice_norm 896 inb_S1024x1024_S128x1024_896_0 xs2 x4 x5 x,
    List.forall_mem_cons.mpr ⟨fun x => slice_norm 768 inb_S1024x1024_S128x1024_768_0 xs2 x4 x5 x,
    List.forall_mem_cons.mpr ⟨fun x => slice_norm 640 inb_S1024x1024_S128x1024_640_0 xs2 x4 x5 x,
    List.forall_mem_cons.mpr ⟨fun x => slice_norm 512 inb_S1024x1024_S128x1024_512_0 xs2 x4 x5 x,
    List.forall_mem_cons.mpr ⟨fun x => slice_norm 384 inb_S1024x1024_S128x1024_384_0 xs2 x4 x5 x,
    List.forall_mem_cons.mpr ⟨fun x => slice_norm 256 inb_S1024x1024_S128x1024_256_0 xs2 x4 x5 x,
    List.forall_mem_cons.mpr ⟨fun x => slice_norm 128 inb_S1024x1024_S128x1024_128_0 xs2 x4 x5 x,
    List.forall_mem_cons.mpr ⟨fun x => slice_norm 0 inb_S1024x1024_S128x1024_0_0 xs2 x4 x5 x, List.forall_mem_nil _⟩⟩⟩⟩⟩⟩⟩⟩

/-- At the first point the scratch ends with the residual sums of the point's rows. -/
theorem sout_A (hc0 : cond0_0 i) (hc1 : cond0_1 i) (hc2 : ¬cond0_2 i)
    (x0 : Vec Ideal S1024x1024 .f32) (x1 x2 : Vec Ideal S1x1024x2816 .bf16) (x3 : Vec Ideal S1x2816x1024 .bf16)
    (x4 x5 : Vec Ideal S1x1024 .f32) :
    sout0_A_2 c i arg1 harg1 arg2 harg2 arg3 harg3 arg4 harg4 arg5 harg5 arg6 harg6 arg7 harg7 arg8 harg8 arg9 harg9 arg10 harg10 hc0 hc1 hc2 x0 x1 x2 x3 x4 x5 = mixBlock x0 x1 x2 x3 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 hc1 hc2 x0 x1 x2 x3 x4 x5)]
  unfold kernelRun0_A
  dsimp only
  sl_unfold_words
  rw [View.canon_cons_unit_zero off2]
  simp only [View.readAt_eq_ld, harg1.read_unread, harg2.read_unread, harg3.read_unread, harg4.read_unread,
    View.ld_unit_zero (S := S1024x1024) off2, View.ld_unit_zero (S := S1x2816x1024) off3,
    View.readCov_unit_zero (S := S1024x1024) _ off2,
    pay11_eq, pay16_eq, pay19_eq, pay27_eq, pay29_eq, pay34_eq, pay35_eq, pay36_eq, pay22_eq, pay25_eq, pay4_eq, pay2_eq]
  refine (congrArg (fun h => k0_pay37 h x3 x0) (readCov_pieces (S := S1024x2816) arg9.view _ (hidBlock x0 x1 x2) off2 inb_S1024x2816_S1024x2816_0_0 ?_ ?_)).trans (pay37_block x1 x2 x3 x0)
  · exact List.forall_mem_cons.mpr ⟨fun x => slice_hid 2560 inb_S1024x2816_S1024x256_0_2560 inb_S1x1024x2816_S1x1024x256_0_0_2560 x0 x1 x2 x,
    List.forall_mem_cons.mpr ⟨fun x => slice_hid 2304 inb_S1024x2816_S1024x256_0_2304 inb_S1x1024x2816_S1x1024x256_0_0_2304 x0 x1 x2 x,
    List.forall_mem_cons.mpr ⟨fun x => slice_hid 2048 inb_S1024x2816_S1024x256_0_2048 inb_S1x1024x2816_S1x1024x256_0_0_2048 x0 x1 x2 x,
    List.forall_mem_cons.mpr ⟨fun x => slice_hid 1792 inb_S1024x2816_S1024x256_0_1792 inb_S1x1024x2816_S1x1024x256_0_0_1792 x0 x1 x2 x,
    List.forall_mem_cons.mpr ⟨fun x => slice_hid 1536 inb_S1024x2816_S1024x256_0_1536 inb_S1x1024x2816_S1x1024x256_0_0_1536 x0 x1 x2 x,
    List.forall_mem_cons.mpr ⟨fun x => slice_hid 1280 inb_S1024x2816_S1024x256_0_1280 inb_S1x1024x2816_S1x1024x256_0_0_1280 x0 x1 x2 x,
    List.forall_mem_cons.mpr ⟨fun x => slice_hid 1024 inb_S1024x2816_S1024x256_0_1024 inb_S1x1024x2816_S1x1024x256_0_0_1024 x0 x1 x2 x,
    List.forall_mem_cons.mpr ⟨fun x => slice_hid 768 inb_S1024x2816_S1024x256_0_768 inb_S1x1024x2816_S1x1024x256_0_0_768 x0 x1 x2 x,
    List.forall_mem_cons.mpr ⟨fun x => slice_hid 512 inb_S1024x2816_S1024x256_0_512 inb_S1x1024x2816_S1x1024x256_0_0_512 x0 x1 x2 x,
    List.forall_mem_cons.mpr ⟨fun x => slice_hid 256 inb_S1024x2816_S1024x256_0_256 inb_S1x1024x2816_S1x1024x256_0_0_256 x0 x1 x2 x,
    List.forall_mem_cons.mpr ⟨fun x => slice_hid 0 inb_S1024x2816_S1024x256_0_0 inb_S1x1024x2816_S1x1024x256_0_0_0 x0 x1 x2 x, List.forall_mem_nil _⟩⟩⟩⟩⟩⟩⟩⟩⟩⟩⟩
  · exact View.cover_of_tiledL _ ![1024, 256] (by sl_kernel_rfl)

/-- In the middle of the grid the scratch ends with the residual sums of the point's rows. -/
theorem sout_B (hc0 : ¬cond0_0 i) (hc1 : cond0_1 i) (hc2 : ¬cond0_2 i)
    (x0 : Vec Ideal S1024x1024 .f32) (x1 x2 : Vec Ideal S1x1024x2816 .bf16) (x3 : Vec Ideal S1x2816x1024 .bf16)
    (x4 x5 : Vec Ideal S1x1024 .f32) (xs2 : Vec Ideal S1024x1024 .f32) :
    sout0_B_2 c i arg1 harg1 arg2 harg2 arg3 harg3 arg4 harg4 arg5 harg5 arg6 harg6 arg7 harg7 arg8 harg8 arg9 harg9 arg10 harg10 hc0 hc1 hc2 x0 x1 x2 x3 x4 x5 xs2 = mixBlock x0 x1 x2 x3 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 hc0 hc1 hc2 x0 x1 x2 x3 x4 x5 xs2)]
  unfold kernelRun0_B
  dsimp only
  sl_unfold_words
  rw [View.canon_cons_unit_zero off2]
  simp only [View.readAt_eq_ld, harg1.read_unread, harg2.read_unread, harg3.read_unread, harg4.read_unread,
    View.ld_unit_zero (S := S1024x1024) off2, View.ld_unit_zero (S := S1x2816x1024) off3,
    View.readCov_unit_zero (S := S1024x1024) _ off2,
    pay11_eq, pay16_eq, pay19_eq, pay27_eq, pay29_eq, pay34_eq, pay35_eq, pay36_eq, pay22_eq, pay25_eq, pay4_eq, pay2_eq]
  refine (congrArg (fun h => k0_pay37 h x3 x0) (readCov_pieces (S := S1024x2816) arg9.view _ (hidBlock x0 x1 x2) off2 inb_S1024x2816_S1024x2816_0_0 ?_ ?_)).trans (pay37_block x1 x2 x3 x0)
  · exact List.forall_mem_cons.mpr ⟨fun x => slice_hid 2560 inb_S1024x2816_S1024x256_0_2560 inb_S1x1024x2816_S1x1024x256_0_0_2560 x0 x1 x2 x,
    List.forall_mem_cons.mpr ⟨fun x => slice_hid 2304 inb_S1024x2816_S1024x256_0_2304 inb_S1x1024x2816_S1x1024x256_0_0_2304 x0 x1 x2 x,
    List.forall_mem_cons.mpr ⟨fun x => slice_hid 2048 inb_S1024x2816_S1024x256_0_2048 inb_S1x1024x2816_S1x1024x256_0_0_2048 x0 x1 x2 x,
    List.forall_mem_cons.mpr ⟨fun x => slice_hid 1792 inb_S1024x2816_S1024x256_0_1792 inb_S1x1024x2816_S1x1024x256_0_0_1792 x0 x1 x2 x,
    List.forall_mem_cons.mpr ⟨fun x => slice_hid 1536 inb_S1024x2816_S1024x256_0_1536 inb_S1x1024x2816_S1x1024x256_0_0_1536 x0 x1 x2 x,
    List.forall_mem_cons.mpr ⟨fun x => slice_hid 1280 inb_S1024x2816_S1024x256_0_1280 inb_S1x1024x2816_S1x1024x256_0_0_1280 x0 x1 x2 x,
    List.forall_mem_cons.mpr ⟨fun x => slice_hid 1024 inb_S1024x2816_S1024x256_0_1024 inb_S1x1024x2816_S1x1024x256_0_0_1024 x0 x1 x2 x,
    List.forall_mem_cons.mpr ⟨fun x => slice_hid 768 inb_S1024x2816_S1024x256_0_768 inb_S1x1024x2816_S1x1024x256_0_0_768 x0 x1 x2 x,
    List.forall_mem_cons.mpr ⟨fun x => slice_hid 512 inb_S1024x2816_S1024x256_0_512 inb_S1x1024x2816_S1x1024x256_0_0_512 x0 x1 x2 x,
    List.forall_mem_cons.mpr ⟨fun x => slice_hid 256 inb_S1024x2816_S1024x256_0_256 inb_S1x1024x2816_S1x1024x256_0_0_256 x0 x1 x2 x,
    List.forall_mem_cons.mpr ⟨fun x => slice_hid 0 inb_S1024x2816_S1024x256_0_0 inb_S1x1024x2816_S1x1024x256_0_0_0 x0 x1 x2 x, List.forall_mem_nil _⟩⟩⟩⟩⟩⟩⟩⟩⟩⟩⟩
  · exact View.cover_of_tiledL _ ![1024, 256] (by sl_kernel_rfl)

/-- At the last point the output block is the norm of the scratch's contents. -/
theorem out_C (hc0 : ¬cond0_0 i) (hc1 : ¬cond0_1 i) (hc2 : cond0_2 i)
    (x0 : Vec Ideal S1024x1024 .f32) (x1 x2 : Vec Ideal S1x1024x2816 .bf16) (x3 : Vec Ideal S1x2816x1024 .bf16)
    (x4 x5 : Vec Ideal S1x1024 .f32) (xs2 : Vec Ideal S1024x1024 .f32) :
    out0_C_6 c i arg1 harg1 arg2 harg2 arg3 harg3 arg4 harg4 arg5 harg5 arg6 harg6 arg7 harg7 arg8 harg8 arg9 harg9 arg10 harg10 hc0 hc1 hc2 x0 x1 x2 x3 x4 x5 xs2 = normBlock xs2 x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 hc2 x0 x1 x2 x3 x4 x5 xs2)]
  unfold kernelRun0_C
  dsimp only
  sl_unfold_words
  rw [View.canon_cons_unit_zero off2]
  simp only [View.readAt_eq_ld, harg10.read_unread, harg5.read_unread, harg6.read_unread,
    View.ld_unit_zero (S := S1x1024) off2, View.ld_unit_zero (S := S1024x1024) off2]
  funext y
  have hy : y = (ix2 (n0 := 1024) (n1 := 1024) (y 0) (y 1) : S1024x1024.Idx) := by
    funext a; match a with | ⟨0, _⟩ => rfl | ⟨1, _⟩ => rfl
  exact (congrArg (k0_pay3 xs2 x4 x5) hy).trans (pay3_at xs2 x4 x5 (y 0) (y 1))

end Block

end Cert.KernelFfnIdeal.Val

end
-- ==== Proof.FfnArray.lean ====
/-
  The array the feed-forward kernel leaves: each grid point but the last stores the residual sums of its 1024 rows in a
  scratch buffer, each point but the first writes back the layer norm of what the scratch held, one tile late; together the
  32 write-backs fill the array with the row function of the arguments.
-/
module

public import proofs.«01_k».proof.Proof.FfnBlock
public import Idealize.ShloMosaic.Lib.StableHlo.ReadAt

@[expose] public section

set_option maxRecDepth 16384

noncomputable section

open scoped BigOperators

namespace Cert.KernelFfnIdeal.Val

open Cert.KernelFfnIdeal Cert.KernelFfnIdeal.Gen Cert.FfnRow
open Idealize.ShloMosaic Idealize.ShloMosaic.TcCoe Idealize.SL.Sem

variable (m : (ℓ : Loc nD τ sig) → Buf (Elt Ideal) ℓ)

/-- The kernel's first operand is the input with its two leading axes joined. -/
theorem V0_at (c : Dev nD) (r : Fin 32768) (k : Fin 1024) :
    V m c main_v0 (ix2 r k)
      = m ((c : Thread nD τ).loc main_arg0)
          (ix3 ⟨r.val / 16384, Nat.div_lt_of_lt_mul r.isLt⟩ ⟨r.val % 16384, Nat.mod_lt _ (by decide)⟩ k) := by
  unfold V
  after_reads_at

/-- The three weight operands are the arguments. -/
theorem V1_at (c : Dev nD) (i : S2x1024x2816.Idx) : V m c main_v1 i = m ((c : Thread nD τ).loc main_arg1) i := by
  unfold V
  after_reads_at

theorem V2_at (c : Dev nD) (i : S2x1024x2816.Idx) : V m c main_v2 i = m ((c : Thread nD τ).loc main_arg2) i := by
  unfold V
  after_reads_at

theorem V3_at (c : Dev nD) (i : S2x2816x1024.Idx) : V m c main_v3 i = m ((c : Thread nD τ).loc main_arg3) i := by
  unfold V
  after_reads_at

/-- The norm's scale and shift are the first rows of the arguments. -/
theorem V6_at (c : Dev nD) (k : Fin 1024) : V m c main_v6 (ix2 0 k) = m ((c : Thread nD τ).loc main_arg4) (ix2 0 k) := by
  unfold V
  after_reads_at

theorem V9_at (c : Dev nD) (k : Fin 1024) : V m c main_v9 (ix2 0 k) = m ((c : Thread nD τ).loc main_arg5) (ix2 0 k) := by
  unfold V
  after_reads_at

/-- Where each window's block lies at a grid point. -/
theorem idx0 : ∀ t : Fin grid0.N, win0_0.index t 0 = min t.val 31 ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = 0 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val - 1 ∧ win0_6.index t 1 = 0 := by decide +kernel
theorem flush6 : ∀ t : Fin grid0.N, win0_6.flush t = true ↔ 1 ≤ t.val := by decide +kernel

/-- Row `p` of the input block at point `t` is row `1024 t + p` of the input. -/
theorem blk0_at (c : Dev nD) (t : Fin cfg0.N) (ht : t.val < 32) (p k : Fin 1024) :
    iblk m c 0 t (ix2 p k) = V m c main_v0 (ix2 ⟨1024 * t.val + p.val, by have := p.isLt; omega⟩ k) := by
  show V m c main_v0 ((win0_0.rect t).emb (ix2 p k)) = _
  congr 1
  funext a
  apply Fin.ext
  match a with
  | ⟨0, _⟩ => show win0_0.index t 0 * 1024 + 1 * p.val = 1024 * t.val + p.val; rw [(idx0 t).1]; omega
  | ⟨1, _⟩ => show win0_0.index t 1 * 1024 + 1 * k.val = k.val; rw [(idx0 t).2]; omega

/-- The gate weights' block is the first of the two stacked matrices, at every point; likewise the other operands. -/
theorem blk1_at (c : Dev nD) (t : Fin cfg0.N) (k : Fin 1024) (j : Fin 2816) :
    iblk m c 1 t (ix3 0 k j) = m ((c : Thread nD τ).loc main_arg1) (ix3 0 k j) := by
  refine Eq.trans ?_ (V1_at m c (ix3 0 k j))
  show V m c main_v1 ((win0_1.rect t).emb (ix3 0 k j)) = _
  congr 1
  funext a
  apply Fin.ext
  match a with
  | ⟨0, _⟩ => show win0_1.index t 0 * 1 + 1 * 0 = 0; rw [(idx1 t).1]
  | ⟨1, _⟩ => show win0_1.index t 1 * 1024 + 1 * k.val = k.val; rw [(idx1 t).2.1]; omega
  | ⟨2, _⟩ => show win0_1.index t 2 * 2816 + 1 * j.val = j.val; rw [(idx1 t).2.2]; omega

theorem blk2_at (c : Dev nD) (t : Fin cfg0.N) (k : Fin 1024) (j : Fin 2816) :
    iblk m c 2 t (ix3 0 k j) = m ((c : Thread nD τ).loc main_arg2) (ix3 0 k j) := by
  refine Eq.trans ?_ (V2_at m c (ix3 0 k j))
  show V m c main_v2 ((win0_2.rect t).emb (ix3 0 k j)) = _
  congr 1
  funext a
  apply Fin.ext
  match a with
  | ⟨0, _⟩ => show win0_2.index t 0 * 1 + 1 * 0 = 0; rw [(idx2 t).1]
  | ⟨1, _⟩ => show win0_2.index t 1 * 1024 + 1 * k.val = k.val; rw [(idx2 t).2.1]; omega
  | ⟨2, _⟩ => show win0_2.index t 2 * 2816 + 1 * j.val = j.val; rw [(idx2 t).2.2]; omega

theorem blk3_at (c : Dev nD) (t : Fin cfg0.N) (j : Fin 2816) (o : Fin 1024) :
    iblk m c 3 t (ix3 0 j o) = m ((c : Thread nD τ).loc main_arg3) (ix3 0 j o) := by
  refine Eq.trans ?_ (V3_at m c (ix3 0 j o))
  show V m c main_v3 ((win0_3.rect t).emb (ix3 0 j o)) = _
  congr 1
  funext a
  apply Fin.ext
  match a with
  | ⟨0, _⟩ => show win0_3.index t 0 * 1 + 1 * 0 = 0; rw [(idx3 t).1]
  | ⟨1, _⟩ => show win0_3.index t 1 * 2816 + 1 * j.val = j.val; rw [(idx3 t).2.1]; omega
  | ⟨2, _⟩ => show win0_3.index t 2 * 1024 + 1 * o.val = o.val; rw [(idx3 t).2.2]; omega

theorem blk4_at (c : Dev nD) (t : Fin cfg0.N) (k : Fin 1024) :
    iblk m c 4 t (ix2 0 k) = m ((c : Thread nD τ).loc main_arg4) (ix2 0 k) := by
  refine Eq.trans ?_ (V6_at m c k)
  show V m c main_v6 ((win0_4.rect t).emb (ix2 0 k)) = _
  congr 1
  funext a
  apply Fin.ext
  match a with
  | ⟨0, _⟩ => show win0_4.index t 0 * 1 + 1 * 0 = 0; rw [(idx4 t).1]
  | ⟨1, _⟩ => show win0_4.index t 1 * 1024 + 1 * k.val = k.val; rw [(idx4 t).2]; omega

theorem blk5_at (c : Dev nD) (t : Fin cfg0.N) (k : Fin 1024) :
    iblk m c 5 t (ix2 0 k) = m ((c : Thread nD τ).loc main_arg5) (ix2 0 k) := by
  refine Eq.trans ?_ (V9_at m c k)
  show V m c main_v9 ((win0_5.rect t).emb (ix2 0 k)) = _
  congr 1
  funext a
  apply Fin.ext
  match a with
  | ⟨0, _⟩ => show win0_5.index t 0 * 1 + 1 * 0 = 0; rw [(idx5 t).1]
  | ⟨1, _⟩ => show win0_5.index t 1 * 1024 + 1 * k.val = k.val; rw [(idx5 t).2]; omega

/-- After every point but the last the scratch holds the residual sums of that point's rows. -/
theorem scratch_at (c : Dev nD) (t : Fin cfg0.N) (ht : t.val < 32) :
    (outsAt0 m c t.val t.isLt).2 = mixBlock (iblk m c 0 t) (iblk m c 1 t) (iblk m c 2 t) (iblk m c 3 t) := by
  have h2 : ¬t.val % 33 = 32 := by omega
  by_cases h0 : t.val % 33 = 0
  · rw [outsAt0_A m c t h0 ht h2]
    dsimp only
    rw [sout_A]
  · rw [outsAt0_B m c t h0 ht h2]
    dsimp only
    rw [sout_B]

/-- The result array: the row function of the arguments. -/
def result (c : Dev nD) : Buf (Elt Ideal) ((c : Thread nD τ).loc main_v10) :=
  ffn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- One row of the norm of a scratch block is the row function, at the row the block came from. -/
theorem normBlock_at (c : Dev nD) (s t : Fin cfg0.N) (hs : s.val < 32) (p q : Fin 1024) :
    normBlock (mixBlock (iblk m c 0 s) (iblk m c 1 s) (iblk m c 2 s) (iblk m c 3 s)) (iblk m c 4 t) (iblk m c 5 t) (ix2 p q)
      = result m c (ix2 (n0 := 32768) (n1 := 1024) ⟨1024 * s.val + p.val, by have := p.isLt; omega⟩ q) := by
  have ex : ∀ k : Fin 1024, iblk m c 0 s (ix2 p k)
      = m ((c : Thread nD τ).loc main_arg0)
          (ix3 ⟨(1024 * s.val + p.val) / 16384, Nat.div_lt_of_lt_mul (by have := p.isLt; omega)⟩
            ⟨(1024 * s.val + p.val) % 16384, Nat.mod_lt _ (by decide)⟩ k) :=
    fun k => (blk0_at m c s hs p k).trans (V0_at m c _ k)
  show layerNorm (mixed (fun k => iblk m c 0 s (ix2 p k)) (fun k j => iblk m c 1 s (ix3 0 k j))
      (fun k j => iblk m c 2 s (ix3 0 k j)) (fun j o => iblk m c 3 s (ix3 0 j o)))
    (fun k => iblk m c 4 t (ix2 0 k)) (fun k => iblk m c 5 t (ix2 0 k)) q = _
  simp only [ex, blk1_at, blk2_at, blk3_at, blk4_at, blk5_at]
  rfl

/-- What each writing point writes back is its block of the result. -/
theorem flushed_eq (c : Dev nD) (t : Fin cfg0.N) (hf : (cfg0.win 6).flush t = true) :
    (dats m 0 c).flushed 6 t = ((cfg0.win 6).blk t).view.read (Elt Ideal) (result m c) := by
  have ht : 1 ≤ t.val := (flush6 t).mp hf
  have hN : cfg0.N = 33 := N_0
  have hlt : t.val < 33 := hN ▸ t.isLt
  have hs : t.val - 1 < 32 := by omega
  have hb : t.val - 1 < cfg0.N := by omega
  have h0 : ¬t.val % 33 = 0 := by omega
  have key : (dats m 0 c).flushed 6 t = (cfg0.win 6).cut (grid0.coords t)
      (normBlock (mixBlock (iblk m c 0 ⟨t.val - 1, hb⟩) (iblk m c 1 ⟨t.val - 1, hb⟩) (iblk m c 2 ⟨t.val - 1, hb⟩)
        (iblk m c 3 ⟨t.val - 1, hb⟩)) (iblk m c 4 t) (iblk m c 5 t)) := by
    by_cases h1 : t.val < 32
    · rw [Value.flushed6_B m c t h0 h1 (by omega), out_B, scratch_at m c ⟨t.val - 1, hb⟩ hs]
    · rw [Value.flushed6_C m c t h0 h1 (by omega), out_C, scratch_at m c ⟨t.val - 1, hb⟩ hs]
  rw [key]
  funext y
  have hy : y = (ix2 (n0 := 1024) (n1 := 1024) (y 0) (y 1) : S1024x1024.Idx) := by
    funext a; match a with | ⟨0, _⟩ => rfl | ⟨1, _⟩ => rfl
  rw [hy]
  refine (normBlock_at m c ⟨t.val - 1, hb⟩ t hs (y 0) (y 1)).trans ?_
  show _ = result m c ((win0_6.rect t).emb (ix2 (n0 := 1024) (n1 := 1024) (y 0) (y 1)))
  congr 1
  funext a
  apply Fin.ext
  match a with
  | ⟨0, _⟩ => show 1024 * (t.val - 1) + (y 0).val = win0_6.index t 0 * 1024 + 1 * (y 0).val; rw [(idx6 t).1]; omega
  | ⟨1, _⟩ => show (y 1).val = win0_6.index t 1 * 1024 + 1 * (y 1).val; rw [(idx6 t).2]; omega

/-- So the array ends holding the result: row `r` is written at point `r / 1024 + 1`. -/
theorem final (c : Dev nD) : (dats m 0 c).arrAt 6 cfg0.N = result m c :=
  (dats m 0 c).arrAt_eq_of_cover 6 (result m c) (flushed_eq m c) fun i => by
    have hN : grid0.N = 33 := N_0
    have h0 : (i 0 : Nat) < 32768 := (i 0).isLt
    have h1 : (i 1 : Nat) < 1024 := (i 1).isLt
    refine ⟨⟨(i 0 : Nat) / 1024 + 1, by show _ < grid0.N; omega⟩, (flush6 _).mpr (by show 1 ≤ (i 0 : Nat) / 1024 + 1; omega), ?_⟩
    generalize ht : (⟨(i 0 : Nat) / 1024 + 1, _⟩ : Fin cfg0.N) = t
    have hv : t.val = (i 0 : Nat) / 1024 + 1 := by rw [← ht]
    show i ∈ ((View.whole main_v10).slice (win0_6.rect t)).set
    rw [View.set_slice_whole, Rect.mem_set_unit]
    intro a
    match a with
    | ⟨0, _⟩ =>
      show win0_6.index t 0 * 1024 ≤ (i 0 : Nat) ∧ (i 0 : Nat) < win0_6.index t 0 * 1024 + 1024
      rw [(idx6 t).1]; omega
    | ⟨1, _⟩ =>
      show win0_6.index t 1 * 1024 ≤ (i 1 : Nat) ∧ (i 1 : Nat) < win0_6.index t 1 * 1024 + 1024
      rw [(idx6 t).2]; omega

end Cert.KernelFfnIdeal.Val

end
-- ==== Proof.FfnReference.lean ====
/-
  The plain feed-forward reference read at an index: the same row function of the arguments.
-/
module

public import proofs.«01_k».proof.Proof.FfnRow
public import proofs.«01_k».proof.Proof.Gen.ReferenceFfnIdeal.Run

@[expose] public section

set_option maxRecDepth 16384

noncomputable section

open scoped BigOperators

namespace Cert.ReferenceFfnIdeal.Val

open Cert.ReferenceFfnIdeal Cert.ReferenceFfnIdeal.Gen Cert.FfnRow
open Idealize.ShloMosaic Idealize.ShloMosaic.TcCoe Idealize.SL.Sem

variable (m : (ℓ : Loc nD τ sig) → Buf (Elt Ideal) ℓ)

/-- The reference's result is the row function of its arguments. -/
theorem result_eq (c : Dev nD) :
    Value.res_out0 m c
      = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  have hi : i = (ix2 (n0 := 32768) (n1 := 1024) (i 0) (i 1) : S32768x1024.Idx) := by
    funext a; match a with | ⟨0, _⟩ => rfl | ⟨1, _⟩ => rfl
  rw [hi]
  generalize i 0 = r
  generalize i 1 = q
  unfold Value.res_out0 Value.res_main_v44 ffn layerNorm mean mixed hiddenUnit Ideal.logistic
  pointwise

end Cert.ReferenceFfnIdeal.Val

end
-- ==== Proof.FfnClaim.lean ====
/-
  The feed-forward claims put together: the runs of the two programs end with equal results from equal arguments, and each
  program leaves its arguments as they were and every semaphore at zero.
-/
module

public import proofs.«01_k».proof.Proof.FfnArray
public import proofs.«01_k».proof.Proof.FfnReference
public import proofs.«01_k».proof.Proof.Gen.KernelFfn.Frame
public import proofs.«01_k».proof.Defs

@[expose] public section

noncomputable section

namespace Cert.Proof.FfnClaim

open Idealize.ShloMosaic Idealize.ShloMosaic.TcCoe Idealize.SL.Sem

theorem frameKernel : Cert.quiescent_KernelFfn := fun m ρ _ => Cert.KernelFfn.Gen.frame m ρ
theorem frameIdeal : Cert.quiescent_KernelFfnIdeal := fun m ρ _ => Cert.KernelFfnIdeal.Gen.frame m ρ

/-- The reference is a run of host operations: its arguments stay, and it declares no semaphore. -/
theorem frameReference : Cert.quiescent_ReferenceFfnIdeal := fun m ρ _ =>
  (θ_run Cert.ReferenceFfnIdeal.defs _ _).mono (fun r h => ⟨fun c => (h c).2, sem_eq_zero_of_no_sems (by decide) r.2⟩)
    (Cert.ReferenceFfnIdeal.Value.run (F := Ideal) m ρ)

theorem preserves : Cert.preserves_KernelFfn_KernelFfnIdeal := trivial

/-- Both runs end at the row function of the arguments. -/
theorem algebraic : Cert.algebraic_KernelFfnIdeal_ReferenceFfnIdeal := fun m ρ m' ρ' _ hag =>
  ⟨fun c => Cert.KernelFfnIdeal.Val.result m c,
    (θ_run Cert.KernelFfnIdeal.defs _ _).mono
      (fun _ h c => ⟨(h c).1.trans (Cert.KernelFfnIdeal.Val.final m c), (h c).2⟩)
      (Cert.KernelFfnIdeal.Value.run_blocks m ρ),
    (θ_run Cert.ReferenceFfnIdeal.defs _ _).mono
      (fun _ h c => ⟨(h c).1.trans ((Cert.ReferenceFfnIdeal.Val.result_eq m' c).trans (by
        obtain ⟨e0, e1, e2, e3, e4, e5⟩ := hag c
        unfold Cert.KernelFfnIdeal.Val.result
        rw [e0, e1, e2, e3, e4, e5])), (h c).2⟩)
      (Cert.ReferenceFfnIdeal.Value.run (F := Ideal) m' ρ')⟩

end Cert.Proof.FfnClaim

end
-- ==== Proof.RetRow.lean ====
/-
  Retention with a decay, over the extended reals: the recurrence that walks the sequence in blocks of 256 rows with a
  state, and the sum over all rows that it computes. Nothing in this file mentions a tile, a grid or a program.
-/
module

public import Idealize.ShloMosaic.PureOps.Ideal
public import Idealize.ShloMosaic.Lib.Pointwise
public import Mathlib.Algebra.BigOperators.Fin

@[expose] public section

noncomputable section

open scoped BigOperators

namespace Cert.RetRow

open Idealize.ShloMosaic

theorem exp_bot : Ideal.exp ⊥ = 0 := rfl

theorem coe_max' (a b : ℝ) : ((max a b : ℝ) : EReal) = max (a : EReal) (b : EReal) := EReal.coe_strictMono.monotone.map_max

theorem coe_min' (a b : ℝ) : ((min a b : ℝ) : EReal) = min (a : EReal) (b : EReal) := EReal.coe_strictMono.monotone.map_min

/-- The logarithm of the logistic function, as the kernel spells it. -/
def lg (x : EReal) : EReal := min x 0 - Ideal.log1p (Ideal.exp (0 - max x (-x)))

/-- The correction term of a log-sigmoid is a non-negative real. -/
theorem corr_real (x : EReal) : ∃ l : ℝ, 0 ≤ l ∧ Ideal.log1p (Ideal.exp (0 - max x (-x))) = (l : EReal) := by
  have key : ∀ r : ℝ, 0 ≤ r → ∃ l : ℝ, 0 ≤ l ∧ Ideal.log1p ((r : ℝ) : EReal) = (l : EReal) := fun r hr => by
    refine ⟨Real.log (1 + r), Real.log_nonneg (by linarith), ?_⟩
    have h1 : (1 : EReal) + (r : EReal) = ((1 + r : ℝ) : EReal) := by simp
    unfold Ideal.log1p
    rw [h1]
    show (if 1 + r ≤ 0 then (⊥ : EReal) else ((Real.log (1 + r) : ℝ) : EReal)) = _
    rw [if_neg (by linarith)]
  induction x using EReal.rec with
  | bot =>
    have : Ideal.exp (0 - max ⊥ (-⊥)) = ((0 : ℝ) : EReal) := by simp [exp_bot]
    rw [this]; exact key 0 le_rfl
  | top =>
    have : Ideal.exp (0 - max ⊤ (-⊤)) = ((0 : ℝ) : EReal) := by simp [exp_bot]
    rw [this]; exact key 0 le_rfl
  | coe r =>
    have h : (0 : EReal) - max (r : EReal) (-(r : EReal)) = ((0 - max r (-r) : ℝ) : EReal) := by
      rw [EReal.coe_sub, coe_max', EReal.coe_neg, EReal.coe_zero]
    rw [h]
    exact key (Real.exp (0 - max r (-r))) (Real.exp_pos _).le

/-- The other spelling of the log-sigmoid, the negated soft plus of the negated argument. -/
theorem lg_eq (x : EReal) : -(max (-x) 0 + Ideal.log1p (Ideal.exp (-(max (-x) x)))) = lg x := by
  have h : (-(max (-x) x) : EReal) = 0 - max x (-x) := by rw [max_comm, zero_sub]
  unfold lg
  rw [h]
  obtain ⟨l, -, hl⟩ := corr_real x
  rw [hl]
  induction x using EReal.rec with
  | bot => simp
  | top => simp
  | coe r =>
    have h1 : max (-(r : EReal)) 0 = ((max (-r) 0 : ℝ) : EReal) := by rw [coe_max', EReal.coe_neg, EReal.coe_zero]
    have h2 : min (r : EReal) 0 = ((min r 0 : ℝ) : EReal) := by rw [coe_min', EReal.coe_zero]
    rw [h1, h2, ← EReal.coe_add, ← EReal.coe_neg, ← EReal.coe_sub]
    congr 1
    rcases le_total r 0 with h | h
    · rw [max_eq_left (by linarith), min_eq_left h]; ring
    · rw [max_eq_right (by linarith), min_eq_right h]; ring

/-- A log-sigmoid is a real or `⊥`. -/
theorem lg_cases (x : EReal) : lg x = ⊥ ∨ ∃ r : ℝ, lg x = (r : EReal) := by
  obtain ⟨l, -, hl⟩ := corr_real x
  unfold lg
  rw [hl]
  induction x using EReal.rec with
  | bot => left; simp
  | top => right; exact ⟨0 - l, by simp⟩
  | coe r =>
    right
    exact ⟨min r 0 - l, by rw [EReal.coe_sub, coe_min', EReal.coe_zero]⟩

/-- The decay over `a` rows. -/
def decay (x : EReal) (a : ℕ) : EReal := Ideal.exp (((a : ℝ) : EReal) * lg x)

/-- The decays are real powers: one at zero rows, and the decay over a sum is the product. -/
theorem decay_real (x : EReal) :
    ∃ γ : ℕ → ℝ, γ 0 = 1 ∧ (∀ a b, γ (a + b) = γ a * γ b) ∧ ∀ a, decay x a = ((γ a : ℝ) : EReal) := by
  rcases lg_cases x with h | ⟨r, h⟩
  · refine ⟨fun a => if a = 0 then 1 else 0, by simp, fun a b => ?_, fun a => ?_⟩
    · by_cases ha : a = 0 <;> by_cases hb : b = 0 <;> simp [ha, hb]
    · unfold decay
      rw [h]
      by_cases ha : a = 0
      · subst ha
        have : (((0 : ℕ) : ℝ) : EReal) * ⊥ = ((0 : ℝ) : EReal) := by simp
        rw [this]
        show ((Real.exp 0 : ℝ) : EReal) = _
        simp
      · have hp : (0 : ℝ) < (a : ℝ) := by exact_mod_cast Nat.pos_of_ne_zero ha
        rw [EReal.coe_mul_bot_of_pos hp]
        simp [ha, exp_bot]
  · refine ⟨fun a => Real.exp (a * r), by simp, fun a b => ?_, fun a => ?_⟩
    · rw [← Real.exp_add]; exact congrArg Real.exp (by push_cast; ring)
    · unfold decay
      rw [h, ← EReal.coe_mul]
      rfl

theorem sum_coe {ι : Type} (s : Finset ι) (f : ι → ℝ) : ∑ a ∈ s, ((f a : ℝ) : EReal) = ((∑ a ∈ s, f a : ℝ) : EReal) := by
  classical
  induction s using Finset.induction with
  | empty => simp
  | insert a s ha ih => rw [Finset.sum_insert ha, Finset.sum_insert ha, ih, EReal.coe_add]

/-- The state in front of block `j`. -/
def state (γ : ℕ → EReal) (K V : ℕ → Fin 128 → EReal) : ℕ → Fin 128 → Fin 128 → EReal
  | 0 => fun _ _ => 0
  | j + 1 => fun d e => γ 256 * state γ K V j d e
      + ∑ i : Fin 256, (K (256 * j + i) d * γ (255 - i)) * V (256 * j + i) e

/-- The weight of row `i'` of a block for row `i` of the same block. -/
def within (γ β : ℕ → EReal) (i i' : ℕ) : EReal := if i' ≤ i then γ (i - i') else β (i' - i)

/-- What the recurrence gives at row `i` of block `j`: the state's part, the later blocks' part, the block's own part. -/
def chunkOut (γ β : ℕ → EReal) (Q K V : ℕ → Fin 128 → EReal) (B : ℕ → Fin 128 → Fin 128 → EReal) (j i : ℕ) (e : Fin 128) :
    EReal :=
  (∑ d : Fin 128, (Q (256 * j + i) d * γ (i + 1)) * state γ K V j d e
      + ∑ d : Fin 128, (Q (256 * j + i) d * β (256 - i)) * B j d e)
    + ∑ i' : Fin 256, ((∑ d : Fin 128, Q (256 * j + i) d * K (256 * j + i') d) * within γ β i i') * V (256 * j + i') e

/-- The weight of row `m` for row `n`: forward over the whole sequence, backward within the block of 256. -/
def weight (γ β : ℕ → EReal) (n m : ℕ) : EReal :=
  (if m ≤ n then γ (n - m) else 0) + if n < m ∧ n / 256 = m / 256 then β (m - n) else 0

/-- Retention at row `n`: the weighted sum over all rows, and what the later blocks' state adds. -/
def retention (γ β : ℕ → EReal) (Q K V : ℕ → Fin 128 → EReal) (B : ℕ → Fin 128 → Fin 128 → EReal) (n : ℕ) (e : Fin 128) :
    EReal :=
  ∑ m : Fin 16384, V m e * ((∑ d : Fin 128, Q n d * K m d) * weight γ β n m)
    + ∑ d : Fin 128, B (n / 256) d e * (Q n d * β (256 - n % 256))

/-- The mean of a head's row. -/
def groupMean (o : Fin 128 → EReal) : EReal := Ideal.div (∑ k : Fin 128, o k) (Ideal.ofBits .f32 0x43000000#32)

/-- The group norm of a head's row, scaled, shifted and gated. -/
def gated (o gn gb g : Fin 128 → EReal) (e : Fin 128) : EReal :=
  g e * ((o e - groupMean o)
    * Ideal.rsqrt (Ideal.div (∑ k : Fin 128, (o k - groupMean o) * (o k - groupMean o)) (Ideal.ofBits .f32 0x43000000#32)
        + Ideal.ofBits .f32 0x3727C5AC#32) * gn e + gb e)

section real

variable (γ : ℕ → ℝ) (k v : ℕ → Fin 128 → ℝ)

/-- The state over the reals, as the sum it is. -/
def sumState (j : ℕ) (d e : Fin 128) : ℝ := ∑ m ∈ Finset.range (256 * j), γ (256 * j - 1 - m) * k m d * v m e

theorem sumState_succ (hγ : ∀ a b, γ (a + b) = γ a * γ b) (j : ℕ) (d e : Fin 128) :
    sumState γ k v (j + 1) d e
      = γ 256 * sumState γ k v j d e + ∑ i : Fin 256, (k (256 * j + i) d * γ (255 - i)) * v (256 * j + i) e := by
  unfold sumState
  rw [show 256 * (j + 1) = 256 * j + 256 by ring, Finset.sum_range_add, Finset.mul_sum]
  congr 1
  · refine Finset.sum_congr rfl fun m hm => ?_
    have hm := Finset.mem_range.mp hm
    rw [show 256 * j + 256 - 1 - m = 256 + (256 * j - 1 - m) by omega, hγ]
    ring
  · rw [Finset.sum_range fun i => γ (256 * j + 256 - 1 - (256 * j + i)) * k (256 * j + i) d * v (256 * j + i) e]
    refine Finset.sum_congr rfl fun i _ => ?_
    rw [show 256 * j + 256 - 1 - (256 * j + (i : ℕ)) = 255 - i by omega]
    ring

theorem state_real (hγ : ∀ a b, γ (a + b) = γ a * γ b) : ∀ (j : ℕ) (d e : Fin 128),
    state (fun a => (γ a : EReal)) (fun m d => (k m d : EReal)) (fun m d => (v m d : EReal)) j d e
      = ((sumState γ k v j d e : ℝ) : EReal)
  | 0, d, e => by simp [state, sumState]
  | j + 1, d, e => by
    rw [sumState_succ γ k v hγ]
    show (γ 256 : EReal) * state _ _ _ j d e + _ = _
    rw [state_real hγ j d e]
    push_cast
    rfl

/-- The state's part of a row is the sum over the rows of the earlier blocks. -/
theorem cross_real (hγ : ∀ a b, γ (a + b) = γ a * γ b) (q : Fin 128 → ℝ) (j i : ℕ) (e : Fin 128) :
    ∑ d : Fin 128, (q d * γ (i + 1)) * sumState γ k v j d e
      = ∑ m ∈ Finset.range (256 * j), v m e * ((∑ d : Fin 128, q d * k m d) * γ (256 * j + i - m)) := by
  unfold sumState
  simp only [Finset.mul_sum]
  rw [Finset.sum_comm]
  refine Finset.sum_congr rfl fun m hm => ?_
  have hm := Finset.mem_range.mp hm
  rw [show 256 * j + i - m = (i + 1) + (256 * j - 1 - m) by omega, hγ (i + 1), Finset.sum_mul, Finset.mul_sum]
  refine Finset.sum_congr rfl fun d _ => ?_
  ring

/-- The weighted sum over all rows splits at the block of row `n`. -/
theorem split_real (β : ℕ → ℝ) (w : ℕ → ℝ) (f : ℕ → ℝ) (j i N : ℕ) (hN : 256 * j + 256 ≤ N)
    (hlo : ∀ m, m < 256 * j → w m = γ (256 * j + i - m))
    (hmid : ∀ i', i' < 256 → w (256 * j + i') = if i' ≤ i then γ (i - i') else β (i' - i))
    (hhi : ∀ m, 256 * j + 256 ≤ m → w m = 0) :
    ∑ m : Fin N, f m * w m
      = ∑ m ∈ Finset.range (256 * j), f m * γ (256 * j + i - m)
        + ∑ i' : Fin 256, f (256 * j + i') * (if (i' : ℕ) ≤ i then γ (i - i') else β (i' - i)) := by
  obtain ⟨r, rfl⟩ := Nat.exists_eq_add_of_le hN
  rw [← Finset.sum_range fun m => f m * w m, Finset.sum_range_add, Finset.sum_range_add]
  have h0 : ∑ x ∈ Finset.range r, f (256 * j + 256 + x) * w (256 * j + 256 + x) = 0 :=
    Finset.sum_eq_zero fun x _ => by rw [hhi _ (by omega), mul_zero]
  rw [h0, add_zero]
  congr 1
  · exact Finset.sum_congr rfl fun m hm => by rw [hlo m (Finset.mem_range.mp hm)]
  · rw [Finset.sum_range fun i' => f (256 * j + i') * w (256 * j + i')]
    exact Finset.sum_congr rfl fun i' _ => by rw [hmid i' i'.isLt]

end real

/-- The recurrence computes retention, where the queries, the keys and the values are finite. -/
theorem chunkOut_eq (x y : EReal) (q k v : ℕ → Fin 128 → ℝ) (B : ℕ → Fin 128 → Fin 128 → EReal) (j i : ℕ) (hj : j < 64)
    (hi : i < 256) (e : Fin 128) :
    chunkOut (decay x) (decay y) (fun m d => (q m d : EReal)) (fun m d => (k m d : EReal)) (fun m d => (v m d : EReal)) B j i e
      = retention (decay x) (decay y) (fun m d => (q m d : EReal)) (fun m d => (k m d : EReal)) (fun m d => (v m d : EReal)) B
          (256 * j + i) e := by
  obtain ⟨γ, -, hγ, eγ⟩ := decay_real x
  obtain ⟨β, -, -, eβ⟩ := decay_real y
  have fγ : decay x = fun a => (γ a : EReal) := funext eγ
  have fβ : decay y = fun a => (β a : EReal) := funext eβ
  rw [fγ, fβ]
  unfold chunkOut retention
  have hdiv : (256 * j + i) / 256 = j := by omega
  have hmod : (256 * j + i) % 256 = i := by omega
  rw [hdiv, hmod, add_right_comm]
  refine congrArg₂ (· + ·) ?_ ?_
  · -- the weighted sum
    let w : ℕ → ℝ := fun m => (if m ≤ 256 * j + i then γ (256 * j + i - m) else 0)
      + if 256 * j + i < m ∧ (256 * j + i) / 256 = m / 256 then β (m - (256 * j + i)) else 0
    have hw : ∀ m, weight (fun a => (γ a : EReal)) (fun a => (β a : EReal)) (256 * j + i) m = ((w m : ℝ) : EReal) := fun m => by
      unfold weight
      rw [EReal.coe_add]
      congr 1 <;> split_ifs <;> simp
    have hin : ∀ i' : ℕ, within (fun a => (γ a : EReal)) (fun a => (β a : EReal)) i i'
        = (((if i' ≤ i then γ (i - i') else β (i' - i) : ℝ)) : EReal) := fun i' => by
      unfold within; split_ifs <;> rfl
    simp only [state_real γ k v hγ, hw, hin]
    simp only [← EReal.coe_mul, sum_coe, ← EReal.coe_add]
    refine congrArg _ ?_
    rw [cross_real γ k v hγ]
    have hs := split_real γ β w (fun m => v m e * ∑ d : Fin 128, q (256 * j + i) d * k m d) j i 16384 (by omega)
      (fun m hm => by
        show (if m ≤ 256 * j + i then _ else _) + _ = _
        rw [if_pos (by omega), if_neg (by omega), add_zero])
      (fun i' hi' => by
        show (if 256 * j + i' ≤ 256 * j + i then _ else _) + _ = _
        by_cases h : i' ≤ i
        · rw [if_pos (by omega), if_neg (by omega), if_pos h, add_zero, show 256 * j + i - (256 * j + i') = i - i' by omega]
        · rw [if_neg (by omega), if_pos (by omega), if_neg h, zero_add, show 256 * j + i' - (256 * j + i) = i' - i by omega])
      (fun m hm => by
        show (if m ≤ 256 * j + i then _ else _) + _ = _
        rw [if_neg (by omega), if_neg (by omega), add_zero])
    calc _ = ∑ m ∈ Finset.range (256 * j), (v m e * ∑ d : Fin 128, q (256 * j + i) d * k m d) * γ (256 * j + i - m)
          + ∑ i' : Fin 256, (v (256 * j + i') e * ∑ d : Fin 128, q (256 * j + i) d * k (256 * j + i') d)
              * (if (i' : ℕ) ≤ i then γ (i - i') else β (i' - i)) := by
            refine congrArg₂ (· + ·) ?_ ?_
            · exact Finset.sum_congr rfl fun m _ => by ring
            · exact Finset.sum_congr rfl fun m _ => by ring
      _ = _ := by rw [← hs]; exact Finset.sum_congr rfl fun m _ => by ring
  · exact Finset.sum_congr rfl fun d _ => mul_comm _ _

/-! ## The arguments by sequence, head and row -/

/-- Row `n` of sequence `b`, columns of head `h`. -/
def head (x : (⟨2, ![32768, 512]⟩ : Shape).Idx → EReal) (b h n : ℕ) (d : Fin 128) : EReal :=
  x (ix2 ⟨(16384 * b + n) % 32768, Nat.mod_lt _ (by decide)⟩ ⟨128 * (h % 4) + d.val, by omega⟩)

/-- The state of the blocks after block `j` of sequence `b`, for head `h`. -/
def later (x : (⟨4, ![128, 4, 128, 128]⟩ : Shape).Idx → EReal) (b h j : ℕ) (d e : Fin 128) : EReal :=
  x (ix4 ⟨(64 * b + j) % 128, Nat.mod_lt _ (by decide)⟩ ⟨h % 4, Nat.mod_lt _ (by decide)⟩ d e)

/-- A head's scale or shift. -/
def scale (x : (⟨1, ![512]⟩ : Shape).Idx → EReal) (h : ℕ) (e : Fin 128) : EReal := x (ix1 ⟨128 * (h % 4) + e.val, by omega⟩)

/-- A head's logit. -/
def logit (x : (⟨1, ![4]⟩ : Shape).Idx → EReal) (h : ℕ) : EReal := x (ix1 ⟨h % 4, Nat.mod_lt _ (by decide)⟩)

/-- The whole result: retention, group norm and gate, row `r` being row `r mod 16384` of sequence `r / 16384`. -/
def expected (lf lb : (⟨1, ![4]⟩ : Shape).Idx → EReal) (q k v g : (⟨2, ![32768, 512]⟩ : Shape).Idx → EReal)
    (sb : (⟨4, ![128, 4, 128, 128]⟩ : Shape).Idx → EReal) (gn gb : (⟨1, ![512]⟩ : Shape).Idx → EReal) :
    (⟨2, ![32768, 512]⟩ : Shape).Idx → EReal := fun i =>
  let b := (i 0).val / 16384
  let n := (i 0).val % 16384
  let h := (i 1).val / 128
  gated (retention (decay (logit lf h)) (decay (logit lb h)) (head q b h) (head k b h) (head v b h) (later sb b h) n)
    (scale gn h) (scale gb h) (head g b h n) ⟨(i 1).val % 128, Nat.mod_lt _ (by decide)⟩

end Cert.RetRow
-- ==== Proof.RetPay.lean ====
/-
  The values the retention kernel stores, each read at an index: the decay tables of a head, a head's state after a block of
  256 rows, and a head's output rows of a block. The body spells each of them once per head and block; every copy is one of
  the functions here.
-/
module

public import proofs.«01_k».proof.Proof.Gen.KernelIdeal.Value
public import Idealize.ShloMosaic.Lib.Pointwise
public import proofs.«01_k».proof.Proof.RetRow

@[expose] public section

set_option maxRecDepth 16384

noncomputable section

open scoped BigOperators

namespace Cert.KernelIdeal.Val

open Cert.KernelIdeal Cert.KernelIdeal.Gen Cert.RetRow
open Idealize.ShloMosaic Idealize.ShloMosaic.TcCoe Idealize.SL.Sem

/-- A head's state after a block of 256 rows, from the state before it. -/
def step (k v : Vec Ideal S256x128 .bf16) (kd : Vec Ideal S1x256x128 .f32) (cd st : Vec Ideal S1x128x128 .f32) :
    Vec Ideal S1x128x128 .f32 := k0_pay47 (k0_pay45 k kd) (k0_pay46 st cd) v

/-- A head's output rows of a block. -/
def rowsOut (q k v g : Vec Ideal S256x128 .bf16) (st : Vec Ideal S1x128x128 .f32) (qd qb : Vec Ideal S1x256x128 .bf16)
    (sb : Vec Ideal S1x1x128x128 .bf16) (dm : Vec Ideal S1x256x256 .bf16) (gn gb : Vec Ideal S1x128 .f32) :
    Vec Ideal S256x128 .bf16 :=
  k0_pay64 (k0_pay62 (k0_pay42 q k) (k0_pay44 q st qd qb sb) dm v) (k0_pay63 (k0_pay42 q k) (k0_pay44 q st qd qb sb) dm v) gn gb g

theorem step_at (k v : Vec Ideal S256x128 .bf16) (kd : Vec Ideal S1x256x128 .f32) (cd st : Vec Ideal S1x128x128 .f32)
    (d e : Fin 128) :
    step k v kd cd st (ix3 0 d e)
      = cd (ix3 0 d e) * st (ix3 0 d e) + ∑ i : Fin 256, (k (ix2 i d) * kd (ix3 0 i d)) * v (ix2 i e) := by
  unfold step
  pointwise [k0_pay47, k0_pay45, k0_pay46, k0_pay43]

/-- A head's output row before the norm. -/
def mixRow (q k v : Vec Ideal S256x128 .bf16) (st : Vec Ideal S1x128x128 .f32) (qd qb : Vec Ideal S1x256x128 .bf16)
    (sb : Vec Ideal S1x1x128x128 .bf16) (dm : Vec Ideal S1x256x256 .bf16) (i : Fin 256) (e : Fin 128) : EReal :=
  (∑ d : Fin 128, (q (ix2 i d) * qd (ix3 0 i d)) * st (ix3 0 d e)
      + ∑ d : Fin 128, (q (ix2 i d) * qb (ix3 0 i d)) * sb (ix4 0 0 d e))
    + ∑ j : Fin 256, ((∑ d : Fin 128, q (ix2 i d) * k (ix2 j d)) * dm (ix3 0 i j)) * v (ix2 j e)

theorem rowsOut_at (q k v g : Vec Ideal S256x128 .bf16) (st : Vec Ideal S1x128x128 .f32) (qd qb : Vec Ideal S1x256x128 .bf16)
    (sb : Vec Ideal S1x1x128x128 .bf16) (dm : Vec Ideal S1x256x256 .bf16) (gn gb : Vec Ideal S1x128 .f32)
    (i : Fin 256) (e : Fin 128) :
    rowsOut q k v g st qd qb sb dm gn gb (ix2 i e)
      = gated (mixRow q k v st qd qb sb dm i) (fun e => gn (ix2 0 e)) (fun e => gb (ix2 0 e)) (fun e => g (ix2 i e)) e := by
  unfold rowsOut gated groupMean mixRow
  pointwise [k0_pay64, k0_pay62, k0_pay63, k0_pay42, k0_pay44, k0_pay43]

theorem word_toInt (n : ℕ) (h : n < 2 ^ 31) : (BitVec.ofNat 32 n).toInt = n := by
  rw [BitVec.toInt_eq_toNat_of_lt (by rw [BitVec.toNat_ofNat]; omega), BitVec.toNat_ofNat]
  omega

theorem word_small (n : ℕ) (h : n < 2 ^ 31) : ((BitVec.ofNat 32 n).toInt : ℝ) = n := by
  rw [word_toInt n h]; simp

theorem ofBits_256 : Ideal.ofBits .f32 0x43800000#32 = ((256 : ℝ) : EReal) := by
  simp [Ideal.ofBits, Ideal.ieee]
  rw [← EReal.coe_mul]; norm_num

theorem ofBits_255 : Ideal.ofBits .f32 0x437F0000#32 = ((255 : ℝ) : EReal) := by
  simp [Ideal.ofBits, Ideal.ieee]
  rw [← EReal.coe_mul]; norm_num

/-- The decay table of the keys. -/
def kTable (lf : Elt Ideal .f32) : Vec Ideal S1x256x128 .f32 := k0_pay8 k0_pay4 lf

/-- The decay table of the queries against the carried state. -/
def qTable (lf : Elt Ideal .f32) : Vec Ideal S1x256x128 .bf16 := k0_pay9 k0_pay4 lf

/-- The decay table of the queries against the later blocks' state. -/
def bTable (lb : Elt Ideal .f32) : Vec Ideal S1x256x128 .bf16 := k0_pay11 (k0_pay10 k0_pay4 lb)

/-- The decay over a block. -/
def cTable (lf : Elt Ideal .f32) : Vec Ideal S1x128x128 .f32 := k0_pay12 lf

/-- The decays within a block. -/
def dTable (lf lb : Elt Ideal .f32) : Vec Ideal S1x256x256 .bf16 := k0_pay6 (k0_pay5 lf lb)

theorem kTable_at (lf : Elt Ideal .f32) (i : Fin 256) (d : Fin 128) : kTable lf (ix3 0 i d) = decay lf (255 - i) := by
  have h : k0_pay8 k0_pay4 lf (ix3 0 i d) = Ideal.exp ((Ideal.ofBits .f32 0x437F0000#32 - (((BitVec.ofNat 32 i).toInt : ℝ) : EReal)) * lg lf) := by
    unfold lg
    pointwise [k0_pay8, k0_pay7, k0_pay4]
    rfl
  refine h.trans ?_
  unfold decay
  rw [word_small _ (by omega), ofBits_255, ← EReal.coe_sub, Nat.cast_sub (by omega)]
  rfl

theorem qTable_at (lf : Elt Ideal .f32) (i : Fin 256) (d : Fin 128) : qTable lf (ix3 0 i d) = decay lf (i + 1) := by
  have h : k0_pay9 k0_pay4 lf (ix3 0 i d) = Ideal.exp (((((BitVec.ofNat 32 i).toInt : ℝ) : EReal) + 1) * lg lf) := by
    unfold lg
    pointwise [k0_pay9, k0_pay7, k0_pay4]
    rfl
  refine h.trans ?_
  unfold decay
  rw [word_small _ (by omega), Nat.cast_add, EReal.coe_add]
  simp

theorem bTable_at (lb : Elt Ideal .f32) (i : Fin 256) (d : Fin 128) : bTable lb (ix3 0 i d) = decay lb (256 - i) := by
  have h : k0_pay11 (k0_pay10 k0_pay4 lb) (ix3 0 i d) = Ideal.exp ((Ideal.ofBits .f32 0x43800000#32 - (((BitVec.ofNat 32 i).toInt : ℝ) : EReal)) * lg lb) := by
    unfold lg
    pointwise [k0_pay11, k0_pay10, k0_pay4]
    rfl
  refine h.trans ?_
  unfold decay
  rw [word_small _ (by omega), ofBits_256, ← EReal.coe_sub, Nat.cast_sub (by omega)]
  rfl

theorem cTable_at (lf : Elt Ideal .f32) (d e : Fin 128) : cTable lf (ix3 0 d e) = decay lf 256 := by
  have h : k0_pay12 lf (ix3 0 d e) = Ideal.exp (Ideal.ofBits .f32 0x43800000#32 * lg lf) := by
    unfold lg
    pointwise [k0_pay12]
    rfl
  refine h.trans ?_
  unfold decay
  rw [ofBits_256]
  rfl

theorem dTable_at (lf lb : Elt Ideal .f32) (i j : Fin 256) :
    dTable lf lb (ix3 0 i j) = within (decay lf) (decay lb) i j := by
  have h : k0_pay6 (k0_pay5 lf lb) (ix3 0 i j)
      = Scalar.select (IntOp.cmpi CmpIPredicate.sge (BitVec.ofNat 32 i) (BitVec.ofNat 32 j))
          (Ideal.exp (max (((IntOp.subi (BitVec.ofNat 32 i) (BitVec.ofNat 32 j)).toInt : ℝ) : EReal) 0 * lg lf))
          (Ideal.exp (max (0 - (((IntOp.subi (BitVec.ofNat 32 i) (BitVec.ofNat 32 j)).toInt : ℝ) : EReal)) 0 * lg lb)) := by
    unfold lg
    pointwise [k0_pay6, k0_pay5, k0_pay3]
    rfl
  refine h.trans ?_
  have hd : (IntOp.subi (BitVec.ofNat 32 i) (BitVec.ofNat 32 j)).toInt = (i : ℤ) - j := by
    show (BitVec.ofNat 32 i - BitVec.ofNat 32 j).toInt = _
    rw [BitVec.toInt_sub, word_toInt _ (by omega), word_toInt _ (by omega), Int.bmod_def]
    split_ifs <;> omega
  have hc : IntOp.cmpi CmpIPredicate.sge (BitVec.ofNat 32 i) (BitVec.ofNat 32 j) = if (j : ℕ) ≤ i then 1#1 else 0#1 := by
    unfold IntOp.cmpi
    simp only [BitVec.sle, word_toInt _ (show (i : ℕ) < 2 ^ 31 by omega), word_toInt _ (show (j : ℕ) < 2 ^ 31 by omega)]
    by_cases hij : (j : ℕ) ≤ i <;> simp [hij]
  rw [hd, hc]
  unfold within decay
  by_cases hij : (j : ℕ) ≤ i
  · rw [if_pos hij, if_pos hij]
    show Ideal.exp _ = _
    have : max ((((i : ℤ) - j : ℤ) : ℝ) : EReal) 0 = (((i - j : ℕ) : ℝ) : EReal) := by
      rw [Nat.cast_sub hij, Int.cast_sub, Int.cast_natCast, Int.cast_natCast]
      exact max_eq_left (EReal.coe_nonneg.mpr (sub_nonneg.mpr (by exact_mod_cast hij)))
    rw [this]
  · rw [if_neg hij, if_neg hij]
    show Ideal.exp _ = _
    have : max (0 - ((((i : ℤ) - j : ℤ) : ℝ) : EReal)) 0 = (((j - i : ℕ) : ℝ) : EReal) := by
      have hji : (i : ℕ) ≤ j := by omega
      rw [Nat.cast_sub hji, Int.cast_sub, Int.cast_natCast, Int.cast_natCast, ← EReal.coe_zero, ← EReal.coe_sub, zero_sub,
        neg_sub, EReal.coe_zero]
      exact max_eq_left (EReal.coe_nonneg.mpr (sub_nonneg.mpr (by exact_mod_cast hji)))
    rw [this]

end Cert.KernelIdeal.Val
-- ==== Proof.RetStep.lean ====
/-
  The retention kernel's work at one grid point, written once: eight blocks of 256 rows for each of the four heads, the
  state of a head going from a block to the next.
-/
module

public import proofs.«01_k».proof.Proof.RetPay
public import Idealize.ShloMosaic.Lib.Pipeline.ReadBack

@[expose] public section

set_option maxRecDepth 16384

noncomputable section

open scoped BigOperators

namespace Cert.KernelIdeal.Val

open Cert.KernelIdeal Cert.KernelIdeal.Gen
open Idealize.ShloMosaic Idealize.ShloMosaic.TcCoe Idealize.SL.Sem

/-- The rows of block `s` (of eight) and the columns of head `h` (of four). -/
theorem inb_blk (s h : ℕ) (a : Fin 2) :
    (![256 * (s % 8), 128 * (h % 4)] : Fin 2 → ℕ) a + (![256, 128] : Fin 2 → ℕ) a ≤ S2048x512.size a := by
  match a with
  | ⟨0, _⟩ => show 256 * (s % 8) + 256 ≤ 2048; omega
  | ⟨1, _⟩ => show 128 * (h % 4) + 128 ≤ 512; omega

theorem inb_state (h : ℕ) (a : Fin 3) :
    (![h % 4, 0, 0] : Fin 3 → ℕ) a + (![1, 128, 128] : Fin 3 → ℕ) a ≤ S4x128x128.size a := by
  match a with
  | ⟨0, _⟩ => show h % 4 + 1 ≤ 4; omega
  | ⟨1, _⟩ => exact le_refl 128
  | ⟨2, _⟩ => exact le_refl 128

theorem inb_table (h : ℕ) (a : Fin 3) :
    (![h % 4, 0, 0] : Fin 3 → ℕ) a + (![1, 256, 128] : Fin 3 → ℕ) a ≤ S4x256x128.size a := by
  match a with
  | ⟨0, _⟩ => show h % 4 + 1 ≤ 4; omega
  | ⟨1, _⟩ => exact le_refl 256
  | ⟨2, _⟩ => exact le_refl 128

theorem inb_mask (h : ℕ) (a : Fin 3) :
    (![h % 4, 0, 0] : Fin 3 → ℕ) a + (![1, 256, 256] : Fin 3 → ℕ) a ≤ S4x256x256.size a := by
  match a with
  | ⟨0, _⟩ => show h % 4 + 1 ≤ 4; omega
  | ⟨1, _⟩ => exact le_refl 256
  | ⟨2, _⟩ => exact le_refl 256

theorem inb_later (s h : ℕ) (a : Fin 4) :
    (![s % 8, h % 4, 0, 0] : Fin 4 → ℕ) a + (![1, 1, 128, 128] : Fin 4 → ℕ) a ≤ S8x4x128x128.size a := by
  match a with
  | ⟨0, _⟩ => show s % 8 + 1 ≤ 8; omega
  | ⟨1, _⟩ => show h % 4 + 1 ≤ 4; omega
  | ⟨2, _⟩ => exact le_refl 128
  | ⟨3, _⟩ => exact le_refl 128

theorem inb_scale (h : ℕ) (a : Fin 2) :
    (![0, 128 * (h % 4)] : Fin 2 → ℕ) a + (![1, 128] : Fin 2 → ℕ) a ≤ S1x512.size a := by
  match a with
  | ⟨0, _⟩ => exact le_refl 1
  | ⟨1, _⟩ => show 128 * (h % 4) + 128 ≤ 512; omega

theorem inb_logit (h : ℕ) (a : Fin 1) : (![h % 4] : Fin 1 → ℕ) a + S1.size a ≤ S4.size a := by
  match a with
  | ⟨0, _⟩ => show h % 4 + 1 ≤ 4; omega

/-- A head's columns of a block of rows. -/
def rowsOf (x : Vec Ideal S2048x512 .bf16) (s h : ℕ) : Vec Ideal S256x128 .bf16 :=
  View.ld x (Rect.unit (s := S2048x512) ![256 * (s % 8), 128 * (h % 4)] ![256, 128] (inb_blk s h))

/-- A head's piece of a state or of a table. -/
def stateOf (x : Vec Ideal S4x128x128 .f32) (h : ℕ) : Vec Ideal S1x128x128 .f32 :=
  View.ld x (Rect.unit (s := S4x128x128) ![h % 4, 0, 0] ![1, 128, 128] (inb_state h))

def tableOf (x : Vec Ideal S4x256x128 .f32) (h : ℕ) : Vec Ideal S1x256x128 .f32 :=
  View.ld x (Rect.unit (s := S4x256x128) ![h % 4, 0, 0] ![1, 256, 128] (inb_table h))

def tableOf' (x : Vec Ideal S4x256x128 .bf16) (h : ℕ) : Vec Ideal S1x256x128 .bf16 :=
  View.ld x (Rect.unit (s := S4x256x128) ![h % 4, 0, 0] ![1, 256, 128] (inb_table h))

def maskOf (x : Vec Ideal S4x256x256 .bf16) (h : ℕ) : Vec Ideal S1x256x256 .bf16 :=
  View.ld x (Rect.unit (s := S4x256x256) ![h % 4, 0, 0] ![1, 256, 256] (inb_mask h))

def laterOf (x : Vec Ideal S8x4x128x128 .bf16) (s h : ℕ) : Vec Ideal S1x1x128x128 .bf16 :=
  View.ld x (Rect.unit (s := S8x4x128x128) ![s % 8, h % 4, 0, 0] ![1, 1, 128, 128] (inb_later s h))

def scaleOf (x : Vec Ideal S1x512 .f32) (h : ℕ) : Vec Ideal S1x128 .f32 :=
  View.ld x (Rect.unit (s := S1x512) ![0, 128 * (h % 4)] ![1, 128] (inb_scale h))

/-- A head's logit. -/
def logitOf (x : Vec Ideal S4 .f32) (h : ℕ) : Elt Ideal .f32 :=
  View.ld x (Rect.unit (s := S4) ![h % 4] S1.size (inb_logit h)) (Shape.Idx.first (by show 0 < S1.numel; exact numel1_S1 ▸ Nat.one_pos))

/-- A head's state before block `s`. -/
def states (k v : Vec Ideal S2048x512 .bf16) (kd : ℕ → Vec Ideal S1x256x128 .f32) (cd st : ℕ → Vec Ideal S1x128x128 .f32)
    (h : ℕ) : ℕ → Vec Ideal S1x128x128 .f32
  | 0 => st h
  | s + 1 => step (rowsOf k s h) (rowsOf v s h) (kd h) (cd h) (states k v kd cd st h s)

/-- A head's output rows of block `s`. -/
def outs (q k v g : Vec Ideal S2048x512 .bf16) (sb : Vec Ideal S8x4x128x128 .bf16) (gn gb : Vec Ideal S1x512 .f32)
    (kd : ℕ → Vec Ideal S1x256x128 .f32) (qd qb : ℕ → Vec Ideal S1x256x128 .bf16) (dm : ℕ → Vec Ideal S1x256x256 .bf16)
    (cd st : ℕ → Vec Ideal S1x128x128 .f32) (s h : ℕ) : Vec Ideal S256x128 .bf16 :=
  rowsOut (rowsOf q s h) (rowsOf k s h) (rowsOf v s h) (rowsOf g s h) (states k v kd cd st h s) (qd h) (qb h) (laterOf sb s h)
    (dm h) (scaleOf gn h) (scaleOf gb h)

/-- Four heads' pieces joined. -/
def joinState (f : ℕ → Vec Ideal S1x128x128 .f32) : Vec Ideal S4x128x128 .f32 := fun y => f (y 0).val (ix3 0 (y 1) (y 2))

def joinTable (f : ℕ → Vec Ideal S1x256x128 .f32) : Vec Ideal S4x256x128 .f32 := fun y => f (y 0).val (ix3 0 (y 1) (y 2))

def joinTable' (f : ℕ → Vec Ideal S1x256x128 .bf16) : Vec Ideal S4x256x128 .bf16 := fun y => f (y 0).val (ix3 0 (y 1) (y 2))

def joinMask (f : ℕ → Vec Ideal S1x256x256 .bf16) : Vec Ideal S4x256x256 .bf16 := fun y => f (y 0).val (ix3 0 (y 1) (y 2))

/-- The pieces of all blocks and heads joined. -/
def joinRows (f : ℕ → ℕ → Vec Ideal S256x128 .bf16) : Vec Ideal S2048x512 .bf16 := fun y =>
  f ((y 0).val / 256) ((y 1).val / 128)
    (ix2 ⟨(y 0).val % 256, Nat.mod_lt _ (by decide)⟩ ⟨(y 1).val % 128, Nat.mod_lt _ (by decide)⟩)

theorem piece_state (f : ℕ → Vec Ideal S1x128x128 .f32) (h : ℕ)
    (inb : ∀ a, (![h, 0, 0] : Fin 3 → ℕ) a + (![1, 128, 128] : Fin 3 → ℕ) a ≤ S4x128x128.size a) (x : S1x128x128.Idx) :
    f h x = joinState f ((Rect.unit (s := S4x128x128) ![h, 0, 0] ![1, 128, 128] inb).emb x) := by
  have h0 : (x 0).val = 0 := by have := (x 0).isLt; exact Nat.lt_one_iff.mp this
  unfold joinState
  have e : ((Rect.unit (s := S4x128x128) ![h, 0, 0] ![1, 128, 128] inb).emb x 0).val = h :=
    show h + 1 * (x 0).val = h by omega
  rw [e]
  congr 1
  funext a
  apply Fin.ext
  match a with
  | ⟨0, _⟩ => exact h0
  | ⟨1, _⟩ => show (x 1).val = 0 + 1 * (x 1).val; omega
  | ⟨2, _⟩ => show (x 2).val = 0 + 1 * (x 2).val; omega

theorem piece_table (f : ℕ → Vec Ideal S1x256x128 .f32) (h : ℕ)
    (inb : ∀ a, (![h, 0, 0] : Fin 3 → ℕ) a + (![1, 256, 128] : Fin 3 → ℕ) a ≤ S4x256x128.size a) (x : S1x256x128.Idx) :
    f h x = joinTable f ((Rect.unit (s := S4x256x128) ![h, 0, 0] ![1, 256, 128] inb).emb x) := by
  have h0 : (x 0).val = 0 := by have := (x 0).isLt; exact Nat.lt_one_iff.mp this
  unfold joinTable
  have e : ((Rect.unit (s := S4x256x128) ![h, 0, 0] ![1, 256, 128] inb).emb x 0).val = h :=
    show h + 1 * (x 0).val = h by omega
  rw [e]
  congr 1
  funext a
  apply Fin.ext
  match a with
  | ⟨0, _⟩ => exact h0
  | ⟨1, _⟩ => show (x 1).val = 0 + 1 * (x 1).val; omega
  | ⟨2, _⟩ => show (x 2).val = 0 + 1 * (x 2).val; omega

theorem piece_table' (f : ℕ → Vec Ideal S1x256x128 .bf16) (h : ℕ)
    (inb : ∀ a, (![h, 0, 0] : Fin 3 → ℕ) a + (![1, 256, 128] : Fin 3 → ℕ) a ≤ S4x256x128.size a) (x : S1x256x128.Idx) :
    f h x = joinTable' f ((Rect.unit (s := S4x256x128) ![h, 0, 0] ![1, 256, 128] inb).emb x) :=
  piece_table f h inb x

theorem piece_mask (f : ℕ → Vec Ideal S1x256x256 .bf16) (h : ℕ)
    (inb : ∀ a, (![h, 0, 0] : Fin 3 → ℕ) a + (![1, 256, 256] : Fin 3 → ℕ) a ≤ S4x256x256.size a) (x : S1x256x256.Idx) :
    f h x = joinMask f ((Rect.unit (s := S4x256x256) ![h, 0, 0] ![1, 256, 256] inb).emb x) := by
  have h0 : (x 0).val = 0 := by have := (x 0).isLt; exact Nat.lt_one_iff.mp this
  unfold joinMask
  have e : ((Rect.unit (s := S4x256x256) ![h, 0, 0] ![1, 256, 256] inb).emb x 0).val = h :=
    show h + 1 * (x 0).val = h by omega
  rw [e]
  congr 1
  funext a
  apply Fin.ext
  match a with
  | ⟨0, _⟩ => exact h0
  | ⟨1, _⟩ => show (x 1).val = 0 + 1 * (x 1).val; omega
  | ⟨2, _⟩ => show (x 2).val = 0 + 1 * (x 2).val; omega

theorem piece_rows (f : ℕ → ℕ → Vec Ideal S256x128 .bf16) (s h r c : ℕ) (hr : r = 256 * s) (hc : c = 128 * h)
    (inb : ∀ a, (![r, c] : Fin 2 → ℕ) a + (![256, 128] : Fin 2 → ℕ) a ≤ S2048x512.size a) (x : S256x128.Idx) :
    f s h x = joinRows f ((Rect.unit (s := S2048x512) ![r, c] ![256, 128] inb).emb x) := by
  subst hr hc
  have h0 : (x 0).val < 256 := (x 0).isLt
  have h1 : (x 1).val < 128 := (x 1).isLt
  unfold joinRows
  have e0 : ((Rect.unit (s := S2048x512) ![256 * s, 128 * h] ![256, 128] inb).emb x 0).val = 256 * s + (x 0).val :=
    show 256 * s + 1 * (x 0).val = _ by omega
  have e1 : ((Rect.unit (s := S2048x512) ![256 * s, 128 * h] ![256, 128] inb).emb x 1).val = 128 * h + (x 1).val :=
    show 128 * h + 1 * (x 1).val = _ by omega
  have d0 : (256 * s + (x 0).val) / 256 = s := by omega
  have d1 : (128 * h + (x 1).val) / 128 = h := by omega
  simp only [e0, e1, d0, d1]
  congr 1
  funext a
  apply Fin.ext
  match a with
  | ⟨0, _⟩ => show (x 0).val = (256 * s + (x 0).val) % 256; omega
  | ⟨1, _⟩ => show (x 1).val = (128 * h + (x 1).val) % 128; omega

/-- Where the last four stores cover a buffer, what was stored before them does not matter. -/
theorem canon_four {S : Shape} {e : EltTy} (G : S.Idx → Elt Ideal e) (p1 p2 p3 p4 : View.Piece (Elt Ideal) S e)
    (L : List (View.Piece (Elt Ideal) S e))
    (h : ∀ p ∈ [p1, p2, p3, p4], ∀ x : p.1.shape.Idx, p.2 x = G (p.1.emb x))
    (hc : ∀ y : S.Idx, ∃ p ∈ [p1, p2, p3, p4], y ∈ p.1.set) : View.canon (p1 :: p2 :: p3 :: p4 :: L) = G :=
  funext fun y => View.canon_append_of_pieces G L [p1, p2, p3, p4] h y (hc y)

end Cert.KernelIdeal.Val
-- ==== Proof.RetStateB.lean ====
/-
  The state the retention kernel leaves after a point that is not the first of its sequence.
-/
module

public import proofs.«01_k».proof.Proof.RetStep
public import Idealize.ShloMosaic.Lib.Pipeline.ReadBack

@[expose] public section

set_option maxHeartbeats 4000000
set_option maxRecDepth 16384

noncomputable section

open scoped BigOperators

namespace Cert.KernelIdeal.Val

open Cert.KernelIdeal Cert.KernelIdeal.Gen
open Idealize.ShloMosaic Idealize.ShloMosaic.TcCoe Idealize.SL.Sem

/-- The carried state after the point: each head's, eight blocks on. -/
theorem sout_B_0 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : ¬cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) (xs0 : Vec Ideal S4x128x128 .f32) (xs1 : Vec Ideal S4x256x256 .bf16) (xs2 : Vec Ideal S4x256x128 .f32) (xs3 : Vec Ideal S4x256x128 .bf16) (xs4 : Vec Ideal S4x256x128 .bf16) (xs5 : Vec Ideal S4x128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2 xs3 xs4 xs5 = joinState (fun h => states x3 x4 (tableOf xs2) (stateOf xs5) (stateOf xs0) h 8) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2 xs3 xs4 xs5)]
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  refine canon_four (joinState (fun h => states x3 x4 (tableOf xs2) (stateOf xs5) (stateOf xs0) h 8)) _ _ _ _ _ ?_ ?_
  · exact List.forall_mem_cons.mpr ⟨fun x => piece_state (fun h => states x3 x4 (tableOf xs2) (stateOf xs5) (stateOf xs0) h 8) 3 inb_S4x128x128_S1x128x128_3_0_0 x,
    List.forall_mem_cons.mpr ⟨fun x => piece_state (fun h => states x3 x4 (tableOf xs2) (stateOf xs5) (stateOf xs0) h 8) 2 inb_S4x128x128_S1x128x128_2_0_0 x,
    List.forall_mem_cons.mpr ⟨fun x => piece_state (fun h => states x3 x4 (tableOf xs2) (stateOf xs5) (stateOf xs0) h 8) 1 inb_S4x128x128_S1x128x128_1_0_0 x,
    List.forall_mem_cons.mpr ⟨fun x => piece_state (fun h => states x3 x4 (tableOf xs2) (stateOf xs5) (stateOf xs0) h 8) 0 inb_S4x128x128_S1x128x128_0_0_0 x, List.forall_mem_nil _⟩⟩⟩⟩
  · exact View.cover_of_tiledL _ ![1, 128, 128] (by sl_kernel_rfl)

end Cert.KernelIdeal.Val
-- ==== Proof.RetStateA.lean ====
/-
  The state the retention kernel leaves after the first point of a sequence.
-/
module

public import proofs.«01_k».proof.Proof.RetStep
public import Idealize.ShloMosaic.Lib.Pipeline.ReadBack

@[expose] public section

set_option maxHeartbeats 4000000
set_option maxRecDepth 16384

noncomputable section

open scoped BigOperators

namespace Cert.KernelIdeal.Val

open Cert.KernelIdeal Cert.KernelIdeal.Gen
open Idealize.ShloMosaic Idealize.ShloMosaic.TcCoe Idealize.SL.Sem

/-- The carried state after the point: each head's, eight blocks on. -/
theorem sout_A_0 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = joinState (fun h => states x3 x4 (fun h => kTable (logitOf x0 h)) (fun h => cTable (logitOf x0 h)) (stateOf (k0_pay2 (F := Ideal))) h 8) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  refine canon_four (joinState (fun h => states x3 x4 (fun h => kTable (logitOf x0 h)) (fun h => cTable (logitOf x0 h)) (stateOf (k0_pay2 (F := Ideal))) h 8)) _ _ _ _ _ ?_ ?_
  · exact List.forall_mem_cons.mpr ⟨fun x => piece_state (fun h => states x3 x4 (fun h => kTable (logitOf x0 h)) (fun h => cTable (logitOf x0 h)) (stateOf (k0_pay2 (F := Ideal))) h 8) 3 inb_S4x128x128_S1x128x128_3_0_0 x,
    List.forall_mem_cons.mpr ⟨fun x => piece_state (fun h => states x3 x4 (fun h => kTable (logitOf x0 h)) (fun h => cTable (logitOf x0 h)) (stateOf (k0_pay2 (F := Ideal))) h 8) 2 inb_S4x128x128_S1x128x128_2_0_0 x,
    List.forall_mem_cons.mpr ⟨fun x => piece_state (fun h => states x3 x4 (fun h => kTable (logitOf x0 h)) (fun h => cTable (logitOf x0 h)) (stateOf (k0_pay2 (F := Ideal))) h 8) 1 inb_S4x128x128_S1x128x128_1_0_0 x,
    List.forall_mem_cons.mpr ⟨fun x => piece_state (fun h => states x3 x4 (fun h => kTable (logitOf x0 h)) (fun h => cTable (logitOf x0 h)) (stateOf (k0_pay2 (F := Ideal))) h 8) 0 inb_S4x128x128_S1x128x128_0_0_0 x, List.forall_mem_nil _⟩⟩⟩⟩
  · exact View.cover_of_tiledL _ ![1, 128, 128] (by sl_kernel_rfl)

end Cert.KernelIdeal.Val
-- ==== Proof.RetOutA.lean ====
/-
  The output block the retention kernel leaves at the first point of a sequence.
-/
module

public import proofs.«01_k».proof.Proof.RetStep
public import Idealize.ShloMosaic.Lib.Pipeline.ReadBack

@[expose] public section

set_option maxHeartbeats 4000000
set_option maxRecDepth 16384

noncomputable section

open scoped BigOperators

namespace Cert.KernelIdeal.Val

open Cert.KernelIdeal Cert.KernelIdeal.Gen
open Idealize.ShloMosaic Idealize.ShloMosaic.TcCoe Idealize.SL.Sem

/-- The output block of the point: every head's rows of the eight blocks. -/
theorem out_A_9 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = joinRows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  funext y
  refine View.canon_apply_of_pieces (joinRows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal))))) _ ?_ y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  exact List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 7 3 1792 384 rfl rfl inb_S2048x512_S256x128_1792_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 7 2 1792 256 rfl rfl inb_S2048x512_S256x128_1792_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 7 1 1792 128 rfl rfl inb_S2048x512_S256x128_1792_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 7 0 1792 0 rfl rfl inb_S2048x512_S256x128_1792_0 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 6 3 1536 384 rfl rfl inb_S2048x512_S256x128_1536_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 6 2 1536 256 rfl rfl inb_S2048x512_S256x128_1536_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 6 1 1536 128 rfl rfl inb_S2048x512_S256x128_1536_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 6 0 1536 0 rfl rfl inb_S2048x512_S256x128_1536_0 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 5 3 1280 384 rfl rfl inb_S2048x512_S256x128_1280_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 5 2 1280 256 rfl rfl inb_S2048x512_S256x128_1280_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 5 1 1280 128 rfl rfl inb_S2048x512_S256x128_1280_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 5 0 1280 0 rfl rfl inb_S2048x512_S256x128_1280_0 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 4 3 1024 384 rfl rfl inb_S2048x512_S256x128_1024_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 4 2 1024 256 rfl rfl inb_S2048x512_S256x128_1024_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 4 1 1024 128 rfl rfl inb_S2048x512_S256x128_1024_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 4 0 1024 0 rfl rfl inb_S2048x512_S256x128_1024_0 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 3 3 768 384 rfl rfl inb_S2048x512_S256x128_768_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 3 2 768 256 rfl rfl inb_S2048x512_S256x128_768_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 3 1 768 128 rfl rfl inb_S2048x512_S256x128_768_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 3 0 768 0 rfl rfl inb_S2048x512_S256x128_768_0 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 2 3 512 384 rfl rfl inb_S2048x512_S256x128_512_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 2 2 512 256 rfl rfl inb_S2048x512_S256x128_512_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 2 1 512 128 rfl rfl inb_S2048x512_S256x128_512_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 2 0 512 0 rfl rfl inb_S2048x512_S256x128_512_0 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 1 3 256 384 rfl rfl inb_S2048x512_S256x128_256_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 1 2 256 256 rfl rfl inb_S2048x512_S256x128_256_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 1 1 256 128 rfl rfl inb_S2048x512_S256x128_256_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 1 0 256 0 rfl rfl inb_S2048x512_S256x128_256_0 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 0 3 0 384 rfl rfl inb_S2048x512_S256x128_0_384 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 0 2 0 256 rfl rfl inb_S2048x512_S256x128_0_256 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 0 1 0 128 rfl rfl inb_S2048x512_S256x128_0_128 x,
    List.forall_mem_cons.mpr ⟨fun x => piece_rows (outs x2 x3 x4 x5 x6 x7 x8 (fun h => kTable (logitOf x0 h)) (fun h => qTable (logitOf x0 h)) (fun h => bTable (logitOf x1 h)) (fun h => dTable (logitOf x0 h) (logitOf x1 h)) (fun h => cTable (logitOf x0 h)) (stateOf (k0_pay2 (F := Ideal)))) 0 0 0 0 rfl rfl inb_S2048x512_S256x128_0_0 x, List.forall_mem_nil _⟩⟩⟩⟩⟩⟩⟩⟩⟩⟩⟩⟩⟩⟩⟩⟩⟩⟩⟩⟩⟩⟩⟩⟩⟩⟩⟩⟩⟩⟩⟩⟩

end Cert.KernelIdeal.Val
-- ==== Proof.RetOutB.lean ====
/-
  The output block the retention kernel leaves at a point that is not the first of its sequence.
-/
module

public import proofs.«01_k».proof.Proof.RetStep
public import Idealize.ShloMosaic.Lib.Pipeline.ReadBack

@[expose] public section

set_option maxHeartbeats 4000000
set_option maxRecDepth 16384

noncomputable section

open scoped BigOperators

namespace Cert.KernelIdeal.Val

open Cert.KernelIdeal Cert.KernelIdeal.Gen
open Idealize.ShloMosaic Idealize.ShloMosaic.TcCoe Idealize.SL.Sem

/-- The output block of the point: every head's rows of the eight blocks. -/
theorem out_B_9 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : ¬cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) (xs0 : Vec Ideal S4x128x128 .f32) (xs1 : Vec Ideal S4x256x256 .bf16) (xs2 : Vec Ideal S4x256x128 .f32) (xs3 : Vec Ideal S4x256x128 .bf16) (xs4 : Vec Ideal S4x256x128 .bf16) (xs5 : Vec Ideal S4x128x128 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2 xs3 xs4 xs5 = joinRows (outs x2 x3 x4 x5 x6 x7 x8 (tableOf xs2) (tableOf' xs3) (tableOf' xs4) (maskOf xs1) (stateOf xs5) (stateOf xs0)) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2 xs3 xs4 xs5)]
  funext y
  refine View.canon_apply_of_pieces (joinRows (outs x2 x3 x4 x5 x6 x7 x8 (tableOf xs2) (tableOf' xs3) (tableOf' xs4) (maskOf xs1) (stateOf xs5) (stateOf xs0))) _ ?_ y (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1 xs2 xs3 xs4 xs5 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  exact List.forall_mem_cons.mpr ⟨fun x => piece_rows (outs x2 x3 x4 x5 x6 x7 x8 (tableOf xs2) (tableOf' xs3) (tableOf' xs4) (maskOf xs1) (stateOf xs5) (stateOf xs0)) 7 3 1792 384 rfl rfl inb_S2048x512_S256x128_1792_384 x,
    List.forall_mem_cons.mpr ⟨fun x => piece_rows (outs x2 x3 x4 x5 x6 x7 x8 (tableOf xs2) (tableOf' xs3) (tableOf' xs4) (maskOf xs1) (stateOf xs5) (stateOf xs0)) 7 2 1792 256 rfl rfl inb_S2048x512_S256x128_1792_256 x,
    List.forall_mem_cons.mpr ⟨fun x => piece_rows (outs x2 x3 x4 x5 x6 x7 x8 (tableOf xs2) (tableOf' xs3) (tableOf' xs4) (maskOf xs1) (stateOf xs5) (stateOf xs0)) 7 1 1792 128 rfl rfl inb_S2048x512_S256x128_1792_128 x,
    List.forall_mem_cons.mpr ⟨fun x => piece_rows (outs x2 x3 x4 x5 x6 x7 x8 (tableOf xs2) (tableOf' xs3) (tableOf' xs4) (maskOf xs1) (stateOf xs5) (stateOf xs0)) 7 0 1792 0 rfl rfl inb_S2048x512_S256x128_1792_0 x,
    List.forall_mem_cons.mpr ⟨fun x => piece_rows (outs x2 x3 x4 x5 x6 x7 x8 (tableOf xs2) (tableOf' xs3) (tableOf' xs4) (maskOf xs1) (stateOf xs5) (stateOf xs0)) 6 3 1536 384 rfl rfl inb_S2048x512_S256x128_1536_384 x,
    List.forall_mem_cons.mpr ⟨fun x => piece_rows (outs x2 x3 x4 x5 x6 x7 x8 (tableOf xs2) (tableOf' xs3) (tableOf' xs4) (maskOf xs1) (stateOf xs5) (stateOf xs0)) 6 2 1536 256 rfl rfl inb_S2048x512_S256x128_1536_256 x,
    List.forall_mem_cons.mpr ⟨fun x => piece_rows (outs x2 x3 x4 x5 x6 x7 x8 (tableOf xs2) (tableOf' xs3) (tableOf' xs4) (maskOf xs1) (stateOf xs5) (stateOf xs0)) 6 1 1536 128 rfl rfl inb_S2048x512_S256x128_1536_128 x,
    List.forall_mem_cons.mpr ⟨fun x => piece_rows (outs x2 x3 x4 x5 x6 x7 x8 (tableOf xs2) (tableOf' xs3) (tableOf' xs4) (maskOf xs1) (stateOf xs5) (stateOf xs0)) 6 0 1536 0 rfl rfl inb_S2048x512_S256x128_1536_0 x,
    List.forall_mem_cons.mpr ⟨fun x => piece_rows (outs x2 x3 x4 x5 x6 x7 x8 (tableOf xs2) (tableOf' xs3) (tableOf' xs4) (maskOf xs1) (stateOf xs5) (stateOf xs0)) 5 3 1280 384 rfl rfl inb_S2048x512_S256x128_1280_384 x,
    List.forall_mem_cons.mpr ⟨fun x => piece_rows (outs x2 x3 x4 x5 x6 x7 x8 (tableOf xs2) (tableOf' xs3) (tableOf' xs4) (maskOf xs1) (stateOf xs5) (stateOf xs0)) 5 2 1280 256 rfl rfl inb_S2048x512_S256x128_1280_256 x,
    List.forall_mem_cons.mpr ⟨fun x => piece_rows (outs x2 x3 x4 x5 x6 x7 x8 (tableOf xs2) (tableOf' xs3) (tableOf' xs4) (maskOf xs1) (stateOf xs5) (stateOf xs0)) 5 1 1280 128 rfl rfl inb_S2048x512_S256x128_1280_128 x,
    List.forall_mem_cons.mpr ⟨fun x => piece_rows (outs x2 x3 x4 x5 x6 x7 x8 (tableOf xs2) (tableOf' xs3) (tableOf' xs4) (maskOf xs1) (stateOf xs5) (stateOf xs0)) 5 0 1280 0 rfl rfl inb_S2048x512_S256x128_1280_0 x,
    List.forall_mem_cons.mpr ⟨fun x => piece_rows (outs x2 x3 x4 x5 x6 x7 x8 (tableOf xs2) (tableOf' xs3) (tableOf' xs4) (maskOf xs1) (stateOf xs5) (stateOf xs0)) 4 3 1024 384 rfl rfl inb_S2048x512_S256x128_1024_384 x,
    List.forall_mem_cons.mpr ⟨fun x => piece_rows (outs x2 x3 x4 x5 x6 x7 x8 (tableOf xs2) (tableOf' xs3) (tableOf' xs4) (maskOf xs1) (stateOf xs5) (stateOf xs0)) 4 2 1024 256 rfl rfl inb_S2048x512_S256x128_1024_256 x,
    List.forall_mem_cons.mpr ⟨fun x => piece_rows (outs x2 x3 x4 x5 x6 x7 x8 (tableOf xs2) (tableOf' xs3) (tableOf' xs4) (maskOf xs1) (stateOf xs5) (stateOf xs0)) 4 1 1024 128 rfl rfl inb_S2048x512_S256x128_1024_128 x,
    List.forall_mem_cons.mpr ⟨fun x => piece_rows (outs x2 x3 x4 x5 x6 x7 x8 (tableOf xs2) (tableOf' xs3) (tableOf' xs4) (maskOf xs1) (stateOf xs5) (stateOf xs0)) 4 0 1024 0 rfl rfl inb_S2048x512_S256x128_1024_0 x,
    List.forall_mem_cons.mpr ⟨fun x => piece_rows (outs x2 x3 x4 x5 x6 x7 x8 (tableOf xs2) (tableOf' xs3) (tableOf' xs4) (maskOf xs1) (stateOf xs5) (stateOf xs0)) 3 3 768 384 rfl rfl inb_S2048x512_S256x128_768_384 x,
    List.forall_mem_cons.mpr ⟨fun x => piece_rows (outs x2 x3 x4 x5 x6 x7 x8 (tableOf xs2) (tableOf' xs3) (tableOf' xs4) (maskOf xs1) (stateOf xs5) (stateOf xs0)) 3 2 768 256 rfl rfl inb_S2048x512_S256x128_768_256 x,
    List.forall_mem_cons.mpr ⟨fun x => piece_rows (outs x2 x3 x4 x5 x6 x7 x8 (tableOf xs2) (tableOf' xs3) (tableOf' xs4) (maskOf xs1) (stateOf xs5) (stateOf xs0)) 3 1 768 128 rfl rfl inb_S2048x512_S256x128_768_128 x,
    List.forall_mem_cons.mpr ⟨fun x => piece_rows (outs x2 x3 x4 x5 x6 x7 x8 (tableOf xs2) (tableOf' xs3) (tableOf' xs4) (maskOf xs1) (stateOf xs5) (stateOf xs0)) 3 0 768 0 rfl rfl inb_S2048x512_S256x128_768_0 x,
    List.forall_mem_cons.mpr ⟨fun x => piece_rows (outs x2 x3 x4 x5 x6 x7 x8 (tableOf xs2) (tableOf' xs3) (tableOf' xs4) (maskOf xs1) (stateOf xs5) (stateOf xs0)) 2 3 512 384 rfl rfl inb_S2048x512_S256x128_512_384 x,
    List.forall_mem_cons.mpr ⟨fun x => piece_rows (outs x2 x3 x4 x5 x6 x7 x8 (tableOf xs2) (tableOf' xs3) (tableOf' xs4) (maskOf xs1) (stateOf xs5) (stateOf xs0)) 2 2 512 256 rfl rfl inb_S2048x512_S256x128_512_256 x,
    List.forall_mem_cons.mpr ⟨fun x => piece_rows (outs x2 x3 x4 x5 x6 x7 x8 (tableOf xs2) (tableOf' xs3) (tableOf' xs4) (maskOf xs1) (stateOf xs5) (stateOf xs0)) 2 1 512 128 rfl rfl inb_S2048x512_S256x128_512_128 x,
    List.forall_mem_cons.mpr ⟨fun x => piece_rows (outs x2 x3 x4 x5 x6 x7 x8 (tableOf xs2) (tableOf' xs3) (tableOf' xs4) (maskOf xs1) (stateOf xs5) (stateOf xs0)) 2 0 512 0 rfl rfl inb_S2048x512_S256x128_512_0 x,
    List.forall_mem_cons.mpr ⟨fun x => piece_rows (outs x2 x3 x4 x5 x6 x7 x8 (tableOf xs2) (tableOf' xs3) (tableOf' xs4) (maskOf xs1) (stateOf xs5) (stateOf xs0)) 1 3 256 384 rfl rfl inb_S2048x512_S256x128_256_384 x,
    List.forall_mem_cons.mpr ⟨fun x => piece_rows (outs x2 x3 x4 x5 x6 x7 x8 (tableOf xs2) (tableOf' xs3) (tableOf' xs4) (maskOf xs1) (stateOf xs5) (stateOf xs0)) 1 2 256 256 rfl rfl inb_S2048x512_S256x128_256_256 x,
    List.forall_mem_cons.mpr ⟨fun x => piece_rows (outs x2 x3 x4 x5 x6 x7 x8 (tableOf xs2) (tableOf' xs3) (tableOf' xs4) (maskOf xs1) (stateOf xs5) (stateOf xs0)) 1 1 256 128 rfl rfl inb_S2048x512_S256x128_256_128 x,
    List.forall_mem_cons.mpr ⟨fun x => piece_rows (outs x2 x3 x4 x5 x6 x7 x8 (tableOf xs2) (tableOf' xs3) (tableOf' xs4) (maskOf xs1) (stateOf xs5) (stateOf xs0)) 1 0 256 0 rfl rfl inb_S2048x512_S256x128_256_0 x,
    List.forall_mem_cons.mpr ⟨fun x => piece_rows (outs x2 x3 x4 x5 x6 x7 x8 (tableOf xs2) (tableOf' xs3) (tableOf' xs4) (maskOf xs1) (stateOf xs5) (stateOf xs0)) 0 3 0 384 rfl rfl inb_S2048x512_S256x128_0_384 x,
    List.forall_mem_cons.mpr ⟨fun x => piece_rows (outs x2 x3 x4 x5 x6 x7 x8 (tableOf xs2) (tableOf' xs3) (tableOf' xs4) (maskOf xs1) (stateOf xs5) (stateOf xs0)) 0 2 0 256 rfl rfl inb_S2048x512_S256x128_0_256 x,
    List.forall_mem_cons.mpr ⟨fun x => piece_rows (outs x2 x3 x4 x5 x6 x7 x8 (tableOf xs2) (tableOf' xs3) (tableOf' xs4) (maskOf xs1) (stateOf xs5) (stateOf xs0)) 0 1 0 128 rfl rfl inb_S2048x512_S256x128_0_128 x,
    List.forall_mem_cons.mpr ⟨fun x => piece_rows (outs x2 x3 x4 x5 x6 x7 x8 (tableOf xs2) (tableOf' xs3) (tableOf' xs4) (maskOf xs1) (stateOf xs5) (stateOf xs0)) 0 0 0 0 rfl rfl inb_S2048x512_S256x128_0_0 x, List.forall_mem_nil _⟩⟩⟩⟩⟩⟩⟩⟩⟩⟩⟩⟩⟩⟩⟩⟩⟩⟩⟩⟩⟩⟩⟩⟩⟩⟩⟩⟩⟩⟩⟩⟩

end Cert.KernelIdeal.Val
-- ==== Proof.RetTables.lean ====
/-
  The decay tables the retention kernel leaves at the first point of a sequence.
-/
module

public import proofs.«01_k».proof.Proof.RetStep
public import Idealize.ShloMosaic.Lib.Pipeline.ReadBack

@[expose] public section

set_option maxHeartbeats 4000000
set_option maxRecDepth 16384

noncomputable section

open scoped BigOperators

namespace Cert.KernelIdeal.Val

open Cert.KernelIdeal Cert.KernelIdeal.Gen
open Idealize.ShloMosaic Idealize.ShloMosaic.TcCoe Idealize.SL.Sem

/-- A table the first point of a sequence leaves. -/
theorem sout_A_1 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = joinMask (fun h => dTable (logitOf x0 h) (logitOf x1 h)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  funext y
  refine View.canon_apply_of_pieces (joinMask (fun h => dTable (logitOf x0 h) (logitOf x1 h))) _ ?_ y (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  exact List.forall_mem_cons.mpr ⟨fun x => piece_mask (fun h => dTable (logitOf x0 h) (logitOf x1 h)) 3 inb_S4x256x256_S1x256x256_3_0_0 x,
    List.forall_mem_cons.mpr ⟨fun x => piece_mask (fun h => dTable (logitOf x0 h) (logitOf x1 h)) 2 inb_S4x256x256_S1x256x256_2_0_0 x,
    List.forall_mem_cons.mpr ⟨fun x => piece_mask (fun h => dTable (logitOf x0 h) (logitOf x1 h)) 1 inb_S4x256x256_S1x256x256_1_0_0 x,
    List.forall_mem_cons.mpr ⟨fun x => piece_mask (fun h => dTable (logitOf x0 h) (logitOf x1 h)) 0 inb_S4x256x256_S1x256x256_0_0_0 x, List.forall_mem_nil _⟩⟩⟩⟩

/-- A table the first point of a sequence leaves. -/
theorem sout_A_2 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = joinTable (fun h => kTable (logitOf x0 h)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  funext y
  refine View.canon_apply_of_pieces (joinTable (fun h => kTable (logitOf x0 h))) _ ?_ y (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  exact List.forall_mem_cons.mpr ⟨fun x => piece_table (fun h => kTable (logitOf x0 h)) 3 inb_S4x256x128_S1x256x128_3_0_0 x,
    List.forall_mem_cons.mpr ⟨fun x => piece_table (fun h => kTable (logitOf x0 h)) 2 inb_S4x256x128_S1x256x128_2_0_0 x,
    List.forall_mem_cons.mpr ⟨fun x => piece_table (fun h => kTable (logitOf x0 h)) 1 inb_S4x256x128_S1x256x128_1_0_0 x,
    List.forall_mem_cons.mpr ⟨fun x => piece_table (fun h => kTable (logitOf x0 h)) 0 inb_S4x256x128_S1x256x128_0_0_0 x, List.forall_mem_nil _⟩⟩⟩⟩

/-- A table the first point of a sequence leaves. -/
theorem sout_A_3 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = joinTable' (fun h => qTable (logitOf x0 h)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  funext y
  refine View.canon_apply_of_pieces (joinTable' (fun h => qTable (logitOf x0 h))) _ ?_ y (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  exact List.forall_mem_cons.mpr ⟨fun x => piece_table' (fun h => qTable (logitOf x0 h)) 3 inb_S4x256x128_S1x256x128_3_0_0 x,
    List.forall_mem_cons.mpr ⟨fun x => piece_table' (fun h => qTable (logitOf x0 h)) 2 inb_S4x256x128_S1x256x128_2_0_0 x,
    List.forall_mem_cons.mpr ⟨fun x => piece_table' (fun h => qTable (logitOf x0 h)) 1 inb_S4x256x128_S1x256x128_1_0_0 x,
    List.forall_mem_cons.mpr ⟨fun x => piece_table' (fun h => qTable (logitOf x0 h)) 0 inb_S4x256x128_S1x256x128_0_0_0 x, List.forall_mem_nil _⟩⟩⟩⟩

/-- A table the first point of a sequence leaves. -/
theorem sout_A_4 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = joinTable' (fun h => bTable (logitOf x1 h)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  funext y
  refine View.canon_apply_of_pieces (joinTable' (fun h => bTable (logitOf x1 h))) _ ?_ y (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  exact List.forall_mem_cons.mpr ⟨fun x => piece_table' (fun h => bTable (logitOf x1 h)) 3 inb_S4x256x128_S1x256x128_3_0_0 x,
    List.forall_mem_cons.mpr ⟨fun x => piece_table' (fun h => bTable (logitOf x1 h)) 2 inb_S4x256x128_S1x256x128_2_0_0 x,
    List.forall_mem_cons.mpr ⟨fun x => piece_table' (fun h => bTable (logitOf x1 h)) 1 inb_S4x256x128_S1x256x128_1_0_0 x,
    List.forall_mem_cons.mpr ⟨fun x => piece_table' (fun h => bTable (logitOf x1 h)) 0 inb_S4x256x128_S1x256x128_0_0_0 x, List.forall_mem_nil _⟩⟩⟩⟩

/-- A table the first point of a sequence leaves. -/
theorem sout_A_5 (c : Dev nD) (i : grid0.Coords) (arg2 : Memref sig .tc .smem S4 .f32) (harg2 : arg2.IsWhole) (arg3 : Memref sig .tc .smem S4 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S8x4x128x128 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S4x128x128 .f32) (harg12 : arg12.IsWhole) (arg13 : Memref sig .tc .vmem S4x256x256 .bf16) (harg13 : arg13.IsWhole) (arg14 : Memref sig .tc .vmem S4x256x128 .f32) (harg14 : arg14.IsWhole) (arg15 : Memref sig .tc .vmem S4x256x128 .bf16) (harg15 : arg15.IsWhole) (arg16 : Memref sig .tc .vmem S4x256x128 .bf16) (harg16 : arg16.IsWhole) (arg17 : Memref sig .tc .vmem S4x128x128 .f32) (harg17 : arg17.IsWhole) (hc0 : cond0_0 i)
    (x0 : Vec Ideal S4 .f32) (x1 : Vec Ideal S4 .f32) (x2 : Vec Ideal S2048x512 .bf16) (x3 : Vec Ideal S2048x512 .bf16) (x4 : Vec Ideal S2048x512 .bf16) (x5 : Vec Ideal S2048x512 .bf16) (x6 : Vec Ideal S8x4x128x128 .bf16) (x7 : Vec Ideal S1x512 .f32) (x8 : Vec Ideal S1x512 .f32) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 = joinState (fun h => cTable (logitOf x0 h)) := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8)]
  funext y
  refine View.canon_apply_of_pieces (joinState (fun h => cTable (logitOf x0 h))) _ ?_ y (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, harg16.read_unread, harg17.read_unread]
  exact List.forall_mem_cons.mpr ⟨fun x => piece_state (fun h => cTable (logitOf x0 h)) 3 inb_S4x128x128_S1x128x128_3_0_0 x,
    List.forall_mem_cons.mpr ⟨fun x => piece_state (fun h => cTable (logitOf x0 h)) 2 inb_S4x128x128_S1x128x128_2_0_0 x,
    List.forall_mem_cons.mpr ⟨fun x => piece_state (fun h => cTable (logitOf x0 h)) 1 inb_S4x128x128_S1x128x128_1_0_0 x,
    List.forall_mem_cons.mpr ⟨fun x => piece_state (fun h => cTable (logitOf x0 h)) 0 inb_S4x128x128_S1x128x128_0_0_0 x, List.forall_mem_nil _⟩⟩⟩⟩

end Cert.KernelIdeal.Val
-- ==== Proof.RetArray.lean ====
/-
  The array the retention kernel leaves. A head's state after each grid point is the sum over the rows of the sequence so
  far; the blocks the points write fill the array with the recurrence's rows, normed and gated.
-/
module

public import proofs.«01_k».proof.Proof.RetStateB
public import proofs.«01_k».proof.Proof.RetStateA
public import proofs.«01_k».proof.Proof.RetOutA
public import proofs.«01_k».proof.Proof.RetOutB
public import proofs.«01_k».proof.Proof.RetTables
public import Idealize.ShloMosaic.Lib.StableHlo.ReadAt

@[expose] public section

set_option maxRecDepth 16384

noncomputable section

open scoped BigOperators

namespace Cert.KernelIdeal.Val

open Cert.KernelIdeal Cert.KernelIdeal.Gen Cert.RetRow
open Idealize.ShloMosaic Idealize.ShloMosaic.TcCoe Idealize.SL.Sem

/-! ## A head's pieces, and their joins, at an index -/

theorem rowsOf_at (x : Vec Ideal S2048x512 .bf16) (s h : ℕ) (hs : s < 8) (hh : h < 4) (i : Fin 256) (d : Fin 128) :
    rowsOf x s h (ix2 i d) = x (ix2 ⟨256 * s + i.val, by omega⟩ ⟨128 * h + d.val, by omega⟩) := by
  show x ((Rect.unit (s := S2048x512) ![256 * (s % 8), 128 * (h % 4)] ![256, 128] (inb_blk s h)).emb (ix2 i d)) = _
  congr 1
  funext a
  apply Fin.ext
  match a with
  | ⟨0, _⟩ => show 256 * (s % 8) + 1 * i.val = 256 * s + i.val; omega
  | ⟨1, _⟩ => show 128 * (h % 4) + 1 * d.val = 128 * h + d.val; omega

theorem laterOf_at (x : Vec Ideal S8x4x128x128 .bf16) (s h : ℕ) (hs : s < 8) (hh : h < 4) (d e : Fin 128) :
    laterOf x s h (ix4 0 0 d e) = x (ix4 ⟨s, hs⟩ ⟨h, hh⟩ d e) := by
  show x ((Rect.unit (s := S8x4x128x128) ![s % 8, h % 4, 0, 0] ![1, 1, 128, 128] (inb_later s h)).emb (ix4 0 0 d e)) = _
  congr 1
  funext a
  apply Fin.ext
  match a with
  | ⟨0, _⟩ => show s % 8 + 1 * 0 = s; omega
  | ⟨1, _⟩ => show h % 4 + 1 * 0 = h; omega
  | ⟨2, _⟩ => show 0 + 1 * d.val = d.val; omega
  | ⟨3, _⟩ => show 0 + 1 * e.val = e.val; omega

theorem scaleOf_at (x : Vec Ideal S1x512 .f32) (h : ℕ) (hh : h < 4) (e : Fin 128) :
    scaleOf x h (ix2 0 e) = x (ix2 0 ⟨128 * h + e.val, by omega⟩) := by
  show x ((Rect.unit (s := S1x512) ![0, 128 * (h % 4)] ![1, 128] (inb_scale h)).emb (ix2 0 e)) = _
  congr 1
  funext a
  apply Fin.ext
  match a with
  | ⟨0, _⟩ => rfl
  | ⟨1, _⟩ => show 128 * (h % 4) + 1 * e.val = 128 * h + e.val; omega

theorem stateOf_join (f : ℕ → Vec Ideal S1x128x128 .f32) (h : ℕ) (hh : h < 4) (d e : Fin 128) :
    stateOf (joinState f) h (ix3 0 d e) = f h (ix3 0 d e) :=
  (piece_state f (h % 4) (inb_state h) (ix3 0 d e)).symm.trans (by rw [Nat.mod_eq_of_lt hh])

theorem tableOf_join (f : ℕ → Vec Ideal S1x256x128 .f32) (h : ℕ) (hh : h < 4) (i : Fin 256) (d : Fin 128) :
    tableOf (joinTable f) h (ix3 0 i d) = f h (ix3 0 i d) :=
  (piece_table f (h % 4) (inb_table h) (ix3 0 i d)).symm.trans (by rw [Nat.mod_eq_of_lt hh])

theorem tableOf_join' (f : ℕ → Vec Ideal S1x256x128 .bf16) (h : ℕ) (hh : h < 4) (i : Fin 256) (d : Fin 128) :
    tableOf' (joinTable' f) h (ix3 0 i d) = f h (ix3 0 i d) :=
  (piece_table' f (h % 4) (inb_table h) (ix3 0 i d)).symm.trans (by rw [Nat.mod_eq_of_lt hh])

theorem maskOf_join (f : ℕ → Vec Ideal S1x256x256 .bf16) (h : ℕ) (hh : h < 4) (i j : Fin 256) :
    maskOf (joinMask f) h (ix3 0 i j) = f h (ix3 0 i j) :=
  (piece_mask f (h % 4) (inb_mask h) (ix3 0 i j)).symm.trans (by rw [Nat.mod_eq_of_lt hh])

/-- The state starts at zero. -/
theorem zeroState_at (h : ℕ) (d e : Fin 128) : stateOf (k0_pay2 (F := Ideal)) h (ix3 0 d e) = 0 := by
  show k0_pay2 (F := Ideal) ((Rect.unit (s := S4x128x128) ![h % 4, 0, 0] ![1, 128, 128] (inb_state h)).emb (ix3 0 d e)) = 0
  generalize (Rect.unit (s := S4x128x128) ![h % 4, 0, 0] ![1, 128, 128] (inb_state h)).emb (ix3 0 d e) = y
  have hy : y = (ix3 (n0 := 4) (n1 := 128) (n2 := 128) (y 0) (y 1) (y 2) : S4x128x128.Idx) := by
    funext a; match a with | ⟨0, _⟩ => rfl | ⟨1, _⟩ => rfl | ⟨2, _⟩ => rfl
  rw [hy]
  pointwise [k0_pay2]

/-! ## A point's blocks as a stretch of the recurrence -/

/-- From a state that is the recurrence's at block `j`, the states of the eight blocks are the recurrence's. -/
theorem states_at (k v : Vec Ideal S2048x512 .bf16) (kd : ℕ → Vec Ideal S1x256x128 .f32) (cd st : ℕ → Vec Ideal S1x128x128 .f32)
    (γ : ℕ → EReal) (K V : ℕ → Fin 128 → EReal) (j h : ℕ)
    (hk : ∀ s < 8, ∀ (i : Fin 256) (d : Fin 128), rowsOf k s h (ix2 i d) = K (256 * (j + s) + i) d)
    (hv : ∀ s < 8, ∀ (i : Fin 256) (d : Fin 128), rowsOf v s h (ix2 i d) = V (256 * (j + s) + i) d)
    (hkd : ∀ (i : Fin 256) (d : Fin 128), kd h (ix3 0 i d) = γ (255 - i))
    (hcd : ∀ d e : Fin 128, cd h (ix3 0 d e) = γ 256)
    (hst : ∀ d e : Fin 128, st h (ix3 0 d e) = state γ K V j d e) (s : ℕ) (hs : s ≤ 8) (d e : Fin 128) :
    states k v kd cd st h s (ix3 0 d e) = state γ K V (j + s) d e := by
  induction s generalizing d e with
  | zero => exact hst d e
  | succ s ih =>
    refine (step_at (rowsOf k s h) (rowsOf v s h) (kd h) (cd h) (states k v kd cd st h s) d e).trans ?_
    rw [ih (by omega), hcd]
    simp only [hk s (by omega), hv s (by omega), hkd]
    rfl

/-- And the output rows are the recurrence's, normed and gated. -/
theorem outs_at (q k v g : Vec Ideal S2048x512 .bf16) (sb : Vec Ideal S8x4x128x128 .bf16) (gn gb : Vec Ideal S1x512 .f32)
    (kd : ℕ → Vec Ideal S1x256x128 .f32) (qd qb : ℕ → Vec Ideal S1x256x128 .bf16) (dm : ℕ → Vec Ideal S1x256x256 .bf16)
    (cd st : ℕ → Vec Ideal S1x128x128 .f32) (γ β : ℕ → EReal) (Q K V G : ℕ → Fin 128 → EReal)
    (B : ℕ → Fin 128 → Fin 128 → EReal) (gn' gb' : Fin 128 → EReal) (j h : ℕ)
    (hq : ∀ s < 8, ∀ (i : Fin 256) (d : Fin 128), rowsOf q s h (ix2 i d) = Q (256 * (j + s) + i) d)
    (hk : ∀ s < 8, ∀ (i : Fin 256) (d : Fin 128), rowsOf k s h (ix2 i d) = K (256 * (j + s) + i) d)
    (hv : ∀ s < 8, ∀ (i : Fin 256) (d : Fin 128), rowsOf v s h (ix2 i d) = V (256 * (j + s) + i) d)
    (hg : ∀ s < 8, ∀ (i : Fin 256) (d : Fin 128), rowsOf g s h (ix2 i d) = G (256 * (j + s) + i) d)
    (hsb : ∀ s < 8, ∀ d e : Fin 128, laterOf sb s h (ix4 0 0 d e) = B (j + s) d e)
    (hgn : ∀ e : Fin 128, scaleOf gn h (ix2 0 e) = gn' e) (hgb : ∀ e : Fin 128, scaleOf gb h (ix2 0 e) = gb' e)
    (hkd : ∀ (i : Fin 256) (d : Fin 128), kd h (ix3 0 i d) = γ (255 - i))
    (hqd : ∀ (i : Fin 256) (d : Fin 128), qd h (ix3 0 i d) = γ (i + 1))
    (hqb : ∀ (i : Fin 256) (d : Fin 128), qb h (ix3 0 i d) = β (256 - i))
    (hdm : ∀ i i' : Fin 256, dm h (ix3 0 i i') = within γ β i i')
    (hcd : ∀ d e : Fin 128, cd h (ix3 0 d e) = γ 256)
    (hst : ∀ d e : Fin 128, st h (ix3 0 d e) = state γ K V j d e) (s : ℕ) (hs : s < 8) (i : Fin 256) (e : Fin 128) :
    outs q k v g sb gn gb kd qd qb dm cd st s h (ix2 i e)
      = gated (chunkOut γ β Q K V B (j + s) i) gn' gb' (G (256 * (j + s) + i)) e := by
  unfold outs
  refine (rowsOut_at _ _ _ _ _ _ _ _ _ _ _ i e).trans ?_
  unfold mixRow
  simp only [hq s hs, hk s hs, hv s hs, hg s hs, hsb s hs, hgn, hgb, hqd, hqb, hdm,
    states_at k v kd cd st γ K V j h hk hv hkd hcd hst s hs.le]
  rfl

/-! ## The arguments -/

variable (m : (ℓ : Loc nD τ sig) → Buf (Elt Ideal) ℓ)

theorem Varg0_at (c : Dev nD) (i : S4.Idx) : V m c main_arg0 i = m ((c : Thread nD τ).loc main_arg0) i := by
  unfold V
  after_reads_at

theorem Varg1_at (c : Dev nD) (i : S4.Idx) : V m c main_arg1 i = m ((c : Thread nD τ).loc main_arg1) i := by
  unfold V
  after_reads_at

theorem Varg2_at (c : Dev nD) (i : S32768x512.Idx) : V m c main_arg2 i = m ((c : Thread nD τ).loc main_arg2) i := by
  unfold V
  after_reads_at

theorem Varg3_at (c : Dev nD) (i : S32768x512.Idx) : V m c main_arg3 i = m ((c : Thread nD τ).loc main_arg3) i := by
  unfold V
  after_reads_at

theorem Varg4_at (c : Dev nD) (i : S32768x512.Idx) : V m c main_arg4 i = m ((c : Thread nD τ).loc main_arg4) i := by
  unfold V
  after_reads_at

theorem Varg5_at (c : Dev nD) (i : S32768x512.Idx) : V m c main_arg5 i = m ((c : Thread nD τ).loc main_arg5) i := by
  unfold V
  after_reads_at

theorem Varg6_at (c : Dev nD) (i : S128x4x128x128.Idx) : V m c main_arg6 i = m ((c : Thread nD τ).loc main_arg6) i := by
  unfold V
  after_reads_at

theorem V0_at (c : Dev nD) (k : Fin 512) : V m c main_v0 (ix2 0 k) = m ((c : Thread nD τ).loc main_arg7) (ix1 k) := by
  unfold V
  after_reads_at

theorem V1_at (c : Dev nD) (k : Fin 512) : V m c main_v1 (ix2 0 k) = m ((c : Thread nD τ).loc main_arg8) (ix1 k) := by
  unfold V
  after_reads_at

/-- Where each window's block lies at a grid point. -/
theorem idx0 : ∀ t : Fin grid0.N, win0_0.index t 0 = 0 := by decide +kernel
theorem idx1 : ∀ t : Fin grid0.N, win0_1.index t 0 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 ∧ win0_6.index t 2 = 0 ∧ win0_6.index t 3 = 0 := by
  decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = t.val ∧ win0_9.index t 1 = 0 := by decide +kernel
theorem flush9 : ∀ t : Fin grid0.N, win0_9.flush t = true := by decide +kernel

theorem logit0_at (c : Dev nD) (t : Fin cfg0.N) (h : ℕ) :
    logitOf (iblk m c 0 t) h = logit (m ((c : Thread nD τ).loc main_arg0)) h := by
  refine Eq.trans ?_ (Varg0_at m c (ix1 ⟨h % 4, Nat.mod_lt _ (by decide)⟩))
  show V m c main_arg0 ((win0_0.rect t).emb ((Rect.unit (s := S4) ![h % 4] S1.size (inb_logit h)).emb
    (Shape.Idx.first (by show 0 < S1.numel; exact numel1_S1 ▸ Nat.one_pos)))) = _
  congr 1
  funext a
  apply Fin.ext
  match a with
  | ⟨0, _⟩ =>
    show win0_0.index t 0 * 4 + 1 * (h % 4 + 1 * (Shape.Idx.first (s := S1) (numel1_S1 ▸ Nat.one_pos) 0).val) = h % 4
    have : (Shape.Idx.first (s := S1) (numel1_S1 ▸ Nat.one_pos) 0).val < 1 :=
      (Shape.Idx.first (s := S1) (numel1_S1 ▸ Nat.one_pos) 0).isLt
    rw [idx0 t]; omega

theorem logit1_at (c : Dev nD) (t : Fin cfg0.N) (h : ℕ) :
    logitOf (iblk m c 1 t) h = logit (m ((c : Thread nD τ).loc main_arg1)) h := by
  refine Eq.trans ?_ (Varg1_at m c (ix1 ⟨h % 4, Nat.mod_lt _ (by decide)⟩))
  show V m c main_arg1 ((win0_1.rect t).emb ((Rect.unit (s := S4) ![h % 4] S1.size (inb_logit h)).emb
    (Shape.Idx.first (by show 0 < S1.numel; exact numel1_S1 ▸ Nat.one_pos)))) = _
  congr 1
  funext a
  apply Fin.ext
  match a with
  | ⟨0, _⟩ =>
    show win0_1.index t 0 * 4 + 1 * (h % 4 + 1 * (Shape.Idx.first (s := S1) (numel1_S1 ▸ Nat.one_pos) 0).val) = h % 4
    have : (Shape.Idx.first (s := S1) (numel1_S1 ▸ Nat.one_pos) 0).val < 1 :=
      (Shape.Idx.first (s := S1) (numel1_S1 ▸ Nat.one_pos) 0).isLt
    rw [idx1 t]; omega

theorem blk2_at (c : Dev nD) (t : Fin cfg0.N) (s h : ℕ) (hs : s < 8) (hh : h < 4) (i : Fin 256) (d : Fin 128) :
    rowsOf (iblk m c 2 t) s h (ix2 i d)
      = head (m ((c : Thread nD τ).loc main_arg2)) (t.val / 8) h (256 * (8 * (t.val % 8) + s) + i) d := by
  have hN : t.val < 16 := lt_of_lt_of_eq t.isLt N_0
  refine (rowsOf_at _ s h hs hh i d).trans ?_
  unfold head
  refine Eq.trans ?_ (Varg2_at m c _)
  show V m c main_arg2 ((win0_2.rect t).emb (ix2 ⟨256 * s + i.val, by omega⟩ ⟨128 * h + d.val, by omega⟩)) = _
  congr 1
  funext a
  apply Fin.ext
  match a with
  | ⟨0, _⟩ =>
    show win0_2.index t 0 * 2048 + 1 * (256 * s + i.val)
      = (16384 * (t.val / 8) + (256 * (8 * (t.val % 8) + s) + i.val)) % 32768
    rw [(idx2 t).1]; omega
  | ⟨1, _⟩ =>
    show win0_2.index t 1 * 512 + 1 * (128 * h + d.val) = 128 * (h % 4) + d.val
    rw [(idx2 t).2]; omega

theorem blk3_at (c : Dev nD) (t : Fin cfg0.N) (s h : ℕ) (hs : s < 8) (hh : h < 4) (i : Fin 256) (d : Fin 128) :
    rowsOf (iblk m c 3 t) s h (ix2 i d)
      = head (m ((c : Thread nD τ).loc main_arg3)) (t.val / 8) h (256 * (8 * (t.val % 8) + s) + i) d := by
  have hN : t.val < 16 := lt_of_lt_of_eq t.isLt N_0
  refine (rowsOf_at _ s h hs hh i d).trans ?_
  unfold head
  refine Eq.trans ?_ (Varg3_at m c _)
  show V m c main_arg3 ((win0_3.rect t).emb (ix2 ⟨256 * s + i.val, by omega⟩ ⟨128 * h + d.val, by omega⟩)) = _
  congr 1
  funext a
  apply Fin.ext
  match a with
  | ⟨0, _⟩ =>
    show win0_3.index t 0 * 2048 + 1 * (256 * s + i.val)
      = (16384 * (t.val / 8) + (256 * (8 * (t.val % 8) + s) + i.val)) % 32768
    rw [(idx3 t).1]; omega
  | ⟨1, _⟩ =>
    show win0_3.index t 1 * 512 + 1 * (128 * h + d.val) = 128 * (h % 4) + d.val
    rw [(idx3 t).2]; omega

theorem blk4_at (c : Dev nD) (t : Fin cfg0.N) (s h : ℕ) (hs : s < 8) (hh : h < 4) (i : Fin 256) (d : Fin 128) :
    rowsOf (iblk m c 4 t) s h (ix2 i d)
      = head (m ((c : Thread nD τ).loc main_arg4)) (t.val / 8) h (256 * (8 * (t.val % 8) + s) + i) d := by
  have hN : t.val < 16 := lt_of_lt_of_eq t.isLt N_0
  refine (rowsOf_at _ s h hs hh i d).trans ?_
  unfold head
  refine Eq.trans ?_ (Varg4_at m c _)
  show V m c main_arg4 ((win0_4.rect t).emb (ix2 ⟨256 * s + i.val, by omega⟩ ⟨128 * h + d.val, by omega⟩)) = _
  congr 1
  funext a
  apply Fin.ext
  match a with
  | ⟨0, _⟩ =>
    show win0_4.index t 0 * 2048 + 1 * (256 * s + i.val)
      = (16384 * (t.val / 8) + (256 * (8 * (t.val % 8) + s) + i.val)) % 32768
    rw [(idx4 t).1]; omega
  | ⟨1, _⟩ =>
    show win0_4.index t 1 * 512 + 1 * (128 * h + d.val) = 128 * (h % 4) + d.val
    rw [(idx4 t).2]; omega

theorem blk5_at (c : Dev nD) (t : Fin cfg0.N) (s h : ℕ) (hs : s < 8) (hh : h < 4) (i : Fin 256) (d : Fin 128) :
    rowsOf (iblk m c 5 t) s h (ix2 i d)
      = head (m ((c : Thread nD τ).loc main_arg5)) (t.val / 8) h (256 * (8 * (t.val % 8) + s) + i) d := by
  have hN : t.val < 16 := lt_of_lt_of_eq t.isLt N_0
  refine (rowsOf_at _ s h hs hh i d).trans ?_
  unfold head
  refine Eq.trans ?_ (Varg5_at m c _)
  show V m c main_arg5 ((win0_5.rect t).emb (ix2 ⟨256 * s + i.val, by omega⟩ ⟨128 * h + d.val, by omega⟩)) = _
  congr 1
  funext a
  apply Fin.ext
  match a with
  | ⟨0, _⟩ =>
    show win0_5.index t 0 * 2048 + 1 * (256 * s + i.val)
      = (16384 * (t.val / 8) + (256 * (8 * (t.val % 8) + s) + i.val)) % 32768
    rw [(idx5 t).1]; omega
  | ⟨1, _⟩ =>
    show win0_5.index t 1 * 512 + 1 * (128 * h + d.val) = 128 * (h % 4) + d.val
    rw [(idx5 t).2]; omega

theorem blk6_at (c : Dev nD) (t : Fin cfg0.N) (s h : ℕ) (hs : s < 8) (hh : h < 4) (d e : Fin 128) :
    laterOf (iblk m c 6 t) s h (ix4 0 0 d e)
      = later (m ((c : Thread nD τ).loc main_arg6)) (t.val / 8) h (8 * (t.val % 8) + s) d e := by
  have hN : t.val < 16 := lt_of_lt_of_eq t.isLt N_0
  refine (laterOf_at _ s h hs hh d e).trans ?_
  unfold later
  refine Eq.trans ?_ (Varg6_at m c _)
  show V m c main_arg6 ((win0_6.rect t).emb (ix4 ⟨s, hs⟩ ⟨h, hh⟩ d e)) = _
  congr 1
  funext a
  apply Fin.ext
  match a with
  | ⟨0, _⟩ =>
    show win0_6.index t 0 * 8 + 1 * s = (64 * (t.val / 8) + (8 * (t.val % 8) + s)) % 128
    rw [(idx6 t).1]; omega
  | ⟨1, _⟩ => show win0_6.index t 1 * 4 + 1 * h = h % 4; rw [(idx6 t).2.1]; omega
  | ⟨2, _⟩ => show win0_6.index t 2 * 128 + 1 * d.val = d.val; rw [(idx6 t).2.2.1]; omega
  | ⟨3, _⟩ => show win0_6.index t 3 * 128 + 1 * e.val = e.val; rw [(idx6 t).2.2.2]; omega

theorem blk7_at (c : Dev nD) (t : Fin cfg0.N) (h : ℕ) (hh : h < 4) (e : Fin 128) :
    scaleOf (iblk m c 7 t) h (ix2 0 e) = scale (m ((c : Thread nD τ).loc main_arg7)) h e := by
  refine (scaleOf_at _ h hh e).trans ?_
  unfold scale
  refine Eq.trans ?_ (V0_at m c _)
  show V m c main_v0 ((win0_7.rect t).emb (ix2 0 ⟨128 * h + e.val, by omega⟩)) = _
  congr 1
  funext a
  apply Fin.ext
  match a with
  | ⟨0, _⟩ => show win0_7.index t 0 * 1 + 1 * 0 = 0; rw [(idx7 t).1]
  | ⟨1, _⟩ => show win0_7.index t 1 * 512 + 1 * (128 * h + e.val) = 128 * (h % 4) + e.val; rw [(idx7 t).2]; omega

theorem blk8_at (c : Dev nD) (t : Fin cfg0.N) (h : ℕ) (hh : h < 4) (e : Fin 128) :
    scaleOf (iblk m c 8 t) h (ix2 0 e) = scale (m ((c : Thread nD τ).loc main_arg8)) h e := by
  refine (scaleOf_at _ h hh e).trans ?_
  unfold scale
  refine Eq.trans ?_ (V1_at m c _)
  show V m c main_v1 ((win0_8.rect t).emb (ix2 0 ⟨128 * h + e.val, by omega⟩)) = _
  congr 1
  funext a
  apply Fin.ext
  match a with
  | ⟨0, _⟩ => show win0_8.index t 0 * 1 + 1 * 0 = 0; rw [(idx8 t).1]
  | ⟨1, _⟩ => show win0_8.index t 1 * 512 + 1 * (128 * h + e.val) = 128 * (h % 4) + e.val; rw [(idx8 t).2]; omega

/-- A head's forward and backward decay. -/
def fwd (c : Dev nD) (h : ℕ) : ℕ → EReal := decay (logit (m ((c : Thread nD τ).loc main_arg0)) h)
def bwd (c : Dev nD) (h : ℕ) : ℕ → EReal := decay (logit (m ((c : Thread nD τ).loc main_arg1)) h)

/-- What the carried buffers hold after point `t`: the recurrence's state of its sequence, and the decay tables. -/
structure Carried (c : Dev nD) (t : ℕ) (S : Vec Ideal S4x128x128 .f32) (D : Vec Ideal S4x256x256 .bf16)
    (KD : Vec Ideal S4x256x128 .f32) (QD QB : Vec Ideal S4x256x128 .bf16) (CD : Vec Ideal S4x128x128 .f32) : Prop where
  st : ∀ h < 4, ∀ d e : Fin 128, stateOf S h (ix3 0 d e)
    = state (fwd m c h) (head (m ((c : Thread nD τ).loc main_arg3)) (t / 8) h) (head (m ((c : Thread nD τ).loc main_arg4)) (t / 8) h)
        (8 * (t % 8) + 8) d e
  dm : ∀ h < 4, ∀ i i' : Fin 256, maskOf D h (ix3 0 i i') = within (fwd m c h) (bwd m c h) i i'
  kd : ∀ h < 4, ∀ (i : Fin 256) (d : Fin 128), tableOf KD h (ix3 0 i d) = fwd m c h (255 - i)
  qd : ∀ h < 4, ∀ (i : Fin 256) (d : Fin 128), tableOf' QD h (ix3 0 i d) = fwd m c h (i + 1)
  qb : ∀ h < 4, ∀ (i : Fin 256) (d : Fin 128), tableOf' QB h (ix3 0 i d) = bwd m c h (256 - i)
  cd : ∀ h < 4, ∀ d e : Fin 128, stateOf CD h (ix3 0 d e) = fwd m c h 256

theorem kTable_fwd (c : Dev nD) (t : Fin cfg0.N) (h : ℕ) (i : Fin 256) (d : Fin 128) :
    kTable (logitOf (iblk m c 0 t) h) (ix3 0 i d) = fwd m c h (255 - i) := by
  rw [logit0_at]; exact kTable_at _ i d

theorem qTable_fwd (c : Dev nD) (t : Fin cfg0.N) (h : ℕ) (i : Fin 256) (d : Fin 128) :
    qTable (logitOf (iblk m c 0 t) h) (ix3 0 i d) = fwd m c h (i + 1) := by
  rw [logit0_at]; exact qTable_at _ i d

theorem bTable_bwd (c : Dev nD) (t : Fin cfg0.N) (h : ℕ) (i : Fin 256) (d : Fin 128) :
    bTable (logitOf (iblk m c 1 t) h) (ix3 0 i d) = bwd m c h (256 - i) := by
  rw [logit1_at]; exact bTable_at _ i d

theorem cTable_fwd (c : Dev nD) (t : Fin cfg0.N) (h : ℕ) (d e : Fin 128) :
    cTable (logitOf (iblk m c 0 t) h) (ix3 0 d e) = fwd m c h 256 := by
  rw [logit0_at]; exact cTable_at _ d e

theorem dTable_within (c : Dev nD) (t : Fin cfg0.N) (h : ℕ) (i i' : Fin 256) :
    dTable (logitOf (iblk m c 0 t) h) (logitOf (iblk m c 1 t) h) (ix3 0 i i') = within (fwd m c h) (bwd m c h) i i' := by
  rw [logit0_at, logit1_at]; exact dTable_at _ _ i i'

/-- At the first point of a sequence the state starts from zero. -/
theorem carried_first (c : Dev nD) (t : Fin cfg0.N) (h0 : t.val % 8 = 0) :
    Carried m c t.val (outsAt0 m c t.val t.isLt).2.1 (outsAt0 m c t.val t.isLt).2.2.1 (outsAt0 m c t.val t.isLt).2.2.2.1
      (outsAt0 m c t.val t.isLt).2.2.2.2.1 (outsAt0 m c t.val t.isLt).2.2.2.2.2.1 (outsAt0 m c t.val t.isLt).2.2.2.2.2.2 := by
  rw [outsAt0_A m c t h0]
  dsimp only
  rw [sout_A_0, sout_A_1, sout_A_2, sout_A_3, sout_A_4, sout_A_5]
  refine ⟨fun h hh d e => ?_, fun h hh i i' => ?_, fun h hh i d => ?_, fun h hh i d => ?_, fun h hh i d => ?_, fun h hh d e => ?_⟩
  · rw [stateOf_join _ h hh]
    refine (states_at _ _ _ _ _ (fwd m c h) _ _ (8 * (t.val % 8)) h (fun s hs => blk3_at m c t s h hs hh)
      (fun s hs => blk4_at m c t s h hs hh) (kTable_fwd m c t h) (cTable_fwd m c t h) (fun d e => ?_) 8 (le_refl 8) d e)
    rw [zeroState_at, h0]; rfl
  · rw [maskOf_join _ h hh]; exact dTable_within m c t h i i'
  · rw [tableOf_join _ h hh]; exact kTable_fwd m c t h i d
  · rw [tableOf_join' _ h hh]; exact qTable_fwd m c t h i d
  · rw [tableOf_join' _ h hh]; exact bTable_bwd m c t h i d
  · rw [stateOf_join _ h hh]; exact cTable_fwd m c t h d e

/-- At a later point it goes on from the point before. -/
theorem carried_next (c : Dev nD) (t : Fin cfg0.N) (h0 : ¬t.val % 8 = 0) (hb : t.val - 1 < cfg0.N)
    (ih : Carried m c (t.val - 1) (outsAt0 m c (t.val - 1) hb).2.1 (outsAt0 m c (t.val - 1) hb).2.2.1
      (outsAt0 m c (t.val - 1) hb).2.2.2.1 (outsAt0 m c (t.val - 1) hb).2.2.2.2.1 (outsAt0 m c (t.val - 1) hb).2.2.2.2.2.1
      (outsAt0 m c (t.val - 1) hb).2.2.2.2.2.2) :
    Carried m c t.val (outsAt0 m c t.val t.isLt).2.1 (outsAt0 m c t.val t.isLt).2.2.1 (outsAt0 m c t.val t.isLt).2.2.2.1
      (outsAt0 m c t.val t.isLt).2.2.2.2.1 (outsAt0 m c t.val t.isLt).2.2.2.2.2.1 (outsAt0 m c t.val t.isLt).2.2.2.2.2.2 := by
  rw [outsAt0_B m c t h0]
  dsimp only
  rw [sout_B_0]
  refine ⟨fun h hh d e => ?_, ih.dm, ih.kd, ih.qd, ih.qb, ih.cd⟩
  rw [stateOf_join _ h hh]
  refine (states_at _ _ _ _ _ (fwd m c h) _ _ (8 * (t.val % 8)) h (fun s hs => blk3_at m c t s h hs hh)
    (fun s hs => blk4_at m c t s h hs hh) (ih.kd h hh) (ih.cd h hh) (fun d e => ?_) 8 (le_refl 8) d e)
  refine (ih.st h hh d e).trans ?_
  have e1 : (t.val - 1) / 8 = t.val / 8 := by omega
  have e2 : 8 * ((t.val - 1) % 8) + 8 = 8 * (t.val % 8) := by omega
  rw [e1, e2]

theorem carried (c : Dev nD) : ∀ (n : ℕ) (hn : n < cfg0.N),
    Carried m c n (outsAt0 m c n hn).2.1 (outsAt0 m c n hn).2.2.1 (outsAt0 m c n hn).2.2.2.1
      (outsAt0 m c n hn).2.2.2.2.1 (outsAt0 m c n hn).2.2.2.2.2.1 (outsAt0 m c n hn).2.2.2.2.2.2 := by
  intro n
  induction n with
  | zero => exact fun hn => carried_first m c ⟨0, hn⟩ rfl
  | succ n ih =>
    intro hn
    by_cases h0 : (n + 1) % 8 = 0
    · exact carried_first m c ⟨n + 1, hn⟩ h0
    · exact carried_next m c ⟨n + 1, hn⟩ h0 (Nat.lt_of_succ_lt hn) (ih (Nat.lt_of_succ_lt hn))

/-- The recurrence's row `n` of sequence `b` and head `h`, normed and gated. -/
def outRow (c : Dev nD) (b h n : ℕ) (e : Fin 128) : EReal :=
  gated (chunkOut (fwd m c h) (bwd m c h) (head (m ((c : Thread nD τ).loc main_arg2)) b h)
      (head (m ((c : Thread nD τ).loc main_arg3)) b h) (head (m ((c : Thread nD τ).loc main_arg4)) b h)
      (later (m ((c : Thread nD τ).loc main_arg6)) b h) (n / 256) (n % 256))
    (scale (m ((c : Thread nD τ).loc main_arg7)) h) (scale (m ((c : Thread nD τ).loc main_arg8)) h)
    (head (m ((c : Thread nD τ).loc main_arg5)) b h n) e

/-- The result array. -/
def result (c : Dev nD) : Buf (Elt Ideal) ((c : Thread nD τ).loc main_v2) := fun i =>
  outRow m c ((i 0).val / 16384) ((i 1).val / 128) ((i 0).val % 16384) ⟨(i 1).val % 128, Nat.mod_lt _ (by decide)⟩

/-- A point's output block is its rows of the recurrence. -/
theorem block_at (c : Dev nD) (t : Fin cfg0.N) (s h : ℕ) (hs : s < 8) (hh : h < 4) (i : Fin 256) (e : Fin 128) :
    (outsAt0 m c t.val t.isLt).1 (ix2 ⟨256 * s + i.val, by omega⟩ ⟨128 * h + e.val, by omega⟩)
      = outRow m c (t.val / 8) h (256 * (8 * (t.val % 8) + s) + i) e := by
  have j0 : (256 * s + i.val) / 256 = s := by omega
  have j1 : (256 * s + i.val) % 256 = i.val := by omega
  have j2 : (128 * h + e.val) / 128 = h := by omega
  have j3 : (128 * h + e.val) % 128 = e.val := by omega
  have n0 : (256 * (8 * (t.val % 8) + s) + i.val) / 256 = 8 * (t.val % 8) + s := by omega
  have n1 : (256 * (8 * (t.val % 8) + s) + i.val) % 256 = i.val := by omega
  have join : ∀ f : ℕ → ℕ → Vec Ideal S256x128 .bf16,
      joinRows f (ix2 ⟨256 * s + i.val, by omega⟩ ⟨128 * h + e.val, by omega⟩) = f s h (ix2 i e) := fun f => by
    show f ((256 * s + i.val) / 256) ((128 * h + e.val) / 128)
      (ix2 ⟨(256 * s + i.val) % 256, _⟩ ⟨(128 * h + e.val) % 128, _⟩) = _
    simp only [j0, j1, j2, j3]
  unfold outRow
  rw [n0, n1]
  by_cases h0 : t.val % 8 = 0
  · rw [outsAt0_A m c t h0]
    dsimp only
    rw [out_A_9, join]
    refine outs_at _ _ _ _ _ _ _ _ _ _ _ _ _ (fwd m c h) (bwd m c h) _ _ _ _ _ _ _ (8 * (t.val % 8)) h
      (fun s hs => blk2_at m c t s h hs hh) (fun s hs => blk3_at m c t s h hs hh) (fun s hs => blk4_at m c t s h hs hh)
      (fun s hs => blk5_at m c t s h hs hh) (fun s hs => blk6_at m c t s h hs hh) (blk7_at m c t h hh) (blk8_at m c t h hh)
      (kTable_fwd m c t h) (qTable_fwd m c t h) (bTable_bwd m c t h) (dTable_within m c t h) (cTable_fwd m c t h)
      (fun d e => ?_) s hs i e
    rw [zeroState_at, h0]; rfl
  · have hb : t.val - 1 < cfg0.N := Nat.lt_of_le_of_lt (Nat.sub_le _ _) t.isLt
    have ih := carried m c (t.val - 1) hb
    rw [outsAt0_B m c t h0]
    dsimp only
    rw [out_B_9, join]
    refine outs_at _ _ _ _ _ _ _ _ _ _ _ _ _ (fwd m c h) (bwd m c h) _ _ _ _ _ _ _ (8 * (t.val % 8)) h
      (fun s hs => blk2_at m c t s h hs hh) (fun s hs => blk3_at m c t s h hs hh) (fun s hs => blk4_at m c t s h hs hh)
      (fun s hs => blk5_at m c t s h hs hh) (fun s hs => blk6_at m c t s h hs hh) (blk7_at m c t h hh) (blk8_at m c t h hh)
      (ih.kd h hh) (ih.qd h hh) (ih.qb h hh) (ih.dm h hh) (ih.cd h hh) (fun d e => ?_) s hs i e
    refine (ih.st h hh d e).trans ?_
    have e1 : (t.val - 1) / 8 = t.val / 8 := by omega
    have e2 : 8 * ((t.val - 1) % 8) + 8 = 8 * (t.val % 8) := by omega
    rw [e1, e2]

/-- What each point writes back is its block of the result. -/
theorem flushed_eq (c : Dev nD) (t : Fin cfg0.N) (hf : (cfg0.win 9).flush t = true) :
    (dats m 0 c).flushed 9 t = ((cfg0.win 9).blk t).view.read (Elt Ideal) (result m c) := by
  have hN : t.val < 16 := lt_of_lt_of_eq t.isLt N_0
  rw [Value.flushed9 m c t]
  funext y
  have b0 : (y 0).val < 2048 := (y 0).isLt
  have b1 : (y 1).val < 512 := (y 1).isLt
  have hy : y = (ix2 (n0 := 2048) (n1 := 512)
      ⟨256 * ((y 0).val / 256) + (⟨(y 0).val % 256, Nat.mod_lt _ (by decide)⟩ : Fin 256).val, by omega⟩
      ⟨128 * ((y 1).val / 128) + (⟨(y 1).val % 128, Nat.mod_lt _ (by decide)⟩ : Fin 128).val, by omega⟩ : S2048x512.Idx) := by
    funext a
    apply Fin.ext
    match a with
    | ⟨0, _⟩ => show (y 0).val = 256 * ((y 0).val / 256) + (y 0).val % 256; omega
    | ⟨1, _⟩ => show (y 1).val = 128 * ((y 1).val / 128) + (y 1).val % 128; omega
  refine (congrArg (outsAt0 m c t.val t.isLt).1 hy).trans ?_
  refine (block_at m c t ((y 0).val / 256) ((y 1).val / 128) (by omega) (by omega) _ _).trans ?_
  show _ = result m c ((win0_9.rect t).emb y)
  have e0 : ((win0_9.rect t).emb y 0).val = 2048 * t.val + (y 0).val := by
    show win0_9.index t 0 * 2048 + 1 * (y 0).val = _
    rw [(idx9 t).1]; omega
  have e1 : ((win0_9.rect t).emb y 1).val = (y 1).val := by
    show win0_9.index t 1 * 512 + 1 * (y 1).val = _
    rw [(idx9 t).2]; omega
  unfold result
  simp only [e0, e1]
  have k0 : (2048 * t.val + (y 0).val) / 16384 = t.val / 8 := by omega
  have k1 : (2048 * t.val + (y 0).val) % 16384 = 256 * (8 * (t.val % 8) + (y 0).val / 256) + (y 0).val % 256 := by omega
  rw [k0, k1]

/-- So the array ends holding the result: row `r` is written at point `r / 2048`. -/
theorem final (c : Dev nD) : (dats m 0 c).arrAt 9 cfg0.N = result m c :=
  (dats m 0 c).arrAt_eq_of_cover 9 (result m c) (flushed_eq m c) fun i => by
    have hN : grid0.N = 16 := N_0
    have h0 : (i 0 : Nat) < 32768 := (i 0).isLt
    have h1 : (i 1 : Nat) < 512 := (i 1).isLt
    refine ⟨⟨(i 0 : Nat) / 2048, by show _ < grid0.N; omega⟩, flush9 _, ?_⟩
    generalize ht : (⟨(i 0 : Nat) / 2048, _⟩ : Fin cfg0.N) = t
    have hv : t.val = (i 0 : Nat) / 2048 := by rw [← ht]
    show i ∈ ((View.whole main_v2).slice (win0_9.rect t)).set
    rw [View.set_slice_whole, Rect.mem_set_unit]
    intro a
    match a with
    | ⟨0, _⟩ =>
      show win0_9.index t 0 * 2048 ≤ (i 0 : Nat) ∧ (i 0 : Nat) < win0_9.index t 0 * 2048 + 2048
      rw [(idx9 t).1]; omega
    | ⟨1, _⟩ =>
      show win0_9.index t 1 * 512 ≤ (i 1 : Nat) ∧ (i 1 : Nat) < win0_9.index t 1 * 512 + 512
      rw [(idx9 t).2]; omega

end Cert.KernelIdeal.Val
-- ==== Proof.RetWord.lean ====
/-
  The reference's index words: differences, block numbers and what is left of a block, for rows below 16384.
-/
module

public import proofs.«01_k».proof.Proof.RetRow
public import Idealize.ShloMosaic.Lib.Pointwise

@[expose] public section

set_option maxRecDepth 16384

noncomputable section

open scoped BigOperators

namespace Cert.ReferenceIdeal.Val

open Cert.RetRow
open Idealize.ShloMosaic Idealize.ShloMosaic.TcCoe Idealize.SL.Sem

/-- The quotient of a word by 256, rounded down, as the program computes it from the truncated one. -/
def quotWord (w : BitVec 32) : BitVec 32 :=
  Scalar.select
    (IntOp.andi
      (IntOp.cmpi CmpIPredicate.ne (if w = 0 then (0 : BitVec 32) else if BitVec.msb w = true then -1 else 1)
        (if (256#32 : BitVec 32) = 0 then (0 : BitVec 32) else if BitVec.msb 256#32 = true then -1 else 1))
      (IntOp.cmpi CmpIPredicate.ne (IntOp.remsi ArithUnit.host w 256#32) 0#32))
    (IntOp.subi (IntOp.divsi ArithUnit.host w 256#32) 1#32) (IntOp.divsi ArithUnit.host w 256#32)

/-- What is left of a row's block of 256 from the row on. -/
def leftWord (w : BitVec 32) : BitVec 32 :=
  IntOp.subi (256#32)
    (Scalar.select
      (IntOp.andi
        (IntOp.cmpi CmpIPredicate.ne (IntOp.cmpi CmpIPredicate.slt (IntOp.remsi ArithUnit.host w 256#32) 0#32)
          (IntOp.cmpi CmpIPredicate.slt 256#32 0#32))
        (IntOp.cmpi CmpIPredicate.ne (IntOp.remsi ArithUnit.host w 256#32) 0#32))
      (IntOp.addi (IntOp.remsi ArithUnit.host w 256#32) 256#32) (IntOp.remsi ArithUnit.host w 256#32))

theorem quot_left : ∀ (a : Fin 64) (b : Fin 256), quotWord (BitVec.ofNat 32 (256 * a.val + b.val)) = BitVec.ofNat 32 a.val
    ∧ (leftWord (BitVec.ofNat 32 (256 * a.val + b.val))).toInt = 256 - b.val := by
  decide +kernel

theorem quot_eq (n : Fin 16384) : quotWord (BitVec.ofNat 32 n.val) = BitVec.ofNat 32 (n.val / 256) := by
  have h := (quot_left ⟨n.val / 256, by omega⟩ ⟨n.val % 256, by omega⟩).1
  have e : 256 * (n.val / 256) + n.val % 256 = n.val := by omega
  simp only [e] at h
  exact h

theorem left_eq (n : Fin 16384) : ((leftWord (BitVec.ofNat 32 n.val)).toInt : ℝ) = ((256 - n.val % 256 : ℕ) : ℝ) := by
  have h := (quot_left ⟨n.val / 256, by omega⟩ ⟨n.val % 256, by omega⟩).2
  have e : 256 * (n.val / 256) + n.val % 256 = n.val := by omega
  simp only [e] at h
  rw [h, Nat.cast_sub (by omega)]
  push_cast
  rfl

theorem ofNat_toInt (n : ℕ) (h : n < 2 ^ 31) : (BitVec.ofNat 32 n).toInt = n := by
  rw [BitVec.toInt_eq_toNat_of_lt (by rw [BitVec.toNat_ofNat]; omega), BitVec.toNat_ofNat]
  omega

theorem diff_toInt (n k : Fin 16384) :
    (IntOp.subi (BitVec.ofNat 32 n.val) (BitVec.ofNat 32 k.val)).toInt = (n.val : ℤ) - k.val := by
  show (BitVec.ofNat 32 n.val - BitVec.ofNat 32 k.val).toInt = _
  rw [BitVec.toInt_sub, ofNat_toInt _ (by omega), ofNat_toInt _ (by omega), Int.bmod_def]
  split_ifs <;> omega

theorem sge_eq (n k : Fin 16384) :
    IntOp.cmpi CmpIPredicate.sge (IntOp.subi (BitVec.ofNat 32 n.val) (BitVec.ofNat 32 k.val)) 0#32
      = if k.val ≤ n.val then 1#1 else 0#1 := by
  unfold IntOp.cmpi
  simp only [BitVec.sle, diff_toInt]
  by_cases h : k.val ≤ n.val <;> simp [h]

theorem slt_eq (n k : Fin 16384) :
    IntOp.cmpi CmpIPredicate.slt (IntOp.subi (BitVec.ofNat 32 n.val) (BitVec.ofNat 32 k.val)) 0#32
      = if n.val < k.val then 1#1 else 0#1 := by
  unfold IntOp.cmpi
  simp only [BitVec.slt, diff_toInt]
  by_cases h : n.val < k.val <;> simp [h]

theorem same_eq (n k : Fin 16384) :
    IntOp.cmpi CmpIPredicate.eq (quotWord (BitVec.ofNat 32 n.val)) (quotWord (BitVec.ofNat 32 k.val))
      = if n.val / 256 = k.val / 256 then 1#1 else 0#1 := by
  rw [quot_eq, quot_eq]
  unfold IntOp.cmpi
  by_cases h : n.val / 256 = k.val / 256
  · simp [h]
  · have : BitVec.ofNat 32 (n.val / 256) ≠ BitVec.ofNat 32 (k.val / 256) := fun he => h (by
      have := congrArg BitVec.toNat he
      rw [BitVec.toNat_ofNat, BitVec.toNat_ofNat] at this
      omega)
    rw [if_neg h]
    show BitVec.ofBool (BitVec.ofNat 32 (n.val / 256) == BitVec.ofNat 32 (k.val / 256)) = 0#1
    rw [beq_eq_false_iff_ne.mpr this]
    rfl

end Cert.ReferenceIdeal.Val
-- ==== Proof.RetReference.lean ====
/-
  The plain reference read at an index: retention, group norm and gate.
-/
module

public import proofs.«01_k».proof.Proof.RetWord
public import proofs.«01_k».proof.Proof.Gen.ReferenceIdeal.Run
public import Idealize.ShloMosaic.Lib.Pointwise

@[expose] public section

set_option maxRecDepth 16384

noncomputable section

open scoped BigOperators

namespace Cert.ReferenceIdeal.Val

open Cert.ReferenceIdeal Cert.ReferenceIdeal.Gen Cert.RetRow
open Idealize.ShloMosaic Idealize.ShloMosaic.TcCoe Idealize.SL.Sem

/-- The two masked decays are the weight. -/
theorem weight_at (lf lb : EReal) (n k : Fin 16384) :
    Scalar.select (IntOp.cmpi CmpIPredicate.sge (IntOp.subi (BitVec.ofNat 32 n.val) (BitVec.ofNat 32 k.val)) 0#32)
        (Ideal.exp ((((IntOp.subi (BitVec.ofNat 32 n.val) (BitVec.ofNat 32 k.val)).toInt : ℝ) : EReal) * lg lf)) (0 : EReal)
      + Scalar.select
        (IntOp.andi (IntOp.cmpi CmpIPredicate.slt (IntOp.subi (BitVec.ofNat 32 n.val) (BitVec.ofNat 32 k.val)) 0#32)
          (IntOp.cmpi CmpIPredicate.eq (quotWord (BitVec.ofNat 32 n.val)) (quotWord (BitVec.ofNat 32 k.val))))
        (Ideal.exp (-(((IntOp.subi (BitVec.ofNat 32 n.val) (BitVec.ofNat 32 k.val)).toInt : ℝ) : EReal) * lg lb)) (0 : EReal)
      = weight (decay lf) (decay lb) n k := by
  rw [sge_eq, slt_eq, same_eq, diff_toInt]
  unfold weight decay
  refine congrArg₂ (· + ·) ?_ ?_
  · by_cases h : k.val ≤ n.val
    · rw [if_pos h, if_pos h, Nat.cast_sub h, Int.cast_sub, Int.cast_natCast, Int.cast_natCast]
      rfl
    · rw [if_neg h, if_neg h]
      rfl
  · by_cases h : n.val < k.val
    · by_cases h' : n.val / 256 = k.val / 256
      · rw [if_pos h, if_pos h', if_pos ⟨h, h'⟩, Nat.cast_sub h.le, Int.cast_sub, Int.cast_natCast, Int.cast_natCast,
          ← EReal.coe_neg, neg_sub]
        rfl
      · rw [if_pos h, if_neg h', if_neg (fun a => h' a.2)]
        rfl
    · rw [if_neg h, if_neg (show ¬(n.val < k.val ∧ n.val / 256 = k.val / 256) from fun a => h a.1)]
      generalize (if n.val / 256 = k.val / 256 then 1#1 else 0#1 : BitVec 1) = w
      show Scalar.select (0#1 &&& w) _ _ = _
      rw [BitVec.zero_and]
      rfl

/-- The logarithm of the logistic function, as the reference spells it. -/
theorem lg_of (x : EReal) [Decidable (-x ≠ -x)] :
    (-if -x ≠ -x then -x else max (-x) 0 + Ideal.log1p (Ideal.exp (-FloatOps.absf (F := Ideal) (φ := .f32) (-x))) : EReal) = lg x := by
  rw [if_neg (fun a => a rfl), ← lg_eq x]
  show -(max (-x) 0 + Ideal.log1p (Ideal.exp (-(max (-x) (- -x))))) = _
  rw [neg_neg]

variable (V0 : Valuation τ sig (Elt Ideal))

open Cert.ReferenceIdeal.Value

theorem mix_at (b : Fin 2) (n : Fin 16384) (h : Fin 4) (e : Fin 128) :
    res_main_v69 V0 (ix4 b n h e)
      = retention (decay (logit (V0 (Proc.devRef .tc main_arg0)) h)) (decay (logit (V0 (Proc.devRef .tc main_arg1)) h))
          (head (V0 (Proc.devRef .tc main_arg2)) b h) (head (V0 (Proc.devRef .tc main_arg3)) b h)
          (head (V0 (Proc.devRef .tc main_arg4)) b h) (later (V0 (Proc.devRef .tc main_arg6)) b h) n e := by
  unfold res_main_v69
  pointwise [res_main_v1, res_main_v7, res_main_v8, res_main_v13, res_main_v14, res_main_v15, res_main_v17, res_main_call0_v0,
    res_main_call0_call0_cst, res_main_call0_call0_v3, res_main_call1_v0, res_main_call1_call0_cst, res_main_call1_call0_v3,
    res_main_call2_v0, res_main_call2_v2, res_main_call3_v0, res_main_call3_v2, res_main_call6_v0, res_main_call6_v2,
    res_main_call6_v4]
  have hw : id (constantI S_ 32 256#32) ix0 = 256#32 := rfl
  have hz : id (constant (F := Ideal) S_ FTy.f32 0#32) ix0 = (0 : EReal) := by
    show constant (F := Ideal) S_ FTy.f32 0#32 ix0 = (0 : EReal)
    pointwise
  have hs : Scalar.select (IntOp.cmpi CmpIPredicate.eq 256#32 0#32) 1#32 256#32 = 256#32 := rfl
  have hh : h.val % 4 = h.val := by omega
  have hl : ∀ x : S4.Idx → EReal, x (ix1 h) = logit x h.val := fun x => by
    unfold logit
    congr 1
    funext a
    match a with
    | ⟨0, _⟩ => exact Fin.ext hh.symm
  have hx : ∀ (x : S32768x512.Idx → EReal) (n : Fin 16384) (d : Fin 128) (p : b.val * 16384 + n.val < 32768)
      (p' : h.val * 128 + d.val < 512), x (ix2 ⟨b.val * 16384 + n.val, p⟩ ⟨h.val * 128 + d.val, p'⟩) = head x b h n d :=
    fun x n d p p' => by
      unfold head
      congr 1
      funext a
      apply Fin.ext
      match a with
      | ⟨0, _⟩ => show b.val * 16384 + n.val = (16384 * b.val + n.val) % 32768; omega
      | ⟨1, _⟩ => show h.val * 128 + d.val = 128 * (h.val % 4) + d.val; omega
  have ht : ∀ (x : S128x4x128x128.Idx → EReal) (d : Fin 128) (p : b.val * 64 + n.val / 256 < 128),
      x (ix4 ⟨b.val * 64 + n.val / 256, p⟩ h d e) = later x b h (n.val / 256) d e := fun x d p => by
    unfold later
    congr 1
    funext a
    apply Fin.ext
    match a with
    | ⟨0, _⟩ => show b.val * 64 + n.val / 256 = (64 * b.val + n.val / 256) % 128; omega
    | ⟨1, _⟩ => exact hh.symm
    | ⟨2, _⟩ => rfl
    | ⟨3, _⟩ => rfl
  simp only [hw, hz, hs, lg_of]
  unfold retention
  refine congrArg₂ (fun a b : EReal => a + b) (Finset.sum_congr rfl fun k _ => ?_) (Finset.sum_congr rfl fun d _ => ?_)
  · refine congrArg₂ (fun a b : EReal => a * b) (hx _ k e _ _) (congrArg₂ (fun a b : EReal => a * b)
      (Finset.sum_congr rfl fun d _ => congrArg₂ (fun a b : EReal => a * b) (hx _ n d _ _) (hx _ k d _ _)) ?_)
    rw [← hl, ← hl]
    exact weight_at _ _ n k
  · refine congrArg₂ (fun a b : EReal => a * b) (ht _ d _) (congrArg₂ (fun a b : EReal => a * b) (hx _ n d _ _) ?_)
    rw [← hl]
    unfold decay
    rw [← left_eq n]
    rfl

/-- What the reference's program computes of its arguments is retention, normed and gated. -/
theorem result_eq (V0 : Valuation τ sig (Elt Ideal)) :
      truncf .bf16 (shapeCast _ (mulf (shapeCast _ (extf .f32 (V0 (Proc.devRef .tc main_arg5)) bitsLt_bf16_f32)
        shapeCasts_S32768x512_S2x16384x512) (addf (mulf (shapeCast _ (mulf (subf (res_main_v69 V0) (broadcastInDim
        S2x16384x4x128 ![0, 1, 2, 3] bcast_S2x16384x4x1_S2x16384x4x128_0_1_2_3 (res_main_v73 V0))) (broadcastInDim
        S2x16384x4x128 ![0, 1, 2, 3] bcast_S2x16384x4x1_S2x16384x4x128_0_1_2_3 (Host.rsqrt (addf (Host.divf
        (broadcastInDim S2x16384x4x1 ![0, 1, 2] bcast_S2x16384x4_S2x16384x4x1_0_1_2 (Host.reduceAdd (mulf
        (res_main_v75 V0) (res_main_v75 V0)) (constant S_ .f32 0x00000000#32) reducesTo_S2x16384x4x128_S2x16384x4_d3
        h_S_)) (broadcastInDim S2x16384x4x1 ![] bcast_S_S2x16384x4x1 (constant S_ .f32 0x43000000#32)))
        (broadcastInDim S2x16384x4x1 ![] bcast_S_S2x16384x4x1 (constant S_ .f32 0x3727C5AC#32))))))
        shapeCasts_S2x16384x4x128_S2x16384x512) (broadcastInDim S2x16384x512 ![0, 1, 2]
        bcast_S1x1x512_S2x16384x512_0_1_2 (broadcastInDim S1x1x512 ![2] bcast_S512_S1x1x512_2 (V0 (Proc.devRef .tc
        main_arg7))))) (broadcastInDim S2x16384x512 ![0, 1, 2] bcast_S1x1x512_S2x16384x512_0_1_2 (broadcastInDim
        S1x1x512 ![2] bcast_S512_S1x1x512_2 (V0 (Proc.devRef .tc main_arg8)))))) shapeCasts_S2x16384x512_S32768x512)
        bitsLt_bf16_f32
      = expected (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8)) := by
  funext i
  have hi : i = (ix2 (n0 := 32768) (n1 := 512) (i 0) (i 1) : S32768x512.Idx) := by
    funext a; match a with | ⟨0, _⟩ => rfl | ⟨1, _⟩ => rfl
  rw [hi]
  generalize i 0 = r
  generalize i 1 = q
  pointwise [res_main_v73, res_main_v75]
  simp only [mix_at]
  have hr : r.val < 32768 := r.isLt
  have hq : q.val < 512 := q.isLt
  have hg : ∀ x : S32768x512.Idx → EReal, x (ix2 r q)
      = head x (r.val / 16384) (q.val / 128) (r.val % 16384) ⟨q.val % 128, Nat.mod_lt _ (by decide)⟩ := fun x => by
    unfold head
    congr 1
    funext a
    apply Fin.ext
    match a with
    | ⟨0, _⟩ => show r.val = (16384 * (r.val / 16384) + r.val % 16384) % 32768; omega
    | ⟨1, _⟩ => show q.val = 128 * (q.val / 128 % 4) + q.val % 128; omega
  have hs : ∀ x : S512.Idx → EReal, x (ix1 q) = scale x (q.val / 128) ⟨q.val % 128, Nat.mod_lt _ (by decide)⟩ := fun x => by
    unfold scale
    congr 1
    funext a
    apply Fin.ext
    match a with
    | ⟨0, _⟩ => show q.val = 128 * (q.val / 128 % 4) + q.val % 128; omega
  exact congrArg₂ (fun a b : EReal => a * b) (hg _) (congrArg₂ (fun a b : EReal => a + b)
    (congrArg₂ (fun a b : EReal => a * b) rfl (hs _)) (hs _))

end Cert.ReferenceIdeal.Val
-- ==== Proof.RetPre.lean ====
/-
  What the precondition says of the kernel's queries, keys and values: every entry is a real number.
-/
module

public import proofs.«01_k».proof.Proof.RetRow
public import proofs.«01_k».proof.Defs
public import Idealize.ShloMosaic.Lib.ReduceAll
public import Idealize.ShloMosaic.Lib.WordArith

@[expose] public section

noncomputable section

namespace Cert.RetPre

open Cert.RetRow Idealize.ShloMosaic Idealize.ShloMosaic.TcCoe

/-- A number whose magnitude is below infinity is a real number. -/
theorem real_of_lt {x : EReal} (h : max x (-x) < ⊤) : ∃ y : ℝ, x = (y : EReal) := by
  induction x with
  | bot => simp at h
  | top => simp at h
  | coe y => exact ⟨y, rfl⟩

/-- One array passes the test: each of its entries is real. -/
theorem entry_real [Cert.Pre_finite_qkv.Facts] (x : FVec Ideal Cert.Pre_finite_qkv.S32768x512 .bf16) (j)
    (e : Host.reduce IntOp.andi
      (cmpf .olt (Host.absf (extf .f32 x Cert.Pre_finite_qkv.Facts.bitsLt_bf16_f32))
        (broadcastInDim Cert.Pre_finite_qkv.S32768x512 ![] Cert.Pre_finite_qkv.Facts.bcast_S_S32768x512
          (constant Cert.Pre_finite_qkv.S_ .f32 0x7F800000#32)))
      (constantI Cert.Pre_finite_qkv.S_ 1 1#1) Cert.Pre_finite_qkv.Facts.reducesTo_S32768x512_S_d0_1
      Cert.Pre_finite_qkv.Facts.h_S_ j = 1#1) (i) : ∃ y : ℝ, x i = (y : EReal) := by
  have h := Host.reduce_andi_all _ _ _ _ j e i
  apply real_of_lt
  have hc : BitVec.ofBool (decide (max (x i) (-(x i)) < Ideal.ofBits .f32 0x7F800000#32)) = 1#1 := h
  rw [show ∀ b : Bool, BitVec.ofBool b = 1#1 ↔ b = true by decide, decide_eq_true_iff] at hc
  rwa [show Ideal.ofBits .f32 0x7F800000#32 = ⊤ by simp [Ideal.ofBits, Ideal.ieee]] at hc

/-- Under the precondition the queries, keys and values are real. -/
theorem entries_real [Cert.Pre_finite_qkv.Facts]
    (m : (ℓ : Loc Cert.KernelIdeal.nD Cert.KernelIdeal.τ Cert.KernelIdeal.sig) → Buf (Elt Ideal) ℓ)
    (h : Pre_KernelIdeal_finite_qkv m) (c : Dev Cert.KernelIdeal.nD) :
    (∀ i, ∃ y : ℝ, m ((c.tc : Thread Cert.KernelIdeal.nD Cert.KernelIdeal.τ).loc Cert.KernelIdeal.main_arg2) i = (y : EReal))
    ∧ (∀ i, ∃ y : ℝ, m ((c.tc : Thread Cert.KernelIdeal.nD Cert.KernelIdeal.τ).loc Cert.KernelIdeal.main_arg3) i = (y : EReal))
    ∧ (∀ i, ∃ y : ℝ, m ((c.tc : Thread Cert.KernelIdeal.nD Cert.KernelIdeal.τ).loc Cert.KernelIdeal.main_arg4) i = (y : EReal)) := by
  have e := congrFun (h c) ix0
  unfold Cert.Pre_finite_qkv.fn at e
  dsimp only at e
  obtain ⟨e01, e2⟩ := IntOp.andi_eq_one.1 e
  obtain ⟨e0, e1⟩ := IntOp.andi_eq_one.1 e01
  exact ⟨entry_real _ _ e0, entry_real _ _ e1, entry_real _ _ e2⟩

/-- A head of an array of reals is real. -/
theorem head_real (x : (⟨2, ![32768, 512]⟩ : Shape).Idx → EReal) (hx : ∀ i, ∃ y : ℝ, x i = (y : EReal)) (b h : ℕ) :
    ∃ y : ℕ → Fin 128 → ℝ, head x b h = fun n d => (y n d : EReal) := by
  choose y hy using hx
  exact ⟨fun n d => y _, funext fun n => funext fun d => hy _⟩

/-- With real queries, keys and values a chunk's output is retention. -/
theorem chunk_retention (x y : EReal) (q k v : (⟨2, ![32768, 512]⟩ : Shape).Idx → EReal) (hq : ∀ i, ∃ y : ℝ, q i = (y : EReal))
    (hk : ∀ i, ∃ y : ℝ, k i = (y : EReal)) (hv : ∀ i, ∃ y : ℝ, v i = (y : EReal)) (B : ℕ → Fin 128 → Fin 128 → EReal)
    (b h n : ℕ) (hn : n < 16384) :
    chunkOut (decay x) (decay y) (head q b h) (head k b h) (head v b h) B (n / 256) (n % 256)
      = retention (decay x) (decay y) (head q b h) (head k b h) (head v b h) B n := by
  obtain ⟨q', eq⟩ := head_real q hq b h
  obtain ⟨k', ek⟩ := head_real k hk b h
  obtain ⟨v', ev⟩ := head_real v hv b h
  rw [eq, ek, ev]
  funext e
  rw [chunkOut_eq x y q' k' v' B (n / 256) (n % 256) (by omega) (by omega) e, Nat.div_add_mod]

end Cert.RetPre

end
-- ==== Proof.RetClaim.lean ====
/-
  The retention claims put together: with real queries, keys and values the chunked run of the kernel and the plain
  reference end with equal results from equal arguments.
-/
module

public import proofs.«01_k».proof.Proof.RetArray
public import proofs.«01_k».proof.Proof.RetReference
public import proofs.«01_k».proof.Proof.RetPre
public import proofs.«01_k».proof.Proof.Gen.Kernel.Frame

@[expose] public section

noncomputable section

namespace Cert.Proof.RetClaim

open Cert.RetRow Idealize.ShloMosaic Idealize.ShloMosaic.TcCoe Idealize.SL.Sem

theorem frameKernel : Cert.quiescent_Kernel := fun m ρ _ => Cert.Kernel.Gen.frame m ρ
theorem frameIdeal : Cert.quiescent_KernelIdeal := fun m ρ _ => Cert.KernelIdeal.Gen.frame m ρ

/-- The reference is a run of host operations: its arguments stay, and it declares no semaphore. -/
theorem frameReference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section

variable [Cert.Pre_finite_qkv.Facts]

theorem frameIdealPre : Cert.quiescent_KernelIdeal_pre_finite_qkv := fun m ρ _ => Cert.KernelIdeal.Gen.frame m ρ
theorem frameReferencePre : Cert.quiescent_ReferenceIdeal_pre_finite_qkv := fun m ρ _ => frameReference m ρ trivial

/-- With real queries, keys and values the kernel's result is the reference's function of the arguments. -/
theorem result_expected (m : (ℓ : Loc Cert.KernelIdeal.nD Cert.KernelIdeal.τ Cert.KernelIdeal.sig) → Buf (Elt Ideal) ℓ)
    (h : Pre_KernelIdeal_finite_qkv m) (c : Dev Cert.KernelIdeal.nD) :
    Cert.KernelIdeal.Val.result m c
      = expected (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  obtain ⟨hq, hk, hv⟩ := Cert.RetPre.entries_real m h c
  funext i
  unfold Cert.KernelIdeal.Val.result Cert.KernelIdeal.Val.outRow Cert.KernelIdeal.Val.fwd Cert.KernelIdeal.Val.bwd expected
  rw [Cert.RetPre.chunk_retention _ _ _ _ _ hq hk hv _ _ _ _ (Nat.mod_lt _ (by decide))]

/-- Both runs end at retention, normed and gated. -/
theorem algebraic : Cert.algebraic_KernelIdeal_ReferenceIdeal_pre_finite_qkv := fun m ρ m' ρ' hpre hag =>
  ⟨fun c => Cert.KernelIdeal.Val.result m c,
    (θ_run Cert.KernelIdeal.defs _ _).mono
      (fun _ h c => ⟨(h c).1.trans (Cert.KernelIdeal.Val.final m c), (h c).2⟩)
      (Cert.KernelIdeal.Value.run_blocks m ρ),
    (θ_run Cert.ReferenceIdeal.defs _ _).mono
      (fun _ h c => ⟨(h c).1.trans ((Cert.ReferenceIdeal.Val.result_eq _).trans (by
        obtain ⟨e0, e1, e2, e3, e4, e5, e6, e7, e8⟩ := hag c
        show expected (m' ((c : Thread Cert.ReferenceIdeal.nD Cert.ReferenceIdeal.τ).loc Cert.ReferenceIdeal.main_arg0))
            (m' ((c : Thread Cert.ReferenceIdeal.nD Cert.ReferenceIdeal.τ).loc Cert.ReferenceIdeal.main_arg1))
            (m' ((c : Thread Cert.ReferenceIdeal.nD Cert.ReferenceIdeal.τ).loc Cert.ReferenceIdeal.main_arg2))
            (m' ((c : Thread Cert.ReferenceIdeal.nD Cert.ReferenceIdeal.τ).loc Cert.ReferenceIdeal.main_arg3))
            (m' ((c : Thread Cert.ReferenceIdeal.nD Cert.ReferenceIdeal.τ).loc Cert.ReferenceIdeal.main_arg4))
            (m' ((c : Thread Cert.ReferenceIdeal.nD Cert.ReferenceIdeal.τ).loc Cert.ReferenceIdeal.main_arg5))
            (m' ((c : Thread Cert.ReferenceIdeal.nD Cert.ReferenceIdeal.τ).loc Cert.ReferenceIdeal.main_arg6))
            (m' ((c : Thread Cert.ReferenceIdeal.nD Cert.ReferenceIdeal.τ).loc Cert.ReferenceIdeal.main_arg7))
            (m' ((c : Thread Cert.ReferenceIdeal.nD Cert.ReferenceIdeal.τ).loc Cert.ReferenceIdeal.main_arg8)) = Cert.KernelIdeal.Val.result m c
        rw [e0, e1, e2, e3, e4, e5, e6, e7, e8]
        exact (result_expected m hpre c).symm)), (h c).2⟩)
      (Cert.ReferenceIdeal.Value.run (F := Ideal) m' ρ')⟩

end

end Cert.Proof.RetClaim

end
-- ==== Proof.ProjRow.lean ====
/-
  The input projection's mathematics, row by row: the mixers' columns of a projected row, the tanh form of the gaussian
  error unit, the norm and the gating of the spatial unit, the rotary embedding, and the state of retention over the rows
  after a block. Everything is a function of `H r c`, the projection at row `r` and column `c`, so that a block of rows and
  the whole array are described by the same words.
-/
module

public import proofs.«01_k».proof.Proof.RetRow
public import Idealize.ShloMosaic.Lib.WordArith

@[expose] public section

set_option maxRecDepth 16384

noncomputable section

open scoped BigOperators

namespace Cert.ProjRow

open Idealize.ShloMosaic

/-- The gaussian error unit in its tanh form, in the order the reference multiplies. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * ((z * z) * z)))))

/-- The same unit in the order the kernel multiplies. -/
theorem gelu_eq (z : EReal) :
    (Ideal.ofBits .f32 0x3F000000#32 * z) * (Ideal.ofBits .f32 0x3F800000#32
      + Ideal.tanh (Ideal.ofBits .f32 0x3F4C422A#32 * (z + Ideal.ofBits .f32 0x3D372713#32 * ((z * z) * z)))) = gelu z := by
  unfold gelu
  rw [mul_comm (Ideal.ofBits .f32 0x3F000000#32) z, mul_assoc]

/-- The mean of a row of 512. -/
def rowMean (v : Fin 512 → EReal) : EReal := Ideal.div (∑ k : Fin 512, v k) (Ideal.ofBits .f32 0x44000000#32)

/-- The layer norm of a row of 512. -/
def rowNorm (v g b : Fin 512 → EReal) (c : Fin 512) : EReal :=
  (v c - rowMean v)
    * Ideal.rsqrt (Ideal.div (∑ k : Fin 512, (v k - rowMean v) * (v k - rowMean v)) (Ideal.ofBits .f32 0x44000000#32)
        + Ideal.ofBits .f32 0x3727C5AC#32) * g c + b c

/-- The spatial gating unit at row `r`, column `c`: the rows of `r`'s group of 128, normed, mixed and gated. -/
def spatial (H : ℕ → ℕ → EReal) (g b : Fin 512 → EReal) (w : ℕ → ℕ → Fin 128 → EReal) (s : ℕ → ℕ → EReal) (r : ℕ)
    (c : Fin 512) : EReal :=
  gelu (H r (3072 + c)) * ((∑ j : Fin 128, w (c.val / 128) (r % 128) j
    * rowNorm (fun k => gelu (H (128 * (r / 128) + j) (3584 + k))) g b c) + s (c.val / 128) (r % 128))

/-- The angle of position `p` at frequency `j` of 64. -/
def angle (p j : ℕ) : EReal :=
  ((p : ℝ) : EReal) * Ideal.pow (Ideal.ofBits .f32 0x461C4000#32) (Ideal.div (-((j : ℝ) : EReal)) (Ideal.ofBits .f32 0x42800000#32))

/-- The rotary embedding at position `p` of the head of row `r` that begins at column `o`. -/
def rotary (H : ℕ → ℕ → EReal) (r p o c : ℕ) : EReal :=
  if c < 64 then H r (o + c) * Ideal.cos (angle p c) - H r (o + (c + 64)) * Ideal.sin (angle p c)
  else H r (o + (c - 64)) * Ideal.sin (angle p (c - 64)) + H r (o + c) * Ideal.cos (angle p (c - 64))

/-- The gated branch's unit. -/
def silu (z : EReal) : EReal := z * Ideal.logistic z

/-- The state of retention behind block `j`: the rows from `256 (j + 1)` on, each decayed by its distance. -/
def behind (γ : ℕ → EReal) (K V : ℕ → Fin 128 → EReal) (j : ℕ) (d e : Fin 128) : EReal :=
  ∑ m : Fin 16384, (K m d * V m e) * if 256 * (j + 1) ≤ m.val then γ (m.val - 256 * (j + 1)) else 0

/-- A small number's word, read back as a real. -/
theorem toInt_word (n : ℕ) (h : n < 2 ^ 31) : (BitVec.ofNat 32 n).toInt = n := by
  rw [BitVec.toInt_eq_toNat_of_lt (by rw [BitVec.toNat_ofNat]; omega), BitVec.toNat_ofNat]
  omega

theorem real_word (n : ℕ) (h : n < 2 ^ 31) : (((BitVec.ofNat 32 n).toInt : ℝ) : EReal) = ((n : ℝ) : EReal) := by
  rw [toInt_word n h]; simp

/-- The distance of two small numbers' words, read as an integer. -/
theorem toInt_diff (n k : ℕ) (hn : n < 2 ^ 30) (hk : k < 2 ^ 30) :
    (IntOp.subi (BitVec.ofNat 32 n) (BitVec.ofNat 32 k)).toInt = (n : ℤ) - k := by
  show (BitVec.ofNat 32 n - BitVec.ofNat 32 k).toInt = _
  rw [BitVec.toInt_sub, toInt_word _ (by omega), toInt_word _ (by omega), Int.bmod_def]
  split_ifs <;> omega

/-- The masked decay of row `m` for the state behind block `j`, as the words give it. -/
theorem masked_decay (x : EReal) (n k : ℕ) (hn : n < 2 ^ 30) (hk : k < 2 ^ 30) :
    Scalar.select (IntOp.cmpi CmpIPredicate.sge (IntOp.subi (BitVec.ofNat 32 n) (BitVec.ofNat 32 k)) 0#32)
        (Ideal.exp ((((IntOp.subi (BitVec.ofNat 32 n) (BitVec.ofNat 32 k)).toInt : ℝ) : EReal) * RetRow.lg x)) (0 : EReal)
      = if k ≤ n then RetRow.decay x (n - k) else 0 := by
  unfold IntOp.cmpi
  simp only [BitVec.sle, toInt_diff n k hn hk]
  by_cases h : k ≤ n
  · have e : ((0#32 : BitVec 32).toInt ≤ (n : ℤ) - k) := by
      show (0 : ℤ) ≤ _
      omega
    rw [if_pos h, decide_eq_true e, Int.cast_sub, Int.cast_natCast, Int.cast_natCast]
    unfold RetRow.decay
    rw [Nat.cast_sub h]
    rfl
  · have e : ¬((0#32 : BitVec 32).toInt ≤ (n : ℤ) - k) := by
      show ¬((0 : ℤ) ≤ _)
      omega
    rw [if_neg h, decide_eq_false e]
    rfl

/-- The first row behind block `j`, as the words give it. -/
theorem first_word : ∀ j : Fin 64,
    IntOp.muli 256#32 (IntOp.addi (BitVec.ofNat 32 j.val) 1#32) = BitVec.ofNat 32 (256 * (j.val + 1)) := by
  decide +kernel

/-- The logarithm of the logistic function, as a plain program spells it. -/
theorem lg_plain (x : EReal) [Decidable (-x ≠ -x)] :
    (-if -x ≠ -x then -x else max (-x) 0 + Ideal.log1p (Ideal.exp (-FloatOps.absf (F := Ideal) (φ := .f32) (-x))) : EReal)
      = RetRow.lg x := by
  rw [if_neg (fun a => a rfl), ← RetRow.lg_eq x]
  show -(max (-x) 0 + Ideal.log1p (Ideal.exp (-(max (-x) (- -x))))) = _
  rw [neg_neg]

/-- The projection of a row of the input: `x · w + b` with the first layer's weights. -/
def hid (x : (⟨2, ![32768, 1024]⟩ : Shape).Idx → EReal) (w : (⟨3, ![2, 1024, 6656]⟩ : Shape).Idx → EReal)
    (b : (⟨2, ![2, 6656]⟩ : Shape).Idx → EReal) (r c : ℕ) : EReal :=
  (∑ k : Fin 1024, x (ix2 ⟨r % 32768, Nat.mod_lt _ (by decide)⟩ k) * w (ix3 0 k ⟨c % 6656, Nat.mod_lt _ (by decide)⟩))
    + b (ix2 0 ⟨c % 6656, Nat.mod_lt _ (by decide)⟩)

/-- A head's logit. -/
def logit (x : (⟨1, ![4]⟩ : Shape).Idx → EReal) (h : ℕ) : EReal := x (ix1 ⟨h % 4, Nat.mod_lt _ (by decide)⟩)

/-- The first layer's scale or shift of the spatial unit's norm. -/
def vec (g : (⟨2, ![2, 512]⟩ : Shape).Idx → EReal) (c : Fin 512) : EReal := g (ix2 0 c)

/-- The first layer's mixing weights. -/
def mixW (w : (⟨4, ![2, 4, 128, 128]⟩ : Shape).Idx → EReal) (g i : ℕ) (j : Fin 128) : EReal :=
  w (ix4 0 ⟨g % 4, Nat.mod_lt _ (by decide)⟩ ⟨i % 128, Nat.mod_lt _ (by decide)⟩ j)

/-- The first layer's mixing biases. -/
def mixB (s : (⟨3, ![2, 4, 128]⟩ : Shape).Idx → EReal) (g i : ℕ) : EReal :=
  s (ix3 0 ⟨g % 4, Nat.mod_lt _ (by decide)⟩ ⟨i % 128, Nat.mod_lt _ (by decide)⟩)

section results

variable (H : ℕ → ℕ → EReal)

/-- The results, each as a function of the projection: gates, spatial unit, queries, keys, values, retention's gate, the
    Fourier columns, and the state behind every block of 256 rows. Row `r` is position `r mod 16384` of its sequence. -/
def gatesR : (⟨2, ![32768, 3072]⟩ : Shape).Idx → EReal := fun i => Ideal.logistic (H (i 0).val (i 1).val)

def spatialR (g b : (⟨2, ![2, 512]⟩ : Shape).Idx → EReal) (w : (⟨4, ![2, 4, 128, 128]⟩ : Shape).Idx → EReal)
    (s : (⟨3, ![2, 4, 128]⟩ : Shape).Idx → EReal) : (⟨2, ![32768, 512]⟩ : Shape).Idx → EReal := fun i =>
  spatial H (vec g) (vec b) (mixW w) (mixB s) (i 0).val (i 1)

def queriesR : (⟨2, ![32768, 512]⟩ : Shape).Idx → EReal := fun i =>
  rotary H (i 0).val ((i 0).val % 16384) (4096 + 128 * ((i 1).val / 128)) ((i 1).val % 128) * Ideal.ofBits .f32 0x3DB504F3#32

def keysR : (⟨2, ![32768, 512]⟩ : Shape).Idx → EReal := fun i =>
  rotary H (i 0).val ((i 0).val % 16384) (4608 + 128 * ((i 1).val / 128)) ((i 1).val % 128)

def valuesR : (⟨2, ![32768, 512]⟩ : Shape).Idx → EReal := fun i => H (i 0).val (5120 + (i 1).val)

def gateR : (⟨2, ![32768, 512]⟩ : Shape).Idx → EReal := fun i => silu (H (i 0).val (5632 + (i 1).val))

def fourierR : (⟨6, ![4, 2, 16, 128, 8, 128]⟩ : Shape).Idx → EReal := fun i =>
  H (16384 * (i 1).val + 128 * (i 3).val + 8 * (i 2).val + (i 4).val) (6144 + 128 * (i 0).val + (i 5).val)

def stateR (lb : (⟨1, ![4]⟩ : Shape).Idx → EReal) : (⟨4, ![128, 4, 128, 128]⟩ : Shape).Idx → EReal := fun i =>
  behind (RetRow.decay (logit lb (i 1).val))
    (fun m d => rotary H (16384 * ((i 0).val / 64) + m) m (4608 + 128 * (i 1).val) d)
    (fun m e => H (16384 * ((i 0).val / 64) + m) (5120 + 128 * (i 1).val + e)) ((i 0).val % 64) (i 2) (i 3)

end results

end Cert.ProjRow

end
-- ==== Proof.ProjPay.lean ====
/-
  The values the input projection's kernel stores, each read at an index: a slice of the projection, its gaussian error unit,
  the norm and mixing of the spatial unit, the rotated queries and keys, the state's step and the decay tables.
-/
module

public import proofs.«01_k».proof.Proof.Gen.KernelProjIdeal.Value
public import Idealize.ShloMosaic.Lib.Pointwise
public import proofs.«01_k».proof.Proof.ProjRow

@[expose] public section

set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

/-- A slice of 1024 columns of the projection, from the slices of the weights and the bias. -/
def lin (x : Vec Ideal S512x1024 .f32) (w : Vec Ideal S1x1024x1024 .bf16) (b : Vec Ideal S1x1024 .f32) (r : Fin 512)
    (c : Fin 1024) : EReal := (∑ k : Fin 1024, x (ix2 r k) * w (ix3 0 k c)) + b (ix2 0 c)

/-- A slice of 512 columns. -/
def lin' (x : Vec Ideal S512x1024 .f32) (w : Vec Ideal S1x1024x512 .bf16) (b : Vec Ideal S1x512 .f32) (r c : Fin 512) :
    EReal := (∑ k : Fin 1024, x (ix2 r k) * w (ix3 0 k c)) + b (ix2 0 c)

/-- The rounding of the input block to half precision keeps every value. -/
theorem pay18_eq (x : Vec Ideal S512x1024 .f32) : k0_pay18 x = x := by
  unfold k0_pay18
  simp only [shapeCast_self]
  rfl

section slices

variable (x : Vec Ideal S512x1024 .f32) (w : Vec Ideal S1x1024x1024 .bf16) (b : Vec Ideal S1x1024 .f32)

theorem pay19_at (r : Fin 512) (c : Fin 1024) : k0_pay19 x w b (ix2 r c) = gelu (lin x w b r c) := by
  rw [← gelu_eq]
  unfold lin
  pointwise [k0_pay19]

theorem pay24_at (r : Fin 512) (c : Fin 1024) : k0_pay24 x w b (ix2 r c) = Ideal.logistic (lin x w b r c) := by
  unfold lin
  pointwise [k0_pay24]

theorem pay30_at (r : Fin 512) (c : Fin 1024) : k0_pay30 x w b (ix2 r c) = lin x w b r c := by
  unfold lin
  pointwise [k0_pay30]

theorem pay31_at (r : Fin 512) (c : Fin 1024) : k0_pay31 x w b (ix2 r c) = lin x w b r c := pay30_at x w b r c

theorem pay20_at (r c : Fin 512) : k0_pay20 x w b (ix2 r c) = gelu (lin x w b r ⟨c.val, by omega⟩) := by
  refine Eq.trans ?_ (pay19_at x w b r ⟨c.val, by omega⟩)
  pointwise [k0_pay20]

theorem pay21_at (r c : Fin 512) : k0_pay21 x w b (ix2 r c) = gelu (lin x w b r ⟨512 + c.val, by omega⟩) := by
  refine Eq.trans ?_ (pay19_at x w b r ⟨512 + c.val, by omega⟩)
  pointwise [k0_pay21]

theorem pay33_at (r c : Fin 512) : k0_pay33 x w b (ix2 r c) = lin x w b r ⟨c.val, by omega⟩ := by
  refine Eq.trans ?_ (pay31_at x w b r ⟨c.val, by omega⟩)
  pointwise [k0_pay33]

theorem pay34_at (r c : Fin 512) : k0_pay34 x w b (ix2 r c) = silu (lin x w b r ⟨512 + c.val, by omega⟩) := by
  unfold silu
  rw [← pay31_at x w b r ⟨512 + c.val, by omega⟩]
  pointwise [k0_pay34]

theorem pay26_eq : k0_pay26 (k0_pay25 x w) b = k0_pay24 x w b := rfl

theorem pay27_eq : k0_pay27 x w b = k0_pay24 x w b := rfl

end slices

theorem pay32_at (x : Vec Ideal S512x1024 .f32) (w : Vec Ideal S1x1024x512 .bf16) (b : Vec Ideal S1x512 .f32) (r c : Fin 512) :
    k0_pay32 x w b (ix2 r c) = lin' x w b r c := by
  unfold lin'
  pointwise [k0_pay32]

/-- The norm of the spatial unit. -/
theorem pay23_at (v : Vec Ideal S512x512 .f32) (g b : Vec Ideal S1x512 .f32) (r c : Fin 512) :
    k0_pay23 v (k0_pay22 g) b (ix2 r c)
      = rowNorm (fun k => v (ix2 r k)) (fun k => g (ix2 0 k)) (fun k => b (ix2 0 k)) c := by
  unfold rowNorm rowMean
  pointwise [k0_pay23, k0_pay22]

/-- The rotation of a head's columns at `o`: the two halves change places for the second product. -/
def rot (v : Vec Ideal S512x1024 .f32) (cs sn : Vec Ideal S512x128 .f32) (o : ℕ) (ho : o + 128 ≤ 1024) (r : Fin 512)
    (c : Fin 128) : EReal :=
  v (ix2 r ⟨o + c.val, by omega⟩) * cs (ix2 r c)
    + v (ix2 r ⟨o + (c.val + 128 - 64) % 128, by omega⟩) * sn (ix2 r c)

section heads

variable (cs sn : Vec Ideal S512x128 .f32) (v : Vec Ideal S512x1024 .f32)

/-- Head 0's queries and keys. -/
theorem query0_at (r : Fin 512) (c : Fin 128) :
    k0_pay35 (k0_pay28 cs) (k0_pay29 sn) v (ix2 r c)
      = rot v cs sn 0 (by decide) r c * Ideal.ofBits .f32 0x3DB504F3#32 := by
  unfold rot
  pointwise [k0_pay35, k0_pay28, k0_pay29]

theorem key0_at (r : Fin 512) (c : Fin 128) :
    k0_pay38 (k0_pay29 sn) (k0_pay36 v) (k0_pay37 (k0_pay28 cs) v) 64#32 (ix2 r c) = rot v cs sn 512 (by decide) r c := by
  unfold rot
  pointwise [k0_pay38, k0_pay29, k0_pay36, k0_pay37, k0_pay28]

/-- Head 1's queries and keys. -/
theorem query1_at (r : Fin 512) (c : Fin 128) :
    k0_pay45 (k0_pay28 cs) (k0_pay29 sn) v (ix2 r c)
      = rot v cs sn 128 (by decide) r c * Ideal.ofBits .f32 0x3DB504F3#32 := by
  unfold rot
  pointwise [k0_pay45, k0_pay28, k0_pay29]

theorem key1_at (r : Fin 512) (c : Fin 128) :
    k0_pay46 (k0_pay28 cs) (k0_pay29 sn) v (ix2 r c) = rot v cs sn 640 (by decide) r c := by
  unfold rot
  pointwise [k0_pay46, k0_pay28, k0_pay29]

/-- Head 2's queries and keys. -/
theorem query2_at (r : Fin 512) (c : Fin 128) :
    k0_pay54 (k0_pay53 (k0_pay28 cs) (k0_pay29 sn) v) (FloatOps.ofBits FTy.f32 0x3DB504F3#32) (ix2 r c)
      = rot v cs sn 256 (by decide) r c * Ideal.ofBits .f32 0x3DB504F3#32 := by
  unfold rot
  pointwise [k0_pay54, k0_pay53, k0_pay28, k0_pay29]

theorem key2_at (r : Fin 512) (c : Fin 128) :
    k0_pay55 (k0_pay28 cs) (k0_pay29 sn) v (ix2 r c) = rot v cs sn 768 (by decide) r c := by
  unfold rot
  pointwise [k0_pay55, k0_pay28, k0_pay29]

/-- Head 3's queries and keys. -/
theorem query3_at (r : Fin 512) (c : Fin 128) :
    k0_pay61 (k0_pay28 cs) (k0_pay29 sn) v (ix2 r c)
      = rot v cs sn 384 (by decide) r c * Ideal.ofBits .f32 0x3DB504F3#32 := by
  unfold rot
  pointwise [k0_pay61, k0_pay28, k0_pay29]

theorem key3_at (r : Fin 512) (c : Fin 128) :
    k0_pay62 (k0_pay28 cs) (k0_pay29 sn) v (ix2 r c) = rot v cs sn 896 (by decide) r c := by
  unfold rot
  pointwise [k0_pay62, k0_pay28, k0_pay29]

end heads

/-- A head's state after the 256 rows at `r0`, from the state before them; the head's values are the columns at `o`. -/
def stepAt (k : Vec Ideal S512x128 .bf16) (v : Vec Ideal S512x512 .bf16) (kd : Vec Ideal S1x256x128 .f32)
    (cd : Vec Ideal S1x128x128 .f32) (st : Fin 128 → Fin 128 → EReal) (r0 o : ℕ) (hr : r0 + 256 ≤ 512) (ho : o + 128 ≤ 512)
    (d e : Fin 128) : EReal :=
  cd (ix3 0 d e) * st d e
    + ∑ i : Fin 256, (k (ix2 ⟨r0 + i.val, by omega⟩ d) * kd (ix3 0 i d)) * v (ix2 ⟨r0 + i.val, by omega⟩ ⟨o + e.val, by omega⟩)

section state

variable (cs sn : Vec Ideal S512x128 .f32) (q : Vec Ideal S512x1024 .f32) (v : Vec Ideal S512x512 .bf16)
  (st cd : Vec Ideal S1x128x128 .f32) (kd : Vec Ideal S1x256x128 .f32) (d e : Fin 128)

/-- What is stored as the state behind the later rows is the carried state. -/
theorem pay40_at : k0_pay40 st (ix4 0 0 d e) = st (ix3 0 d e) := by
  pointwise [k0_pay40, k0_pay39]

theorem pay48_at : k0_pay48 st (ix4 0 0 d e) = st (ix3 0 d e) := pay40_at st d e

theorem pay57_at : k0_pay57 st (ix4 0 0 d e) = st (ix3 0 d e) := pay40_at st d e

theorem pay65_at : k0_pay65 (k0_pay64 st) (ix4 0 0 d e) = st (ix3 0 d e) := pay40_at st d e

/-- Head 0's state after the later 256 rows, as it is stored for the other direction, and after all 512 rows. -/
theorem half0_at : k0_pay41 (k0_pay29 sn) v (k0_pay36 q) (k0_pay37 (k0_pay28 cs) q) 64#32 st kd cd (ix2 d e)
    = stepAt (k0_pay38 (k0_pay29 sn) (k0_pay36 q) (k0_pay37 (k0_pay28 cs) q) 64#32) v kd cd (fun d e => st (ix3 0 d e)) 256 0 (by decide) (by decide) d e := by
  unfold stepAt
  pointwise [k0_pay41, k0_pay39]

theorem stored0_at : k0_pay42 (k0_pay29 sn) v (k0_pay36 q) (k0_pay37 (k0_pay28 cs) q) 64#32 st kd cd (ix4 0 0 d e)
    = stepAt (k0_pay38 (k0_pay29 sn) (k0_pay36 q) (k0_pay37 (k0_pay28 cs) q) 64#32) v kd cd (fun d e => st (ix3 0 d e)) 256 0 (by decide) (by decide) d e := by
  refine Eq.trans ?_ (half0_at cs sn q v st cd kd d e)
  pointwise [k0_pay42]

theorem full0_at : k0_pay44 v (k0_pay41 (k0_pay29 sn) v (k0_pay36 q) (k0_pay37 (k0_pay28 cs) q) 64#32 st kd cd) (k0_pay43 (k0_pay29 sn) (k0_pay36 q) (k0_pay37 (k0_pay28 cs) q) 64#32 kd) cd (ix3 0 d e)
    = stepAt (k0_pay38 (k0_pay29 sn) (k0_pay36 q) (k0_pay37 (k0_pay28 cs) q) 64#32) v kd cd
        (stepAt (k0_pay38 (k0_pay29 sn) (k0_pay36 q) (k0_pay37 (k0_pay28 cs) q) 64#32) v kd cd (fun d e => st (ix3 0 d e)) 256 0 (by decide) (by decide)) 0 0 (by decide) (by decide) d e := by
  have e2 : stepAt (k0_pay38 (k0_pay29 sn) (k0_pay36 q) (k0_pay37 (k0_pay28 cs) q) 64#32) v kd cd (fun d e => st (ix3 0 d e)) 256 0 (by decide) (by decide)
      = fun d e => k0_pay41 (k0_pay29 sn) v (k0_pay36 q) (k0_pay37 (k0_pay28 cs) q) 64#32 st kd cd (ix2 d e) :=
    funext fun d => funext fun e => (half0_at cs sn q v st cd kd d e).symm
  rw [e2]
  unfold stepAt
  pointwise [k0_pay44, k0_pay43]

/-- Head 1's state after the later 256 rows, as it is stored for the other direction, and after all 512 rows. -/
theorem half1_at : k0_pay50 v (k0_pay47 st) (k0_pay49 (k0_pay28 cs) (k0_pay29 sn) q) kd cd (ix2 d e)
    = stepAt (k0_pay46 (k0_pay28 cs) (k0_pay29 sn) q) v kd cd (fun d e => st (ix3 0 d e)) 256 128 (by decide) (by decide) d e := by
  unfold stepAt
  pointwise [k0_pay50, k0_pay47, k0_pay49]

theorem stored1_at : k0_pay51 v (k0_pay47 st) (k0_pay49 (k0_pay28 cs) (k0_pay29 sn) q) kd cd (ix4 0 0 d e)
    = stepAt (k0_pay46 (k0_pay28 cs) (k0_pay29 sn) q) v kd cd (fun d e => st (ix3 0 d e)) 256 128 (by decide) (by decide) d e := by
  refine Eq.trans ?_ (half1_at cs sn q v st cd kd d e)
  pointwise [k0_pay51]

theorem full1_at : k0_pay52 v (k0_pay46 (k0_pay28 cs) (k0_pay29 sn) q) (k0_pay47 st) (k0_pay49 (k0_pay28 cs) (k0_pay29 sn) q) kd cd kd cd (ix3 0 d e)
    = stepAt (k0_pay46 (k0_pay28 cs) (k0_pay29 sn) q) v kd cd
        (stepAt (k0_pay46 (k0_pay28 cs) (k0_pay29 sn) q) v kd cd (fun d e => st (ix3 0 d e)) 256 128 (by decide) (by decide)) 0 128 (by decide) (by decide) d e := by
  have e2 : stepAt (k0_pay46 (k0_pay28 cs) (k0_pay29 sn) q) v kd cd (fun d e => st (ix3 0 d e)) 256 128 (by decide) (by decide)
      = fun d e => k0_pay50 v (k0_pay47 st) (k0_pay49 (k0_pay28 cs) (k0_pay29 sn) q) kd cd (ix2 d e) :=
    funext fun d => funext fun e => (half1_at cs sn q v st cd kd d e).symm
  rw [e2]
  unfold stepAt
  pointwise [k0_pay52]

/-- Head 2's state after the later 256 rows, as it is stored for the other direction, and after all 512 rows. -/
theorem half2_at : k0_pay58 (k0_pay28 cs) (k0_pay29 sn) q v st kd cd (ix2 d e)
    = stepAt (k0_pay55 (k0_pay28 cs) (k0_pay29 sn) q) v kd cd (fun d e => st (ix3 0 d e)) 256 256 (by decide) (by decide) d e := by
  unfold stepAt
  pointwise [k0_pay58, k0_pay56]

theorem stored2_at : k0_pay59 (k0_pay28 cs) (k0_pay29 sn) q v st kd cd (ix4 0 0 d e)
    = stepAt (k0_pay55 (k0_pay28 cs) (k0_pay29 sn) q) v kd cd (fun d e => st (ix3 0 d e)) 256 256 (by decide) (by decide) d e := by
  refine Eq.trans ?_ (half2_at cs sn q v st cd kd d e)
  pointwise [k0_pay59]

theorem full2_at : k0_pay60 v (k0_pay55 (k0_pay28 cs) (k0_pay29 sn) q) (k0_pay58 (k0_pay28 cs) (k0_pay29 sn) q v st kd cd) kd cd (ix3 0 d e)
    = stepAt (k0_pay55 (k0_pay28 cs) (k0_pay29 sn) q) v kd cd
        (stepAt (k0_pay55 (k0_pay28 cs) (k0_pay29 sn) q) v kd cd (fun d e => st (ix3 0 d e)) 256 256 (by decide) (by decide)) 0 256 (by decide) (by decide) d e := by
  have e2 : stepAt (k0_pay55 (k0_pay28 cs) (k0_pay29 sn) q) v kd cd (fun d e => st (ix3 0 d e)) 256 256 (by decide) (by decide)
      = fun d e => k0_pay58 (k0_pay28 cs) (k0_pay29 sn) q v st kd cd (ix2 d e) :=
    funext fun d => funext fun e => (half2_at cs sn q v st cd kd d e).symm
  rw [e2]
  unfold stepAt
  pointwise [k0_pay60]

/-- Head 3's state after the later 256 rows, as it is stored for the other direction, and after all 512 rows. -/
theorem half3_at : k0_pay66 v (k0_pay62 (k0_pay28 cs) (k0_pay29 sn) q) (k0_pay63 st) kd cd (ix2 d e)
    = stepAt (k0_pay62 (k0_pay28 cs) (k0_pay29 sn) q) v kd cd (fun d e => st (ix3 0 d e)) 256 384 (by decide) (by decide) d e := by
  unfold stepAt
  pointwise [k0_pay66, k0_pay63]

theorem stored3_at : k0_pay67 v (k0_pay62 (k0_pay28 cs) (k0_pay29 sn) q) (k0_pay63 st) kd cd (ix4 0 0 d e)
    = stepAt (k0_pay62 (k0_pay28 cs) (k0_pay29 sn) q) v kd cd (fun d e => st (ix3 0 d e)) 256 384 (by decide) (by decide) d e := by
  refine Eq.trans ?_ (half3_at cs sn q v st cd kd d e)
  pointwise [k0_pay67]

theorem full3_at : k0_pay69 (k0_pay68 v (k0_pay62 (k0_pay28 cs) (k0_pay29 sn) q) (k0_pay63 st) kd cd kd cd) (ix3 0 d e)
    = stepAt (k0_pay62 (k0_pay28 cs) (k0_pay29 sn) q) v kd cd
        (stepAt (k0_pay62 (k0_pay28 cs) (k0_pay29 sn) q) v kd cd (fun d e => st (ix3 0 d e)) 256 384 (by decide) (by decide)) 0 384 (by decide) (by decide) d e := by
  have e2 : stepAt (k0_pay62 (k0_pay28 cs) (k0_pay29 sn) q) v kd cd (fun d e => st (ix3 0 d e)) 256 384 (by decide) (by decide)
      = fun d e => k0_pay66 v (k0_pay62 (k0_pay28 cs) (k0_pay29 sn) q) (k0_pay63 st) kd cd (ix2 d e) :=
    funext fun d => funext fun e => (half3_at cs sn q v st cd kd d e).symm
  rw [e2]
  unfold stepAt
  pointwise [k0_pay69, k0_pay68]

end state

/-- The Fourier columns of group `g` and sequence position block `m`, by sublane. -/
def planeAt (z : Vec Ideal S512x512 .f32) (g m : ℕ) (hg : g < 4) (hm : m < 4) (n : Fin 16) (t : Fin 8) (d : Fin 128) : EReal :=
  z (ix2 ⟨128 * m + (n.val * 8 + t.val), by omega⟩ ⟨128 * g + d.val, by omega⟩)

section planes

variable (z : Vec Ideal S512x512 .f32) (n : Fin 16) (t : Fin 8) (d : Fin 128)

theorem plane00_at : (k0_pay71 z : FVec Ideal S1x1x16x1x8x128 .bf16) (ix6 0 0 n 0 t d)
    = planeAt z 0 0 (by decide) (by decide) n t d := by
  unfold planeAt
  pointwise [k0_pay71, k0_pay70]

theorem plane01_at : (k0_pay72 z : FVec Ideal S1x1x16x1x8x128 .bf16) (ix6 0 0 n 0 t d)
    = planeAt z 0 1 (by decide) (by decide) n t d := by
  unfold planeAt
  pointwise [k0_pay72, k0_pay70]

theorem plane02_at : (k0_pay73 z : FVec Ideal S1x1x16x1x8x128 .bf16) (ix6 0 0 n 0 t d)
    = planeAt z 0 2 (by decide) (by decide) n t d := by
  unfold planeAt
  pointwise [k0_pay73, k0_pay70]

theorem plane03_at : (k0_pay74 z : FVec Ideal S1x1x16x1x8x128 .bf16) (ix6 0 0 n 0 t d)
    = planeAt z 0 3 (by decide) (by decide) n t d := by
  unfold planeAt
  pointwise [k0_pay74, k0_pay70]

theorem plane10_at : (k0_pay77 (k0_pay76 z) : FVec Ideal S1x1x16x1x8x128 .bf16) (ix6 0 0 n 0 t d)
    = planeAt z 1 0 (by decide) (by decide) n t d := by
  unfold planeAt
  pointwise [k0_pay77, k0_pay76, k0_pay75]

theorem plane11_at : (k0_pay78 (k0_pay75 z) : FVec Ideal S1x1x16x1x8x128 .bf16) (ix6 0 0 n 0 t d)
    = planeAt z 1 1 (by decide) (by decide) n t d := by
  unfold planeAt
  pointwise [k0_pay78, k0_pay75]

theorem plane12_at : (k0_pay79 (k0_pay75 z) : FVec Ideal S1x1x16x1x8x128 .bf16) (ix6 0 0 n 0 t d)
    = planeAt z 1 2 (by decide) (by decide) n t d := by
  unfold planeAt
  pointwise [k0_pay79, k0_pay75]

theorem plane13_at : (k0_pay80 (k0_pay75 z) : FVec Ideal S1x1x16x1x8x128 .bf16) (ix6 0 0 n 0 t d)
    = planeAt z 1 3 (by decide) (by decide) n t d := by
  unfold planeAt
  pointwise [k0_pay80, k0_pay75]

theorem plane20_at : (k0_pay82 z : FVec Ideal S1x1x16x1x8x128 .bf16) (ix6 0 0 n 0 t d)
    = planeAt z 2 0 (by decide) (by decide) n t d := by
  unfold planeAt
  pointwise [k0_pay82, k0_pay81]

theorem plane21_at : (k0_pay84 (k0_pay83 z) : FVec Ideal S1x1x16x1x8x128 .bf16) (ix6 0 0 n 0 t d)
    = planeAt z 2 1 (by decide) (by decide) n t d := by
  unfold planeAt
  pointwise [k0_pay84, k0_pay83, k0_pay81]

theorem plane22_at : (k0_pay85 (k0_pay81 z) : FVec Ideal S1x1x16x1x8x128 .bf16) (ix6 0 0 n 0 t d)
    = planeAt z 2 2 (by decide) (by decide) n t d := by
  unfold planeAt
  pointwise [k0_pay85, k0_pay81]

theorem plane23_at : (k0_pay86 (k0_pay81 z) : FVec Ideal S1x1x16x1x8x128 .bf16) (ix6 0 0 n 0 t d)
    = planeAt z 2 3 (by decide) (by decide) n t d := by
  unfold planeAt
  pointwise [k0_pay86, k0_pay81]

theorem plane30_at : (k0_pay88 z : FVec Ideal S1x1x16x1x8x128 .bf16) (ix6 0 0 n 0 t d)
    = planeAt z 3 0 (by decide) (by decide) n t d := by
  unfold planeAt
  pointwise [k0_pay88, k0_pay87]

theorem plane31_at : (k0_pay89 z : FVec Ideal S1x1x16x1x8x128 .bf16) (ix6 0 0 n 0 t d)
    = planeAt z 3 1 (by decide) (by decide) n t d := by
  unfold planeAt
  pointwise [k0_pay89, k0_pay87]

theorem plane32_at : (k0_pay91 (k0_pay90 z) : FVec Ideal S1x1x16x1x8x128 .bf16) (ix6 0 0 n 0 t d)
    = planeAt z 3 2 (by decide) (by decide) n t d := by
  unfold planeAt
  pointwise [k0_pay91, k0_pay90, k0_pay87]

theorem plane33_at : (k0_pay92 (k0_pay87 z) : FVec Ideal S1x1x16x1x8x128 .bf16) (ix6 0 0 n 0 t d)
    = planeAt z 3 3 (by decide) (by decide) n t d := by
  unfold planeAt
  pointwise [k0_pay92, k0_pay87]

end planes

/-- A piece of the spatial unit: the gate times the mixed rows and their bias. -/
def unitAt (u : Vec Ideal S512x512 .f32) (v : Vec Ideal S512x512 .bf16) (w : Vec Ideal S1x1x128x128 .bf16)
    (b : Vec Ideal S1x128x128 .f32) (r0 o : ℕ) (hr : r0 + 128 ≤ 512) (ho : o + 128 ≤ 512) (i c : Fin 128) : EReal :=
  u (ix2 ⟨r0 + i.val, by omega⟩ ⟨o + c.val, by omega⟩)
    * ((∑ j : Fin 128, w (ix4 0 0 i j) * v (ix2 ⟨r0 + j.val, by omega⟩ ⟨o + c.val, by omega⟩)) + b (ix3 0 i c))

section unit

variable (u : Vec Ideal S512x512 .f32) (v : Vec Ideal S512x512 .bf16) (w : Vec Ideal S1x1x128x128 .bf16)
  (b : Vec Ideal S1x128x128 .f32) (i c : Fin 128)

theorem unit00_at : k0_pay93 u v w b (ix2 i c) = unitAt u v w b 0 0 (by decide) (by decide) i c := by
  unfold unitAt
  pointwise [k0_pay93]

theorem unit01_at : k0_pay95 u (k0_pay94 v w b) (ix2 i c) = unitAt u v w b 0 128 (by decide) (by decide) i c := by
  unfold unitAt
  pointwise [k0_pay95, k0_pay94]

theorem unit02_at : k0_pay96 u v w b (ix2 i c) = unitAt u v w b 0 256 (by decide) (by decide) i c := by
  unfold unitAt
  pointwise [k0_pay96]

theorem unit03_at : k0_pay97 u v w b (ix2 i c) = unitAt u v w b 0 384 (by decide) (by decide) i c := by
  unfold unitAt
  pointwise [k0_pay97]

theorem unit10_at : k0_pay99 u (k0_pay98 v w) b (ix2 i c) = unitAt u v w b 128 0 (by decide) (by decide) i c := by
  unfold unitAt
  pointwise [k0_pay99, k0_pay98]

theorem unit11_at : k0_pay100 u v w b (ix2 i c) = unitAt u v w b 128 128 (by decide) (by decide) i c := by
  unfold unitAt
  pointwise [k0_pay100]

theorem unit12_at : k0_pay101 u v w b (ix2 i c) = unitAt u v w b 128 256 (by decide) (by decide) i c := by
  unfold unitAt
  pointwise [k0_pay101]

theorem unit13_at : k0_pay102 u v w b (ix2 i c) = unitAt u v w b 128 384 (by decide) (by decide) i c := by
  unfold unitAt
  pointwise [k0_pay102]

theorem unit20_at : k0_pay103 u v w b (ix2 i c) = unitAt u v w b 256 0 (by decide) (by decide) i c := by
  unfold unitAt
  pointwise [k0_pay103]

theorem unit21_at : k0_pay104 u v w b (ix2 i c) = unitAt u v w b 256 128 (by decide) (by decide) i c := by
  unfold unitAt
  pointwise [k0_pay104]

theorem unit22_at : k0_pay105 u v w b (ix2 i c) = unitAt u v w b 256 256 (by decide) (by decide) i c := by
  unfold unitAt
  pointwise [k0_pay105]

theorem unit23_at : k0_pay106 u v w b (ix2 i c) = unitAt u v w b 256 384 (by decide) (by decide) i c := by
  unfold unitAt
  pointwise [k0_pay106]

theorem unit30_at : k0_pay108 u (k0_pay107 v w) b (ix2 i c) = unitAt u v w b 384 0 (by decide) (by decide) i c := by
  unfold unitAt
  pointwise [k0_pay108, k0_pay107]

theorem unit31_at : k0_pay109 u v w b (ix2 i c) = unitAt u v w b 384 128 (by decide) (by decide) i c := by
  unfold unitAt
  pointwise [k0_pay109]

theorem unit32_at : k0_pay110 u v w b (ix2 i c) = unitAt u v w b 384 256 (by decide) (by decide) i c := by
  unfold unitAt
  pointwise [k0_pay110]

theorem unit33_at : k0_pay1 u (k0_pay111 w) (k0_pay112 v) b (ix2 i c) = unitAt u v w b 384 384 (by decide) (by decide) i c := by
  unfold unitAt
  pointwise [k0_pay1, k0_pay111, k0_pay112]

end unit

/-- The word of 256, read as a real. -/
theorem ofBits_256 : Ideal.ofBits .f32 0x43800000#32 = ((256 : ℝ) : EReal) := by
  simp [Ideal.ofBits, Ideal.ieee]
  rw [← EReal.coe_mul]; norm_num

section tables

variable (x : Elt Ideal .f32)

/-- Head 0's decay tables: by row, and over a block. -/
theorem rowTable0_at (i : Fin 256) (d : Fin 128) : k0_pay4 x (ix3 0 i d) = RetRow.decay x i := by
  have h : k0_pay4 x (ix3 0 i d) = Ideal.exp ((((BitVec.ofNat 32 i).toInt : ℝ) : EReal) * RetRow.lg x) := by
    unfold RetRow.lg
    pointwise [k0_pay4, k0_pay3]
    rfl
  rw [h, real_word _ (by omega)]
  rfl

theorem blockTable0_at (d e : Fin 128) : k0_pay5 x (ix3 0 d e) = RetRow.decay x 256 := by
  have h : k0_pay5 x (ix3 0 d e) = Ideal.exp (Ideal.ofBits .f32 0x43800000#32 * RetRow.lg x) := by
    unfold RetRow.lg
    pointwise [k0_pay5]
    rfl
  rw [h, ofBits_256]
  rfl

/-- Head 1's decay tables: by row, and over a block. -/
theorem rowTable1_at (i : Fin 256) (d : Fin 128) : k0_pay7 k0_pay3 (k0_pay6 x) (ix3 0 i d) = RetRow.decay x i := by
  have h : k0_pay7 k0_pay3 (k0_pay6 x) (ix3 0 i d) = Ideal.exp ((((BitVec.ofNat 32 i).toInt : ℝ) : EReal) * RetRow.lg x) := by
    unfold RetRow.lg
    pointwise [k0_pay7, k0_pay6, k0_pay3]
    rfl
  rw [h, real_word _ (by omega)]
  rfl

theorem blockTable1_at (d e : Fin 128) : k0_pay8 x (ix3 0 d e) = RetRow.decay x 256 := by
  have h : k0_pay8 x (ix3 0 d e) = Ideal.exp (Ideal.ofBits .f32 0x43800000#32 * RetRow.lg x) := by
    unfold RetRow.lg
    pointwise [k0_pay8]
    rfl
  rw [h, ofBits_256]
  rfl

/-- Head 2's decay tables: by row, and over a block. -/
theorem rowTable2_at (i : Fin 256) (d : Fin 128) : k0_pay10 (k0_pay9 k0_pay3 x) (ix3 0 i d) = RetRow.decay x i := by
  have h : k0_pay10 (k0_pay9 k0_pay3 x) (ix3 0 i d) = Ideal.exp ((((BitVec.ofNat 32 i).toInt : ℝ) : EReal) * RetRow.lg x) := by
    unfold RetRow.lg
    pointwise [k0_pay10, k0_pay9, k0_pay3]
    rfl
  rw [h, real_word _ (by omega)]
  rfl

theorem blockTable2_at (d e : Fin 128) : k0_pay11 x (ix3 0 d e) = RetRow.decay x 256 := by
  have h : k0_pay11 x (ix3 0 d e) = Ideal.exp (Ideal.ofBits .f32 0x43800000#32 * RetRow.lg x) := by
    unfold RetRow.lg
    pointwise [k0_pay11]
    rfl
  rw [h, ofBits_256]
  rfl

/-- Head 3's decay tables: by row, and over a block. -/
theorem rowTable3_at (i : Fin 256) (d : Fin 128) : k0_pay12 k0_pay3 x (ix3 0 i d) = RetRow.decay x i := by
  have h : k0_pay12 k0_pay3 x (ix3 0 i d) = Ideal.exp ((((BitVec.ofNat 32 i).toInt : ℝ) : EReal) * RetRow.lg x) := by
    unfold RetRow.lg
    pointwise [k0_pay12, k0_pay3]
    rfl
  rw [h, real_word _ (by omega)]
  rfl

theorem blockTable3_at (d e : Fin 128) : k0_pay17 (k0_pay14 x) (k0_pay15 x) k0_pay16 (ix3 0 d e) = RetRow.decay x 256 := by
  have h : k0_pay17 (k0_pay14 x) (k0_pay15 x) k0_pay16 (ix3 0 d e) = Ideal.exp (Ideal.ofBits .f32 0x43800000#32 * RetRow.lg x) := by
    unfold RetRow.lg
    pointwise [k0_pay17, k0_pay14, k0_pay15, k0_pay16, k0_pay13]
    rfl
  rw [h, ofBits_256]
  rfl

end tables

/-- The carried state begins at zero. -/
theorem pay2_at (y : S4x128x128.Idx) : k0_pay2 (F := Ideal) y = (0 : EReal) := by
  obtain ⟨a, b, c, rfl⟩ : ∃ a b c, y = (ix3 a b c : S4x128x128.Idx) :=
    ⟨y 0, y 1, y 2, by funext a; match a with | ⟨0, _⟩ => rfl | ⟨1, _⟩ => rfl | ⟨2, _⟩ => rfl⟩
  pointwise [k0_pay2]

end Cert.KernelProjIdeal.Val

end
-- ==== Proof.ProjStep.lean ====
/-
  One block of 512 rows of the input projection, as functions of the blocks the kernel reads: the projection itself, and what
  each result's block holds. The kernel stores each of them in pieces; every piece is a piece of one of the functions here.
-/
module

public import proofs.«01_k».proof.Proof.ProjPay
public import Idealize.ShloMosaic.Lib.Pipeline.ReadBack

@[expose] public section

set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

theorem zero2 : (![0, 0] : Fin 2 → Nat) = fun _ => 0 := funext fun a => by fin_cases a <;> rfl

/-- The projection of a row of the block. -/
def hB (x1 : Vec Ideal S512x1024 .f32) (x2 : Vec Ideal S1x1024x6656 .bf16) (x3 : Vec Ideal S1x6656 .f32) (r c : ℕ) : EReal :=
  (∑ k : Fin 1024, x1 (ix2 ⟨r % 512, Nat.mod_lt _ (by decide)⟩ k) * x2 (ix3 0 k ⟨c % 6656, Nat.mod_lt _ (by decide)⟩))
    + x3 (ix2 0 ⟨c % 6656, Nat.mod_lt _ (by decide)⟩)

/-- The rotation of a row's columns at `o`. -/
def rotB (P : ℕ → ℕ → EReal) (cs sn : Vec Ideal S512x128 .f32) (r o c : ℕ) : EReal :=
  P r (o + c) * cs (ix2 ⟨r % 512, Nat.mod_lt _ (by decide)⟩ ⟨c % 128, Nat.mod_lt _ (by decide)⟩)
    + P r (o + (c + 128 - 64) % 128) * sn (ix2 ⟨r % 512, Nat.mod_lt _ (by decide)⟩ ⟨c % 128, Nat.mod_lt _ (by decide)⟩)

/-- A head's state after the 256 rows at `r0`. -/
def stepB (P : ℕ → ℕ → EReal) (cs sn : Vec Ideal S512x128 .f32) (kd : Vec Ideal S4x256x128 .f32) (cd : Vec Ideal S4x128x128 .f32)
    (st : Fin 128 → Fin 128 → EReal) (h : Fin 4) (r0 : ℕ) (d e : Fin 128) : EReal :=
  cd (ix3 h d e) * st d e
    + ∑ i : Fin 256, (rotB P cs sn (r0 + i.val) (4608 + 128 * h.val) d.val * kd (ix3 h i d))
        * P (r0 + i.val) (5120 + 128 * h.val + e.val)

section results

variable (P : ℕ → ℕ → EReal)

/-- The blocks of the results. -/
def gatesB : Vec Ideal S512x3072 .bf16 := fun i => Ideal.logistic (P (i 0).val (i 1).val)

def unitB (g b : Vec Ideal S1x512 .f32) (w : Vec Ideal S1x4x128x128 .bf16) (s : Vec Ideal S4x128x128 .f32) :
    Vec Ideal S512x512 .bf16 := fun i =>
  gelu (P (i 0).val (3072 + (i 1).val)) * ((∑ j : Fin 128,
    w (ix4 0 ⟨(i 1).val / 128 % 4, Nat.mod_lt _ (by decide)⟩ ⟨(i 0).val % 128, Nat.mod_lt _ (by decide)⟩ j)
      * rowNorm (fun k => gelu (P (128 * ((i 0).val / 128) + j.val) (3584 + k.val))) (fun k => g (ix2 0 k)) (fun k => b (ix2 0 k))
          ⟨(i 1).val % 512, Nat.mod_lt _ (by decide)⟩)
    + s (ix3 ⟨(i 1).val / 128 % 4, Nat.mod_lt _ (by decide)⟩ ⟨(i 0).val % 128, Nat.mod_lt _ (by decide)⟩
        ⟨(i 1).val % 128, Nat.mod_lt _ (by decide)⟩))

def queriesB (cs sn : Vec Ideal S512x128 .f32) : Vec Ideal S512x512 .bf16 := fun i =>
  rotB P cs sn (i 0).val (4096 + 128 * ((i 1).val / 128)) ((i 1).val % 128) * Ideal.ofBits .f32 0x3DB504F3#32

def keysB (cs sn : Vec Ideal S512x128 .f32) : Vec Ideal S512x512 .bf16 := fun i =>
  rotB P cs sn (i 0).val (4608 + 128 * ((i 1).val / 128)) ((i 1).val % 128)

def valuesB : Vec Ideal S512x512 .bf16 := fun i => P (i 0).val (5120 + (i 1).val)

def gateB : Vec Ideal S512x512 .bf16 := fun i => silu (P (i 0).val (5632 + (i 1).val))

def fourierB : Vec Ideal S4x1x16x4x8x128 .bf16 := fun i =>
  P (128 * (i 3).val + ((i 2).val * 8 + (i 4).val)) (6144 + (128 * (i 0).val + (i 5).val))

/-- The carried state after the block, and the states behind the block's two halves. -/
def fullB (cs sn : Vec Ideal S512x128 .f32) (kd : Vec Ideal S4x256x128 .f32) (cd st : Vec Ideal S4x128x128 .f32) :
    Vec Ideal S4x128x128 .f32 := fun y =>
  stepB P cs sn kd cd (stepB P cs sn kd cd (fun d e => st (ix3 (y 0) d e)) (y 0) 256) (y 0) 0 (y 1) (y 2)

def storedB (cs sn : Vec Ideal S512x128 .f32) (kd : Vec Ideal S4x256x128 .f32) (cd st : Vec Ideal S4x128x128 .f32) :
    Vec Ideal S2x4x128x128 .bf16 := fun y =>
  if (y 0).val = 0 then stepB P cs sn kd cd (fun d e => st (ix3 (y 1) d e)) (y 1) 256 (y 2) (y 3) else st (ix3 (y 1) (y 2) (y 3))

end results

section pieces

variable (x1 : Vec Ideal S512x1024 .f32) (x2 : Vec Ideal S1x1024x6656 .bf16) (x3 : Vec Ideal S1x6656 .f32)
  (x4 x5 : Vec Ideal S1x512 .f32) (x6 : Vec Ideal S1x4x128x128 .bf16) (x7 : Vec Ideal S4x128x128 .f32)
  (x8 x9 : Vec Ideal S512x128 .f32)

/-- The whole loads, and the loads of columns of the weights and of the bias. -/
def xV : Vec Ideal S512x1024 .bf16 :=
  k0_pay18 (View.ld x1 (Rect.unit (s := S512x1024) ![0, 0] ![512, 1024] inb_S512x1024_S512x1024_0_0))

def tV (x : Vec Ideal S512x128 .f32) : Vec Ideal S512x128 .f32 :=
  View.ld x (Rect.unit (s := S512x128) ![0, 0] ![512, 128] inb_S512x128_S512x128_0_0)

theorem xV_eq : xV x1 = x1 := by
  unfold xV
  rw [View.ld_unit_zero zero2, pay18_eq]

theorem tV_eq (x : Vec Ideal S512x128 .f32) : tV x = x := by
  unfold tV
  rw [View.ld_unit_zero zero2]

theorem lin_ld (o : ℕ) (h2 : ∀ a, (![0, 0, o] : Fin 3 → Nat) a + (![1, 1024, 1024] : Fin 3 → Nat) a ≤ S1x1024x6656.size a)
    (h3 : ∀ a, (![0, o] : Fin 2 → Nat) a + (![1, 1024] : Fin 2 → Nat) a ≤ S1x6656.size a) (r : Fin 512) (c : Fin 1024) :
    lin (xV x1) (View.ld x2 (Rect.unit (s := S1x1024x6656) ![0, 0, o] ![1, 1024, 1024] h2))
        (View.ld x3 (Rect.unit (s := S1x6656) ![0, o] ![1, 1024] h3)) r c = hB x1 x2 x3 r.val (o + c.val) := by
  have ho : o + 1024 ≤ 6656 := h3 1
  unfold lin hB
  rw [xV_eq]
  have er : (⟨r.val % 512, Nat.mod_lt _ (by decide)⟩ : Fin 512) = r := Fin.ext (Nat.mod_eq_of_lt r.isLt)
  have ec : (o + c.val) % 6656 = o + c.val := Nat.mod_eq_of_lt (by omega)
  rw [er]
  refine congrArg₂ (· + ·) (Finset.sum_congr rfl fun k _ => congrArg (x1 (ix2 r k) * ·) (congrArg x2 (funext fun a => Fin.ext ?_)))
    (congrArg x3 (funext fun a => Fin.ext ?_))
  · match a with
    | ⟨0, _⟩ => rfl
    | ⟨1, _⟩ => show 0 + 1 * k.val = k.val; omega
    | ⟨2, _⟩ => show o + 1 * c.val = (o + c.val) % 6656; omega
  · match a with
    | ⟨0, _⟩ => rfl
    | ⟨1, _⟩ => show o + 1 * c.val = (o + c.val) % 6656; omega

theorem lin'_ld (o : ℕ) (h2 : ∀ a, (![0, 0, o] : Fin 3 → Nat) a + (![1, 1024, 512] : Fin 3 → Nat) a ≤ S1x1024x6656.size a)
    (h3 : ∀ a, (![0, o] : Fin 2 → Nat) a + (![1, 512] : Fin 2 → Nat) a ≤ S1x6656.size a) (r c : Fin 512) :
    lin' (xV x1) (View.ld x2 (Rect.unit (s := S1x1024x6656) ![0, 0, o] ![1, 1024, 512] h2))
        (View.ld x3 (Rect.unit (s := S1x6656) ![0, o] ![1, 512] h3)) r c = hB x1 x2 x3 r.val (o + c.val) := by
  have ho : o + 512 ≤ 6656 := h3 1
  unfold lin' hB
  rw [xV_eq]
  have er : (⟨r.val % 512, Nat.mod_lt _ (by decide)⟩ : Fin 512) = r := Fin.ext (Nat.mod_eq_of_lt r.isLt)
  rw [er]
  refine congrArg₂ (· + ·) (Finset.sum_congr rfl fun k _ => congrArg (x1 (ix2 r k) * ·) (congrArg x2 (funext fun a => Fin.ext ?_)))
    (congrArg x3 (funext fun a => Fin.ext ?_))
  · match a with
    | ⟨0, _⟩ => rfl
    | ⟨1, _⟩ => show 0 + 1 * k.val = k.val; omega
    | ⟨2, _⟩ => show o + 1 * c.val = (o + c.val) % 6656; omega
  · match a with
    | ⟨0, _⟩ => rfl
    | ⟨1, _⟩ => show o + 1 * c.val = (o + c.val) % 6656; omega

/-- The slices of the projection the kernel keeps: queries and keys, values, Fourier columns, and the spatial unit's two
    halves, the second normed. -/
def qkV : Vec Ideal S512x1024 .f32 :=
  k0_pay30 (xV x1) (View.ld x2 (Rect.unit (s := S1x1024x6656) ![0, 0, 4096] ![1, 1024, 1024] inb_S1x1024x6656_S1x1024x1024_0_0_4096))
    (View.ld x3 (Rect.unit (s := S1x6656) ![0, 4096] ![1, 1024] inb_S1x6656_S1x1024_0_4096))

def valV : Vec Ideal S512x512 .bf16 :=
  k0_pay33 (xV x1) (View.ld x2 (Rect.unit (s := S1x1024x6656) ![0, 0, 5120] ![1, 1024, 1024] inb_S1x1024x6656_S1x1024x1024_0_0_5120))
    (View.ld x3 (Rect.unit (s := S1x6656) ![0, 5120] ![1, 1024] inb_S1x6656_S1x1024_0_5120))

def zV : Vec Ideal S512x512 .f32 :=
  k0_pay32 (xV x1) (View.ld x2 (Rect.unit (s := S1x1024x6656) ![0, 0, 6144] ![1, 1024, 512] inb_S1x1024x6656_S1x1024x512_0_0_6144))
    (View.ld x3 (Rect.unit (s := S1x6656) ![0, 6144] ![1, 512] inb_S1x6656_S1x512_0_6144))

def uV : Vec Ideal S512x512 .f32 :=
  k0_pay20 (xV x1) (View.ld x2 (Rect.unit (s := S1x1024x6656) ![0, 0, 3072] ![1, 1024, 1024] inb_S1x1024x6656_S1x1024x1024_0_0_3072))
    (View.ld x3 (Rect.unit (s := S1x6656) ![0, 3072] ![1, 1024] inb_S1x6656_S1x1024_0_3072))

def nV : Vec Ideal S512x512 .bf16 :=
  k0_pay23 (k0_pay21 (xV x1)
      (View.ld x2 (Rect.unit (s := S1x1024x6656) ![0, 0, 3072] ![1, 1024, 1024] inb_S1x1024x6656_S1x1024x1024_0_0_3072))
      (View.ld x3 (Rect.unit (s := S1x6656) ![0, 3072] ![1, 1024] inb_S1x6656_S1x1024_0_3072)))
    (k0_pay22 (View.ld x4 (Rect.unit (s := S1x512) ![0, 0] ![1, 512] inb_S1x512_S1x512_0_0)))
    (View.ld x5 (Rect.unit (s := S1x512) ![0, 0] ![1, 512] inb_S1x512_S1x512_0_0))

theorem qkV_at (r : Fin 512) (c : Fin 1024) : qkV x1 x2 x3 (ix2 r c) = hB x1 x2 x3 r.val (4096 + c.val) :=
  (pay30_at _ _ _ r c).trans (lin_ld x1 x2 x3 4096 _ _ r c)

theorem valV_at (r c : Fin 512) : valV x1 x2 x3 (ix2 r c) = hB x1 x2 x3 r.val (5120 + c.val) :=
  (pay33_at _ _ _ r c).trans (lin_ld x1 x2 x3 5120 _ _ r ⟨c.val, by omega⟩)

theorem zV_at (r c : Fin 512) : zV x1 x2 x3 (ix2 r c) = hB x1 x2 x3 r.val (6144 + c.val) :=
  (pay32_at _ _ _ r c).trans (lin'_ld x1 x2 x3 6144 _ _ r c)

theorem uV_at (r c : Fin 512) : uV x1 x2 x3 (ix2 r c) = gelu (hB x1 x2 x3 r.val (3072 + c.val)) :=
  (pay20_at _ _ _ r c).trans (congrArg gelu (lin_ld x1 x2 x3 3072 _ _ r ⟨c.val, by omega⟩))

theorem nV_at (r c : Fin 512) : nV x1 x2 x3 x4 x5 (ix2 r c)
    = rowNorm (fun k => gelu (hB x1 x2 x3 r.val (3584 + k.val))) (fun k => x4 (ix2 0 k)) (fun k => x5 (ix2 0 k)) c := by
  unfold nV
  rw [View.ld_unit_zero zero2, View.ld_unit_zero zero2, pay23_at]
  refine congrArg (fun f => rowNorm f _ _ c) (funext fun k => ?_)
  refine (pay21_at _ _ _ r k).trans (congrArg gelu ((lin_ld x1 x2 x3 3072 _ _ r ⟨512 + k.val, by omega⟩).trans ?_))
  show hB x1 x2 x3 r.val (3072 + (512 + k.val)) = _
  rw [← Nat.add_assoc]

theorem rot_at (o : ℕ) (ho : o + 128 ≤ 1024) (r : Fin 512) (c : Fin 128) :
    rot (qkV x1 x2 x3) (tV x8) (tV x9) o ho r c = rotB (hB x1 x2 x3) x8 x9 r.val (4096 + o) c.val := by
  unfold rot rotB
  rw [tV_eq, tV_eq, qkV_at, qkV_at]
  have er : (⟨r.val % 512, Nat.mod_lt _ (by decide)⟩ : Fin 512) = r := Fin.ext (Nat.mod_eq_of_lt r.isLt)
  have ec : (⟨c.val % 128, Nat.mod_lt _ (by decide)⟩ : Fin 128) = c := Fin.ext (Nat.mod_eq_of_lt c.isLt)
  rw [er, ec, Nat.add_assoc, Nat.add_assoc]

theorem idx_512_128 (x : S512x128.Idx) : ∃ (i : Fin 512) (c : Fin 128), x = ix2 i c :=
  ⟨x 0, x 1, by funext a; match a with | ⟨0, _⟩ => rfl | ⟨1, _⟩ => rfl⟩

theorem idx_512_512 (x : S512x512.Idx) : ∃ i c : Fin 512, x = ix2 i c :=
  ⟨x 0, x 1, by funext a; match a with | ⟨0, _⟩ => rfl | ⟨1, _⟩ => rfl⟩

theorem idx_512_1024 (x : S512x1024.Idx) : ∃ (i : Fin 512) (c : Fin 1024), x = ix2 i c :=
  ⟨x 0, x 1, by funext a; match a with | ⟨0, _⟩ => rfl | ⟨1, _⟩ => rfl⟩

theorem idx_128_128 (x : S128x128.Idx) : ∃ i c : Fin 128, x = ix2 i c :=
  ⟨x 0, x 1, by funext a; match a with | ⟨0, _⟩ => rfl | ⟨1, _⟩ => rfl⟩

theorem idx_state (x : S1x128x128.Idx) : ∃ d e : Fin 128, x = ix3 0 d e := by
  refine ⟨x 1, x 2, ?_⟩
  funext a
  match a with
  | ⟨0, _⟩ => exact Fin.ext (Nat.lt_one_iff.mp (show (x 0).val < 1 from (x 0).isLt))
  | ⟨1, _⟩ => rfl
  | ⟨2, _⟩ => rfl

theorem idx_stored (x : S1x1x128x128.Idx) : ∃ d e : Fin 128, x = ix4 0 0 d e := by
  refine ⟨x 2, x 3, ?_⟩
  funext a
  match a with
  | ⟨0, _⟩ => exact Fin.ext (Nat.lt_one_iff.mp (show (x 0).val < 1 from (x 0).isLt))
  | ⟨1, _⟩ => exact Fin.ext (Nat.lt_one_iff.mp (show (x 1).val < 1 from (x 1).isLt))
  | ⟨2, _⟩ => rfl
  | ⟨3, _⟩ => rfl

theorem idx_plane (x : S1x1x16x1x8x128.Idx) : ∃ (n : Fin 16) (t : Fin 8) (d : Fin 128), x = ix6 0 0 n 0 t d := by
  refine ⟨x 2, x 4, x 5, ?_⟩
  funext a
  match a with
  | ⟨0, _⟩ => exact Fin.ext (Nat.lt_one_iff.mp (show (x 0).val < 1 from (x 0).isLt))
  | ⟨1, _⟩ => exact Fin.ext (Nat.lt_one_iff.mp (show (x 1).val < 1 from (x 1).isLt))
  | ⟨2, _⟩ => rfl
  | ⟨3, _⟩ => exact Fin.ext (Nat.lt_one_iff.mp (show (x 3).val < 1 from (x 3).isLt))
  | ⟨4, _⟩ => rfl
  | ⟨5, _⟩ => rfl

/-- A slice of 1024 gates. -/
theorem piece_gates (o : ℕ) (h2 : ∀ a, (![0, 0, o] : Fin 3 → Nat) a + (![1, 1024, 1024] : Fin 3 → Nat) a ≤ S1x1024x6656.size a)
    (h3 : ∀ a, (![0, o] : Fin 2 → Nat) a + (![1, 1024] : Fin 2 → Nat) a ≤ S1x6656.size a)
    (inb : ∀ a, (![0, o] : Fin 2 → Nat) a + (![512, 1024] : Fin 2 → Nat) a ≤ S512x3072.size a) (x : S512x1024.Idx) :
    k0_pay24 (xV x1) (View.ld x2 (Rect.unit (s := S1x1024x6656) ![0, 0, o] ![1, 1024, 1024] h2))
        (View.ld x3 (Rect.unit (s := S1x6656) ![0, o] ![1, 1024] h3)) x
      = gatesB (hB x1 x2 x3) ((Rect.unit (s := S512x3072) ![0, o] ![512, 1024] inb).emb x) := by
  obtain ⟨i, c, rfl⟩ := idx_512_1024 x
  refine (pay24_at _ _ _ i c).trans ?_
  rw [lin_ld]
  show _ = Ideal.logistic (hB x1 x2 x3 (0 + 1 * i.val) (o + 1 * c.val))
  rw [Nat.zero_add, Nat.one_mul, Nat.one_mul]

/-- A head's queries, and its keys. -/
theorem piece_queries (h o : ℕ) (ho : o = 128 * h) (hh : o + 128 ≤ 1024) (f : Vec Ideal S512x128 .bf16)
    (hf : ∀ r c, f (ix2 r c) = rot (qkV x1 x2 x3) (tV x8) (tV x9) o hh r c * Ideal.ofBits .f32 0x3DB504F3#32)
    (inb : ∀ a, (![0, o] : Fin 2 → Nat) a + (![512, 128] : Fin 2 → Nat) a ≤ S512x512.size a) (x : S512x128.Idx) :
    f x = queriesB (hB x1 x2 x3) x8 x9 ((Rect.unit (s := S512x512) ![0, o] ![512, 128] inb).emb x) := by
  obtain ⟨i, c, rfl⟩ := idx_512_128 x
  refine (hf i c).trans ?_
  rw [rot_at]
  show _ = rotB (hB x1 x2 x3) x8 x9 (0 + 1 * i.val) (4096 + 128 * ((o + 1 * c.val) / 128)) ((o + 1 * c.val) % 128)
    * Ideal.ofBits .f32 0x3DB504F3#32
  have e1 : 128 * ((o + 1 * c.val) / 128) = o := by omega
  have e2 : (o + 1 * c.val) % 128 = c.val := by omega
  rw [e1, e2, Nat.zero_add, Nat.one_mul]

theorem piece_keys (h o : ℕ) (ho : o = 128 * h) (hh : 512 + o + 128 ≤ 1024) (f : Vec Ideal S512x128 .bf16)
    (hf : ∀ r c, f (ix2 r c) = rot (qkV x1 x2 x3) (tV x8) (tV x9) (512 + o) hh r c)
    (inb : ∀ a, (![0, o] : Fin 2 → Nat) a + (![512, 128] : Fin 2 → Nat) a ≤ S512x512.size a) (x : S512x128.Idx) :
    f x = keysB (hB x1 x2 x3) x8 x9 ((Rect.unit (s := S512x512) ![0, o] ![512, 128] inb).emb x) := by
  obtain ⟨i, c, rfl⟩ := idx_512_128 x
  refine (hf i c).trans ?_
  rw [rot_at]
  show _ = rotB (hB x1 x2 x3) x8 x9 (0 + 1 * i.val) (4608 + 128 * ((o + 1 * c.val) / 128)) ((o + 1 * c.val) % 128)
  have e1 : 128 * ((o + 1 * c.val) / 128) = o := by omega
  have e2 : (o + 1 * c.val) % 128 = c.val := by omega
  rw [e1, e2, Nat.zero_add, Nat.one_mul, ← Nat.add_assoc]

/-- The values and the gate, each in one piece. -/
theorem piece_values (inb : ∀ a, (![0, 0] : Fin 2 → Nat) a + (![512, 512] : Fin 2 → Nat) a ≤ S512x512.size a) (x : S512x512.Idx) :
    valV x1 x2 x3 x = valuesB (hB x1 x2 x3) ((Rect.unit (s := S512x512) ![0, 0] ![512, 512] inb).emb x) := by
  obtain ⟨i, c, rfl⟩ := idx_512_512 x
  refine (valV_at x1 x2 x3 i c).trans ?_
  show _ = hB x1 x2 x3 (0 + 1 * i.val) (5120 + (0 + 1 * c.val))
  simp only [Nat.zero_add, Nat.one_mul]

theorem piece_gate (h2 : ∀ a, (![0, 0, 5120] : Fin 3 → Nat) a + (![1, 1024, 1024] : Fin 3 → Nat) a ≤ S1x1024x6656.size a)
    (h3 : ∀ a, (![0, 5120] : Fin 2 → Nat) a + (![1, 1024] : Fin 2 → Nat) a ≤ S1x6656.size a)
    (inb : ∀ a, (![0, 0] : Fin 2 → Nat) a + (![512, 512] : Fin 2 → Nat) a ≤ S512x512.size a) (x : S512x512.Idx) :
    k0_pay34 (xV x1) (View.ld x2 (Rect.unit (s := S1x1024x6656) ![0, 0, 5120] ![1, 1024, 1024] h2))
        (View.ld x3 (Rect.unit (s := S1x6656) ![0, 5120] ![1, 1024] h3)) x
      = gateB (hB x1 x2 x3) ((Rect.unit (s := S512x512) ![0, 0] ![512, 512] inb).emb x) := by
  obtain ⟨i, c, rfl⟩ := idx_512_512 x
  refine (pay34_at _ _ _ i c).trans ?_
  rw [lin_ld]
  show silu (hB x1 x2 x3 i.val (5120 + (512 + c.val))) = silu (hB x1 x2 x3 (0 + 1 * i.val) (5632 + (0 + 1 * c.val)))
  rw [← Nat.add_assoc, Nat.zero_add, Nat.zero_add, Nat.one_mul, Nat.one_mul]

/-- A plane of Fourier columns. -/
theorem piece_fourier (g m : ℕ) (hg : g < 4) (hm : m < 4) (f : Vec Ideal S1x1x16x1x8x128 .bf16)
    (hf : ∀ n t d, f (ix6 0 0 n 0 t d) = planeAt (zV x1 x2 x3) g m hg hm n t d)
    (inb : ∀ a, (![g, 0, 0, m, 0, 0] : Fin 6 → Nat) a + (![1, 1, 16, 1, 8, 128] : Fin 6 → Nat) a ≤ S4x1x16x4x8x128.size a)
    (x : S1x1x16x1x8x128.Idx) :
    f x = fourierB (hB x1 x2 x3) ((Rect.unit (s := S4x1x16x4x8x128) ![g, 0, 0, m, 0, 0] ![1, 1, 16, 1, 8, 128] inb).emb x) := by
  obtain ⟨n, t, d, rfl⟩ := idx_plane x
  refine (hf n t d).trans ?_
  unfold planeAt
  rw [zV_at]
  show hB x1 x2 x3 (128 * m + (n.val * 8 + t.val)) (6144 + (128 * g + d.val))
    = hB x1 x2 x3 (128 * (m + 1 * 0) + ((0 + 1 * n.val) * 8 + (0 + 1 * t.val)))
        (6144 + (128 * (g + 1 * 0) + (0 + 1 * d.val)))
  congr 1 <;> omega

/-- A piece of the spatial unit. -/
theorem piece_unit (r o g : ℕ) (hr' : r + 128 ≤ 512) (ho' : o + 128 ≤ 512) (hr : r % 128 = 0) (hg : o = 128 * g)
    (f : Vec Ideal S128x128 .bf16)
    (h6 : ∀ a, (![0, g, 0, 0] : Fin 4 → Nat) a + (![1, 1, 128, 128] : Fin 4 → Nat) a ≤ S1x4x128x128.size a)
    (h7 : ∀ a, (![g, 0, 0] : Fin 3 → Nat) a + (![1, 128, 128] : Fin 3 → Nat) a ≤ S4x128x128.size a)
    (hf : ∀ i c, f (ix2 i c) = unitAt (uV x1 x2 x3) (nV x1 x2 x3 x4 x5)
      (View.ld x6 (Rect.unit (s := S1x4x128x128) ![0, g, 0, 0] ![1, 1, 128, 128] h6))
      (View.ld x7 (Rect.unit (s := S4x128x128) ![g, 0, 0] ![1, 128, 128] h7)) r o hr' ho' i c)
    (inb : ∀ a, (![r, o] : Fin 2 → Nat) a + (![128, 128] : Fin 2 → Nat) a ≤ S512x512.size a) (x : S128x128.Idx) :
    f x = unitB (hB x1 x2 x3) x4 x5 x6 x7 ((Rect.unit (s := S512x512) ![r, o] ![128, 128] inb).emb x) := by
  have hg4 : g + 1 ≤ 4 := h7 0
  obtain ⟨i, c, rfl⟩ := idx_128_128 x
  refine (hf i c).trans ?_
  have e0 : ((Rect.unit (s := S512x512) ![r, o] ![128, 128] inb).emb (ix2 i c) 0).val = r + i.val :=
    show r + 1 * i.val = _ by omega
  have e1 : ((Rect.unit (s := S512x512) ![r, o] ![128, 128] inb).emb (ix2 i c) 1).val = o + c.val :=
    show o + 1 * c.val = _ by omega
  have d0 : 128 * ((r + i.val) / 128) = r := by omega
  unfold unitAt unitB
  rw [uV_at]
  simp only [nV_at, e0, e1, d0]
  refine congrArg₂ (· * ·) rfl (congrArg₂ (· + ·) (Finset.sum_congr rfl fun j _ => congrArg₂ (· * ·) (congrArg x6 (funext fun a => Fin.ext ?_))
    (congrArg (rowNorm _ _ _) (Fin.ext ?_))) (congrArg x7 (funext fun a => Fin.ext ?_)))
  · match a with
    | ⟨0, _⟩ => rfl
    | ⟨1, _⟩ => show g + 1 * 0 = (o + c.val) / 128 % 4; omega
    | ⟨2, _⟩ => show 0 + 1 * i.val = (r + i.val) % 128; omega
    | ⟨3, _⟩ => show 0 + 1 * j.val = j.val; omega
  · show o + c.val = (o + c.val) % 512; omega
  · match a with
    | ⟨0, _⟩ => show g + 1 * 0 = (o + c.val) / 128 % 4; omega
    | ⟨1, _⟩ => show 0 + 1 * i.val = (r + i.val) % 128; omega
    | ⟨2, _⟩ => show 0 + 1 * c.val = (o + c.val) % 128; omega

theorem shift_le {o : ℕ} (h : o + 128 ≤ 512) : 512 + o + 128 ≤ 1024 := by omega

section state

variable (kd : Vec Ideal S4x256x128 .f32) (cd st : Vec Ideal S4x128x128 .f32) (h : ℕ) (hh : h < 4) (o : ℕ) (ho : o = 128 * h)
  (ho' : o + 128 ≤ 512) (k : Vec Ideal S512x128 .bf16) (kd' : Vec Ideal S1x256x128 .f32) (cd' st' : Vec Ideal S1x128x128 .f32)
  (hk : ∀ r c, k (ix2 r c) = rot (qkV x1 x2 x3) (tV x8) (tV x9) (512 + o) (shift_le ho') r c)
  (hkd : ∀ i d, kd' (ix3 0 i d) = kd (ix3 ⟨h, hh⟩ i d)) (hcd : ∀ d e, cd' (ix3 0 d e) = cd (ix3 ⟨h, hh⟩ d e))
  (hst : ∀ d e, st' (ix3 0 d e) = st (ix3 ⟨h, hh⟩ d e))

include ho hk hkd hcd in
/-- A step of a head's state, in the block's terms. -/
theorem stepAt_eq (s : Fin 128 → Fin 128 → EReal) (r0 : ℕ) (hr : r0 + 256 ≤ 512) (d e : Fin 128) :
    stepAt k (valV x1 x2 x3) kd' cd' s r0 o hr ho' d e = stepB (hB x1 x2 x3) x8 x9 kd cd s ⟨h, hh⟩ r0 d e := by
  unfold stepAt stepB
  rw [hcd]
  refine congrArg₂ (· + ·) rfl (Finset.sum_congr rfl fun i _ => ?_)
  rw [hk, hkd, valV_at, rot_at]
  subst ho
  show rotB (hB x1 x2 x3) x8 x9 (r0 + i.val) (4096 + (512 + 128 * h)) d.val * _ * hB x1 x2 x3 (r0 + i.val) (5120 + (128 * h + e.val)) = _
  rw [← Nat.add_assoc, ← Nat.add_assoc]

include ho hk hkd hcd hst in
/-- A head's state after the block. -/
theorem piece_full (f : Vec Ideal S1x128x128 .f32)
    (hf : ∀ d e, f (ix3 0 d e) = stepAt k (valV x1 x2 x3) kd' cd'
      (stepAt k (valV x1 x2 x3) kd' cd' (fun d e => st' (ix3 0 d e)) 256 o (by decide) ho') 0 o (by decide) ho' d e)
    (inb : ∀ a, (![h, 0, 0] : Fin 3 → ℕ) a + (![1, 128, 128] : Fin 3 → ℕ) a ≤ S4x128x128.size a) (x : S1x128x128.Idx) :
    f x = fullB (hB x1 x2 x3) x8 x9 kd cd st ((Rect.unit (s := S4x128x128) ![h, 0, 0] ![1, 128, 128] inb).emb x) := by
  obtain ⟨d, e, rfl⟩ := idx_state x
  refine (hf d e).trans ?_
  rw [stepAt_eq x1 x2 x3 x8 x9 kd cd h hh o ho ho' k kd' cd' hk hkd hcd]
  have es : stepAt k (valV x1 x2 x3) kd' cd' (fun d e => st' (ix3 0 d e)) 256 o (by decide) ho'
      = stepB (hB x1 x2 x3) x8 x9 kd cd (fun d e => st (ix3 ⟨h, hh⟩ d e)) ⟨h, hh⟩ 256 := by
    funext d e
    rw [stepAt_eq x1 x2 x3 x8 x9 kd cd h hh o ho ho' k kd' cd' hk hkd hcd]
    exact congrArg (fun s => stepB (hB x1 x2 x3) x8 x9 kd cd s ⟨h, hh⟩ 256 d e) (funext fun d => funext fun e => hst d e)
  rw [es]
  have e0 : (Rect.unit (s := S4x128x128) ![h, 0, 0] ![1, 128, 128] inb).emb (ix3 0 d e) 0 = (⟨h, hh⟩ : Fin 4) :=
    Fin.ext (show h + 1 * 0 = h by omega)
  have e1 : (Rect.unit (s := S4x128x128) ![h, 0, 0] ![1, 128, 128] inb).emb (ix3 0 d e) 1 = d :=
    Fin.ext (show 0 + 1 * d.val = d.val by omega)
  have e2 : (Rect.unit (s := S4x128x128) ![h, 0, 0] ![1, 128, 128] inb).emb (ix3 0 d e) 2 = e :=
    Fin.ext (show 0 + 1 * e.val = e.val by omega)
  unfold fullB
  rw [e0, e1, e2]

include ho hk hkd hcd hst in
/-- The state behind the first half of the block. -/
theorem piece_first (f : Vec Ideal S1x1x128x128 .bf16)
    (hf : ∀ d e, f (ix4 0 0 d e)
      = stepAt k (valV x1 x2 x3) kd' cd' (fun d e => st' (ix3 0 d e)) 256 o (by decide) ho' d e)
    (inb : ∀ a, (![0, h, 0, 0] : Fin 4 → ℕ) a + (![1, 1, 128, 128] : Fin 4 → ℕ) a ≤ S2x4x128x128.size a) (x : S1x1x128x128.Idx) :
    f x = storedB (hB x1 x2 x3) x8 x9 kd cd st ((Rect.unit (s := S2x4x128x128) ![0, h, 0, 0] ![1, 1, 128, 128] inb).emb x) := by
  obtain ⟨d, e, rfl⟩ := idx_stored x
  refine (hf d e).trans ?_
  rw [stepAt_eq x1 x2 x3 x8 x9 kd cd h hh o ho ho' k kd' cd' hk hkd hcd]
  have e0 : ((Rect.unit (s := S2x4x128x128) ![0, h, 0, 0] ![1, 1, 128, 128] inb).emb (ix4 0 0 d e) 0).val = 0 :=
    show 0 + 1 * 0 = 0 by omega
  have e1 : (Rect.unit (s := S2x4x128x128) ![0, h, 0, 0] ![1, 1, 128, 128] inb).emb (ix4 0 0 d e) 1 = (⟨h, hh⟩ : Fin 4) :=
    Fin.ext (show h + 1 * 0 = h by omega)
  have e2 : (Rect.unit (s := S2x4x128x128) ![0, h, 0, 0] ![1, 1, 128, 128] inb).emb (ix4 0 0 d e) 2 = d :=
    Fin.ext (show 0 + 1 * d.val = d.val by omega)
  have e3 : (Rect.unit (s := S2x4x128x128) ![0, h, 0, 0] ![1, 1, 128, 128] inb).emb (ix4 0 0 d e) 3 = e :=
    Fin.ext (show 0 + 1 * e.val = e.val by omega)
  unfold storedB
  rw [if_pos e0, e1, e2, e3]
  exact congrArg (fun s => stepB (hB x1 x2 x3) x8 x9 kd cd s ⟨h, hh⟩ 256 d e) (funext fun d => funext fun e => hst d e)

include hst in
/-- The state behind the second half of the block. -/
theorem piece_second (P : ℕ → ℕ → EReal) (f : Vec Ideal S1x1x128x128 .bf16) (hf : ∀ d e, f (ix4 0 0 d e) = st' (ix3 0 d e))
    (inb : ∀ a, (![1, h, 0, 0] : Fin 4 → ℕ) a + (![1, 1, 128, 128] : Fin 4 → ℕ) a ≤ S2x4x128x128.size a) (x : S1x1x128x128.Idx) :
    f x = storedB P x8 x9 kd cd st ((Rect.unit (s := S2x4x128x128) ![1, h, 0, 0] ![1, 1, 128, 128] inb).emb x) := by
  obtain ⟨d, e, rfl⟩ := idx_stored x
  refine (hf d e).trans ?_
  rw [hst]
  have e0 : ((Rect.unit (s := S2x4x128x128) ![1, h, 0, 0] ![1, 1, 128, 128] inb).emb (ix4 0 0 d e) 0).val = 1 :=
    show 1 + 1 * 0 = 1 by omega
  have e1 : (Rect.unit (s := S2x4x128x128) ![1, h, 0, 0] ![1, 1, 128, 128] inb).emb (ix4 0 0 d e) 1 = (⟨h, hh⟩ : Fin 4) :=
    Fin.ext (show h + 1 * 0 = h by omega)
  have e2 : (Rect.unit (s := S2x4x128x128) ![1, h, 0, 0] ![1, 1, 128, 128] inb).emb (ix4 0 0 d e) 2 = d :=
    Fin.ext (show 0 + 1 * d.val = d.val by omega)
  have e3 : (Rect.unit (s := S2x4x128x128) ![1, h, 0, 0] ![1, 1, 128, 128] inb).emb (ix4 0 0 d e) 3 = e :=
    Fin.ext (show 0 + 1 * e.val = e.val by omega)
  unfold storedB
  rw [if_neg (by rw [e0]; decide), e1, e2, e3]

end state

end pieces

end Cert.KernelProjIdeal.Val

end
-- ==== Proof.ProjTable.lean ====
/-
  The carried tables and the carried state of the input projection's kernel, read one head at a time.
-/
module

public import proofs.«01_k».proof.Proof.ProjStep

@[expose] public section

set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

theorem inb_state (h : ℕ) (a : Fin 3) :
    (![h % 4, 0, 0] : Fin 3 → ℕ) a + (![1, 128, 128] : Fin 3 → ℕ) a ≤ S4x128x128.size a := by
  match a with
  | ⟨0, _⟩ => show h % 4 + 1 ≤ 4; omega
  | ⟨1, _⟩ => exact le_refl 128
  | ⟨2, _⟩ => exact le_refl 128

theorem inb_table (h : ℕ) (a : Fin 3) :
    (![h % 4, 0, 0] : Fin 3 → ℕ) a + (![1, 256, 128] : Fin 3 → ℕ) a ≤ S4x256x128.size a := by
  match a with
  | ⟨0, _⟩ => show h % 4 + 1 ≤ 4; omega
  | ⟨1, _⟩ => exact le_refl 256
  | ⟨2, _⟩ => exact le_refl 128

theorem inb_logit (h : ℕ) (a : Fin 1) : (![h % 4] : Fin 1 → ℕ) a + S1.size a ≤ S4.size a := by
  match a with
  | ⟨0, _⟩ => show h % 4 + 1 ≤ 4; omega

/-- A head's piece of the state, of a table, and its logit. -/
def stateL (x : Vec Ideal S4x128x128 .f32) (h : ℕ) : Vec Ideal S1x128x128 .f32 :=
  View.ld x (Rect.unit (s := S4x128x128) ![h % 4, 0, 0] ![1, 128, 128] (inb_state h))

def tableL (x : Vec Ideal S4x256x128 .f32) (h : ℕ) : Vec Ideal S1x256x128 .f32 :=
  View.ld x (Rect.unit (s := S4x256x128) ![h % 4, 0, 0] ![1, 256, 128] (inb_table h))

def logitL (x : Vec Ideal S4 .f32) (h : ℕ) : Elt Ideal .f32 :=
  View.ld x (Rect.unit (s := S4) ![h % 4] S1.size (inb_logit h)) (Shape.Idx.first (by show 0 < S1.numel; exact numel1_S1 ▸ Nat.one_pos))

theorem stateL_at (x : Vec Ideal S4x128x128 .f32) (h : ℕ) (hh : h < 4) (d e : Fin 128) :
    stateL x h (ix3 0 d e) = x (ix3 ⟨h, hh⟩ d e) :=
  congrArg x (funext fun a => Fin.ext (by
    match a with
    | ⟨0, _⟩ => show h % 4 + 1 * 0 = h; omega
    | ⟨1, _⟩ => show 0 + 1 * d.val = d.val; omega
    | ⟨2, _⟩ => show 0 + 1 * e.val = e.val; omega))

theorem tableL_at (x : Vec Ideal S4x256x128 .f32) (h : ℕ) (hh : h < 4) (i : Fin 256) (d : Fin 128) :
    tableL x h (ix3 0 i d) = x (ix3 ⟨h, hh⟩ i d) :=
  congrArg x (funext fun a => Fin.ext (by
    match a with
    | ⟨0, _⟩ => show h % 4 + 1 * 0 = h; omega
    | ⟨1, _⟩ => show 0 + 1 * i.val = i.val; omega
    | ⟨2, _⟩ => show 0 + 1 * d.val = d.val; omega))

theorem logitL_eq (x : Vec Ideal S4 .f32) (h : ℕ) (hh : h < 4) : logitL x h = x (ix1 ⟨h, hh⟩) :=
  congrArg x (funext fun a => Fin.ext (by
    match a with
    | ⟨0, _⟩ => show h % 4 + 1 * 0 = h; omega))

theorem zeroL_at (h : ℕ) (d e : Fin 128) : stateL (k0_pay2 (F := Ideal)) h (ix3 0 d e) = (0 : EReal) := pay2_at _

/-- The decay tables of the four heads: by row, and over a block. -/
def rowsT (x : Vec Ideal S4 .f32) : Vec Ideal S4x256x128 .f32 := fun y => RetRow.decay (x (ix1 (y 0))) (y 1).val

def blockT (x : Vec Ideal S4 .f32) : Vec Ideal S4x128x128 .f32 := fun y => RetRow.decay (x (ix1 (y 0))) 256

section tables

variable (x : Vec Ideal S4 .f32)

/-- Each head's tables, as they are computed. -/
def rowL0 : Vec Ideal S1x256x128 .f32 := k0_pay4 (logitL x 0)
def rowL1 : Vec Ideal S1x256x128 .f32 := k0_pay7 k0_pay3 (k0_pay6 (logitL x 1))
def rowL2 : Vec Ideal S1x256x128 .f32 := k0_pay10 (k0_pay9 k0_pay3 (logitL x 2))
def rowL3 : Vec Ideal S1x256x128 .f32 := k0_pay12 k0_pay3 (logitL x 3)
def blockL0 : Vec Ideal S1x128x128 .f32 := k0_pay5 (logitL x 0)
def blockL1 : Vec Ideal S1x128x128 .f32 := k0_pay8 (logitL x 1)
def blockL2 : Vec Ideal S1x128x128 .f32 := k0_pay11 (logitL x 2)
def blockL3 : Vec Ideal S1x128x128 .f32 := k0_pay17 (k0_pay14 (logitL x 3)) (k0_pay15 (logitL x 3)) k0_pay16

theorem rowL0_at (i : Fin 256) (d : Fin 128) : rowL0 x (ix3 0 i d) = rowsT x (ix3 ⟨0, by decide⟩ i d) :=
  (rowTable0_at _ i d).trans (congrArg (fun l => RetRow.decay l i.val) (logitL_eq x 0 (by decide)))
theorem rowL1_at (i : Fin 256) (d : Fin 128) : rowL1 x (ix3 0 i d) = rowsT x (ix3 ⟨1, by decide⟩ i d) :=
  (rowTable1_at _ i d).trans (congrArg (fun l => RetRow.decay l i.val) (logitL_eq x 1 (by decide)))
theorem rowL2_at (i : Fin 256) (d : Fin 128) : rowL2 x (ix3 0 i d) = rowsT x (ix3 ⟨2, by decide⟩ i d) :=
  (rowTable2_at _ i d).trans (congrArg (fun l => RetRow.decay l i.val) (logitL_eq x 2 (by decide)))
theorem rowL3_at (i : Fin 256) (d : Fin 128) : rowL3 x (ix3 0 i d) = rowsT x (ix3 ⟨3, by decide⟩ i d) :=
  (rowTable3_at _ i d).trans (congrArg (fun l => RetRow.decay l i.val) (logitL_eq x 3 (by decide)))

theorem blockL0_at (d e : Fin 128) : blockL0 x (ix3 0 d e) = blockT x (ix3 ⟨0, by decide⟩ d e) :=
  (blockTable0_at _ d e).trans (congrArg (fun l => RetRow.decay l 256) (logitL_eq x 0 (by decide)))
theorem blockL1_at (d e : Fin 128) : blockL1 x (ix3 0 d e) = blockT x (ix3 ⟨1, by decide⟩ d e) :=
  (blockTable1_at _ d e).trans (congrArg (fun l => RetRow.decay l 256) (logitL_eq x 1 (by decide)))
theorem blockL2_at (d e : Fin 128) : blockL2 x (ix3 0 d e) = blockT x (ix3 ⟨2, by decide⟩ d e) :=
  (blockTable2_at _ d e).trans (congrArg (fun l => RetRow.decay l 256) (logitL_eq x 2 (by decide)))
theorem blockL3_at (d e : Fin 128) : blockL3 x (ix3 0 d e) = blockT x (ix3 ⟨3, by decide⟩ d e) :=
  (blockTable3_at _ d e).trans (congrArg (fun l => RetRow.decay l 256) (logitL_eq x 3 (by decide)))

theorem piece_rowsT (h : ℕ) (hh : h < 4) (f : Vec Ideal S1x256x128 .f32)
    (hf : ∀ i d, f (ix3 0 i d) = rowsT x (ix3 ⟨h, hh⟩ i d))
    (inb : ∀ a, (![h, 0, 0] : Fin 3 → ℕ) a + (![1, 256, 128] : Fin 3 → ℕ) a ≤ S4x256x128.size a) (y : S1x256x128.Idx) :
    f y = rowsT x ((Rect.unit (s := S4x256x128) ![h, 0, 0] ![1, 256, 128] inb).emb y) := by
  obtain ⟨i, d, rfl⟩ : ∃ (i : Fin 256) (d : Fin 128), y = ix3 0 i d := by
    refine ⟨y 1, y 2, ?_⟩
    funext a
    match a with
    | ⟨0, _⟩ => exact Fin.ext (Nat.lt_one_iff.mp (show (y 0).val < 1 from (y 0).isLt))
    | ⟨1, _⟩ => rfl
    | ⟨2, _⟩ => rfl
  refine (hf i d).trans (congrArg (rowsT x) (funext fun a => Fin.ext ?_))
  match a with
  | ⟨0, _⟩ => show h = h + 1 * 0; omega
  | ⟨1, _⟩ => show i.val = 0 + 1 * i.val; omega
  | ⟨2, _⟩ => show d.val = 0 + 1 * d.val; omega

theorem piece_blockT (h : ℕ) (hh : h < 4) (f : Vec Ideal S1x128x128 .f32)
    (hf : ∀ d e, f (ix3 0 d e) = blockT x (ix3 ⟨h, hh⟩ d e))
    (inb : ∀ a, (![h, 0, 0] : Fin 3 → ℕ) a + (![1, 128, 128] : Fin 3 → ℕ) a ≤ S4x128x128.size a) (y : S1x128x128.Idx) :
    f y = blockT x ((Rect.unit (s := S4x128x128) ![h, 0, 0] ![1, 128, 128] inb).emb y) := by
  obtain ⟨d, e, rfl⟩ := idx_state y
  refine (hf d e).trans (congrArg (blockT x) (funext fun a => Fin.ext ?_))
  match a with
  | ⟨0, _⟩ => show h = h + 1 * 0; omega
  | ⟨1, _⟩ => show d.val = 0 + 1 * d.val; omega
  | ⟨2, _⟩ => show e.val = 0 + 1 * e.val; omega

end tables

/-- Where the last four stores cover a buffer, what was stored before them does not matter. -/
theorem canon_four {S : Shape} {e : EltTy} (G : S.Idx → Elt Ideal e) (p1 p2 p3 p4 : View.Piece (Elt Ideal) S e)
    (L : List (View.Piece (Elt Ideal) S e))
    (h : ∀ p ∈ [p1, p2, p3, p4], ∀ x : p.1.shape.Idx, p.2 x = G (p.1.emb x))
    (hc : ∀ y : S.Idx, ∃ p ∈ [p1, p2, p3, p4], y ∈ p.1.set) : View.canon (p1 :: p2 :: p3 :: p4 :: L) = G :=
  funext fun y => View.canon_append_of_pieces G L [p1, p2, p3, p4] h y (hc y)

end Cert.KernelProjIdeal.Val

end
-- ==== Proof.ProjOutA.lean ====
/-
  What the input projection's kernel leaves in its buffers after the first block of a sequence (the last rows first).
-/
module

public import proofs.«01_k».proof.Proof.ProjTable
public import Idealize.ShloMosaic.Lib.Pipeline.ReadBack

@[expose] public section

set_option maxHeartbeats 4000000
set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

/-- The gates' block. -/
theorem out_A_10 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = gatesB (hB x1 x2 x3) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (gatesB (hB x1 x2 x3)) _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_gates x1 x2 x3 2048 inb_S1x1024x6656_S1x1024x1024_0_0_2048 inb_S1x6656_S1x1024_0_2048 inb_S512x3072_S512x1024_0_2048 x,
    List.forall_mem_cons.mpr ⟨fun x => piece_gates x1 x2 x3 1024 inb_S1x1024x6656_S1x1024x1024_0_0_1024 inb_S1x6656_S1x1024_0_1024 inb_S512x3072_S512x1024_0_1024 x,
    List.forall_mem_cons.mpr ⟨fun x => piece_gates x1 x2 x3 0 inb_S1x1024x6656_S1x1024x1024_0_0_0 inb_S1x6656_S1x1024_0_0 inb_S512x3072_S512x1024_0_0 x, List.forall_mem_nil _⟩⟩⟩

/-- The spatial unit's block. -/
theorem out_A_11 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = unitB (hB x1 x2 x3) x4 x5 x6 x7 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (unitB (hB x1 x2 x3) x4 x5 x6 x7) _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_unit x1 x2 x3 x4 x5 x6 x7 384 384 3 (by decide) (by decide) rfl rfl _ inb_S1x4x128x128_S1x1x128x128_0_3_0_0 inb_S4x128x128_S1x128x128_3_0_0 (unit33_at _ _ _ _) inb_S512x512_S128x128_384_384 x,
    List.forall_mem_cons.mpr ⟨fun x => piece_unit x1 x2 x3 x4 x5 x6 x7 384 256 2 (by decide) (by decide) rfl rfl _ inb_S1x4x128x128_S1x1x128x128_0_2_0_0 inb_S4x128x128_S1x128x128_2_0_0 (unit32_at _ _ _ _) inb_S512x512_S128x128_384_256 x,
    List.forall_mem_cons.mpr ⟨fun x => piece_unit x1 x2 x3 x4 x5 x6 x7 384 128 1 (by decide) (by decide) rfl rfl _ inb_S1x4x128x128_S1x1x128x128_0_1_0_0 inb_S4x128x128_S1x128x128_1_0_0 (unit31_at _ _ _ _) inb_S512x512_S128x128_384_128 x,
    List.forall_mem_cons.mpr ⟨fun x => piece_unit x1 x2 x3 x4 x5 x6 x7 384 0 0 (by decide) (by decide) rfl rfl _ inb_S1x4x128x128_S1x1x128x128_0_0_0_0 inb_S4x128x128_S1x128x128_0_0_0 (unit30_at _ _ _ _) inb_S512x512_S128x128_384_0 x,
    List.forall_mem_cons.mpr ⟨fun x => piece_unit x1 x2 x3 x4 x5 x6 x7 256 384 3 (by decide) (by decide) rfl rfl _ inb_S1x4x128x128_S1x1x128x128_0_3_0_0 inb_S4x128x128_S1x128x128_3_0_0 (unit23_at _ _ _ _) inb_S512x512_S128x128_256_384 x,
    List.forall_mem_cons.mpr ⟨fun x => piece_unit x1 x2 x3 x4 x5 x6 x7 256 256 2 (by decide) (by decide) rfl rfl _ inb_S1x4x128x128_S1x1x128x128_0_2_0_0 inb_S4x128x128_S1x128x128_2_0_0 (unit22_at _ _ _ _) inb_S512x512_S128x128_256_256 x,
    List.forall_mem_cons.mpr ⟨fun x => piece_unit x1 x2 x3 x4 x5 x6 x7 256 128 1 (by decide) (by decide) rfl rfl _ inb_S1x4x128x128_S1x1x128x128_0_1_0_0 inb_S4x128x128_S1x128x128_1_0_0 (unit21_at _ _ _ _) inb_S512x512_S128x128_256_128 x,
    List.forall_mem_cons.mpr ⟨fun x => piece_unit x1 x2 x3 x4 x5 x6 x7 256 0 0 (by decide) (by decide) rfl rfl _ inb_S1x4x128x128_S1x1x128x128_0_0_0_0 inb_S4x128x128_S1x128x128_0_0_0 (unit20_at _ _ _ _) inb_S512x512_S128x128_256_0 x,
    List.forall_mem_cons.mpr ⟨fun x => piece_unit x1 x2 x3 x4 x5 x6 x7 128 384 3 (by decide) (by decide) rfl rfl _ inb_S1x4x128x128_S1x1x128x128_0_3_0_0 inb_S4x128x128_S1x128x128_3_0_0 (unit13_at _ _ _ _) inb_S512x512_S128x128_128_384 x,
    List.forall_mem_cons.mpr ⟨fun x => piece_unit x1 x2 x3 x4 x5 x6 x7 128 256 2 (by decide) (by decide) rfl rfl _ inb_S1x4x128x128_S1x1x128x128_0_2_0_0 inb_S4x128x128_S1x128x128_2_0_0 (unit12_at _ _ _ _) inb_S512x512_S128x128_128_256 x,
    List.forall_mem_cons.mpr ⟨fun x => piece_unit x1 x2 x3 x4 x5 x6 x7 128 128 1 (by decide) (by decide) rfl rfl _ inb_S1x4x128x128_S1x1x128x128_0_1_0_0 inb_S4x128x128_S1x128x128_1_0_0 (unit11_at _ _ _ _) inb_S512x512_S128x128_128_128 x,
    List.forall_mem_cons.mpr ⟨fun x => piece_unit x1 x2 x3 x4 x5 x6 x7 128 0 0 (by decide) (by decide) rfl rfl _ inb_S1x4x128x128_S1x1x128x128_0_0_0_0 inb_S4x128x128_S1x128x128_0_0_0 (unit10_at _ _ _ _) inb_S512x512_S128x128_128_0 x,
    List.forall_mem_cons.mpr ⟨fun x => piece_unit x1 x2 x3 x4 x5 x6 x7 0 384 3 (by decide) (by decide) rfl rfl _ inb_S1x4x128x128_S1x1x128x128_0_3_0_0 inb_S4x128x128_S1x128x128_3_0_0 (unit03_at _ _ _ _) inb_S512x512_S128x128_0_384 x,
    List.forall_mem_cons.mpr ⟨fun x => piece_unit x1 x2 x3 x4 x5 x6 x7 0 256 2 (by decide) (by decide) rfl rfl _ inb_S1x4x128x128_S1x1x128x128_0_2_0_0 inb_S4x128x128_S1x128x128_2_0_0 (unit02_at _ _ _ _) inb_S512x512_S128x128_0_256 x,
    List.forall_mem_cons.mpr ⟨fun x => piece_unit x1 x2 x3 x4 x5 x6 x7 0 128 1 (by decide) (by decide) rfl rfl _ inb_S1x4x128x128_S1x1x128x128_0_1_0_0 inb_S4x128x128_S1x128x128_1_0_0 (unit01_at _ _ _ _) inb_S512x512_S128x128_0_128 x,
    List.forall_mem_cons.mpr ⟨fun x => piece_unit x1 x2 x3 x4 x5 x6 x7 0 0 0 (by decide) (by decide) rfl rfl _ inb_S1x4x128x128_S1x1x128x128_0_0_0_0 inb_S4x128x128_S1x128x128_0_0_0 (unit00_at _ _ _ _) inb_S512x512_S128x128_0_0 x, List.forall_mem_nil _⟩⟩⟩⟩⟩⟩⟩⟩⟩⟩⟩⟩⟩⟩⟩⟩

/-- The queries' block. -/
theorem out_A_12 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = queriesB (hB x1 x2 x3) x8 x9 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (queriesB (hB x1 x2 x3) x8 x9) _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_queries x1 x2 x3 x8 x9 3 384 rfl (by decide) _ (query3_at (tV x8) (tV x9) (qkV x1 x2 x3)) inb_S512x512_S512x128_0_384 x,
    List.forall_mem_cons.mpr ⟨fun x => piece_queries x1 x2 x3 x8 x9 2 256 rfl (by decide) _ (query2_at (tV x8) (tV x9) (qkV x1 x2 x3)) inb_S512x512_S512x128_0_256 x,
    List.forall_mem_cons.mpr ⟨fun x => piece_queries x1 x2 x3 x8 x9 1 128 rfl (by decide) _ (query1_at (tV x8) (tV x9) (qkV x1 x2 x3)) inb_S512x512_S512x128_0_128 x,
    List.forall_mem_cons.mpr ⟨fun x => piece_queries x1 x2 x3 x8 x9 0 0 rfl (by decide) _ (query0_at (tV x8) (tV x9) (qkV x1 x2 x3)) inb_S512x512_S512x128_0_0 x, List.forall_mem_nil _⟩⟩⟩⟩

/-- The keys' block. -/
theorem out_A_13 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = keysB (hB x1 x2 x3) x8 x9 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (keysB (hB x1 x2 x3) x8 x9) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_keys x1 x2 x3 x8 x9 3 384 rfl (by decide) _ (key3_at (tV x8) (tV x9) (qkV x1 x2 x3)) inb_S512x512_S512x128_0_384 x,
    List.forall_mem_cons.mpr ⟨fun x => piece_keys x1 x2 x3 x8 x9 2 256 rfl (by decide) _ (key2_at (tV x8) (tV x9) (qkV x1 x2 x3)) inb_S512x512_S512x128_0_256 x,
    List.forall_mem_cons.mpr ⟨fun x => piece_keys x1 x2 x3 x8 x9 1 128 rfl (by decide) _ (key1_at (tV x8) (tV x9) (qkV x1 x2 x3)) inb_S512x512_S512x128_0_128 x,
    List.forall_mem_cons.mpr ⟨fun x => piece_keys x1 x2 x3 x8 x9 0 0 rfl (by decide) _ (key0_at (tV x8) (tV x9) (qkV x1 x2 x3)) inb_S512x512_S512x128_0_0 x, List.forall_mem_nil _⟩⟩⟩⟩

/-- The values' block. -/
theorem out_A_14 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = valuesB (hB x1 x2 x3) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (valuesB (hB x1 x2 x3)) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_values x1 x2 x3 inb_S512x512_S512x512_0_0 x, List.forall_mem_nil _⟩

/-- The block of retention's gate. -/
theorem out_A_15 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = gateB (hB x1 x2 x3) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (gateB (hB x1 x2 x3)) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_gate x1 x2 x3 inb_S1x1024x6656_S1x1024x1024_0_0_5120 inb_S1x6656_S1x1024_0_5120 inb_S512x512_S512x512_0_0 x, List.forall_mem_nil _⟩

/-- The Fourier columns' block. -/
theorem out_A_16 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = fourierB (hB x1 x2 x3) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (fourierB (hB x1 x2 x3)) _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_fourier x1 x2 x3 3 3 (by decide) (by decide) _ (plane33_at (zV x1 x2 x3)) inb_S4x1x16x4x8x128_S1x1x16x1x8x128_3_0_0_3_0_0 x,
    List.forall_mem_cons.mpr ⟨fun x => piece_fourier x1 x2 x3 3 2 (by decide) (by decide) _ (plane32_at (zV x1 x2 x3)) inb_S4x1x16x4x8x128_S1x1x16x1x8x128_3_0_0_2_0_0 x,
    List.forall_mem_cons.mpr ⟨fun x => piece_fourier x1 x2 x3 3 1 (by decide) (by decide) _ (plane31_at (zV x1 x2 x3)) inb_S4x1x16x4x8x128_S1x1x16x1x8x128_3_0_0_1_0_0 x,
    List.forall_mem_cons.mpr ⟨fun x => piece_fourier x1 x2 x3 3 0 (by decide) (by decide) _ (plane30_at (zV x1 x2 x3)) inb_S4x1x16x4x8x128_S1x1x16x1x8x128_3_0_0_0_0_0 x,
    List.forall_mem_cons.mpr ⟨fun x => piece_fourier x1 x2 x3 2 3 (by decide) (by decide) _ (plane23_at (zV x1 x2 x3)) inb_S4x1x16x4x8x128_S1x1x16x1x8x128_2_0_0_3_0_0 x,
    List.forall_mem_cons.mpr ⟨fun x => piece_fourier x1 x2 x3 2 2 (by decide) (by decide) _ (plane22_at (zV x1 x2 x3)) inb_S4x1x16x4x8x128_S1x1x16x1x8x128_2_0_0_2_0_0 x,
    List.forall_mem_cons.mpr ⟨fun x => piece_fourier x1 x2 x3 2 1 (by decide) (by decide) _ (plane21_at (zV x1 x2 x3)) inb_S4x1x16x4x8x128_S1x1x16x1x8x128_2_0_0_1_0_0 x,
    List.forall_mem_cons.mpr ⟨fun x => piece_fourier x1 x2 x3 2 0 (by decide) (by decide) _ (plane20_at (zV x1 x2 x3)) inb_S4x1x16x4x8x128_S1x1x16x1x8x128_2_0_0_0_0_0 x,
    List.forall_mem_cons.mpr ⟨fun x => piece_fourier x1 x2 x3 1 3 (by decide) (by decide) _ (plane13_at (zV x1 x2 x3)) inb_S4x1x16x4x8x128_S1x1x16x1x8x128_1_0_0_3_0_0 x,
    List.forall_mem_cons.mpr ⟨fun x => piece_fourier x1 x2 x3 1 2 (by decide) (by decide) _ (plane12_at (zV x1 x2 x3)) inb_S4x1x16x4x8x128_S1x1x16x1x8x128_1_0_0_2_0_0 x,
    List.forall_mem_cons.mpr ⟨fun x => piece_fourier x1 x2 x3 1 1 (by decide) (by decide) _ (plane11_at (zV x1 x2 x3)) inb_S4x1x16x4x8x128_S1x1x16x1x8x128_1_0_0_1_0_0 x,
    List.forall_mem_cons.mpr ⟨fun x => piece_fourier x1 x2 x3 1 0 (by decide) (by decide) _ (plane10_at (zV x1 x2 x3)) inb_S4x1x16x4x8x128_S1x1x16x1x8x128_1_0_0_0_0_0 x,
    List.forall_mem_cons.mpr ⟨fun x => piece_fourier x1 x2 x3 0 3 (by decide) (by decide) _ (plane03_at (zV x1 x2 x3)) inb_S4x1x16x4x8x128_S1x1x16x1x8x128_0_0_0_3_0_0 x,
    List.forall_mem_cons.mpr ⟨fun x => piece_fourier x1 x2 x3 0 2 (by decide) (by decide) _ (plane02_at (zV x1 x2 x3)) inb_S4x1x16x4x8x128_S1x1x16x1x8x128_0_0_0_2_0_0 x,
    List.forall_mem_cons.mpr ⟨fun x => piece_fourier x1 x2 x3 0 1 (by decide) (by decide) _ (plane01_at (zV x1 x2 x3)) inb_S4x1x16x4x8x128_S1x1x16x1x8x128_0_0_0_1_0_0 x,
    List.forall_mem_cons.mpr ⟨fun x => piece_fourier x1 x2 x3 0 0 (by decide) (by decide) _ (plane00_at (zV x1 x2 x3)) inb_S4x1x16x4x8x128_S1x1x16x1x8x128_0_0_0_0_0_0 x, List.forall_mem_nil _⟩⟩⟩⟩⟩⟩⟩⟩⟩⟩⟩⟩⟩⟩⟩⟩

/-- The states behind the block's halves. -/
theorem out_A_17 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = storedB (hB x1 x2 x3) x8 x9 (rowsT x0) (blockT x0) (fun _ => (0 : EReal)) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (storedB (hB x1 x2 x3) x8 x9 (rowsT x0) (blockT x0) (fun _ => (0 : EReal))) _ ?_ y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_first x1 x2 x3 x8 x9 (rowsT x0) (blockT x0) (fun _ => (0 : EReal)) 3 (by decide) 384 rfl (by decide) (k0_pay62 (k0_pay28 (tV x8)) (k0_pay29 (tV x9)) (qkV x1 x2 x3)) (rowL3 x0) (blockL3 x0) (stateL (k0_pay2 (F := Ideal)) 3) (key3_at (tV x8) (tV x9) (qkV x1 x2 x3)) (rowL3_at x0) (blockL3_at x0) (zeroL_at 3) _ (stored3_at (tV x8) (tV x9) (qkV x1 x2 x3) (valV x1 x2 x3) (stateL (k0_pay2 (F := Ideal)) 3) (blockL3 x0) (rowL3 x0)) inb_S2x4x128x128_S1x1x128x128_0_3_0_0 x,
    List.forall_mem_cons.mpr ⟨fun x => piece_second x8 x9 (rowsT x0) (blockT x0) (fun _ => (0 : EReal)) 3 (by decide) (stateL (k0_pay2 (F := Ideal)) 3) (zeroL_at 3) (hB x1 x2 x3) _ (pay65_at (stateL (k0_pay2 (F := Ideal)) 3)) inb_S2x4x128x128_S1x1x128x128_1_3_0_0 x,
    List.forall_mem_cons.mpr ⟨fun x => piece_first x1 x2 x3 x8 x9 (rowsT x0) (blockT x0) (fun _ => (0 : EReal)) 2 (by decide) 256 rfl (by decide) (k0_pay55 (k0_pay28 (tV x8)) (k0_pay29 (tV x9)) (qkV x1 x2 x3)) (rowL2 x0) (blockL2 x0) (stateL (k0_pay2 (F := Ideal)) 2) (key2_at (tV x8) (tV x9) (qkV x1 x2 x3)) (rowL2_at x0) (blockL2_at x0) (zeroL_at 2) _ (stored2_at (tV x8) (tV x9) (qkV x1 x2 x3) (valV x1 x2 x3) (stateL (k0_pay2 (F := Ideal)) 2) (blockL2 x0) (rowL2 x0)) inb_S2x4x128x128_S1x1x128x128_0_2_0_0 x,
    List.forall_mem_cons.mpr ⟨fun x => piece_second x8 x9 (rowsT x0) (blockT x0) (fun _ => (0 : EReal)) 2 (by decide) (stateL (k0_pay2 (F := Ideal)) 2) (zeroL_at 2) (hB x1 x2 x3) _ (pay57_at (stateL (k0_pay2 (F := Ideal)) 2)) inb_S2x4x128x128_S1x1x128x128_1_2_0_0 x,
    List.forall_mem_cons.mpr ⟨fun x => piece_first x1 x2 x3 x8 x9 (rowsT x0) (blockT x0) (fun _ => (0 : EReal)) 1 (by decide) 128 rfl (by decide) (k0_pay46 (k0_pay28 (tV x8)) (k0_pay29 (tV x9)) (qkV x1 x2 x3)) (rowL1 x0) (blockL1 x0) (stateL (k0_pay2 (F := Ideal)) 1) (key1_at (tV x8) (tV x9) (qkV x1 x2 x3)) (rowL1_at x0) (blockL1_at x0) (zeroL_at 1) _ (stored1_at (tV x8) (tV x9) (qkV x1 x2 x3) (valV x1 x2 x3) (stateL (k0_pay2 (F := Ideal)) 1) (blockL1 x0) (rowL1 x0)) inb_S2x4x128x128_S1x1x128x128_0_1_0_0 x,
    List.forall_mem_cons.mpr ⟨fun x => piece_second x8 x9 (rowsT x0) (blockT x0) (fun _ => (0 : EReal)) 1 (by decide) (stateL (k0_pay2 (F := Ideal)) 1) (zeroL_at 1) (hB x1 x2 x3) _ (pay48_at (stateL (k0_pay2 (F := Ideal)) 1)) inb_S2x4x128x128_S1x1x128x128_1_1_0_0 x,
    List.forall_mem_cons.mpr ⟨fun x => piece_first x1 x2 x3 x8 x9 (rowsT x0) (blockT x0) (fun _ => (0 : EReal)) 0 (by decide) 0 rfl (by decide) (k0_pay38 (k0_pay29 (tV x9)) (k0_pay36 (qkV x1 x2 x3)) (k0_pay37 (k0_pay28 (tV x8)) (qkV x1 x2 x3)) 64#32) (rowL0 x0) (blockL0 x0) (stateL (k0_pay2 (F := Ideal)) 0) (key0_at (tV x8) (tV x9) (qkV x1 x2 x3)) (rowL0_at x0) (blockL0_at x0) (zeroL_at 0) _ (stored0_at (tV x8) (tV x9) (qkV x1 x2 x3) (valV x1 x2 x3) (stateL (k0_pay2 (F := Ideal)) 0) (blockL0 x0) (rowL0 x0)) inb_S2x4x128x128_S1x1x128x128_0_0_0_0 x,
    List.forall_mem_cons.mpr ⟨fun x => piece_second x8 x9 (rowsT x0) (blockT x0) (fun _ => (0 : EReal)) 0 (by decide) (stateL (k0_pay2 (F := Ideal)) 0) (zeroL_at 0) (hB x1 x2 x3) _ (pay40_at (stateL (k0_pay2 (F := Ideal)) 0)) inb_S2x4x128x128_S1x1x128x128_1_0_0_0 x, List.forall_mem_nil _⟩⟩⟩⟩⟩⟩⟩⟩

/-- The carried state after the block. -/
theorem sout_A_1 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = fullB (hB x1 x2 x3) x8 x9 (rowsT x0) (blockT x0) (fun _ => (0 : EReal)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  refine canon_four (fullB (hB x1 x2 x3) x8 x9 (rowsT x0) (blockT x0) (fun _ => (0 : EReal))) _ _ _ _ _ ?_ ?_
  · exact List.forall_mem_cons.mpr ⟨fun x => piece_full x1 x2 x3 x8 x9 (rowsT x0) (blockT x0) (fun _ => (0 : EReal)) 3 (by decide) 384 rfl (by decide) (k0_pay62 (k0_pay28 (tV x8)) (k0_pay29 (tV x9)) (qkV x1 x2 x3)) (rowL3 x0) (blockL3 x0) (stateL (k0_pay2 (F := Ideal)) 3) (key3_at (tV x8) (tV x9) (qkV x1 x2 x3)) (rowL3_at x0) (blockL3_at x0) (zeroL_at 3) _ (full3_at (tV x8) (tV x9) (qkV x1 x2 x3) (valV x1 x2 x3) (stateL (k0_pay2 (F := Ideal)) 3) (blockL3 x0) (rowL3 x0)) inb_S4x128x128_S1x128x128_3_0_0 x,
    List.forall_mem_cons.mpr ⟨fun x => piece_full x1 x2 x3 x8 x9 (rowsT x0) (blockT x0) (fun _ => (0 : EReal)) 2 (by decide) 256 rfl (by decide) (k0_pay55 (k0_pay28 (tV x8)) (k0_pay29 (tV x9)) (qkV x1 x2 x3)) (rowL2 x0) (blockL2 x0) (stateL (k0_pay2 (F := Ideal)) 2) (key2_at (tV x8) (tV x9) (qkV x1 x2 x3)) (rowL2_at x0) (blockL2_at x0) (zeroL_at 2) _ (full2_at (tV x8) (tV x9) (qkV x1 x2 x3) (valV x1 x2 x3) (stateL (k0_pay2 (F := Ideal)) 2) (blockL2 x0) (rowL2 x0)) inb_S4x128x128_S1x128x128_2_0_0 x,
    List.forall_mem_cons.mpr ⟨fun x => piece_full x1 x2 x3 x8 x9 (rowsT x0) (blockT x0) (fun _ => (0 : EReal)) 1 (by decide) 128 rfl (by decide) (k0_pay46 (k0_pay28 (tV x8)) (k0_pay29 (tV x9)) (qkV x1 x2 x3)) (rowL1 x0) (blockL1 x0) (stateL (k0_pay2 (F := Ideal)) 1) (key1_at (tV x8) (tV x9) (qkV x1 x2 x3)) (rowL1_at x0) (blockL1_at x0) (zeroL_at 1) _ (full1_at (tV x8) (tV x9) (qkV x1 x2 x3) (valV x1 x2 x3) (stateL (k0_pay2 (F := Ideal)) 1) (blockL1 x0) (rowL1 x0)) inb_S4x128x128_S1x128x128_1_0_0 x,
    List.forall_mem_cons.mpr ⟨fun x => piece_full x1 x2 x3 x8 x9 (rowsT x0) (blockT x0) (fun _ => (0 : EReal)) 0 (by decide) 0 rfl (by decide) (k0_pay38 (k0_pay29 (tV x9)) (k0_pay36 (qkV x1 x2 x3)) (k0_pay37 (k0_pay28 (tV x8)) (qkV x1 x2 x3)) 64#32) (rowL0 x0) (blockL0 x0) (stateL (k0_pay2 (F := Ideal)) 0) (key0_at (tV x8) (tV x9) (qkV x1 x2 x3)) (rowL0_at x0) (blockL0_at x0) (zeroL_at 0) _ (full0_at (tV x8) (tV x9) (qkV x1 x2 x3) (valV x1 x2 x3) (stateL (k0_pay2 (F := Ideal)) 0) (blockL0 x0) (rowL0 x0)) inb_S4x128x128_S1x128x128_0_0_0 x, List.forall_mem_nil _⟩⟩⟩⟩
  · exact View.cover_of_tiledL _ ![1, 128, 128] (by sl_kernel_rfl)

/-- The rows' decay tables. -/
theorem sout_A_2 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = rowsT x0 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (rowsT x0) _ ?_ y (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_rowsT x0 3 (by decide) (rowL3 x0) (rowL3_at x0) inb_S4x256x128_S1x256x128_3_0_0 x,
    List.forall_mem_cons.mpr ⟨fun x => piece_rowsT x0 2 (by decide) (rowL2 x0) (rowL2_at x0) inb_S4x256x128_S1x256x128_2_0_0 x,
    List.forall_mem_cons.mpr ⟨fun x => piece_rowsT x0 1 (by decide) (rowL1 x0) (rowL1_at x0) inb_S4x256x128_S1x256x128_1_0_0 x,
    List.forall_mem_cons.mpr ⟨fun x => piece_rowsT x0 0 (by decide) (rowL0 x0) (rowL0_at x0) inb_S4x256x128_S1x256x128_0_0_0 x, List.forall_mem_nil _⟩⟩⟩⟩

/-- The blocks' decay tables. -/
theorem sout_A_3 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 = blockT x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9)]
  funext y
  refine View.canon_apply_of_pieces (blockT x0) _ ?_ y (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 y)
  unfold kernelRun0_A
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_blockT x0 3 (by decide) (blockL3 x0) (blockL3_at x0) inb_S4x128x128_S1x128x128_3_0_0 x,
    List.forall_mem_cons.mpr ⟨fun x => piece_blockT x0 2 (by decide) (blockL2 x0) (blockL2_at x0) inb_S4x128x128_S1x128x128_2_0_0 x,
    List.forall_mem_cons.mpr ⟨fun x => piece_blockT x0 1 (by decide) (blockL1 x0) (blockL1_at x0) inb_S4x128x128_S1x128x128_1_0_0 x,
    List.forall_mem_cons.mpr ⟨fun x => piece_blockT x0 0 (by decide) (blockL0 x0) (blockL0_at x0) inb_S4x128x128_S1x128x128_0_0_0 x, List.forall_mem_nil _⟩⟩⟩⟩

end Cert.KernelProjIdeal.Val

end
-- ==== Proof.ProjOutB.lean ====
/-
  What the input projection's kernel leaves in its buffers after a block that is not the first of its sequence.
-/
module

public import proofs.«01_k».proof.Proof.ProjTable
public import Idealize.ShloMosaic.Lib.Pipeline.ReadBack

@[expose] public section

set_option maxHeartbeats 4000000
set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

/-- The gates' block. -/
theorem out_B_10 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = gatesB (hB x1 x2 x3) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (gatesB (hB x1 x2 x3)) _ ?_ y (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_gates x1 x2 x3 2048 inb_S1x1024x6656_S1x1024x1024_0_0_2048 inb_S1x6656_S1x1024_0_2048 inb_S512x3072_S512x1024_0_2048 x,
    List.forall_mem_cons.mpr ⟨fun x => piece_gates x1 x2 x3 1024 inb_S1x1024x6656_S1x1024x1024_0_0_1024 inb_S1x6656_S1x1024_0_1024 inb_S512x3072_S512x1024_0_1024 x,
    List.forall_mem_cons.mpr ⟨fun x => piece_gates x1 x2 x3 0 inb_S1x1024x6656_S1x1024x1024_0_0_0 inb_S1x6656_S1x1024_0_0 inb_S512x3072_S512x1024_0_0 x, List.forall_mem_nil _⟩⟩⟩

/-- The spatial unit's block. -/
theorem out_B_11 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = unitB (hB x1 x2 x3) x4 x5 x6 x7 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (unitB (hB x1 x2 x3) x4 x5 x6 x7) _ ?_ y (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_unit x1 x2 x3 x4 x5 x6 x7 384 384 3 (by decide) (by decide) rfl rfl _ inb_S1x4x128x128_S1x1x128x128_0_3_0_0 inb_S4x128x128_S1x128x128_3_0_0 (unit33_at _ _ _ _) inb_S512x512_S128x128_384_384 x,
    List.forall_mem_cons.mpr ⟨fun x => piece_unit x1 x2 x3 x4 x5 x6 x7 384 256 2 (by decide) (by decide) rfl rfl _ inb_S1x4x128x128_S1x1x128x128_0_2_0_0 inb_S4x128x128_S1x128x128_2_0_0 (unit32_at _ _ _ _) inb_S512x512_S128x128_384_256 x,
    List.forall_mem_cons.mpr ⟨fun x => piece_unit x1 x2 x3 x4 x5 x6 x7 384 128 1 (by decide) (by decide) rfl rfl _ inb_S1x4x128x128_S1x1x128x128_0_1_0_0 inb_S4x128x128_S1x128x128_1_0_0 (unit31_at _ _ _ _) inb_S512x512_S128x128_384_128 x,
    List.forall_mem_cons.mpr ⟨fun x => piece_unit x1 x2 x3 x4 x5 x6 x7 384 0 0 (by decide) (by decide) rfl rfl _ inb_S1x4x128x128_S1x1x128x128_0_0_0_0 inb_S4x128x128_S1x128x128_0_0_0 (unit30_at _ _ _ _) inb_S512x512_S128x128_384_0 x,
    List.forall_mem_cons.mpr ⟨fun x => piece_unit x1 x2 x3 x4 x5 x6 x7 256 384 3 (by decide) (by decide) rfl rfl _ inb_S1x4x128x128_S1x1x128x128_0_3_0_0 inb_S4x128x128_S1x128x128_3_0_0 (unit23_at _ _ _ _) inb_S512x512_S128x128_256_384 x,
    List.forall_mem_cons.mpr ⟨fun x => piece_unit x1 x2 x3 x4 x5 x6 x7 256 256 2 (by decide) (by decide) rfl rfl _ inb_S1x4x128x128_S1x1x128x128_0_2_0_0 inb_S4x128x128_S1x128x128_2_0_0 (unit22_at _ _ _ _) inb_S512x512_S128x128_256_256 x,
    List.forall_mem_cons.mpr ⟨fun x => piece_unit x1 x2 x3 x4 x5 x6 x7 256 128 1 (by decide) (by decide) rfl rfl _ inb_S1x4x128x128_S1x1x128x128_0_1_0_0 inb_S4x128x128_S1x128x128_1_0_0 (unit21_at _ _ _ _) inb_S512x512_S128x128_256_128 x,
    List.forall_mem_cons.mpr ⟨fun x => piece_unit x1 x2 x3 x4 x5 x6 x7 256 0 0 (by decide) (by decide) rfl rfl _ inb_S1x4x128x128_S1x1x128x128_0_0_0_0 inb_S4x128x128_S1x128x128_0_0_0 (unit20_at _ _ _ _) inb_S512x512_S128x128_256_0 x,
    List.forall_mem_cons.mpr ⟨fun x => piece_unit x1 x2 x3 x4 x5 x6 x7 128 384 3 (by decide) (by decide) rfl rfl _ inb_S1x4x128x128_S1x1x128x128_0_3_0_0 inb_S4x128x128_S1x128x128_3_0_0 (unit13_at _ _ _ _) inb_S512x512_S128x128_128_384 x,
    List.forall_mem_cons.mpr ⟨fun x => piece_unit x1 x2 x3 x4 x5 x6 x7 128 256 2 (by decide) (by decide) rfl rfl _ inb_S1x4x128x128_S1x1x128x128_0_2_0_0 inb_S4x128x128_S1x128x128_2_0_0 (unit12_at _ _ _ _) inb_S512x512_S128x128_128_256 x,
    List.forall_mem_cons.mpr ⟨fun x => piece_unit x1 x2 x3 x4 x5 x6 x7 128 128 1 (by decide) (by decide) rfl rfl _ inb_S1x4x128x128_S1x1x128x128_0_1_0_0 inb_S4x128x128_S1x128x128_1_0_0 (unit11_at _ _ _ _) inb_S512x512_S128x128_128_128 x,
    List.forall_mem_cons.mpr ⟨fun x => piece_unit x1 x2 x3 x4 x5 x6 x7 128 0 0 (by decide) (by decide) rfl rfl _ inb_S1x4x128x128_S1x1x128x128_0_0_0_0 inb_S4x128x128_S1x128x128_0_0_0 (unit10_at _ _ _ _) inb_S512x512_S128x128_128_0 x,
    List.forall_mem_cons.mpr ⟨fun x => piece_unit x1 x2 x3 x4 x5 x6 x7 0 384 3 (by decide) (by decide) rfl rfl _ inb_S1x4x128x128_S1x1x128x128_0_3_0_0 inb_S4x128x128_S1x128x128_3_0_0 (unit03_at _ _ _ _) inb_S512x512_S128x128_0_384 x,
    List.forall_mem_cons.mpr ⟨fun x => piece_unit x1 x2 x3 x4 x5 x6 x7 0 256 2 (by decide) (by decide) rfl rfl _ inb_S1x4x128x128_S1x1x128x128_0_2_0_0 inb_S4x128x128_S1x128x128_2_0_0 (unit02_at _ _ _ _) inb_S512x512_S128x128_0_256 x,
    List.forall_mem_cons.mpr ⟨fun x => piece_unit x1 x2 x3 x4 x5 x6 x7 0 128 1 (by decide) (by decide) rfl rfl _ inb_S1x4x128x128_S1x1x128x128_0_1_0_0 inb_S4x128x128_S1x128x128_1_0_0 (unit01_at _ _ _ _) inb_S512x512_S128x128_0_128 x,
    List.forall_mem_cons.mpr ⟨fun x => piece_unit x1 x2 x3 x4 x5 x6 x7 0 0 0 (by decide) (by decide) rfl rfl _ inb_S1x4x128x128_S1x1x128x128_0_0_0_0 inb_S4x128x128_S1x128x128_0_0_0 (unit00_at _ _ _ _) inb_S512x512_S128x128_0_0 x, List.forall_mem_nil _⟩⟩⟩⟩⟩⟩⟩⟩⟩⟩⟩⟩⟩⟩⟩⟩

/-- The queries' block. -/
theorem out_B_12 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = queriesB (hB x1 x2 x3) x8 x9 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (queriesB (hB x1 x2 x3) x8 x9) _ ?_ y (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_queries x1 x2 x3 x8 x9 3 384 rfl (by decide) _ (query3_at (tV x8) (tV x9) (qkV x1 x2 x3)) inb_S512x512_S512x128_0_384 x,
    List.forall_mem_cons.mpr ⟨fun x => piece_queries x1 x2 x3 x8 x9 2 256 rfl (by decide) _ (query2_at (tV x8) (tV x9) (qkV x1 x2 x3)) inb_S512x512_S512x128_0_256 x,
    List.forall_mem_cons.mpr ⟨fun x => piece_queries x1 x2 x3 x8 x9 1 128 rfl (by decide) _ (query1_at (tV x8) (tV x9) (qkV x1 x2 x3)) inb_S512x512_S512x128_0_128 x,
    List.forall_mem_cons.mpr ⟨fun x => piece_queries x1 x2 x3 x8 x9 0 0 rfl (by decide) _ (query0_at (tV x8) (tV x9) (qkV x1 x2 x3)) inb_S512x512_S512x128_0_0 x, List.forall_mem_nil _⟩⟩⟩⟩

/-- The keys' block. -/
theorem out_B_13 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = keysB (hB x1 x2 x3) x8 x9 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (keysB (hB x1 x2 x3) x8 x9) _ ?_ y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_keys x1 x2 x3 x8 x9 3 384 rfl (by decide) _ (key3_at (tV x8) (tV x9) (qkV x1 x2 x3)) inb_S512x512_S512x128_0_384 x,
    List.forall_mem_cons.mpr ⟨fun x => piece_keys x1 x2 x3 x8 x9 2 256 rfl (by decide) _ (key2_at (tV x8) (tV x9) (qkV x1 x2 x3)) inb_S512x512_S512x128_0_256 x,
    List.forall_mem_cons.mpr ⟨fun x => piece_keys x1 x2 x3 x8 x9 1 128 rfl (by decide) _ (key1_at (tV x8) (tV x9) (qkV x1 x2 x3)) inb_S512x512_S512x128_0_128 x,
    List.forall_mem_cons.mpr ⟨fun x => piece_keys x1 x2 x3 x8 x9 0 0 rfl (by decide) _ (key0_at (tV x8) (tV x9) (qkV x1 x2 x3)) inb_S512x512_S512x128_0_0 x, List.forall_mem_nil _⟩⟩⟩⟩

/-- The values' block. -/
theorem out_B_14 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = valuesB (hB x1 x2 x3) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (valuesB (hB x1 x2 x3)) _ ?_ y (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_values x1 x2 x3 inb_S512x512_S512x512_0_0 x, List.forall_mem_nil _⟩

/-- The block of retention's gate. -/
theorem out_B_15 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = gateB (hB x1 x2 x3) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (gateB (hB x1 x2 x3)) _ ?_ y (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_gate x1 x2 x3 inb_S1x1024x6656_S1x1024x1024_0_0_5120 inb_S1x6656_S1x1024_0_5120 inb_S512x512_S512x512_0_0 x, List.forall_mem_nil _⟩

/-- The Fourier columns' block. -/
theorem out_B_16 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = fourierB (hB x1 x2 x3) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (fourierB (hB x1 x2 x3)) _ ?_ y (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_fourier x1 x2 x3 3 3 (by decide) (by decide) _ (plane33_at (zV x1 x2 x3)) inb_S4x1x16x4x8x128_S1x1x16x1x8x128_3_0_0_3_0_0 x,
    List.forall_mem_cons.mpr ⟨fun x => piece_fourier x1 x2 x3 3 2 (by decide) (by decide) _ (plane32_at (zV x1 x2 x3)) inb_S4x1x16x4x8x128_S1x1x16x1x8x128_3_0_0_2_0_0 x,
    List.forall_mem_cons.mpr ⟨fun x => piece_fourier x1 x2 x3 3 1 (by decide) (by decide) _ (plane31_at (zV x1 x2 x3)) inb_S4x1x16x4x8x128_S1x1x16x1x8x128_3_0_0_1_0_0 x,
    List.forall_mem_cons.mpr ⟨fun x => piece_fourier x1 x2 x3 3 0 (by decide) (by decide) _ (plane30_at (zV x1 x2 x3)) inb_S4x1x16x4x8x128_S1x1x16x1x8x128_3_0_0_0_0_0 x,
    List.forall_mem_cons.mpr ⟨fun x => piece_fourier x1 x2 x3 2 3 (by decide) (by decide) _ (plane23_at (zV x1 x2 x3)) inb_S4x1x16x4x8x128_S1x1x16x1x8x128_2_0_0_3_0_0 x,
    List.forall_mem_cons.mpr ⟨fun x => piece_fourier x1 x2 x3 2 2 (by decide) (by decide) _ (plane22_at (zV x1 x2 x3)) inb_S4x1x16x4x8x128_S1x1x16x1x8x128_2_0_0_2_0_0 x,
    List.forall_mem_cons.mpr ⟨fun x => piece_fourier x1 x2 x3 2 1 (by decide) (by decide) _ (plane21_at (zV x1 x2 x3)) inb_S4x1x16x4x8x128_S1x1x16x1x8x128_2_0_0_1_0_0 x,
    List.forall_mem_cons.mpr ⟨fun x => piece_fourier x1 x2 x3 2 0 (by decide) (by decide) _ (plane20_at (zV x1 x2 x3)) inb_S4x1x16x4x8x128_S1x1x16x1x8x128_2_0_0_0_0_0 x,
    List.forall_mem_cons.mpr ⟨fun x => piece_fourier x1 x2 x3 1 3 (by decide) (by decide) _ (plane13_at (zV x1 x2 x3)) inb_S4x1x16x4x8x128_S1x1x16x1x8x128_1_0_0_3_0_0 x,
    List.forall_mem_cons.mpr ⟨fun x => piece_fourier x1 x2 x3 1 2 (by decide) (by decide) _ (plane12_at (zV x1 x2 x3)) inb_S4x1x16x4x8x128_S1x1x16x1x8x128_1_0_0_2_0_0 x,
    List.forall_mem_cons.mpr ⟨fun x => piece_fourier x1 x2 x3 1 1 (by decide) (by decide) _ (plane11_at (zV x1 x2 x3)) inb_S4x1x16x4x8x128_S1x1x16x1x8x128_1_0_0_1_0_0 x,
    List.forall_mem_cons.mpr ⟨fun x => piece_fourier x1 x2 x3 1 0 (by decide) (by decide) _ (plane10_at (zV x1 x2 x3)) inb_S4x1x16x4x8x128_S1x1x16x1x8x128_1_0_0_0_0_0 x,
    List.forall_mem_cons.mpr ⟨fun x => piece_fourier x1 x2 x3 0 3 (by decide) (by decide) _ (plane03_at (zV x1 x2 x3)) inb_S4x1x16x4x8x128_S1x1x16x1x8x128_0_0_0_3_0_0 x,
    List.forall_mem_cons.mpr ⟨fun x => piece_fourier x1 x2 x3 0 2 (by decide) (by decide) _ (plane02_at (zV x1 x2 x3)) inb_S4x1x16x4x8x128_S1x1x16x1x8x128_0_0_0_2_0_0 x,
    List.forall_mem_cons.mpr ⟨fun x => piece_fourier x1 x2 x3 0 1 (by decide) (by decide) _ (plane01_at (zV x1 x2 x3)) inb_S4x1x16x4x8x128_S1x1x16x1x8x128_0_0_0_1_0_0 x,
    List.forall_mem_cons.mpr ⟨fun x => piece_fourier x1 x2 x3 0 0 (by decide) (by decide) _ (plane00_at (zV x1 x2 x3)) inb_S4x1x16x4x8x128_S1x1x16x1x8x128_0_0_0_0_0_0 x, List.forall_mem_nil _⟩⟩⟩⟩⟩⟩⟩⟩⟩⟩⟩⟩⟩⟩⟩⟩

/-- The states behind the block's halves. -/
theorem out_B_17 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = storedB (hB x1 x2 x3) x8 x9 xs2 xs3 xs1 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  funext y
  refine View.canon_apply_of_pieces (storedB (hB x1 x2 x3) x8 x9 xs2 xs3 xs1) _ ?_ y (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 y)
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  exact List.forall_mem_cons.mpr ⟨fun x => piece_first x1 x2 x3 x8 x9 xs2 xs3 xs1 3 (by decide) 384 rfl (by decide) (k0_pay62 (k0_pay28 (tV x8)) (k0_pay29 (tV x9)) (qkV x1 x2 x3)) (tableL xs2 3) (stateL xs3 3) (stateL xs1 3) (key3_at (tV x8) (tV x9) (qkV x1 x2 x3)) (tableL_at xs2 3 (by decide)) (stateL_at xs3 3 (by decide)) (stateL_at xs1 3 (by decide)) _ (stored3_at (tV x8) (tV x9) (qkV x1 x2 x3) (valV x1 x2 x3) (stateL xs1 3) (stateL xs3 3) (tableL xs2 3)) inb_S2x4x128x128_S1x1x128x128_0_3_0_0 x,
    List.forall_mem_cons.mpr ⟨fun x => piece_second x8 x9 xs2 xs3 xs1 3 (by decide) (stateL xs1 3) (stateL_at xs1 3 (by decide)) (hB x1 x2 x3) _ (pay65_at (stateL xs1 3)) inb_S2x4x128x128_S1x1x128x128_1_3_0_0 x,
    List.forall_mem_cons.mpr ⟨fun x => piece_first x1 x2 x3 x8 x9 xs2 xs3 xs1 2 (by decide) 256 rfl (by decide) (k0_pay55 (k0_pay28 (tV x8)) (k0_pay29 (tV x9)) (qkV x1 x2 x3)) (tableL xs2 2) (stateL xs3 2) (stateL xs1 2) (key2_at (tV x8) (tV x9) (qkV x1 x2 x3)) (tableL_at xs2 2 (by decide)) (stateL_at xs3 2 (by decide)) (stateL_at xs1 2 (by decide)) _ (stored2_at (tV x8) (tV x9) (qkV x1 x2 x3) (valV x1 x2 x3) (stateL xs1 2) (stateL xs3 2) (tableL xs2 2)) inb_S2x4x128x128_S1x1x128x128_0_2_0_0 x,
    List.forall_mem_cons.mpr ⟨fun x => piece_second x8 x9 xs2 xs3 xs1 2 (by decide) (stateL xs1 2) (stateL_at xs1 2 (by decide)) (hB x1 x2 x3) _ (pay57_at (stateL xs1 2)) inb_S2x4x128x128_S1x1x128x128_1_2_0_0 x,
    List.forall_mem_cons.mpr ⟨fun x => piece_first x1 x2 x3 x8 x9 xs2 xs3 xs1 1 (by decide) 128 rfl (by decide) (k0_pay46 (k0_pay28 (tV x8)) (k0_pay29 (tV x9)) (qkV x1 x2 x3)) (tableL xs2 1) (stateL xs3 1) (stateL xs1 1) (key1_at (tV x8) (tV x9) (qkV x1 x2 x3)) (tableL_at xs2 1 (by decide)) (stateL_at xs3 1 (by decide)) (stateL_at xs1 1 (by decide)) _ (stored1_at (tV x8) (tV x9) (qkV x1 x2 x3) (valV x1 x2 x3) (stateL xs1 1) (stateL xs3 1) (tableL xs2 1)) inb_S2x4x128x128_S1x1x128x128_0_1_0_0 x,
    List.forall_mem_cons.mpr ⟨fun x => piece_second x8 x9 xs2 xs3 xs1 1 (by decide) (stateL xs1 1) (stateL_at xs1 1 (by decide)) (hB x1 x2 x3) _ (pay48_at (stateL xs1 1)) inb_S2x4x128x128_S1x1x128x128_1_1_0_0 x,
    List.forall_mem_cons.mpr ⟨fun x => piece_first x1 x2 x3 x8 x9 xs2 xs3 xs1 0 (by decide) 0 rfl (by decide) (k0_pay38 (k0_pay29 (tV x9)) (k0_pay36 (qkV x1 x2 x3)) (k0_pay37 (k0_pay28 (tV x8)) (qkV x1 x2 x3)) 64#32) (tableL xs2 0) (stateL xs3 0) (stateL xs1 0) (key0_at (tV x8) (tV x9) (qkV x1 x2 x3)) (tableL_at xs2 0 (by decide)) (stateL_at xs3 0 (by decide)) (stateL_at xs1 0 (by decide)) _ (stored0_at (tV x8) (tV x9) (qkV x1 x2 x3) (valV x1 x2 x3) (stateL xs1 0) (stateL xs3 0) (tableL xs2 0)) inb_S2x4x128x128_S1x1x128x128_0_0_0_0 x,
    List.forall_mem_cons.mpr ⟨fun x => piece_second x8 x9 xs2 xs3 xs1 0 (by decide) (stateL xs1 0) (stateL_at xs1 0 (by decide)) (hB x1 x2 x3) _ (pay40_at (stateL xs1 0)) inb_S2x4x128x128_S1x1x128x128_1_0_0_0 x, List.forall_mem_nil _⟩⟩⟩⟩⟩⟩⟩⟩

/-- The carried state after the block. -/
theorem sout_B_1 (c : Dev nD) (i : grid0.Coords) (arg2 : Memref sig .tc .smem S4 .f32) (harg2 : arg2.IsWhole) (arg3 : Memref sig .tc .vmem S512x1024 .f32) (harg3 : arg3.IsWhole) (arg4 : Memref sig .tc .vmem S1x1024x6656 .bf16) (harg4 : arg4.IsWhole) (arg5 : Memref sig .tc .vmem S1x6656 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x4x128x128 .bf16) (harg8 : arg8.IsWhole) (arg9 : Memref sig .tc .vmem S4x128x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x3072 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x512 .bf16) (harg17 : arg17.IsWhole) (arg18 : Memref sig .tc .vmem S4x1x16x4x8x128 .bf16) (harg18 : arg18.IsWhole) (arg19 : Memref sig .tc .vmem S2x4x128x128 .bf16) (harg19 : arg19.IsWhole) (arg20 : Memref sig .tc .vmem S512x1024 .bf16) (harg20 : arg20.IsWhole) (arg21 : Memref sig .tc .vmem S4x128x128 .f32) (harg21 : arg21.IsWhole) (arg22 : Memref sig .tc .vmem S4x256x128 .f32) (harg22 : arg22.IsWhole) (arg23 : Memref sig .tc .vmem S4x128x128 .f32) (harg23 : arg23.IsWhole) (hc0 : ¬cond0_0 i)
    (x0 : Vec Ideal S4 .f32) (x1 : Vec Ideal S512x1024 .f32) (x2 : Vec Ideal S1x1024x6656 .bf16) (x3 : Vec Ideal S1x6656 .f32) (x4 : Vec Ideal S1x512 .f32) (x5 : Vec Ideal S1x512 .f32) (x6 : Vec Ideal S1x4x128x128 .bf16) (x7 : Vec Ideal S4x128x128 .f32) (x8 : Vec Ideal S512x128 .f32) (x9 : Vec Ideal S512x128 .f32) (xs1 : Vec Ideal S4x128x128 .f32) (xs2 : Vec Ideal S4x256x128 .f32) (xs3 : Vec Ideal S4x128x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3 = fullB (hB x1 x2 x3) x8 x9 xs2 xs3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 xs1 xs2 xs3)]
  unfold kernelRun0_B
  dsimp only
  sl_unfold_words
  simp (disch := decide) only [↓ View.readCov_skip, ↓ View.readCov_cons_toLoadRect, ↓ View.readCov_fill, View.readAt_eq_ld, harg2.read_unread, harg3.read_unread, harg4.read_unread, harg5.read_unread, harg6.read_unread, harg7.read_unread, harg8.read_unread, harg9.read_unread, harg10.read_unread, harg11.read_unread, harg20.read_unread, harg21.read_unread, harg22.read_unread, harg23.read_unread]
  refine canon_four (fullB (hB x1 x2 x3) x8 x9 xs2 xs3 xs1) _ _ _ _ _ ?_ ?_
  · exact List.forall_mem_cons.mpr ⟨fun x => piece_full x1 x2 x3 x8 x9 xs2 xs3 xs1 3 (by decide) 384 rfl (by decide) (k0_pay62 (k0_pay28 (tV x8)) (k0_pay29 (tV x9)) (qkV x1 x2 x3)) (tableL xs2 3) (stateL xs3 3) (stateL xs1 3) (key3_at (tV x8) (tV x9) (qkV x1 x2 x3)) (tableL_at xs2 3 (by decide)) (stateL_at xs3 3 (by decide)) (stateL_at xs1 3 (by decide)) _ (full3_at (tV x8) (tV x9) (qkV x1 x2 x3) (valV x1 x2 x3) (stateL xs1 3) (stateL xs3 3) (tableL xs2 3)) inb_S4x128x128_S1x128x128_3_0_0 x,
    List.forall_mem_cons.mpr ⟨fun x => piece_full x1 x2 x3 x8 x9 xs2 xs3 xs1 2 (by decide) 256 rfl (by decide) (k0_pay55 (k0_pay28 (tV x8)) (k0_pay29 (tV x9)) (qkV x1 x2 x3)) (tableL xs2 2) (stateL xs3 2) (stateL xs1 2) (key2_at (tV x8) (tV x9) (qkV x1 x2 x3)) (tableL_at xs2 2 (by decide)) (stateL_at xs3 2 (by decide)) (stateL_at xs1 2 (by decide)) _ (full2_at (tV x8) (tV x9) (qkV x1 x2 x3) (valV x1 x2 x3) (stateL xs1 2) (stateL xs3 2) (tableL xs2 2)) inb_S4x128x128_S1x128x128_2_0_0 x,
    List.forall_mem_cons.mpr ⟨fun x => piece_full x1 x2 x3 x8 x9 xs2 xs3 xs1 1 (by decide) 128 rfl (by decide) (k0_pay46 (k0_pay28 (tV x8)) (k0_pay29 (tV x9)) (qkV x1 x2 x3)) (tableL xs2 1) (stateL xs3 1) (stateL xs1 1) (key1_at (tV x8) (tV x9) (qkV x1 x2 x3)) (tableL_at xs2 1 (by decide)) (stateL_at xs3 1 (by decide)) (stateL_at xs1 1 (by decide)) _ (full1_at (tV x8) (tV x9) (qkV x1 x2 x3) (valV x1 x2 x3) (stateL xs1 1) (stateL xs3 1) (tableL xs2 1)) inb_S4x128x128_S1x128x128_1_0_0 x,
    List.forall_mem_cons.mpr ⟨fun x => piece_full x1 x2 x3 x8 x9 xs2 xs3 xs1 0 (by decide) 0 rfl (by decide) (k0_pay38 (k0_pay29 (tV x9)) (k0_pay36 (qkV x1 x2 x3)) (k0_pay37 (k0_pay28 (tV x8)) (qkV x1 x2 x3)) 64#32) (tableL xs2 0) (stateL xs3 0) (stateL xs1 0) (key0_at (tV x8) (tV x9) (qkV x1 x2 x3)) (tableL_at xs2 0 (by decide)) (stateL_at xs3 0 (by decide)) (stateL_at xs1 0 (by decide)) _ (full0_at (tV x8) (tV x9) (qkV x1 x2 x3) (valV x1 x2 x3) (stateL xs1 0) (stateL xs3 0) (tableL xs2 0)) inb_S4x128x128_S1x128x128_0_0_0 x, List.forall_mem_nil _⟩⟩⟩⟩
  · exact View.cover_of_tiledL _ ![1, 128, 128] (by sl_kernel_rfl)

end Cert.KernelProjIdeal.Val

end
-- ==== Proof.ProjHost.lean ====
/-
  What the input projection's kernel is launched on: its operands as functions of the arguments, and where each window's
  block lies at a grid point.
-/
module

public import proofs.«01_k».proof.Proof.ProjOutA
public import proofs.«01_k».proof.Proof.ProjOutB
public import proofs.«01_k».proof.Proof.ProjRow
public import Idealize.ShloMosaic.Lib.StableHlo.ReadAt

@[expose] public section

set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

variable (m : (ℓ : Loc nD τ sig) → Buf (Elt Ideal) ℓ)

theorem V_x (c : Dev nD) (i : S32768x1024.Idx) : V m c main_arg0 i = m ((c : Thread nD τ).loc main_arg0) i := by
  unfold V
  after_reads_at

theorem V_logit (c : Dev nD) (i : S4.Idx) : V m c main_arg1 i = m ((c : Thread nD τ).loc main_arg1) i := by
  unfold V
  after_reads_at

theorem V_w (c : Dev nD) (i : S2x1024x6656.Idx) : V m c main_v17 i = m ((c : Thread nD τ).loc main_arg2) i := by
  unfold V
  after_reads_at

theorem V_b (c : Dev nD) (k : Fin 6656) : V m c main_v20 (ix2 0 k) = m ((c : Thread nD τ).loc main_arg3) (ix2 0 k) := by
  unfold V
  after_reads_at

theorem V_g (c : Dev nD) (k : Fin 512) : V m c main_v23 (ix2 0 k) = m ((c : Thread nD τ).loc main_arg4) (ix2 0 k) := by
  unfold V
  after_reads_at

theorem V_gb (c : Dev nD) (k : Fin 512) : V m c main_v26 (ix2 0 k) = m ((c : Thread nD τ).loc main_arg5) (ix2 0 k) := by
  unfold V
  after_reads_at

theorem V_mix (c : Dev nD) (i : S2x4x128x128.Idx) : V m c main_v27 i = m ((c : Thread nD τ).loc main_arg6) i := by
  unfold V
  after_reads_at

theorem V_bias (c : Dev nD) (g : Fin 4) (i k : Fin 128) :
    V m c main_v31 (ix3 g i k) = m ((c : Thread nD τ).loc main_arg7) (ix3 0 g i) := by
  unfold V
  after_reads_at

theorem word_real (c : ℕ) (hc : c < 16384) : FloatOps.sitofp (F := Ideal) FTy.f32 (BitVec.ofNat 32 c) = ((c : ℝ) : EReal) :=
  real_word c (by omega)

theorem V_cos (c : Dev nD) (p : Fin 16384) (k : Fin 128) :
    V m c main_v14 (ix2 p k) = Ideal.cos (angle p (if k.val < 64 then k.val else k.val - 64)) := by
  unfold V angle
  after_reads_at
  by_cases h : k.val < 64
  · rw [dif_pos h, if_pos h, word_real _ (by omega), word_real _ (by omega)]
  · rw [dif_neg h, if_neg h, word_real _ (by omega), word_real _ (by omega)]

theorem V_sin (c : Dev nD) (p : Fin 16384) (k : Fin 128) :
    V m c main_v16 (ix2 p k)
      = if k.val < 64 then -Ideal.sin (angle p k) else Ideal.sin (angle p (k.val - 64)) := by
  unfold V angle
  after_reads_at
  by_cases h : k.val < 64
  · rw [dif_pos h, if_pos h, word_real _ (by omega), word_real _ (by omega)]
  · rw [dif_neg h, if_neg h, word_real _ (by omega), word_real _ (by omega)]

/-- The block of 512 rows point `t` works on: the last of its sequence first. -/
def rowBlk (t : ℕ) : ℕ := 32 * (t / 32) + (31 - t % 32)

/-- Where each window's block lies at a grid point. -/
theorem idx0 : ∀ t : Fin grid0.N, win0_0.index t 0 = 0 := by decide +kernel
theorem idx1 : ∀ t : Fin grid0.N, win0_1.index t 0 = rowBlk t.val ∧ win0_1.index t 1 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 ∧ win0_6.index t 2 = 0 ∧ win0_6.index t 3 = 0 := by
  decide +kernel
theorem idx7 : ∀ t : Fin grid0.N, win0_7.index t 0 = 0 ∧ win0_7.index t 1 = 0 ∧ win0_7.index t 2 = 0 := by decide +kernel
theorem idx8 : ∀ t : Fin grid0.N, win0_8.index t 0 = 31 - t.val % 32 ∧ win0_8.index t 1 = 0 := by decide +kernel
theorem idx9 : ∀ t : Fin grid0.N, win0_9.index t 0 = 31 - t.val % 32 ∧ win0_9.index t 1 = 0 := by decide +kernel
theorem idx10 : ∀ t : Fin grid0.N, win0_10.index t 0 = rowBlk t.val ∧ win0_10.index t 1 = 0 := by decide +kernel
theorem idx11 : ∀ t : Fin grid0.N, win0_11.index t 0 = rowBlk t.val ∧ win0_11.index t 1 = 0 := by decide +kernel
theorem idx12 : ∀ t : Fin grid0.N, win0_12.index t 0 = rowBlk t.val ∧ win0_12.index t 1 = 0 := by decide +kernel
theorem idx13 : ∀ t : Fin grid0.N, win0_13.index t 0 = rowBlk t.val ∧ win0_13.index t 1 = 0 := by decide +kernel
theorem idx14 : ∀ t : Fin grid0.N, win0_14.index t 0 = rowBlk t.val ∧ win0_14.index t 1 = 0 := by decide +kernel
theorem idx15 : ∀ t : Fin grid0.N, win0_15.index t 0 = rowBlk t.val ∧ win0_15.index t 1 = 0 := by decide +kernel
theorem idx16 : ∀ t : Fin grid0.N, win0_16.index t 0 = 0 ∧ win0_16.index t 1 = t.val / 32 ∧ win0_16.index t 2 = 0
    ∧ win0_16.index t 3 = 31 - t.val % 32 ∧ win0_16.index t 4 = 0 ∧ win0_16.index t 5 = 0 := by decide +kernel
theorem idx17 : ∀ t : Fin grid0.N, win0_17.index t 0 = rowBlk t.val ∧ win0_17.index t 1 = 0 ∧ win0_17.index t 2 = 0
    ∧ win0_17.index t 3 = 0 := by decide +kernel
theorem flush10 : ∀ t : Fin grid0.N, win0_10.flush t = true := by decide +kernel
theorem flush11 : ∀ t : Fin grid0.N, win0_11.flush t = true := by decide +kernel
theorem flush12 : ∀ t : Fin grid0.N, win0_12.flush t = true := by decide +kernel
theorem flush13 : ∀ t : Fin grid0.N, win0_13.flush t = true := by decide +kernel
theorem flush14 : ∀ t : Fin grid0.N, win0_14.flush t = true := by decide +kernel
theorem flush15 : ∀ t : Fin grid0.N, win0_15.flush t = true := by decide +kernel
theorem flush16 : ∀ t : Fin grid0.N, win0_16.flush t = true := by decide +kernel
theorem flush17 : ∀ t : Fin grid0.N, win0_17.flush t = true := by decide +kernel

end Cert.KernelProjIdeal.Val

end
-- ==== Proof.ProjTail.lean ====
/-
  The state of retention behind a block, as a recurrence from the last block to the first: it is the sum over the rows
  behind the block.
-/
module

public import proofs.«01_k».proof.Proof.ProjRow

@[expose] public section

noncomputable section

open scoped BigOperators

namespace Cert.ProjRow

open Idealize.ShloMosaic

/-- The state after the last `n` blocks of 256 rows. -/
def chain (γ : ℕ → EReal) (K V : ℕ → Fin 128 → EReal) : ℕ → Fin 128 → Fin 128 → EReal
  | 0 => fun _ _ => 0
  | n + 1 => fun d e => γ 256 * chain γ K V n d e
      + ∑ i : Fin 256, (K (16384 - 256 * (n + 1) + i) d * γ i) * V (16384 - 256 * (n + 1) + i) e

/-- A head's rotated keys and its values, by position. -/
def keyCol (H : ℕ → ℕ → EReal) (b h : ℕ) : ℕ → Fin 128 → EReal := fun m d => rotary H (16384 * b + m) m (4608 + 128 * h) d
def valCol (H : ℕ → ℕ → EReal) (b h : ℕ) : ℕ → Fin 128 → EReal := fun m e => H (16384 * b + m) (5120 + 128 * h + e)

section tails

variable (γ : ℕ → EReal) (K V : ℕ → Fin 128 → EReal)

/-- The rows from `n` on, each decayed by its distance from `n`. -/
def tail (n : ℕ) (d e : Fin 128) : EReal := ∑ m ∈ Finset.range 16384, (K m d * V m e) * if n ≤ m then γ (m - n) else 0

theorem tail_end (d e : Fin 128) : tail γ K V 16384 d e = 0 := by
  unfold tail
  exact Finset.sum_eq_zero fun m hm => by rw [if_neg (by have := Finset.mem_range.mp hm; omega), mul_zero]

/-- A factor that is neither negative nor infinite distributes over a sum, whatever the terms. -/
theorem mul_sum_of_nonneg {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- Going back over one block of 256 rows. -/
theorem tail_step (hγ : ∀ a b, γ (a + b) = γ a * γ b) (h0 : 0 ≤ γ 256) (ht : γ 256 ≠ ⊤) (n : ℕ) (hn : n + 256 ≤ 16384)
    (d e : Fin 128) :
    tail γ K V n d e = γ 256 * tail γ K V (n + 256) d e + ∑ i : Fin 256, (K (n + i) d * γ i) * V (n + i) e := by
  have hs : ∑ i : Fin 256, (K (n + i) d * γ i) * V (n + i) e
      = ∑ m ∈ Finset.range 16384, if n ≤ m ∧ m < n + 256 then (K m d * γ (m - n)) * V m e else 0 := by
    rw [← Finset.sum_range fun i => (K (n + i) d * γ i) * V (n + i) e, ← Finset.sum_filter]
    have : (Finset.range 16384).filter (fun m => n ≤ m ∧ m < n + 256) = Finset.Ico n (n + 256) := by
      ext m
      simp only [Finset.mem_filter, Finset.mem_range, Finset.mem_Ico]
      omega
    rw [this, Finset.sum_Ico_eq_sum_range, Nat.add_sub_cancel_left]
    exact Finset.sum_congr rfl fun i _ => by rw [Nat.add_sub_cancel_left]
  rw [hs]
  unfold tail
  rw [mul_sum_of_nonneg _ _ h0 ht, ← Finset.sum_add_distrib]
  refine Finset.sum_congr rfl fun m _ => ?_
  by_cases h1 : n ≤ m
  · by_cases h2 : n + 256 ≤ m
    · rw [if_pos h1, if_pos h2, if_neg (by omega), show m - n = 256 + (m - (n + 256)) by omega, hγ, add_zero, mul_left_comm]
    · rw [if_pos h1, if_neg h2, if_pos ⟨h1, by omega⟩, mul_zero, mul_zero, zero_add, mul_right_comm]
  · rw [if_neg h1, if_neg (by omega), if_neg (fun a => h1 a.1), mul_zero, mul_zero, zero_add]

theorem chain_tail (hγ : ∀ a b, γ (a + b) = γ a * γ b) (h0 : 0 ≤ γ 256) (ht : γ 256 ≠ ⊤) : ∀ (n : ℕ), n ≤ 64 →
    ∀ d e : Fin 128, chain γ K V n d e = tail γ K V (16384 - 256 * n) d e
  | 0, _, d, e => (tail_end γ K V d e).symm
  | n + 1, hn, d, e => by
    rw [tail_step γ K V hγ h0 ht (16384 - 256 * (n + 1)) (by omega),
      show 16384 - 256 * (n + 1) + 256 = 16384 - 256 * n by omega, ← chain_tail hγ h0 ht n (by omega) d e]
    rfl

end tails

/-- The recurrence is the sum over the rows behind the block: a decay is a real number and not negative. -/
theorem chain_behind (x : EReal) (K V : ℕ → Fin 128 → EReal) (j : ℕ) (hj : j < 64) (d e : Fin 128) :
    chain (RetRow.decay x) K V (63 - j) d e = behind (RetRow.decay x) K V j d e := by
  obtain ⟨γ, -, hγ, eγ⟩ := RetRow.decay_real x
  have h0 : (0 : ℝ) ≤ γ 256 := by
    rw [show 256 = 128 + 128 by norm_num, hγ]
    exact mul_self_nonneg _
  rw [chain_tail (RetRow.decay x) K V (fun a b => by rw [eγ, eγ, eγ, hγ, EReal.coe_mul])
      (by rw [eγ]; exact EReal.coe_nonneg.mpr h0) (by rw [eγ]; exact EReal.coe_ne_top _) (63 - j) (by omega),
    show 16384 - 256 * (63 - j) = 256 * (j + 1) by omega]
  unfold tail behind
  rw [Finset.sum_range]

end Cert.ProjRow

end
-- ==== Proof.ProjBlock.lean ====
/-
  The blocks the input projection's kernel works on at a grid point, as rows of the arguments, and the block's results as
  rows of the mathematics.
-/
module

public import proofs.«01_k».proof.Proof.ProjHost
public import proofs.«01_k».proof.Proof.ProjTail

@[expose] public section

set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

variable (m : (ℓ : Loc nD τ sig) → Buf (Elt Ideal) ℓ)

/-- The projection of the rows of the input. -/
def Hm (c : Dev nD) : ℕ → ℕ → EReal :=
  hid (m ((c : Thread nD τ).loc main_arg0)) (m ((c : Thread nD τ).loc main_arg2)) (m ((c : Thread nD τ).loc main_arg3))

theorem blk0 (c : Dev nD) (t : Fin cfg0.N) (h : Fin 4) :
    iblk m c 0 t (ix1 h) = m ((c : Thread nD τ).loc main_arg1) (ix1 h) := by
  have hN : t.val < 64 := lt_of_lt_of_eq t.isLt N_0
  refine Eq.trans ?_ (V_logit m c _)
  show V m c main_arg1 ((win0_0.rect t).emb (ix1 h)) = _
  congr 1
  funext a
  apply Fin.ext
  match a with
  | ⟨0, _⟩ =>
    show win0_0.index t 0 * 4 + 1 * h.val = h.val
    rw [idx0 t]; omega

theorem blk1 (c : Dev nD) (t : Fin cfg0.N) (r : ℕ) (hr : r < 512) (k : Fin 1024) :
    iblk m c 1 t (ix2 ⟨r % 512, Nat.mod_lt _ (by decide)⟩ k) = m ((c : Thread nD τ).loc main_arg0) (ix2 ⟨(512 * rowBlk t.val + r) % 32768, Nat.mod_lt _ (by decide)⟩ k) := by
  have hN : t.val < 64 := lt_of_lt_of_eq t.isLt N_0
  refine Eq.trans ?_ (V_x m c _)
  show V m c main_arg0 ((win0_1.rect t).emb (ix2 ⟨r % 512, Nat.mod_lt _ (by decide)⟩ k)) = _
  congr 1
  funext a
  apply Fin.ext
  match a with
  | ⟨0, _⟩ =>
    show win0_1.index t 0 * 512 + 1 * (r % 512) = (512 * rowBlk t.val + r) % 32768
    rw [(idx1 t).1]; unfold rowBlk; omega
  | ⟨1, _⟩ =>
    show win0_1.index t 1 * 1024 + 1 * k.val = k.val
    rw [(idx1 t).2]; omega

theorem blk2 (c : Dev nD) (t : Fin cfg0.N) (k : Fin 1024) (c' : Fin 6656) :
    iblk m c 2 t (ix3 0 k c') = m ((c : Thread nD τ).loc main_arg2) (ix3 0 k c') := by
  have hN : t.val < 64 := lt_of_lt_of_eq t.isLt N_0
  refine Eq.trans ?_ (V_w m c _)
  show V m c main_v17 ((win0_2.rect t).emb (ix3 0 k c')) = _
  congr 1
  funext a
  apply Fin.ext
  match a with
  | ⟨0, _⟩ =>
    show win0_2.index t 0 * 1 + 1 * 0 = 0
    rw [(idx2 t).1]
  | ⟨1, _⟩ =>
    show win0_2.index t 1 * 1024 + 1 * k.val = k.val
    rw [(idx2 t).2.1]; omega
  | ⟨2, _⟩ =>
    show win0_2.index t 2 * 6656 + 1 * c'.val = c'.val
    rw [(idx2 t).2.2]; omega

theorem blk3 (c : Dev nD) (t : Fin cfg0.N) (k : Fin 6656) :
    iblk m c 3 t (ix2 0 k) = m ((c : Thread nD τ).loc main_arg3) (ix2 0 k) := by
  have hN : t.val < 64 := lt_of_lt_of_eq t.isLt N_0
  refine Eq.trans ?_ (V_b m c k)
  show V m c main_v20 ((win0_3.rect t).emb (ix2 0 k)) = _
  congr 1
  funext a
  apply Fin.ext
  match a with
  | ⟨0, _⟩ =>
    show win0_3.index t 0 * 1 + 1 * 0 = 0
    rw [(idx3 t).1]
  | ⟨1, _⟩ =>
    show win0_3.index t 1 * 6656 + 1 * k.val = k.val
    rw [(idx3 t).2]; omega

theorem blk4 (c : Dev nD) (t : Fin cfg0.N) (k : Fin 512) :
    iblk m c 4 t (ix2 0 k) = m ((c : Thread nD τ).loc main_arg4) (ix2 0 k) := by
  have hN : t.val < 64 := lt_of_lt_of_eq t.isLt N_0
  refine Eq.trans ?_ (V_g m c k)
  show V m c main_v23 ((win0_4.rect t).emb (ix2 0 k)) = _
  congr 1
  funext a
  apply Fin.ext
  match a with
  | ⟨0, _⟩ =>
    show win0_4.index t 0 * 1 + 1 * 0 = 0
    rw [(idx4 t).1]
  | ⟨1, _⟩ =>
    show win0_4.index t 1 * 512 + 1 * k.val = k.val
    rw [(idx4 t).2]; omega

theorem blk5 (c : Dev nD) (t : Fin cfg0.N) (k : Fin 512) :
    iblk m c 5 t (ix2 0 k) = m ((c : Thread nD τ).loc main_arg5) (ix2 0 k) := by
  have hN : t.val < 64 := lt_of_lt_of_eq t.isLt N_0
  refine Eq.trans ?_ (V_gb m c k)
  show V m c main_v26 ((win0_5.rect t).emb (ix2 0 k)) = _
  congr 1
  funext a
  apply Fin.ext
  match a with
  | ⟨0, _⟩ =>
    show win0_5.index t 0 * 1 + 1 * 0 = 0
    rw [(idx5 t).1]
  | ⟨1, _⟩ =>
    show win0_5.index t 1 * 512 + 1 * k.val = k.val
    rw [(idx5 t).2]; omega

theorem blk6 (c : Dev nD) (t : Fin cfg0.N) (g : Fin 4) (i j : Fin 128) :
    iblk m c 6 t (ix4 0 g i j) = m ((c : Thread nD τ).loc main_arg6) (ix4 0 g i j) := by
  have hN : t.val < 64 := lt_of_lt_of_eq t.isLt N_0
  refine Eq.trans ?_ (V_mix m c _)
  show V m c main_v27 ((win0_6.rect t).emb (ix4 0 g i j)) = _
  congr 1
  funext a
  apply Fin.ext
  match a with
  | ⟨0, _⟩ =>
    show win0_6.index t 0 * 1 + 1 * 0 = 0
    rw [(idx6 t).1]
  | ⟨1, _⟩ =>
    show win0_6.index t 1 * 4 + 1 * g.val = g.val
    rw [(idx6 t).2.1]; omega
  | ⟨2, _⟩ =>
    show win0_6.index t 2 * 128 + 1 * i.val = i.val
    rw [(idx6 t).2.2.1]; omega
  | ⟨3, _⟩ =>
    show win0_6.index t 3 * 128 + 1 * j.val = j.val
    rw [(idx6 t).2.2.2]; omega

theorem blk7 (c : Dev nD) (t : Fin cfg0.N) (g : Fin 4) (i k : Fin 128) :
    iblk m c 7 t (ix3 g i k) = m ((c : Thread nD τ).loc main_arg7) (ix3 0 g i) := by
  have hN : t.val < 64 := lt_of_lt_of_eq t.isLt N_0
  refine Eq.trans ?_ (V_bias m c g i k)
  show V m c main_v31 ((win0_7.rect t).emb (ix3 g i k)) = _
  congr 1
  funext a
  apply Fin.ext
  match a with
  | ⟨0, _⟩ =>
    show win0_7.index t 0 * 4 + 1 * g.val = g.val
    rw [(idx7 t).1]; omega
  | ⟨1, _⟩ =>
    show win0_7.index t 1 * 128 + 1 * i.val = i.val
    rw [(idx7 t).2.1]; omega
  | ⟨2, _⟩ =>
    show win0_7.index t 2 * 128 + 1 * k.val = k.val
    rw [(idx7 t).2.2]; omega

theorem blk8 (c : Dev nD) (t : Fin cfg0.N) (r : Fin 512) (k : Fin 128) :
    iblk m c 8 t (ix2 r k) = (Ideal.cos (angle (512 * (31 - t.val % 32) + r.val) (if k.val < 64 then k.val else k.val - 64))) := by
  have hN : t.val < 64 := lt_of_lt_of_eq t.isLt N_0
  refine Eq.trans ?_ (V_cos m c ⟨512 * (31 - t.val % 32) + r.val, by omega⟩ k)
  show V m c main_v14 ((win0_8.rect t).emb (ix2 r k)) = _
  congr 1
  funext a
  apply Fin.ext
  match a with
  | ⟨0, _⟩ =>
    show win0_8.index t 0 * 512 + 1 * r.val = 512 * (31 - t.val % 32) + r.val
    rw [(idx8 t).1]; omega
  | ⟨1, _⟩ =>
    show win0_8.index t 1 * 128 + 1 * k.val = k.val
    rw [(idx8 t).2]; omega

theorem blk9 (c : Dev nD) (t : Fin cfg0.N) (r : Fin 512) (k : Fin 128) :
    iblk m c 9 t (ix2 r k) = (if k.val < 64 then -Ideal.sin (angle (512 * (31 - t.val % 32) + r.val) k) else Ideal.sin (angle (512 * (31 - t.val % 32) + r.val) (k.val - 64))) := by
  have hN : t.val < 64 := lt_of_lt_of_eq t.isLt N_0
  refine Eq.trans ?_ (V_sin m c ⟨512 * (31 - t.val % 32) + r.val, by omega⟩ k)
  show V m c main_v16 ((win0_9.rect t).emb (ix2 r k)) = _
  congr 1
  funext a
  apply Fin.ext
  match a with
  | ⟨0, _⟩ =>
    show win0_9.index t 0 * 512 + 1 * r.val = 512 * (31 - t.val % 32) + r.val
    rw [(idx9 t).1]; omega
  | ⟨1, _⟩ =>
    show win0_9.index t 1 * 128 + 1 * k.val = k.val
    rw [(idx9 t).2]; omega

/-- The block's projection is the rows of the whole projection. -/
theorem hB_at (c : Dev nD) (t : Fin cfg0.N) (r : ℕ) (hr : r < 512) (k : ℕ) :
    hB (iblk m c 1 t) (iblk m c 2 t) (iblk m c 3 t) r k = Hm m c (512 * rowBlk t.val + r) k := by
  unfold hB Hm hid
  rw [blk3 m c t]
  exact congrArg₂ (· + ·) (Finset.sum_congr rfl fun j _ => congrArg₂ (· * ·) (blk1 m c t r hr j) (blk2 m c t j _)) rfl

/-- The block's rotation is the rotary embedding at the rows' positions. -/
theorem rotB_at (c : Dev nD) (t : Fin cfg0.N) (r : ℕ) (hr : r < 512) (o k : ℕ) (hk : k < 128) :
    rotB (hB (iblk m c 1 t) (iblk m c 2 t) (iblk m c 3 t)) (iblk m c 8 t) (iblk m c 9 t) r o k
      = rotary (Hm m c) (512 * rowBlk t.val + r) (512 * (31 - t.val % 32) + r) o k := by
  unfold rotB rotary
  rw [hB_at m c t r hr, hB_at m c t r hr, blk8 m c t, blk9 m c t]
  simp only [Nat.mod_eq_of_lt hr, Nat.mod_eq_of_lt hk]
  by_cases h : k < 64
  · rw [if_pos h, if_pos h, if_pos h, show (k + 128 - 64) % 128 = k + 64 by omega, mul_neg, sub_eq_add_neg]
  · rw [if_neg h, if_neg h, if_neg h, show (k + 128 - 64) % 128 = k - 64 by omega, add_comm]

end Cert.KernelProjIdeal.Val

end
-- ==== Proof.ProjArray.lean ====
/-
  The arrays the input projection's kernel leaves, but for the state: every block is written by the point of its rows.
-/
module

public import proofs.«01_k».proof.Proof.ProjBlock

@[expose] public section

set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

variable (m : (ℓ : Loc nD τ sig) → Buf (Elt Ideal) ℓ)

theorem outs10 (c : Dev nD) (t : Fin cfg0.N) :
    (outsAt0 m c t.val t.isLt).1 = gatesB (hB (iblk m c 1 t) (iblk m c 2 t) (iblk m c 3 t)) := by
  by_cases h0 : t.val % 32 = 0
  · rw [outsAt0_A m c t h0]
    dsimp only
    rw [out_A_10]
  · rw [outsAt0_B m c t h0]
    dsimp only
    rw [out_B_10]

theorem outs11 (c : Dev nD) (t : Fin cfg0.N) :
    (outsAt0 m c t.val t.isLt).2.1 = unitB (hB (iblk m c 1 t) (iblk m c 2 t) (iblk m c 3 t)) (iblk m c 4 t) (iblk m c 5 t) (iblk m c 6 t) (iblk m c 7 t) := by
  by_cases h0 : t.val % 32 = 0
  · rw [outsAt0_A m c t h0]
    dsimp only
    rw [out_A_11]
  · rw [outsAt0_B m c t h0]
    dsimp only
    rw [out_B_11]

theorem outs12 (c : Dev nD) (t : Fin cfg0.N) :
    (outsAt0 m c t.val t.isLt).2.2.1 = queriesB (hB (iblk m c 1 t) (iblk m c 2 t) (iblk m c 3 t)) (iblk m c 8 t) (iblk m c 9 t) := by
  by_cases h0 : t.val % 32 = 0
  · rw [outsAt0_A m c t h0]
    dsimp only
    rw [out_A_12]
  · rw [outsAt0_B m c t h0]
    dsimp only
    rw [out_B_12]

theorem outs13 (c : Dev nD) (t : Fin cfg0.N) :
    (outsAt0 m c t.val t.isLt).2.2.2.1 = keysB (hB (iblk m c 1 t) (iblk m c 2 t) (iblk m c 3 t)) (iblk m c 8 t) (iblk m c 9 t) := by
  by_cases h0 : t.val % 32 = 0
  · rw [outsAt0_A m c t h0]
    dsimp only
    rw [out_A_13]
  · rw [outsAt0_B m c t h0]
    dsimp only
    rw [out_B_13]

theorem outs14 (c : Dev nD) (t : Fin cfg0.N) :
    (outsAt0 m c t.val t.isLt).2.2.2.2.1 = valuesB (hB (iblk m c 1 t) (iblk m c 2 t) (iblk m c 3 t)) := by
  by_cases h0 : t.val % 32 = 0
  · rw [outsAt0_A m c t h0]
    dsimp only
    rw [out_A_14]
  · rw [outsAt0_B m c t h0]
    dsimp only
    rw [out_B_14]

theorem outs15 (c : Dev nD) (t : Fin cfg0.N) :
    (outsAt0 m c t.val t.isLt).2.2.2.2.2.1 = gateB (hB (iblk m c 1 t) (iblk m c 2 t) (iblk m c 3 t)) := by
  by_cases h0 : t.val % 32 = 0
  · rw [outsAt0_A m c t h0]
    dsimp only
    rw [out_A_15]
  · rw [outsAt0_B m c t h0]
    dsimp only
    rw [out_B_15]

theorem outs16 (c : Dev nD) (t : Fin cfg0.N) :
    (outsAt0 m c t.val t.isLt).2.2.2.2.2.2.1 = fourierB (hB (iblk m c 1 t) (iblk m c 2 t) (iblk m c 3 t)) := by
  by_cases h0 : t.val % 32 = 0
  · rw [outsAt0_A m c t h0]
    dsimp only
    rw [out_A_16]
  · rw [outsAt0_B m c t h0]
    dsimp only
    rw [out_B_16]

/-- The result, and what each point writes back of it. -/
def res10 (c : Dev nD) : Buf (Elt Ideal) ((c : Thread nD τ).loc main_v32_0) := gatesR (Hm m c)

theorem flushed_eq10 (c : Dev nD) (t : Fin cfg0.N) (hf : (cfg0.win 10).flush t = true) :
    (dats m 0 c).flushed 10 t = ((cfg0.win 10).blk t).view.read (Elt Ideal) (res10 m c) := by
  have hN : t.val < 64 := lt_of_lt_of_eq t.isLt N_0
  rw [Value.flushed10 m c t]
  funext y
  have b0 : (y 0).val < 512 := (y 0).isLt
  have b1 : (y 1).val < 3072 := (y 1).isLt
  refine (congrFun (outs10 m c t) y).trans ?_
  show _ = gatesR (Hm m c) ((win0_10.rect t).emb y)
  have e0 : ((win0_10.rect t).emb y 0).val = 512 * rowBlk t.val + (y 0).val := by
    show win0_10.index t 0 * 512 + 1 * (y 0).val = _
    rw [(idx10 t).1]; omega
  have e1 : ((win0_10.rect t).emb y 1).val = (y 1).val := by
    show win0_10.index t 1 * 3072 + 1 * (y 1).val = _
    rw [(idx10 t).2]; omega
  unfold gatesB gatesR
  rw [hB_at m c t _ b0, e0, e1]

/-- So the array ends holding the result: row `r` is written at the point of its block. -/
theorem final10 (c : Dev nD) : (dats m 0 c).arrAt 10 cfg0.N = res10 m c :=
  (dats m 0 c).arrAt_eq_of_cover 10 (res10 m c) (flushed_eq10 m c) fun i => by
    have hN : grid0.N = 64 := N_0
    have h0 : (i 0 : Nat) < 32768 := (i 0).isLt
    have h1 : (i 1 : Nat) < 3072 := (i 1).isLt
    refine ⟨⟨32 * ((i 0 : Nat) / 16384) + (31 - (i 0 : Nat) % 16384 / 512), by show _ < grid0.N; omega⟩, flush10 _, ?_⟩
    generalize ht : (⟨32 * ((i 0 : Nat) / 16384) + (31 - (i 0 : Nat) % 16384 / 512), _⟩ : Fin cfg0.N) = t
    have hv : t.val = 32 * ((i 0 : Nat) / 16384) + (31 - (i 0 : Nat) % 16384 / 512) := by rw [← ht]
    show i ∈ ((View.whole main_v32_0).slice (win0_10.rect t)).set
    rw [View.set_slice_whole, Rect.mem_set_unit]
    intro a
    match a with
    | ⟨0, _⟩ =>
      show win0_10.index t 0 * 512 ≤ (i 0 : Nat) ∧ (i 0 : Nat) < win0_10.index t 0 * 512 + 512
      rw [(idx10 t).1]; unfold rowBlk; omega
    | ⟨1, _⟩ =>
      show win0_10.index t 1 * 3072 ≤ (i 1 : Nat) ∧ (i 1 : Nat) < win0_10.index t 1 * 3072 + 3072
      rw [(idx10 t).2]; omega

/-- The result, and what each point writes back of it. -/
def res11 (c : Dev nD) : Buf (Elt Ideal) ((c : Thread nD τ).loc main_v32_1) := spatialR (Hm m c) (m ((c : Thread nD τ).loc main_arg4)) (m ((c : Thread nD τ).loc main_arg5)) (m ((c : Thread nD τ).loc main_arg6)) (m ((c : Thread nD τ).loc main_arg7))

theorem flushed_eq11 (c : Dev nD) (t : Fin cfg0.N) (hf : (cfg0.win 11).flush t = true) :
    (dats m 0 c).flushed 11 t = ((cfg0.win 11).blk t).view.read (Elt Ideal) (res11 m c) := by
  have hN : t.val < 64 := lt_of_lt_of_eq t.isLt N_0
  rw [Value.flushed11 m c t]
  funext y
  have b0 : (y 0).val < 512 := (y 0).isLt
  have b1 : (y 1).val < 512 := (y 1).isLt
  refine (congrFun (outs11 m c t) y).trans ?_
  show _ = spatialR (Hm m c) (m ((c : Thread nD τ).loc main_arg4)) (m ((c : Thread nD τ).loc main_arg5)) (m ((c : Thread nD τ).loc main_arg6)) (m ((c : Thread nD τ).loc main_arg7)) ((win0_11.rect t).emb y)
  have e0 : ((win0_11.rect t).emb y 0).val = 512 * rowBlk t.val + (y 0).val := by
    show win0_11.index t 0 * 512 + 1 * (y 0).val = _
    rw [(idx11 t).1]; omega
  have e1 : ((win0_11.rect t).emb y 1).val = (y 1).val := by
    show win0_11.index t 1 * 512 + 1 * (y 1).val = _
    rw [(idx11 t).2]; omega
  unfold unitB spatialR spatial
  have k1 : (win0_11.rect t).emb y 1 = (⟨(y 1).val % 512, Nat.mod_lt _ (by decide)⟩ : Fin 512) :=
    Fin.ext (e1.trans (Nat.mod_eq_of_lt b1).symm)
  rw [hB_at m c t _ b0, e0, k1]
  refine congrArg₂ (· * ·) (congrArg (fun n => gelu (Hm m c (512 * rowBlk t.val + (y 0).val) (3072 + n))) (Nat.mod_eq_of_lt b1).symm) (congrArg₂ (· + ·) (Finset.sum_congr rfl fun j _ => ?_) ?_)
  · rw [blk6 m c t]
    refine congrArg₂ (· * ·) ?_ ?_
    · show _ = mixW _ ((y 1).val % 512 / 128) ((512 * rowBlk t.val + (y 0).val) % 128) j
      unfold mixW
      simp only [Nat.mod_eq_of_lt b1, Nat.mod_mod, show (512 * rowBlk t.val + (y 0).val) % 128 = (y 0).val % 128 by omega]
    · refine congrFun (congr (congr (congrArg rowNorm (funext fun k => ?_)) (funext fun k => blk4 m c t k))
        (funext fun k => blk5 m c t k)) _
      rw [hB_at m c t _ (by omega), show 128 * ((512 * rowBlk t.val + (y 0).val) / 128) + j.val
        = 512 * rowBlk t.val + (128 * ((y 0).val / 128) + j.val) by omega]
  · rw [blk7 m c t]
    show _ = mixB _ ((y 1).val % 512 / 128) ((512 * rowBlk t.val + (y 0).val) % 128)
    unfold mixB
    simp only [Nat.mod_eq_of_lt b1, Nat.mod_mod, show (512 * rowBlk t.val + (y 0).val) % 128 = (y 0).val % 128 by omega]

/-- So the array ends holding the result: row `r` is written at the point of its block. -/
theorem final11 (c : Dev nD) : (dats m 0 c).arrAt 11 cfg0.N = res11 m c :=
  (dats m 0 c).arrAt_eq_of_cover 11 (res11 m c) (flushed_eq11 m c) fun i => by
    have hN : grid0.N = 64 := N_0
    have h0 : (i 0 : Nat) < 32768 := (i 0).isLt
    have h1 : (i 1 : Nat) < 512 := (i 1).isLt
    refine ⟨⟨32 * ((i 0 : Nat) / 16384) + (31 - (i 0 : Nat) % 16384 / 512), by show _ < grid0.N; omega⟩, flush11 _, ?_⟩
    generalize ht : (⟨32 * ((i 0 : Nat) / 16384) + (31 - (i 0 : Nat) % 16384 / 512), _⟩ : Fin cfg0.N) = t
    have hv : t.val = 32 * ((i 0 : Nat) / 16384) + (31 - (i 0 : Nat) % 16384 / 512) := by rw [← ht]
    show i ∈ ((View.whole main_v32_1).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [(idx11 t).1]; unfold rowBlk; omega
    | ⟨1, _⟩ =>
      show win0_11.index t 1 * 512 ≤ (i 1 : Nat) ∧ (i 1 : Nat) < win0_11.index t 1 * 512 + 512
      rw [(idx11 t).2]; omega

/-- The result, and what each point writes back of it. -/
def res12 (c : Dev nD) : Buf (Elt Ideal) ((c : Thread nD τ).loc main_v32_2) := queriesR (Hm m c)

theorem flushed_eq12 (c : Dev nD) (t : Fin cfg0.N) (hf : (cfg0.win 12).flush t = true) :
    (dats m 0 c).flushed 12 t = ((cfg0.win 12).blk t).view.read (Elt Ideal) (res12 m c) := by
  have hN : t.val < 64 := lt_of_lt_of_eq t.isLt N_0
  rw [Value.flushed12 m c t]
  funext y
  have b0 : (y 0).val < 512 := (y 0).isLt
  have b1 : (y 1).val < 512 := (y 1).isLt
  refine (congrFun (outs12 m c t) y).trans ?_
  show _ = queriesR (Hm m c) ((win0_12.rect t).emb y)
  have e0 : ((win0_12.rect t).emb y 0).val = 512 * rowBlk t.val + (y 0).val := by
    show win0_12.index t 0 * 512 + 1 * (y 0).val = _
    rw [(idx12 t).1]; omega
  have e1 : ((win0_12.rect t).emb y 1).val = (y 1).val := by
    show win0_12.index t 1 * 512 + 1 * (y 1).val = _
    rw [(idx12 t).2]; omega
  unfold queriesB queriesR
  rw [rotB_at m c t _ b0 _ _ (Nat.mod_lt _ (by decide)), e0, e1,
    show (512 * rowBlk t.val + (y 0).val) % 16384 = 512 * (31 - t.val % 32) + (y 0).val by unfold rowBlk; omega]

/-- So the array ends holding the result: row `r` is written at the point of its block. -/
theorem final12 (c : Dev nD) : (dats m 0 c).arrAt 12 cfg0.N = res12 m c :=
  (dats m 0 c).arrAt_eq_of_cover 12 (res12 m c) (flushed_eq12 m c) fun i => by
    have hN : grid0.N = 64 := N_0
    have h0 : (i 0 : Nat) < 32768 := (i 0).isLt
    have h1 : (i 1 : Nat) < 512 := (i 1).isLt
    refine ⟨⟨32 * ((i 0 : Nat) / 16384) + (31 - (i 0 : Nat) % 16384 / 512), by show _ < grid0.N; omega⟩, flush12 _, ?_⟩
    generalize ht : (⟨32 * ((i 0 : Nat) / 16384) + (31 - (i 0 : Nat) % 16384 / 512), _⟩ : Fin cfg0.N) = t
    have hv : t.val = 32 * ((i 0 : Nat) / 16384) + (31 - (i 0 : Nat) % 16384 / 512) := by rw [← ht]
    show i ∈ ((View.whole main_v32_2).slice (win0_12.rect t)).set
    rw [View.set_slice_whole, Rect.mem_set_unit]
    intro a
    match a with
    | ⟨0, _⟩ =>
      show win0_12.index t 0 * 512 ≤ (i 0 : Nat) ∧ (i 0 : Nat) < win0_12.index t 0 * 512 + 512
      rw [(idx12 t).1]; unfold rowBlk; omega
    | ⟨1, _⟩ =>
      show win0_12.index t 1 * 512 ≤ (i 1 : Nat) ∧ (i 1 : Nat) < win0_12.index t 1 * 512 + 512
      rw [(idx12 t).2]; omega

/-- The result, and what each point writes back of it. -/
def res13 (c : Dev nD) : Buf (Elt Ideal) ((c : Thread nD τ).loc main_v32_3) := keysR (Hm m c)

theorem flushed_eq13 (c : Dev nD) (t : Fin cfg0.N) (hf : (cfg0.win 13).flush t = true) :
    (dats m 0 c).flushed 13 t = ((cfg0.win 13).blk t).view.read (Elt Ideal) (res13 m c) := by
  have hN : t.val < 64 := lt_of_lt_of_eq t.isLt N_0
  rw [Value.flushed13 m c t]
  funext y
  have b0 : (y 0).val < 512 := (y 0).isLt
  have b1 : (y 1).val < 512 := (y 1).isLt
  refine (congrFun (outs13 m c t) y).trans ?_
  show _ = keysR (Hm m c) ((win0_13.rect t).emb y)
  have e0 : ((win0_13.rect t).emb y 0).val = 512 * rowBlk t.val + (y 0).val := by
    show win0_13.index t 0 * 512 + 1 * (y 0).val = _
    rw [(idx13 t).1]; omega
  have e1 : ((win0_13.rect t).emb y 1).val = (y 1).val := by
    show win0_13.index t 1 * 512 + 1 * (y 1).val = _
    rw [(idx13 t).2]; omega
  unfold keysB keysR
  rw [rotB_at m c t _ b0 _ _ (Nat.mod_lt _ (by decide)), e0, e1,
    show (512 * rowBlk t.val + (y 0).val) % 16384 = 512 * (31 - t.val % 32) + (y 0).val by unfold rowBlk; omega]

/-- So the array ends holding the result: row `r` is written at the point of its block. -/
theorem final13 (c : Dev nD) : (dats m 0 c).arrAt 13 cfg0.N = res13 m c :=
  (dats m 0 c).arrAt_eq_of_cover 13 (res13 m c) (flushed_eq13 m c) fun i => by
    have hN : grid0.N = 64 := N_0
    have h0 : (i 0 : Nat) < 32768 := (i 0).isLt
    have h1 : (i 1 : Nat) < 512 := (i 1).isLt
    refine ⟨⟨32 * ((i 0 : Nat) / 16384) + (31 - (i 0 : Nat) % 16384 / 512), by show _ < grid0.N; omega⟩, flush13 _, ?_⟩
    generalize ht : (⟨32 * ((i 0 : Nat) / 16384) + (31 - (i 0 : Nat) % 16384 / 512), _⟩ : Fin cfg0.N) = t
    have hv : t.val = 32 * ((i 0 : Nat) / 16384) + (31 - (i 0 : Nat) % 16384 / 512) := by rw [← ht]
    show i ∈ ((View.whole main_v32_3).slice (win0_13.rect t)).set
    rw [View.set_slice_whole, Rect.mem_set_unit]
    intro a
    match a with
    | ⟨0, _⟩ =>
      show win0_13.index t 0 * 512 ≤ (i 0 : Nat) ∧ (i 0 : Nat) < win0_13.index t 0 * 512 + 512
      rw [(idx13 t).1]; unfold rowBlk; omega
    | ⟨1, _⟩ =>
      show win0_13.index t 1 * 512 ≤ (i 1 : Nat) ∧ (i 1 : Nat) < win0_13.index t 1 * 512 + 512
      rw [(idx13 t).2]; omega

/-- The result, and what each point writes back of it. -/
def res14 (c : Dev nD) : Buf (Elt Ideal) ((c : Thread nD τ).loc main_v32_4) := valuesR (Hm m c)

theorem flushed_eq14 (c : Dev nD) (t : Fin cfg0.N) (hf : (cfg0.win 14).flush t = true) :
    (dats m 0 c).flushed 14 t = ((cfg0.win 14).blk t).view.read (Elt Ideal) (res14 m c) := by
  have hN : t.val < 64 := lt_of_lt_of_eq t.isLt N_0
  rw [Value.flushed14 m c t]
  funext y
  have b0 : (y 0).val < 512 := (y 0).isLt
  have b1 : (y 1).val < 512 := (y 1).isLt
  refine (congrFun (outs14 m c t) y).trans ?_
  show _ = valuesR (Hm m c) ((win0_14.rect t).emb y)
  have e0 : ((win0_14.rect t).emb y 0).val = 512 * rowBlk t.val + (y 0).val := by
    show win0_14.index t 0 * 512 + 1 * (y 0).val = _
    rw [(idx14 t).1]; omega
  have e1 : ((win0_14.rect t).emb y 1).val = (y 1).val := by
    show win0_14.index t 1 * 512 + 1 * (y 1).val = _
    rw [(idx14 t).2]; omega
  unfold valuesB valuesR
  rw [hB_at m c t _ b0, e0, e1]

/-- So the array ends holding the result: row `r` is written at the point of its block. -/
theorem final14 (c : Dev nD) : (dats m 0 c).arrAt 14 cfg0.N = res14 m c :=
  (dats m 0 c).arrAt_eq_of_cover 14 (res14 m c) (flushed_eq14 m c) fun i => by
    have hN : grid0.N = 64 := N_0
    have h0 : (i 0 : Nat) < 32768 := (i 0).isLt
    have h1 : (i 1 : Nat) < 512 := (i 1).isLt
    refine ⟨⟨32 * ((i 0 : Nat) / 16384) + (31 - (i 0 : Nat) % 16384 / 512), by show _ < grid0.N; omega⟩, flush14 _, ?_⟩
    generalize ht : (⟨32 * ((i 0 : Nat) / 16384) + (31 - (i 0 : Nat) % 16384 / 512), _⟩ : Fin cfg0.N) = t
    have hv : t.val = 32 * ((i 0 : Nat) / 16384) + (31 - (i 0 : Nat) % 16384 / 512) := by rw [← ht]
    show i ∈ ((View.whole main_v32_4).slice (win0_14.rect t)).set
    rw [View.set_slice_whole, Rect.mem_set_unit]
    intro a
    match a with
    | ⟨0, _⟩ =>
      show win0_14.index t 0 * 512 ≤ (i 0 : Nat) ∧ (i 0 : Nat) < win0_14.index t 0 * 512 + 512
      rw [(idx14 t).1]; unfold rowBlk; omega
    | ⟨1, _⟩ =>
      show win0_14.index t 1 * 512 ≤ (i 1 : Nat) ∧ (i 1 : Nat) < win0_14.index t 1 * 512 + 512
      rw [(idx14 t).2]; omega

/-- The result, and what each point writes back of it. -/
def res15 (c : Dev nD) : Buf (Elt Ideal) ((c : Thread nD τ).loc main_v32_5) := gateR (Hm m c)

theorem flushed_eq15 (c : Dev nD) (t : Fin cfg0.N) (hf : (cfg0.win 15).flush t = true) :
    (dats m 0 c).flushed 15 t = ((cfg0.win 15).blk t).view.read (Elt Ideal) (res15 m c) := by
  have hN : t.val < 64 := lt_of_lt_of_eq t.isLt N_0
  rw [Value.flushed15 m c t]
  funext y
  have b0 : (y 0).val < 512 := (y 0).isLt
  have b1 : (y 1).val < 512 := (y 1).isLt
  refine (congrFun (outs15 m c t) y).trans ?_
  show _ = gateR (Hm m c) ((win0_15.rect t).emb y)
  have e0 : ((win0_15.rect t).emb y 0).val = 512 * rowBlk t.val + (y 0).val := by
    show win0_15.index t 0 * 512 + 1 * (y 0).val = _
    rw [(idx15 t).1]; omega
  have e1 : ((win0_15.rect t).emb y 1).val = (y 1).val := by
    show win0_15.index t 1 * 512 + 1 * (y 1).val = _
    rw [(idx15 t).2]; omega
  unfold gateB gateR
  rw [hB_at m c t _ b0, e0, e1]

/-- So the array ends holding the result: row `r` is written at the point of its block. -/
theorem final15 (c : Dev nD) : (dats m 0 c).arrAt 15 cfg0.N = res15 m c :=
  (dats m 0 c).arrAt_eq_of_cover 15 (res15 m c) (flushed_eq15 m c) fun i => by
    have hN : grid0.N = 64 := N_0
    have h0 : (i 0 : Nat) < 32768 := (i 0).isLt
    have h1 : (i 1 : Nat) < 512 := (i 1).isLt
    refine ⟨⟨32 * ((i 0 : Nat) / 16384) + (31 - (i 0 : Nat) % 16384 / 512), by show _ < grid0.N; omega⟩, flush15 _, ?_⟩
    generalize ht : (⟨32 * ((i 0 : Nat) / 16384) + (31 - (i 0 : Nat) % 16384 / 512), _⟩ : Fin cfg0.N) = t
    have hv : t.val = 32 * ((i 0 : Nat) / 16384) + (31 - (i 0 : Nat) % 16384 / 512) := by rw [← ht]
    show i ∈ ((View.whole main_v32_5).slice (win0_15.rect t)).set
    rw [View.set_slice_whole, Rect.mem_set_unit]
    intro a
    match a with
    | ⟨0, _⟩ =>
      show win0_15.index t 0 * 512 ≤ (i 0 : Nat) ∧ (i 0 : Nat) < win0_15.index t 0 * 512 + 512
      rw [(idx15 t).1]; unfold rowBlk; omega
    | ⟨1, _⟩ =>
      show win0_15.index t 1 * 512 ≤ (i 1 : Nat) ∧ (i 1 : Nat) < win0_15.index t 1 * 512 + 512
      rw [(idx15 t).2]; omega

/-- The result, and what each point writes back of it. -/
def res16 (c : Dev nD) : Buf (Elt Ideal) ((c : Thread nD τ).loc main_v32_6) := fourierR (Hm m c)

theorem flushed_eq16 (c : Dev nD) (t : Fin cfg0.N) (hf : (cfg0.win 16).flush t = true) :
    (dats m 0 c).flushed 16 t = ((cfg0.win 16).blk t).view.read (Elt Ideal) (res16 m c) := by
  have hN : t.val < 64 := lt_of_lt_of_eq t.isLt N_0
  rw [Value.flushed16 m c t]
  funext y
  have b0 : (y 0).val < 4 := (y 0).isLt
  have b1 : (y 1).val < 1 := (y 1).isLt
  have b2 : (y 2).val < 16 := (y 2).isLt
  have b3 : (y 3).val < 4 := (y 3).isLt
  have b4 : (y 4).val < 8 := (y 4).isLt
  have b5 : (y 5).val < 128 := (y 5).isLt
  refine (congrFun (outs16 m c t) y).trans ?_
  show _ = fourierR (Hm m c) ((win0_16.rect t).emb y)
  have e0 : ((win0_16.rect t).emb y 0).val = (y 0).val := by
    show win0_16.index t 0 * 4 + 1 * (y 0).val = _
    rw [(idx16 t).1]; omega
  have e1 : ((win0_16.rect t).emb y 1).val = t.val / 32 := by
    show win0_16.index t 1 * 1 + 1 * (y 1).val = _
    rw [(idx16 t).2.1]; omega
  have e2 : ((win0_16.rect t).emb y 2).val = (y 2).val := by
    show win0_16.index t 2 * 16 + 1 * (y 2).val = _
    rw [(idx16 t).2.2.1]; omega
  have e3 : ((win0_16.rect t).emb y 3).val = 4 * (31 - t.val % 32) + (y 3).val := by
    show win0_16.index t 3 * 4 + 1 * (y 3).val = _
    rw [(idx16 t).2.2.2.1]; omega
  have e4 : ((win0_16.rect t).emb y 4).val = (y 4).val := by
    show win0_16.index t 4 * 8 + 1 * (y 4).val = _
    rw [(idx16 t).2.2.2.2.1]; omega
  have e5 : ((win0_16.rect t).emb y 5).val = (y 5).val := by
    show win0_16.index t 5 * 128 + 1 * (y 5).val = _
    rw [(idx16 t).2.2.2.2.2]; omega
  unfold fourierB fourierR
  rw [hB_at m c t _ (by omega), e0, e1, e2, e3, e4, e5]
  refine congrArg₂ (Hm m c) ?_ (by omega)
  unfold rowBlk; omega

/-- So the array ends holding the result. -/
theorem final16 (c : Dev nD) : (dats m 0 c).arrAt 16 cfg0.N = res16 m c :=
  (dats m 0 c).arrAt_eq_of_cover 16 (res16 m c) (flushed_eq16 m c) fun i => by
    have hN : grid0.N = 64 := N_0
    have h0 : (i 0 : Nat) < 4 := (i 0).isLt
    have h1 : (i 1 : Nat) < 2 := (i 1).isLt
    have h2 : (i 2 : Nat) < 16 := (i 2).isLt
    have h3 : (i 3 : Nat) < 128 := (i 3).isLt
    have h4 : (i 4 : Nat) < 8 := (i 4).isLt
    have h5 : (i 5 : Nat) < 128 := (i 5).isLt
    refine ⟨⟨32 * (i 1 : Nat) + (31 - (i 3 : Nat) / 4), by show _ < grid0.N; omega⟩, flush16 _, ?_⟩
    generalize ht : (⟨32 * (i 1 : Nat) + (31 - (i 3 : Nat) / 4), _⟩ : Fin cfg0.N) = t
    have hv : t.val = 32 * (i 1 : Nat) + (31 - (i 3 : Nat) / 4) := by rw [← ht]
    show i ∈ ((View.whole main_v32_6).slice (win0_16.rect t)).set
    rw [View.set_slice_whole, Rect.mem_set_unit]
    intro a
    match a with
    | ⟨0, _⟩ =>
      show win0_16.index t 0 * 4 ≤ (i 0 : Nat) ∧ (i 0 : Nat) < win0_16.index t 0 * 4 + 4
      rw [(idx16 t).1]; omega
    | ⟨1, _⟩ =>
      show win0_16.index t 1 * 1 ≤ (i 1 : Nat) ∧ (i 1 : Nat) < win0_16.index t 1 * 1 + 1
      rw [(idx16 t).2.1]; omega
    | ⟨2, _⟩ =>
      show win0_16.index t 2 * 16 ≤ (i 2 : Nat) ∧ (i 2 : Nat) < win0_16.index t 2 * 16 + 16
      rw [(idx16 t).2.2.1]; omega
    | ⟨3, _⟩ =>
      show win0_16.index t 3 * 4 ≤ (i 3 : Nat) ∧ (i 3 : Nat) < win0_16.index t 3 * 4 + 4
      rw [(idx16 t).2.2.2.1]; omega
    | ⟨4, _⟩ =>
      show win0_16.index t 4 * 8 ≤ (i 4 : Nat) ∧ (i 4 : Nat) < win0_16.index t 4 * 8 + 8
      rw [(idx16 t).2.2.2.2.1]; omega
    | ⟨5, _⟩ =>
      show win0_16.index t 5 * 128 ≤ (i 5 : Nat) ∧ (i 5 : Nat) < win0_16.index t 5 * 128 + 128
      rw [(idx16 t).2.2.2.2.2]; omega

end Cert.KernelProjIdeal.Val

end
-- ==== Proof.ProjState.lean ====
/-
  The states the input projection's kernel carries from the last block of a sequence to the first, and the array it
  leaves of them.
-/
module

public import proofs.«01_k».proof.Proof.ProjBlock

@[expose] public section

set_option maxRecDepth 16384

noncomputable section

open scoped BigOperators

namespace Cert.KernelProjIdeal.Val

open Cert.KernelProjIdeal Cert.KernelProjIdeal.Gen Cert.ProjRow
open Idealize.ShloMosaic Idealize.ShloMosaic.TcCoe Idealize.SL.Sem

variable (m : (ℓ : Loc nD τ sig) → Buf (Elt Ideal) ℓ)

/-- A head's decay. -/
def dec (c : Dev nD) (h : ℕ) : ℕ → EReal := RetRow.decay (logit (m ((c : Thread nD τ).loc main_arg1)) h)

/-- The state after the last `n` blocks of 256 rows. -/
def after (c : Dev nD) (b h n : ℕ) : Fin 128 → Fin 128 → EReal :=
  chain (dec m c h) (keyCol (Hm m c) b h) (valCol (Hm m c) b h) n

/-- What the carried buffers hold at point `t`: the state after `n` blocks, and the decay tables. -/
structure Carried (c : Dev nD) (b n : ℕ) (S : Vec Ideal S4x128x128 .f32) (KD : Vec Ideal S4x256x128 .f32)
    (CD : Vec Ideal S4x128x128 .f32) : Prop where
  st : ∀ (h : Fin 4) (d e : Fin 128), S (ix3 h d e) = after m c b h.val n d e
  kd : ∀ (h : Fin 4) (i : Fin 256) (d : Fin 128), KD (ix3 h i d) = dec m c h.val i.val
  cd : ∀ (h : Fin 4) (d e : Fin 128), CD (ix3 h d e) = dec m c h.val 256

/-- The tables the first point of a sequence leaves, and the state it starts from. -/
theorem carried_zero (c : Dev nD) (t : Fin cfg0.N) (b : ℕ) :
    Carried m c b 0 (fun _ => (0 : EReal)) (rowsT (iblk m c 0 t)) (blockT (iblk m c 0 t)) := by
  have e : ∀ h : Fin 4, iblk m c 0 t (ix1 h) = logit (m ((c : Thread nD τ).loc main_arg1)) h.val := fun h => by
    refine (blk0 m c t h).trans ?_
    unfold logit
    simp only [Nat.mod_eq_of_lt h.isLt]
  exact ⟨fun h d e => rfl, fun h i d => congrArg (fun l => RetRow.decay l i.val) (e h),
    fun h d e' => congrArg (fun l => RetRow.decay l 256) (e h)⟩

/-- A step over the 256 rows at `r0` of a block. -/
theorem stepB_at (c : Dev nD) (t : Fin cfg0.N) (n : ℕ) (S : Fin 128 → Fin 128 → EReal) (KD : Vec Ideal S4x256x128 .f32)
    (CD : Vec Ideal S4x128x128 .f32) (h : Fin 4) (r0 : ℕ) (hr : r0 + 256 ≤ 512)
    (hn : 16384 - 256 * (n + 1) = 512 * (31 - t.val % 32) + r0)
    (hs : ∀ d e, S d e = after m c (t.val / 32) h.val n d e)
    (hk : ∀ (i : Fin 256) (d : Fin 128), KD (ix3 h i d) = dec m c h.val i.val)
    (hc : ∀ d e : Fin 128, CD (ix3 h d e) = dec m c h.val 256) (d e : Fin 128) :
    stepB (hB (iblk m c 1 t) (iblk m c 2 t) (iblk m c 3 t)) (iblk m c 8 t) (iblk m c 9 t) KD CD S h r0 d e = after m c (t.val / 32) h.val (n + 1) d e := by
  unfold stepB
  rw [hs, hc]
  refine congrArg₂ (· + ·) rfl (Finset.sum_congr rfl fun i _ => ?_)
  have hi := i.isLt
  rw [hk, rotB_at m c t _ (by omega) _ _ d.isLt, hB_at m c t _ (by omega), hn]
  show _ = rotary (Hm m c) (16384 * (t.val / 32) + (512 * (31 - t.val % 32) + r0 + i.val)) (512 * (31 - t.val % 32) + r0 + i.val)
      (4608 + 128 * h.val) d.val * dec m c h.val i.val
    * Hm m c (16384 * (t.val / 32) + (512 * (31 - t.val % 32) + r0 + i.val)) (5120 + 128 * h.val + e.val)
  rw [show 512 * rowBlk t.val + (r0 + i.val) = 16384 * (t.val / 32) + (512 * (31 - t.val % 32) + r0 + i.val) by
    unfold rowBlk; omega, show 512 * (31 - t.val % 32) + (r0 + i.val) = 512 * (31 - t.val % 32) + r0 + i.val by omega]

/-- The state behind a block's first half. -/
theorem half_at (c : Dev nD) (t : Fin cfg0.N) (S : Vec Ideal S4x128x128 .f32) (KD : Vec Ideal S4x256x128 .f32)
    (CD : Vec Ideal S4x128x128 .f32) (hC : Carried m c (t.val / 32) (2 * (t.val % 32)) S KD CD) (h : Fin 4) (d e : Fin 128) :
    stepB (hB (iblk m c 1 t) (iblk m c 2 t) (iblk m c 3 t)) (iblk m c 8 t) (iblk m c 9 t) KD CD (fun d e => S (ix3 h d e)) h 256 d e
      = after m c (t.val / 32) h.val (2 * (t.val % 32) + 1) d e :=
  stepB_at m c t _ _ KD CD h 256 (by omega) (by omega) (hC.st h) (hC.kd h) (hC.cd h) d e

/-- The state after a block. -/
theorem full_at (c : Dev nD) (t : Fin cfg0.N) (S : Vec Ideal S4x128x128 .f32) (KD : Vec Ideal S4x256x128 .f32)
    (CD : Vec Ideal S4x128x128 .f32) (hC : Carried m c (t.val / 32) (2 * (t.val % 32)) S KD CD) :
    Carried m c (t.val / 32) (2 * (t.val % 32) + 2) (fullB (hB (iblk m c 1 t) (iblk m c 2 t) (iblk m c 3 t)) (iblk m c 8 t) (iblk m c 9 t) KD CD S) KD CD := by
  refine ⟨fun h d e => ?_, hC.kd, hC.cd⟩
  show stepB (hB (iblk m c 1 t) (iblk m c 2 t) (iblk m c 3 t)) (iblk m c 8 t) (iblk m c 9 t) KD CD
    (stepB (hB (iblk m c 1 t) (iblk m c 2 t) (iblk m c 3 t)) (iblk m c 8 t) (iblk m c 9 t) KD CD (fun d e => S (ix3 h d e)) h 256) h 0 d e = _
  exact stepB_at m c t _ _ KD CD h 0 (by omega) (by omega) (half_at m c t S KD CD hC h) (hC.kd h) (hC.cd h) d e

theorem carried_first (c : Dev nD) (t : Fin cfg0.N) (h0 : t.val % 32 = 0) :
    Carried m c (t.val / 32) (2 * (t.val % 32) + 2) ((outsAt0 m c t.val t.isLt).2.2.2.2.2.2.2.2.1) ((outsAt0 m c t.val t.isLt).2.2.2.2.2.2.2.2.2.1) ((outsAt0 m c t.val t.isLt).2.2.2.2.2.2.2.2.2.2) := by
  rw [outsAt0_A m c t h0]
  dsimp only
  rw [sout_A_1, sout_A_2, sout_A_3]
  refine full_at m c t _ _ _ ?_
  rw [h0]
  exact carried_zero m c t _

theorem carried_next (c : Dev nD) (t : Fin cfg0.N) (h0 : ¬t.val % 32 = 0) (hb : t.val - 1 < cfg0.N)
    (ih : Carried m c ((t.val - 1) / 32) (2 * ((t.val - 1) % 32) + 2) ((outsAt0 m c (t.val - 1) hb).2.2.2.2.2.2.2.2.1) ((outsAt0 m c (t.val - 1) hb).2.2.2.2.2.2.2.2.2.1) ((outsAt0 m c (t.val - 1) hb).2.2.2.2.2.2.2.2.2.2)) :
    Carried m c (t.val / 32) (2 * (t.val % 32) + 2) ((outsAt0 m c t.val t.isLt).2.2.2.2.2.2.2.2.1) ((outsAt0 m c t.val t.isLt).2.2.2.2.2.2.2.2.2.1) ((outsAt0 m c t.val t.isLt).2.2.2.2.2.2.2.2.2.2) := by
  rw [outsAt0_B m c t h0]
  dsimp only
  rw [sout_B_1]
  refine full_at m c t _ _ _ ?_
  rwa [show (t.val - 1) / 32 = t.val / 32 by omega, show 2 * ((t.val - 1) % 32) + 2 = 2 * (t.val % 32) by omega] at ih

theorem carried (c : Dev nD) : ∀ (n : ℕ) (hn : n < cfg0.N),
    Carried m c (n / 32) (2 * (n % 32) + 2) ((outsAt0 m c n hn).2.2.2.2.2.2.2.2.1) ((outsAt0 m c n hn).2.2.2.2.2.2.2.2.2.1) ((outsAt0 m c n hn).2.2.2.2.2.2.2.2.2.2) := by
  intro n
  induction n with
  | zero => exact fun hn => carried_first m c ⟨0, hn⟩ rfl
  | succ n ih =>
    intro hn
    by_cases h0 : (n + 1) % 32 = 0
    · exact carried_first m c ⟨n + 1, hn⟩ h0
    · exact carried_next m c ⟨n + 1, hn⟩ h0 (Nat.lt_of_succ_lt hn) (ih (Nat.lt_of_succ_lt hn))

/-- What a point stores of the state. -/
theorem storedB_at (c : Dev nD) (t : Fin cfg0.N) (S : Vec Ideal S4x128x128 .f32) (KD : Vec Ideal S4x256x128 .f32)
    (CD : Vec Ideal S4x128x128 .f32) (hC : Carried m c (t.val / 32) (2 * (t.val % 32)) S KD CD) (y : S2x4x128x128.Idx) :
    storedB (hB (iblk m c 1 t) (iblk m c 2 t) (iblk m c 3 t)) (iblk m c 8 t) (iblk m c 9 t) KD CD S y
      = after m c (t.val / 32) (y 1).val (2 * (t.val % 32) + (1 - (y 0).val)) (y 2) (y 3) := by
  have b0 : (y 0).val < 2 := (y 0).isLt
  unfold storedB
  by_cases h : (y 0).val = 0
  · rw [if_pos h, h]
    exact half_at m c t S KD CD hC (y 1) (y 2) (y 3)
  · rw [if_neg h, show 1 - (y 0).val = 0 by omega]
    exact hC.st (y 1) (y 2) (y 3)

theorem outs17 (c : Dev nD) (t : Fin cfg0.N) (y : S2x4x128x128.Idx) :
    (outsAt0 m c t.val t.isLt).2.2.2.2.2.2.2.1 y
      = after m c (t.val / 32) (y 1).val (2 * (t.val % 32) + (1 - (y 0).val)) (y 2) (y 3) := by
  have hN : t.val < 64 := lt_of_lt_of_eq t.isLt N_0
  by_cases h0 : t.val % 32 = 0
  · rw [outsAt0_A m c t h0]
    dsimp only
    rw [out_A_17]
    refine storedB_at m c t _ _ _ ?_ y
    rw [h0]
    exact carried_zero m c t _
  · have hb : t.val - 1 < cfg0.N := Nat.lt_of_le_of_lt (Nat.sub_le _ _) t.isLt
    have ih := carried m c (t.val - 1) hb
    rw [outsAt0_B m c t h0]
    dsimp only
    rw [out_B_17]
    refine storedB_at m c t _ _ _ ?_ y
    rwa [show (t.val - 1) / 32 = t.val / 32 by omega, show 2 * ((t.val - 1) % 32) + 2 = 2 * (t.val % 32) by omega] at ih

/-- The result, and what each point writes back of it. -/
def res17 (c : Dev nD) : Buf (Elt Ideal) ((c : Thread nD τ).loc main_v32_7) := fun i =>
  after m c ((i 0).val / 64) (i 1).val (63 - (i 0).val % 64) (i 2) (i 3)

theorem flushed_eq17 (c : Dev nD) (t : Fin cfg0.N) (hf : (cfg0.win 17).flush t = true) :
    (dats m 0 c).flushed 17 t = ((cfg0.win 17).blk t).view.read (Elt Ideal) (res17 m c) := by
  have hN : t.val < 64 := lt_of_lt_of_eq t.isLt N_0
  rw [Value.flushed17 m c t]
  funext y
  have b0 : (y 0).val < 2 := (y 0).isLt
  refine (outs17 m c t y).trans ?_
  show _ = res17 m c ((win0_17.rect t).emb y)
  have e0 : ((win0_17.rect t).emb y 0).val = 2 * rowBlk t.val + (y 0).val := by
    show win0_17.index t 0 * 2 + 1 * (y 0).val = _
    rw [(idx17 t).1]; omega
  have e1 : ((win0_17.rect t).emb y 1).val = (y 1).val := by
    show win0_17.index t 1 * 4 + 1 * (y 1).val = _
    rw [(idx17 t).2.1]; omega
  have e2 : (win0_17.rect t).emb y 2 = y 2 := Fin.ext (by
    show win0_17.index t 2 * 128 + 1 * (y 2).val = _
    rw [(idx17 t).2.2.1]; omega)
  have e3 : (win0_17.rect t).emb y 3 = y 3 := Fin.ext (by
    show win0_17.index t 3 * 128 + 1 * (y 3).val = _
    rw [(idx17 t).2.2.2]; omega)
  unfold res17
  rw [e0, e1, e2, e3, show (2 * rowBlk t.val + (y 0).val) / 64 = t.val / 32 by unfold rowBlk; omega,
    show 63 - (2 * rowBlk t.val + (y 0).val) % 64 = 2 * (t.val % 32) + (1 - (y 0).val) by unfold rowBlk; omega]

/-- So the array ends holding the states. -/
theorem final17 (c : Dev nD) : (dats m 0 c).arrAt 17 cfg0.N = res17 m c :=
  (dats m 0 c).arrAt_eq_of_cover 17 (res17 m c) (flushed_eq17 m c) fun i => by
    have hN : grid0.N = 64 := N_0
    have h0 : (i 0 : Nat) < 128 := (i 0).isLt
    have h1 : (i 1 : Nat) < 4 := (i 1).isLt
    have h2 : (i 2 : Nat) < 128 := (i 2).isLt
    have h3 : (i 3 : Nat) < 128 := (i 3).isLt
    refine ⟨⟨32 * ((i 0 : Nat) / 64) + (31 - (i 0 : Nat) % 64 / 2), by show _ < grid0.N; omega⟩, flush17 _, ?_⟩
    generalize ht : (⟨32 * ((i 0 : Nat) / 64) + (31 - (i 0 : Nat) % 64 / 2), _⟩ : Fin cfg0.N) = t
    have hv : t.val = 32 * ((i 0 : Nat) / 64) + (31 - (i 0 : Nat) % 64 / 2) := by rw [← ht]
    show i ∈ ((View.whole main_v32_7).slice (win0_17.rect t)).set
    rw [View.set_slice_whole, Rect.mem_set_unit]
    intro a
    match a with
    | ⟨0, _⟩ =>
      show win0_17.index t 0 * 2 ≤ (i 0 : Nat) ∧ (i 0 : Nat) < win0_17.index t 0 * 2 + 2
      rw [(idx17 t).1]; unfold rowBlk; omega
    | ⟨1, _⟩ =>
      show win0_17.index t 1 * 4 ≤ (i 1 : Nat) ∧ (i 1 : Nat) < win0_17.index t 1 * 4 + 4
      rw [(idx17 t).2.1]; omega
    | ⟨2, _⟩ =>
      show win0_17.index t 2 * 128 ≤ (i 2 : Nat) ∧ (i 2 : Nat) < win0_17.index t 2 * 128 + 128
      rw [(idx17 t).2.2.1]; omega
    | ⟨3, _⟩ =>
      show win0_17.index t 3 * 128 ≤ (i 3 : Nat) ∧ (i 3 : Nat) < win0_17.index t 3 * 128 + 128
      rw [(idx17 t).2.2.2]; omega

end Cert.KernelProjIdeal.Val

end
-- ==== Proof.ProjReference.lean ====
/-
  The plain input projection read at an index.
-/
module

public import proofs.«01_k».proof.Proof.ProjRow
public import proofs.«01_k».proof.Proof.Gen.ReferenceProjIdeal.Run
public import Idealize.ShloMosaic.Lib.Pointwise

@[expose] public section

set_option maxRecDepth 16384

noncomputable section

open scoped BigOperators

namespace Cert.ReferenceProjIdeal.Val

open Cert.ReferenceProjIdeal Cert.ReferenceProjIdeal.Gen Cert.RetRow Cert.ProjRow
open Idealize.ShloMosaic Idealize.ShloMosaic.TcCoe Idealize.SL.Sem

variable (V0 : Valuation τ sig (Elt Ideal))

open Cert.ReferenceProjIdeal.Value

/-- The projection of the arguments. -/
abbrev H : ℕ → ℕ → EReal :=
  hid (V0 (Proc.devRef .tc main_arg0)) (V0 (Proc.devRef .tc main_arg2)) (V0 (Proc.devRef .tc main_arg3))

theorem proj_at (b : Fin 2) (n : Fin 16384) (c : Fin 6656) : res_main_v8 V0 (ix3 b n c) = H V0 (16384 * b + n) c := by
  unfold H hid
  pointwise [res_main_v8]
  refine congrArg₂ (fun a b : EReal => a + b) (Finset.sum_congr rfl fun k _ => congrArg₂ (fun a b : EReal => a * b) ?_ ?_) ?_ <;>
    · congr 1
      funext a
      apply Fin.ext
      fin_cases a <;> simp <;> omega

theorem gelu_at (b : Fin 2) (n : Fin 16384) (c : Fin 1024) :
    res_main_v28 V0 (ix3 b n c) = gelu (H V0 (16384 * b + n) (3072 + c)) := by
  unfold gelu
  pointwise [res_main_v28, res_main_v10]
  simp only [proj_at]

/-- The rotated keys. -/
theorem key_at (b : Fin 2) (n : Fin 16384) (h : Fin 4) (d : Fin 128) :
    res_main_v134 V0 (ix4 b n h d) = rotary (H V0) (16384 * b + n) n (4608 + 128 * h) d := by
  unfold rotary angle
  pointwise [res_main_v134, res_main_v122, res_main_v123, res_main_v119, res_main_v121, res_main_v117, res_main_v105]
  simp only [proj_at]
  have e : ∀ c : ℕ, c < 128 → FloatOps.sitofp (F := Ideal) FTy.f32 (BitVec.ofNat 32 c) = ((c : ℝ) : EReal) := fun c hc =>
    real_word c (by omega)
  have e' : FloatOps.sitofp (F := Ideal) FTy.f32 (BitVec.ofNat 32 n.val) = ((n.val : ℝ) : EReal) := real_word _ (by omega)
  have hd : d.val < 128 := d.isLt
  by_cases hc : d.val < 64
  · rw [dif_pos hc, if_pos hc, e', e _ hd, show 4608 + (h.val * 128 + d.val) = 4608 + 128 * h.val + d.val by omega,
      show 4608 + (h.val * 128 + (64 + d.val)) = 4608 + 128 * h.val + (d.val + 64) by omega]
  · rw [dif_neg hc, if_neg hc, e', e (d.val - 64) (by omega),
      show 4608 + (h.val * 128 + (d.val - 64)) = 4608 + 128 * h.val + (d.val - 64) by omega,
      show 4608 + (h.val * 128 + (64 + (d.val - 64))) = 4608 + 128 * h.val + d.val by omega]

/-- The rotated queries before they are scaled. -/
def queryTerm : FVec Ideal S2x16384x4x128 .f32 :=
      concatenate S2x16384x4x128 3 [⟨S2x16384x4x64, (subf (mulf (res_main_v90 V0) (broadcastInDim S2x16384x4x64 ![0,
        1, 2, 3] bcast_S1x16384x1x64_S2x16384x4x64_0_1_2_3 (res_main_v87 V0))) (mulf (res_main_v91 V0) (broadcastInDim
        S2x16384x4x64 ![0, 1, 2, 3] bcast_S1x16384x1x64_S2x16384x4x64_0_1_2_3 (res_main_v89 V0))))⟩, ⟨S2x16384x4x64,
        (addf (mulf (res_main_v90 V0) (broadcastInDim S2x16384x4x64 ![0, 1, 2, 3]
        bcast_S1x16384x1x64_S2x16384x4x64_0_1_2_3 (res_main_v89 V0))) (mulf (res_main_v91 V0) (broadcastInDim
        S2x16384x4x64 ![0, 1, 2, 3] bcast_S1x16384x1x64_S2x16384x4x64_0_1_2_3 (res_main_v87 V0))))⟩]
        concatenates_S2x16384x4x64_S2x16384x4x64_S2x16384x4x128_d3

theorem query_at (b : Fin 2) (n : Fin 16384) (h : Fin 4) (d : Fin 128) :
    queryTerm V0 (ix4 b n h d) = rotary (H V0) (16384 * b + n) n (4096 + 128 * h) d := by
  unfold rotary angle
  pointwise [queryTerm, res_main_v90, res_main_v91, res_main_v87, res_main_v89, res_main_v85, res_main_v73]
  simp only [proj_at]
  have e : ∀ c : ℕ, c < 128 → FloatOps.sitofp (F := Ideal) FTy.f32 (BitVec.ofNat 32 c) = ((c : ℝ) : EReal) := fun c hc =>
    real_word c (by omega)
  have e' : FloatOps.sitofp (F := Ideal) FTy.f32 (BitVec.ofNat 32 n.val) = ((n.val : ℝ) : EReal) := real_word _ (by omega)
  have hd : d.val < 128 := d.isLt
  by_cases hc : d.val < 64
  · rw [dif_pos hc, if_pos hc, e', e _ hd, show 4096 + (h.val * 128 + d.val) = 4096 + 128 * h.val + d.val by omega,
      show 4096 + (h.val * 128 + (64 + d.val)) = 4096 + 128 * h.val + (d.val + 64) by omega]
  · rw [dif_neg hc, if_neg hc, e', e (d.val - 64) (by omega),
      show 4096 + (h.val * 128 + (d.val - 64)) = 4096 + 128 * h.val + (d.val - 64) by omega,
      show 4096 + (h.val * 128 + (64 + (d.val - 64))) = 4096 + 128 * h.val + d.val by omega]

/-- The gates. -/
theorem gates_eq :
      truncf .bf16 (shapeCast _ (Host.divf (broadcastInDim S2x16384x3072 ![] bcast_S_S2x16384x3072 (constant S_ .f32
        0x3F800000#32)) (addf (broadcastInDim S2x16384x3072 ![] bcast_S_S2x16384x3072 (constant S_ .f32
        0x3F800000#32)) (Host.exp (Host.negf (extractStridedSlice S2x16384x3072 ![0, 0, 0] (res_main_v8 V0)
        slices_S2x16384x6656_S2x16384x3072_0_0_0))))) shapeCasts_S2x16384x3072_S32768x3072) bitsLt_bf16_f32
      = gatesR (H V0) := by
  funext i
  have hi : i = (ix2 (n0 := 32768) (n1 := 3072) (i 0) (i 1) : S32768x3072.Idx) := by
    funext a; match a with | ⟨0, _⟩ => rfl | ⟨1, _⟩ => rfl
  rw [hi]
  have hr : (i 0).val < 32768 := (i 0).isLt
  have hq : (i 1).val < 3072 := (i 1).isLt
  generalize i 0 = r at hr ⊢
  generalize i 1 = q at hq ⊢
  unfold gatesR Ideal.logistic
  pointwise
  have e1 : 16384 * (r.val / 16384) + r.val % 16384 = r.val := by omega
  simp only [proj_at, e1]

/-- The queries. -/
theorem queries_eq :
      truncf .bf16 (shapeCast _ (mulf (concatenate S2x16384x4x128 3 [⟨S2x16384x4x64, (subf (mulf (res_main_v90 V0)
        (broadcastInDim S2x16384x4x64 ![0, 1, 2, 3] bcast_S1x16384x1x64_S2x16384x4x64_0_1_2_3 (res_main_v87 V0)))
        (mulf (res_main_v91 V0) (broadcastInDim S2x16384x4x64 ![0, 1, 2, 3] bcast_S1x16384x1x64_S2x16384x4x64_0_1_2_3
        (res_main_v89 V0))))⟩, ⟨S2x16384x4x64, (addf (mulf (res_main_v90 V0) (broadcastInDim S2x16384x4x64 ![0, 1, 2,
        3] bcast_S1x16384x1x64_S2x16384x4x64_0_1_2_3 (res_main_v89 V0))) (mulf (res_main_v91 V0) (broadcastInDim
        S2x16384x4x64 ![0, 1, 2, 3] bcast_S1x16384x1x64_S2x16384x4x64_0_1_2_3 (res_main_v87 V0))))⟩]
        concatenates_S2x16384x4x64_S2x16384x4x64_S2x16384x4x128_d3) (broadcastInDim S2x16384x4x128 ![]
        bcast_S_S2x16384x4x128 (constant S_ .f32 0x3DB504F3#32))) shapeCasts_S2x16384x4x128_S32768x512)
        bitsLt_bf16_f32
      = queriesR (H V0) := by
  funext i
  have hi : i = (ix2 (n0 := 32768) (n1 := 512) (i 0) (i 1) : S32768x512.Idx) := by
    funext a; match a with | ⟨0, _⟩ => rfl | ⟨1, _⟩ => rfl
  rw [hi]
  have hr : (i 0).val < 32768 := (i 0).isLt
  have hq : (i 1).val < 512 := (i 1).isLt
  generalize i 0 = r at hr ⊢
  generalize i 1 = q at hq ⊢
  show truncf .bf16 (shapeCast _ (mulf (queryTerm V0) _) _) _ _ = _
  unfold queriesR
  pointwise
  have e1 : 16384 * (r.val / 16384) + r.val % 16384 = r.val := by omega
  simp only [query_at, e1]

/-- The keys. -/
theorem keys_eq :
      truncf .bf16 (shapeCast _ (res_main_v134 V0) shapeCasts_S2x16384x4x128_S32768x512) bitsLt_bf16_f32
      = keysR (H V0) := by
  funext i
  have hi : i = (ix2 (n0 := 32768) (n1 := 512) (i 0) (i 1) : S32768x512.Idx) := by
    funext a; match a with | ⟨0, _⟩ => rfl | ⟨1, _⟩ => rfl
  rw [hi]
  have hr : (i 0).val < 32768 := (i 0).isLt
  have hq : (i 1).val < 512 := (i 1).isLt
  generalize i 0 = r at hr ⊢
  generalize i 1 = q at hq ⊢
  unfold keysR
  pointwise
  have e1 : 16384 * (r.val / 16384) + r.val % 16384 = r.val := by omega
  simp only [key_at, e1]

/-- The values. -/
theorem values_eq :
      truncf .bf16 (shapeCast _ (res_main_v13 V0) shapeCasts_S2x16384x512_S32768x512) bitsLt_bf16_f32
      = valuesR (H V0) := by
  funext i
  have hi : i = (ix2 (n0 := 32768) (n1 := 512) (i 0) (i 1) : S32768x512.Idx) := by
    funext a; match a with | ⟨0, _⟩ => rfl | ⟨1, _⟩ => rfl
  rw [hi]
  have hr : (i 0).val < 32768 := (i 0).isLt
  have hq : (i 1).val < 512 := (i 1).isLt
  generalize i 0 = r at hr ⊢
  generalize i 1 = q at hq ⊢
  unfold valuesR
  pointwise [res_main_v13]
  have e1 : 16384 * (r.val / 16384) + r.val % 16384 = r.val := by omega
  simp only [proj_at, e1]

/-- Retention's gate. -/
theorem gate_eq :
      truncf .bf16 (shapeCast _ (mulf (res_main_v14 V0) (Host.divf (broadcastInDim S2x16384x512 ![]
        bcast_S_S2x16384x512 (constant S_ .f32 0x3F800000#32)) (addf (broadcastInDim S2x16384x512 ![]
        bcast_S_S2x16384x512 (constant S_ .f32 0x3F800000#32)) (Host.exp (Host.negf (res_main_v14 V0))))))
        shapeCasts_S2x16384x512_S32768x512) bitsLt_bf16_f32
      = gateR (H V0) := by
  funext i
  have hi : i = (ix2 (n0 := 32768) (n1 := 512) (i 0) (i 1) : S32768x512.Idx) := by
    funext a; match a with | ⟨0, _⟩ => rfl | ⟨1, _⟩ => rfl
  rw [hi]
  have hr : (i 0).val < 32768 := (i 0).isLt
  have hq : (i 1).val < 512 := (i 1).isLt
  generalize i 0 = r at hr ⊢
  generalize i 1 = q at hq ⊢
  unfold gateR silu Ideal.logistic
  pointwise [res_main_v14]
  have e1 : 16384 * (r.val / 16384) + r.val % 16384 = r.val := by omega
  simp only [proj_at, e1]

/-- The Fourier columns. -/
theorem fourier_eq :
      truncf .bf16 (transpose S4x2x16x128x8x128 [4, 0, 2, 1, 3, 5] (shapeCast _ (extractStridedSlice S2x16384x512 ![0,
        0, 6144] (res_main_v8 V0) slices_S2x16384x6656_S2x16384x512_0_0_6144)
        shapeCasts_S2x16384x512_S2x128x16x8x4x128) transposes_S2x128x16x8x4x128_S4x2x16x128x8x128_4_0_2_1_3_5)
        bitsLt_bf16_f32
      = fourierR (H V0) := by
  funext i
  have hi : i = (ix6 (n0 := 4) (n1 := 2) (n2 := 16) (n3 := 128) (n4 := 8) (n5 := 128) (i 0) (i 1) (i 2) (i 3) (i 4) (i 5) : S4x2x16x128x8x128.Idx) := by
    funext a; fin_cases a <;> rfl
  rw [hi]
  generalize i 0 = g
  generalize i 1 = b
  generalize i 2 = n
  generalize i 3 = k
  generalize i 4 = s
  generalize i 5 = d
  unfold fourierR
  pointwise
  exact (proj_at V0 _ _ _).trans (congrArg₂ (H V0) (by
    show 16384 * b.val + (k.val * 128 + n.val * 8 + s.val) = _
    omega) (by
    show 6144 + (g.val * 128 + d.val) = _
    omega))

/-- The spatial gating unit. -/
theorem spatial_eq :
      truncf .bf16 (shapeCast _ (mulf (extractStridedSlice S2x16384x512 ![0, 0, 0] (res_main_v28 V0)
        slices_S2x16384x1024_S2x16384x512_0_0_0) (shapeCast _ (addf (transpose S2x128x128x4x128 [1, 2, 4, 0, 3]
        (Host.dotGeneral (φ₂ := .f32) dot_S2x128x128x4x128_S4x128x128_S4x2x128x128x128_2_2_014_1_3_0 none (shapeCast _ (addf (mulf
        (mulf (subf (res_main_v30 V0) (broadcastInDim S2x16384x512 ![0, 1, 2] bcast_S2x16384x1_S2x16384x512_0_1_2
        (res_main_v38 V0))) (broadcastInDim S2x16384x512 ![0, 1, 2] bcast_S2x16384x1_S2x16384x512_0_1_2 (Host.rsqrt
        (addf (Host.divf (broadcastInDim S2x16384x1 ![0, 1] bcast_S2x16384_S2x16384x1_0_1 (Host.reduceAdd (mulf
        (res_main_v40 V0) (res_main_v40 V0)) (constant S_ .f32 0x00000000#32) reducesTo_S2x16384x512_S2x16384_d2
        h_S_)) (broadcastInDim S2x16384x1 ![] bcast_S_S2x16384x1 (constant S_ .f32 0x44000000#32))) (broadcastInDim
        S2x16384x1 ![] bcast_S_S2x16384x1 (constant S_ .f32 0x3727C5AC#32)))))) (broadcastInDim S2x16384x512 ![0, 1,
        2] bcast_S1x1x512_S2x16384x512_0_1_2 (broadcastInDim S1x1x512 ![2] bcast_S512_S1x1x512_2 (shapeCast _
        (extractStridedSlice S1x512 ![0, 0] (V0 (Proc.devRef .tc main_arg4)) slices_S2x512_S1x512_0_0)
        shapeCasts_S1x512_S512)))) (broadcastInDim S2x16384x512 ![0, 1, 2] bcast_S1x1x512_S2x16384x512_0_1_2
        (broadcastInDim S1x1x512 ![2] bcast_S512_S1x1x512_2 (shapeCast _ (extractStridedSlice S1x512 ![0, 0] (V0
        (Proc.devRef .tc main_arg5)) slices_S2x512_S1x512_0_0) shapeCasts_S1x512_S512))))
        shapeCasts_S2x16384x512_S2x128x128x4x128) (shapeCast _ (extractStridedSlice S1x4x128x128 ![0, 0, 0, 0] (V0
        (Proc.devRef .tc main_arg6)) slices_S2x4x128x128_S1x4x128x128_0_0_0_0) shapeCasts_S1x4x128x128_S4x128x128))
        transposes_S4x2x128x128x128_S2x128x128x4x128_1_2_4_0_3) (broadcastInDim S2x128x128x4x128 ![0, 1, 2, 3, 4]
        bcast_S1x1x128x4x1_S2x128x128x4x128_0_1_2_3_4 (broadcastInDim S1x1x128x4x1 ![2, 3, 4]
        bcast_S128x4x1_S1x1x128x4x1_2_3_4 (broadcastInDim S128x4x1 ![0, 1] bcast_S128x4_S128x4x1_0_1 (transpose S128x4
        [1, 0] (shapeCast _ (extractStridedSlice S1x4x128 ![0, 0, 0] (V0 (Proc.devRef .tc main_arg7))
        slices_S2x4x128_S1x4x128_0_0_0) shapeCasts_S1x4x128_S4x128) transposes_S4x128_S128x4_1_0)))))
        shapeCasts_S2x128x128x4x128_S2x16384x512)) shapeCasts_S2x16384x512_S32768x512) bitsLt_bf16_f32
      = spatialR (H V0) (V0 (Proc.devRef .tc main_arg4)) (V0 (Proc.devRef .tc main_arg5)) (V0 (Proc.devRef .tc main_arg6)) (V0 (Proc.devRef .tc main_arg7)) := by
  funext i
  have hi : i = (ix2 (n0 := 32768) (n1 := 512) (i 0) (i 1) : S32768x512.Idx) := by
    funext a; match a with | ⟨0, _⟩ => rfl | ⟨1, _⟩ => rfl
  rw [hi]
  have hr : (i 0).val < 32768 := (i 0).isLt
  have hq : (i 1).val < 512 := (i 1).isLt
  generalize i 0 = r at hr ⊢
  generalize i 1 = q at hq ⊢
  unfold spatialR spatial rowNorm rowMean
  pointwise [res_main_v30, res_main_v38, res_main_v40]
  have e1 : 16384 * (r.val / 16384) + r.val % 16384 = r.val := by omega
  have e2 : ∀ x : ℕ, 16384 * (r.val / 16384) + (r.val % 16384 / 128 * 128 + x) = 128 * (r.val / 128) + x := fun x => by omega
  have e3 : ∀ x : ℕ, 3072 + (512 + x) = 3584 + x := fun x => by omega
  simp only [gelu_at, e1, e2, e3]
  refine congrArg₂ (fun a b : EReal => a * b) rfl (congrArg₂ (fun a b : EReal => a + b) (Finset.sum_congr rfl fun j _ =>
    (mul_comm _ _).trans (congrArg₂ (fun a b : EReal => a * b) ?_ rfl)) ?_)
  · unfold mixW
    congr 1
    funext a
    apply Fin.ext
    match a with
    | ⟨0, _⟩ => rfl
    | ⟨1, _⟩ => show q.val / 128 = q.val / 128 % 4; omega
    | ⟨2, _⟩ => show r.val % 16384 % 128 = r.val % 128 % 128; omega
    | ⟨3, _⟩ => rfl
  · unfold mixB
    congr 1
    funext a
    apply Fin.ext
    match a with
    | ⟨0, _⟩ => rfl
    | ⟨1, _⟩ => show q.val / 128 = q.val / 128 % 4; omega
    | ⟨2, _⟩ => show r.val % 16384 % 128 = r.val % 128 % 128; omega

/-- The state behind every block. -/
theorem state_eq :
      truncf .bf16 (shapeCast _ (transpose S2x64x4x128x128 [1, 4, 0, 2, 3] (Host.dotGeneral
        dot_S2x16384x4x128x128_S4x64x16384_S4x2x128x128x64_1_2_034_1_2_0 none (mulf (broadcastInDim S2x16384x4x128x128
        ![0, 1, 2, 3, 4] bcast_S2x16384x4x128x1_S2x16384x4x128x128_0_1_2_3_4 (broadcastInDim S2x16384x4x128x1 ![0, 1,
        2, 3] bcast_S2x16384x4x128_S2x16384x4x128x1_0_1_2_3 (res_main_v134 V0))) (broadcastInDim S2x16384x4x128x128
        ![0, 1, 2, 3, 4] bcast_S2x16384x4x1x128_S2x16384x4x128x128_0_1_2_3_4 (broadcastInDim S2x16384x4x1x128 ![0, 1,
        2, 4] bcast_S2x16384x4x128_S2x16384x4x1x128_0_1_2_4 (shapeCast _ (res_main_v13 V0)
        shapeCasts_S2x16384x512_S2x16384x4x128)))) (select (broadcastInDim S4x64x16384 ![1, 2]
        bcast_S64x16384_S4x64x16384_1_2 (cmpi .sge (res_main_v145 V0) (broadcastInDim S64x16384 ![] bcast_S_S64x16384
        (constantI S_ 32 0#32)))) (Host.exp (mulf (broadcastInDim S4x64x16384 ![0, 1, 2]
        bcast_S1x64x16384_S4x64x16384_0_1_2 (broadcastInDim S1x64x16384 ![1, 2] bcast_S64x16384_S1x64x16384_1_2
        (sitofp .f32 (res_main_v145 V0)))) (broadcastInDim S4x64x16384 ![0, 1, 2] bcast_S4x1x1_S4x64x16384_0_1_2
        (broadcastInDim S4x1x1 ![0] bcast_S4_S4x1x1_0 (Host.negf (select (cmpf .une (res_main_call0_call0_v3 V0)
        (res_main_call0_call0_v3 V0)) (addf (res_main_call0_v0 V0) (broadcastInDim S4 ![] bcast_S_S4
        (res_main_call0_call0_cst V0))) (addf (maximumf (res_main_call0_v0 V0) (broadcastInDim S4 ![] bcast_S_S4
        (res_main_call0_call0_cst V0))) (Host.log1p (Host.exp (Host.negf (Host.absf (res_main_call0_call0_v3
        V0)))))))))))) (broadcastInDim S4x64x16384 ![] bcast_S_S4x64x16384 (id (constant S_ .f32 0x00000000#32)))))
        transposes_S4x2x128x128x64_S2x64x4x128x128_1_4_0_2_3) shapeCasts_S2x64x4x128x128_S128x4x128x128)
        bitsLt_bf16_f32
      = stateR (H V0) (V0 (Proc.devRef .tc main_arg1)) := by
  funext i
  have hi : i = (ix4 (n0 := 128) (n1 := 4) (n2 := 128) (n3 := 128) (i 0) (i 1) (i 2) (i 3) : S128x4x128x128.Idx) := by
    funext a; match a with | ⟨0, _⟩ => rfl | ⟨1, _⟩ => rfl | ⟨2, _⟩ => rfl | ⟨3, _⟩ => rfl
  rw [hi]
  generalize i 0 = r
  generalize i 1 = h
  generalize i 2 = d
  generalize i 3 = e
  unfold stateR behind
  pointwise [res_main_v13, res_main_v145, res_main_call0_v0, res_main_call0_call0_cst, res_main_call0_call0_v3]
  simp only [proj_at]
  have hh : h.val < 4 := h.isLt
  have hz : id (constant (F := Ideal) S_ FTy.f32 0#32) ix0 = (0 : EReal) := by
    show constant (F := Ideal) S_ FTy.f32 0#32 ix0 = (0 : EReal)
    pointwise
  have hl : V0 (Proc.devRef .tc main_arg1) (ix1 h) = ProjRow.logit (V0 (Proc.devRef .tc main_arg1)) h.val := by
    unfold ProjRow.logit
    congr 1
    funext a
    match a with
    | ⟨0, _⟩ => exact Fin.ext (show h.val = h.val % 4 by omega)
  simp only [lg_plain, hz]
  refine Finset.sum_congr rfl fun m _ => congrArg₂ (fun a b : EReal => a * b)
    (congrArg₂ (fun a b : EReal => a * b) (key_at V0 _ m h d) (congrArg (H V0 _) ?_)) ?_
  · omega
  · rw [← hl, first_word ⟨r.val % 64, Nat.mod_lt _ (by decide)⟩]
    exact masked_decay _ m.val (256 * (r.val % 64 + 1)) (by omega) (by omega)

end Cert.ReferenceProjIdeal.Val

end
-- ==== Proof.ProjClaim.lean ====
/-
  The input projection's claims put together: the runs of the two programs end with equal results from equal arguments, and
  each program leaves its arguments as they were and every semaphore at zero.
-/
module

public import proofs.«01_k».proof.Proof.ProjArray
public import proofs.«01_k».proof.Proof.ProjState
public import proofs.«01_k».proof.Proof.ProjReference
public import proofs.«01_k».proof.Proof.Gen.KernelProj.Frame
public import proofs.«01_k».proof.Defs

@[expose] public section

noncomputable section

namespace Cert.Proof.ProjClaim

open Cert.ProjRow Idealize.ShloMosaic Idealize.ShloMosaic.TcCoe Idealize.SL.Sem Idealize.ShloMosaic.StableHlo

theorem frameKernel : Cert.quiescent_KernelProj := fun m ρ _ => Cert.KernelProj.Gen.frame m ρ
theorem frameIdeal : Cert.quiescent_KernelProjIdeal := fun m ρ _ => Cert.KernelProjIdeal.Gen.frame m ρ

/-- The reference is a run of host operations: its arguments stay, and it declares no semaphore. -/
theorem frameReference : Cert.quiescent_ReferenceProjIdeal := fun m ρ _ =>
  (θ_run Cert.ReferenceProjIdeal.defs _ _).mono
    (fun r h => ⟨fun c => (h c).2.2.2.2.2.2.2.2, sem_eq_zero_of_no_sems (by decide) r.2⟩)
    (Cert.ReferenceProjIdeal.Value.run (F := Ideal) m ρ)

theorem preserves : Cert.preserves_KernelProj_KernelProjIdeal := trivial

open Cert.KernelProjIdeal Cert.KernelProjIdeal.Val in
/-- The kernel's states are the states the reference states. -/
theorem states (m : (ℓ : Loc nD τ sig) → Buf (Elt Ideal) ℓ) (c : Dev nD) :
    res17 m c = stateR (Hm m c) (m ((c.tc : Thread nD τ).loc main_arg1)) := by
  funext i
  exact chain_behind (logit (m ((c.tc : Thread nD τ).loc main_arg1)) (i 1).val) (keyCol (Hm m c) ((i 0).val / 64) (i 1).val)
    (valCol (Hm m c) ((i 0).val / 64) (i 1).val) ((i 0).val % 64) (Nat.mod_lt _ (by norm_num)) (i 2) (i 3)

open Cert.KernelProjIdeal.Val in
/-- Both runs end at the same functions of the arguments. -/
theorem algebraic : Cert.algebraic_KernelProjIdeal_ReferenceProjIdeal := fun m ρ m' ρ' _ hag =>
  ⟨fun c => res10 m c, fun c => res11 m c, fun c => res12 m c, fun c => res13 m c, fun c => res14 m c, fun c => res15 m c,
    fun c => res16 m c, fun c => res17 m c,
    (θ_run Cert.KernelProjIdeal.defs _ _).mono
      (fun _ h c => by
        obtain ⟨h0, h1, h2, h3, h4, h5, h6, h7, hr⟩ := h c
        exact ⟨h0.trans (final10 m c), h1.trans (final11 m c), h2.trans (final12 m c), h3.trans (final13 m c),
          h4.trans (final14 m c), h5.trans (final15 m c), h6.trans (final16 m c), h7.trans (final17 m c), hr⟩)
      (Cert.KernelProjIdeal.Value.run_blocks m ρ),
    (θ_run Cert.ReferenceProjIdeal.defs _ _).mono
      (fun _ h c => by
        obtain ⟨h0, h1, h2, h3, h4, h5, h6, h7, hr⟩ := h c
        obtain ⟨e0, e1, e2, e3, e4, e5, e6, e7⟩ := hag c
        have eH : Cert.ReferenceProjIdeal.Val.H (launchContents m' c) = Hm m c := by
          show hid (m' ((c.tc : Thread Cert.ReferenceProjIdeal.nD Cert.ReferenceProjIdeal.τ).loc Cert.ReferenceProjIdeal.main_arg0))
              (m' ((c.tc : Thread Cert.ReferenceProjIdeal.nD Cert.ReferenceProjIdeal.τ).loc Cert.ReferenceProjIdeal.main_arg2))
              (m' ((c.tc : Thread Cert.ReferenceProjIdeal.nD Cert.ReferenceProjIdeal.τ).loc Cert.ReferenceProjIdeal.main_arg3))
            = hid (m ((c.tc : Thread Cert.KernelProjIdeal.nD Cert.KernelProjIdeal.τ).loc Cert.KernelProjIdeal.main_arg0))
              (m ((c.tc : Thread Cert.KernelProjIdeal.nD Cert.KernelProjIdeal.τ).loc Cert.KernelProjIdeal.main_arg2))
              (m ((c.tc : Thread Cert.KernelProjIdeal.nD Cert.KernelProjIdeal.τ).loc Cert.KernelProjIdeal.main_arg3))
          rw [e0, e2, e3]
        refine ⟨h0.trans ?_, h1.trans ?_, h2.trans ?_, h3.trans ?_, h4.trans ?_, h5.trans ?_, h6.trans ?_, h7.trans ?_, hr⟩
        · exact (Cert.ReferenceProjIdeal.Val.gates_eq _).trans (congrArg gatesR eH)
        · refine (Cert.ReferenceProjIdeal.Val.spatial_eq _).trans ?_
          rw [eH]
          show spatialR _ (m' ((c.tc : Thread Cert.ReferenceProjIdeal.nD Cert.ReferenceProjIdeal.τ).loc Cert.ReferenceProjIdeal.main_arg4))
              (m' ((c.tc : Thread Cert.ReferenceProjIdeal.nD Cert.ReferenceProjIdeal.τ).loc Cert.ReferenceProjIdeal.main_arg5))
              (m' ((c.tc : Thread Cert.ReferenceProjIdeal.nD Cert.ReferenceProjIdeal.τ).loc Cert.ReferenceProjIdeal.main_arg6))
              (m' ((c.tc : Thread Cert.ReferenceProjIdeal.nD Cert.ReferenceProjIdeal.τ).loc Cert.ReferenceProjIdeal.main_arg7))
            = spatialR _ (m ((c.tc : Thread Cert.KernelProjIdeal.nD Cert.KernelProjIdeal.τ).loc Cert.KernelProjIdeal.main_arg4))
              (m ((c.tc : Thread Cert.KernelProjIdeal.nD Cert.KernelProjIdeal.τ).loc Cert.KernelProjIdeal.main_arg5))
              (m ((c.tc : Thread Cert.KernelProjIdeal.nD Cert.KernelProjIdeal.τ).loc Cert.KernelProjIdeal.main_arg6))
              (m ((c.tc : Thread Cert.KernelProjIdeal.nD Cert.KernelProjIdeal.τ).loc Cert.KernelProjIdeal.main_arg7))
          rw [e4, e5, e6, e7]
        · exact (Cert.ReferenceProjIdeal.Val.queries_eq _).trans (congrArg queriesR eH)
        · exact (Cert.ReferenceProjIdeal.Val.keys_eq _).trans (congrArg keysR eH)
        · exact (Cert.ReferenceProjIdeal.Val.values_eq _).trans (congrArg valuesR eH)
        · exact (Cert.ReferenceProjIdeal.Val.gate_eq _).trans (congrArg gateR eH)
        · exact (Cert.ReferenceProjIdeal.Val.fourier_eq _).trans (congrArg fourierR eH)
        · refine (Cert.ReferenceProjIdeal.Val.state_eq _).trans (Eq.trans ?_ (states m c).symm)
          rw [eH]
          show stateR _ (m' ((c.tc : Thread Cert.ReferenceProjIdeal.nD Cert.ReferenceProjIdeal.τ).loc Cert.ReferenceProjIdeal.main_arg1))
            = stateR _ (m ((c.tc : Thread Cert.KernelProjIdeal.nD Cert.KernelProjIdeal.τ).loc Cert.KernelProjIdeal.main_arg1))
          rw [e1])
      (Cert.ReferenceProjIdeal.Value.run (F := Ideal) m' ρ')⟩

end Cert.Proof.ProjClaim

end
-- ==== Proof.CombRow.lean ====
/-
  The combination of the three branches with its residual and layer norm, one row at a time, over the extended reals: what
  both the tiled kernel and the plain reference compute from a row of 1024 inputs, the row's gates and branches, the weight
  matrices, and the norm's scale and shift. The third branch comes as words of 32 bits, each holding two half-precision
  numbers; its row is the halves in their order. Nothing in this file mentions a tile, a grid or a program.
-/
module

public import proofs.«01_k».proof.Proof.FfnRow

@[expose] public section

noncomputable section

open scoped BigOperators

namespace Cert.CombRow

open Idealize.ShloMosaic Cert.FfnRow

/-- The number in the upper half of a word: the word with its lower half cleared, as a single-precision pattern. -/
def upper (w : BitVec 32) : EReal := FloatOps.ofBits (F := Ideal) .f32 (IntOp.andi w 4294901760#32)

/-- The number in the lower half of a word: the half moved up. -/
def lower (w : BitVec 32) : EReal := FloatOps.ofBits (F := Ideal) .f32 (w <<< 16#32)

/-- A shift by sixteen places is the same word on every unit. -/
theorem shift_word (u : ArithUnit) (w : BitVec 32) : IntOp.shli u w 16#32 = w <<< 16#32 := if_pos (by decide)

/-- A half of a word: the upper one at an even place, the lower one at an odd place. -/
def half (n : ℕ) (w : BitVec 32) : EReal := if n % 2 < 1 then upper w else lower w

/-- One output of a gated branch: the gate times the branch's projection. -/
def gated (gate : EReal) (y : Fin 512 → EReal) (w : Fin 512 → Fin 1024 → EReal) (j : Fin 1024) : EReal :=
  gate * ∑ k, y k * w k j

/-- One output of the sum of the three gated branches. -/
def branches (g : Fin 3072 → EReal) (ya yb yc : Fin 512 → EReal) (wa wb wc : Fin 512 → Fin 1024 → EReal) (j : Fin 1024) : EReal :=
  gated (g ⟨j.val, by omega⟩) ya wa j + gated (g ⟨1024 + j.val, by omega⟩) yb wb j + gated (g ⟨2048 + j.val, by omega⟩) yc wc j

/-- One output of the residual sum: the scaled input plus the output projection of the combined row. -/
def skipSum (x s : Fin 1024 → EReal) (wo : Fin 1024 → Fin 1024 → EReal) (o : Fin 1024) : EReal :=
  Ideal.ofBits .f32 0x3FB504F3#32 * x o + ∑ j, s j * wo j o

/-- The third branch's row of token `r`, counted through both sequences: entry `c` is a half of the word that holds it. -/
def fourier (yc : (⟨6, ![2, 2, 16, 128, 8, 128]⟩ : Shape).Idx → BitVec 32) (r : Fin 32768) (c : Fin 512) : EReal :=
  half (c.val / 128) (yc (ix6 ⟨c.val / 256, by omega⟩ ⟨r.val / 16384, by omega⟩ ⟨r.val / 8 % 16, by omega⟩
    ⟨r.val / 128 % 128, by omega⟩ ⟨r.val % 8, by omega⟩ ⟨c.val % 128, by omega⟩))

/-- The whole result, rows numbered through both sequences; every weight and both norm vectors are the first of the two
    they are stacked with. -/
def combine (x : (⟨2, ![32768, 1024]⟩ : Shape).Idx → EReal) (g : (⟨2, ![32768, 3072]⟩ : Shape).Idx → EReal)
    (ya yb : (⟨2, ![32768, 512]⟩ : Shape).Idx → EReal) (yc : (⟨6, ![2, 2, 16, 128, 8, 128]⟩ : Shape).Idx → BitVec 32)
    (wa wb wc : (⟨3, ![2, 512, 1024]⟩ : Shape).Idx → EReal) (wo : (⟨3, ![2, 1024, 1024]⟩ : Shape).Idx → EReal)
    (s b : (⟨2, ![2, 1024]⟩ : Shape).Idx → EReal) : (⟨2, ![32768, 1024]⟩ : Shape).Idx → EReal := fun i =>
  layerNorm
    (skipSum (fun k => x (ix2 (i 0) k))
      (branches (fun k => g (ix2 (i 0) k)) (fun k => ya (ix2 (i 0) k)) (fun k => yb (ix2 (i 0) k)) (fourier yc (i 0))
        (fun k j => wa (ix3 0 k j)) (fun k j => wb (ix3 0 k j)) (fun k j => wc (ix3 0 k j)))
      (fun j o => wo (ix3 0 j o)))
    (fun k => s (ix2 0 k)) (fun k => b (ix2 0 k)) (i 1)

end Cert.CombRow

end
-- ==== Proof.CombPay.lean ====
/-
  The values the combination kernel stores, each read at an index: the gated branches, their sum, the residual sum, and the
  layer norm of a slice of 128 rows or of a whole block.
-/
module

public import proofs.«01_k».proof.Proof.CombRow
public import proofs.«01_k».proof.Proof.Gen.KernelCombineIdeal.Value
public import Idealize.ShloMosaic.Lib.Pointwise

@[expose] public section

set_option maxRecDepth 16384

noncomputable section

open scoped BigOperators

namespace Cert.KernelCombineIdeal.Val

open Cert.KernelCombineIdeal Cert.KernelCombineIdeal.Gen Cert.FfnRow Cert.CombRow
open Idealize.ShloMosaic Idealize.ShloMosaic.TcCoe Idealize.SL.Sem

/-- The first branch, gated. -/
theorem pay267_at (y : Vec Ideal S1024x512 .bf16) (w : Vec Ideal S1x512x1024 .bf16) (g : Vec Ideal S1024x1024 .bf16) (p q : Fin 1024) :
    k0_pay267 y w g (ix2 p q) = g (ix2 p q) * ∑ k : Fin 512, y (ix2 p k) * w (ix3 0 k q) := by
  pointwise [k0_pay267]

/-- The second branch, gated and added to the first. -/
theorem pay272_at (y : Vec Ideal S1024x512 .bf16) (s : FVec Ideal S1024x1024 .f32) (w : Vec Ideal S1x512x1024 .bf16)
    (g : Vec Ideal S1024x1024 .bf16) (p q : Fin 1024) :
    k0_pay272 y s w g (ix2 p q) = s (ix2 p q) + g (ix2 p q) * ∑ k : Fin 512, y (ix2 p k) * w (ix3 0 k q) := by
  pointwise [k0_pay272]

/-- The third branch, gated and added to the others. -/
theorem pay278_at (y : FVec Ideal S1024x512 .bf16) (s : FVec Ideal S1024x1024 .f32) (w : Vec Ideal S1x512x1024 .bf16)
    (g : Vec Ideal S1024x1024 .bf16) (p q : Fin 1024) :
    k0_pay278 y s w g (ix2 p q) = s (ix2 p q) + g (ix2 p q) * ∑ k : Fin 512, y (ix2 p k) * w (ix3 0 k q) := by
  pointwise [k0_pay278]

/-- The residual sum at row `p`, column `q`. -/
theorem pay3_at (s : FVec Ideal S1024x1024 .f32) (w : Vec Ideal S1x1024x1024 .bf16) (x : Vec Ideal S1024x1024 .f32) (p q : Fin 1024) :
    k0_pay3 s w x (ix2 p q)
      = Ideal.ofBits .f32 0x3FB504F3#32 * x (ix2 p q) + ∑ j : Fin 1024, s (ix2 p j) * w (ix3 0 j q) := by
  unfold k0_pay3
  simp only [shapeCast_self]
  pointwise

/-- The norm of a slice of rows at row `p`, column `q`. -/
theorem pay266_at (y : Vec Ideal S128x1024 .f32) (g b : Vec Ideal S1x1024 .f32) (p : Fin 128) (q : Fin 1024) :
    k0_pay266 y g b (ix2 p q)
      = layerNorm (fun k => y (ix2 p k)) (fun k => g (ix2 0 k)) (fun k => b (ix2 0 k)) q := by
  unfold layerNorm mean
  pointwise [k0_pay266]

/-- The norm of a whole block at row `p`, column `q`. -/
theorem pay4_at (y : Vec Ideal S1024x1024 .f32) (g b : Vec Ideal S1x1024 .f32) (p q : Fin 1024) :
    k0_pay4 y g b (ix2 p q)
      = layerNorm (fun k => y (ix2 p k)) (fun k => g (ix2 0 k)) (fun k => b (ix2 0 k)) q := by
  unfold layerNorm mean
  pointwise [k0_pay4]

end Cert.KernelCombineIdeal.Val

end
-- ==== Proof.CombTile.lean ====
/-
  The third branch's tile. The kernel reads it as 256 pieces of 8 rows, two words to four columns apart; put together, entry
  (row, column) of the tile is a half of one word of the block.
-/
module

public import proofs.«01_k».proof.Proof.CombPay

@[expose] public section

set_option maxRecDepth 16384

noncomputable section

open scoped BigOperators

namespace Cert.KernelCombineIdeal.Val

open Cert.KernelCombineIdeal Cert.KernelCombineIdeal.Gen Cert.FfnRow Cert.CombRow
open Idealize.ShloMosaic Idealize.ShloMosaic.TcCoe Idealize.SL.Sem

/-- A piece of 8 rows of words: pair `p`, block `a`, step `k` of the block. -/
def piece (x : Vec Ideal S2x1x16x8x8x128 .i32) (p a k : ℕ) : IVec S8x128 32 := fun i =>
  x (ix6 (Fin.ofNat 2 p) 0 (Fin.ofNat 16 a) (Fin.ofNat 8 k) (i 0) (i 1))

/-- The leading axes of a loaded piece hold one index each. -/
theorem drop_at (y : S1x1x1x1x8x128.Idx → BitVec 32) (s : Fin 8) (l : Fin 128) :
    shapeCast S8x128 y shapeCasts_S1x1x1x1x8x128_S8x128 (ix2 s l) = y (ix6 0 0 0 0 s l) := by
  pointwise

/-- A loaded piece, its leading axes dropped. -/
theorem piece_ld (x : Vec Ideal S2x1x16x8x8x128 .i32) (p a k : ℕ)
    (h : ∀ d, (![p, 0, a, k, 0, 0] : Fin 6 → Nat) d + ![1, 1, 1, 1, 8, 128] d ≤ S2x1x16x8x8x128.size d) :
    shapeCast (α := BitVec 32) S8x128 (View.ld x (Rect.unit (s := S2x1x16x8x8x128) ![p, 0, a, k, 0, 0] ![1, 1, 1, 1, 8, 128] h))
      shapeCasts_S1x1x1x1x8x128_S8x128 = piece x p a k := by
  have hp : p + 1 ≤ 2 := h 0
  have ha : a + 1 ≤ 16 := h 2
  have hk : k + 1 ≤ 8 := h 3
  have e : ∀ (s : Fin 8) (l : Fin 128),
      shapeCast S8x128 (View.ld x (Rect.unit (s := S2x1x16x8x8x128) ![p, 0, a, k, 0, 0] ![1, 1, 1, 1, 8, 128] h) : Vec Ideal S1x1x1x1x8x128 .i32)
        shapeCasts_S1x1x1x1x8x128_S8x128 (ix2 s l) = piece x p a k (ix2 s l) := by
    intro s l
    refine (drop_at _ s l).trans ?_
    show x _ = x _
    congr 1
    funext d
    apply Fin.ext
    match d with
    | ⟨0, _⟩ => show p + 1 * 0 = p % 2; omega
    | ⟨1, _⟩ => rfl
    | ⟨2, _⟩ => show a + 1 * 0 = a % 16; omega
    | ⟨3, _⟩ => show k + 1 * 0 = k % 8; omega
    | ⟨4, _⟩ => show 0 + 1 * s.val = s.val; omega
    | ⟨5, _⟩ => show 0 + 1 * l.val = l.val; omega
  funext i
  have hi : i = (ix2 (n0 := 8) (n1 := 128) (i 0) (i 1) : S8x128.Idx) := by
    funext a; match a with | ⟨0, _⟩ => rfl | ⟨1, _⟩ => rfl
  rw [hi]
  exact e (i 0) (i 1)

/-- The words of pair `p`, one row to a token. -/
def wordTile (x : Vec Ideal S2x1x16x8x8x128 .i32) (p : ℕ) : IVec S1024x128 32 := fun i =>
  x (ix6 (Fin.ofNat 2 p) 0 ⟨(i 0).val / 8 % 16, Nat.mod_lt _ (by decide)⟩ ⟨(i 0).val / 128 % 8, Nat.mod_lt _ (by decide)⟩
    ⟨(i 0).val % 8, Nat.mod_lt _ (by decide)⟩ (i 1))

/-- The 128 pieces of a pair, stacked. -/
theorem stack_eq (x : Vec Ideal S2x1x16x8x8x128 .i32) (p : ℕ)
    (h : Shape.Concatenates ((List.ofFn fun n : Fin 128 => (⟨S8x128, piece x p (n.val % 16) (n.val / 16)⟩ : (s : Shape) × (s.Idx → BitVec 32))).map (·.1)) S1024x128 0) :
    concatenate S1024x128 0 (List.ofFn fun n : Fin 128 => (⟨S8x128, piece x p (n.val % 16) (n.val / 16)⟩ : (s : Shape) × (s.Idx → BitVec 32))) h
      = wordTile x p := by
  funext j
  have hj : (j 0).val < 1024 := (j 0).isLt
  refine (concatenate_ofFn_apply (s₁ := S8x128) (t := S1024x128) 0 (fun n : Fin 128 => piece x p (n.val % 16) (n.val / 16)) h rfl 8 rfl j
    ⟨(j 0).val / 8, by omega⟩ rfl (ix2 (n0 := 8) (n1 := 128) ⟨(j 0).val % 8, Nat.mod_lt _ (by decide)⟩ (j 1)) rfl ?_).trans ?_
  · intro b hb
    match b with
    | ⟨0, _⟩ => exact absurd rfl hb
    | ⟨1, _⟩ => rfl
  · show x _ = x _
    congr 1
    funext d
    apply Fin.ext
    match d with
    | ⟨0, _⟩ => rfl
    | ⟨1, _⟩ => rfl
    | ⟨2, _⟩ => show (j 0).val / 8 % 16 % 16 = (j 0).val / 8 % 16; omega
    | ⟨3, _⟩ => show (j 0).val / 8 / 16 % 8 = (j 0).val / 128 % 8; omega
    | ⟨4, _⟩ => rfl
    | ⟨5, _⟩ => rfl

/-- The first pair's stack of pieces. -/
theorem words0 (x : Vec Ideal S2x1x16x8x8x128 .i32) :
    k0_pay132 (F := Ideal)
      (piece x 0 0 0) (piece x 0 1 0) (piece x 0 2 0) (piece x 0 3 0) (piece x 0 4 0) (piece x 0 5 0) (piece x 0 6 0)
      (piece x 0 7 0) (piece x 0 8 0) (piece x 0 9 0) (piece x 0 10 0) (piece x 0 11 0) (piece x 0 12 0)
      (piece x 0 13 0) (piece x 0 14 0) (piece x 0 15 0) (piece x 0 0 1) (piece x 0 1 1) (piece x 0 2 1)
      (piece x 0 3 1) (piece x 0 4 1) (piece x 0 5 1) (piece x 0 6 1) (piece x 0 7 1) (piece x 0 8 1) (piece x 0 9 1)
      (piece x 0 10 1) (piece x 0 11 1) (piece x 0 12 1) (piece x 0 13 1) (piece x 0 14 1) (piece x 0 15 1)
      (piece x 0 0 2) (piece x 0 1 2) (piece x 0 2 2) (piece x 0 3 2) (piece x 0 4 2) (piece x 0 5 2) (piece x 0 6 2)
      (piece x 0 7 2) (piece x 0 8 2) (piece x 0 9 2) (piece x 0 10 2) (piece x 0 11 2) (piece x 0 12 2)
      (piece x 0 13 2) (piece x 0 14 2) (piece x 0 15 2) (piece x 0 0 3) (piece x 0 1 3) (piece x 0 2 3)
      (piece x 0 3 3) (piece x 0 4 3) (piece x 0 5 3) (piece x 0 6 3) (piece x 0 7 3) (piece x 0 8 3) (piece x 0 9 3)
      (piece x 0 10 3) (piece x 0 11 3) (piece x 0 12 3) (piece x 0 13 3) (piece x 0 14 3) (piece x 0 15 3)
      (piece x 0 0 4) (piece x 0 1 4) (piece x 0 2 4) (piece x 0 3 4) (piece x 0 4 4) (piece x 0 5 4) (piece x 0 6 4)
      (piece x 0 7 4) (piece x 0 8 4) (piece x 0 9 4) (piece x 0 10 4) (piece x 0 11 4) (piece x 0 12 4)
      (piece x 0 13 4) (piece x 0 14 4) (piece x 0 15 4) (piece x 0 0 5) (piece x 0 1 5) (piece x 0 2 5)
      (piece x 0 3 5) (piece x 0 4 5) (piece x 0 5 5) (piece x 0 6 5) (piece x 0 7 5) (piece x 0 8 5) (piece x 0 9 5)
      (piece x 0 10 5) (piece x 0 11 5) (piece x 0 12 5) (piece x 0 13 5) (piece x 0 14 5) (piece x 0 15 5)
      (piece x 0 0 6) (piece x 0 1 6) (piece x 0 2 6) (piece x 0 3 6) (piece x 0 4 6) (piece x 0 5 6) (piece x 0 6 6)
      (piece x 0 7 6) (piece x 0 8 6) (piece x 0 9 6) (piece x 0 10 6) (piece x 0 11 6) (piece x 0 12 6)
      (piece x 0 13 6) (piece x 0 14 6) (piece x 0 15 6) (piece x 0 0 7) (piece x 0 1 7) (piece x 0 2 7)
      (piece x 0 3 7) (piece x 0 4 7) (piece x 0 5 7) (piece x 0 6 7) (piece x 0 7 7) (piece x 0 8 7) (piece x 0 9 7)
      (piece x 0 10 7) (piece x 0 11 7) (piece x 0 12 7) (piece x 0 13 7) (piece x 0 14 7)
      (View.ld x (Rect.unit (s := S2x1x16x8x8x128) ![0, 0, 15, 7, 0, 0] ![1, 1, 1, 1, 8, 128] inb_S2x1x16x8x8x128_S1x1x1x1x8x128_0_0_15_7_0_0))
      = wordTile x 0 := by
  unfold k0_pay132
  dsimp only
  rw [piece_ld]
  exact stack_eq x 0 concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S1024x128_d0

/-- The upper halves of the first pair's words. -/
theorem upper0 (x : Vec Ideal S2x1x16x8x8x128 .i32) :
    k0_pay133 (F := Ideal)
      (piece x 0 0 0) (piece x 0 1 0) (piece x 0 2 0) (piece x 0 3 0) (piece x 0 4 0) (piece x 0 5 0) (piece x 0 6 0)
      (piece x 0 7 0) (piece x 0 8 0) (piece x 0 9 0) (piece x 0 10 0) (piece x 0 11 0) (piece x 0 12 0)
      (piece x 0 13 0) (piece x 0 14 0) (piece x 0 15 0) (piece x 0 0 1) (piece x 0 1 1) (piece x 0 2 1)
      (piece x 0 3 1) (piece x 0 4 1) (piece x 0 5 1) (piece x 0 6 1) (piece x 0 7 1) (piece x 0 8 1) (piece x 0 9 1)
      (piece x 0 10 1) (piece x 0 11 1) (piece x 0 12 1) (piece x 0 13 1) (piece x 0 14 1) (piece x 0 15 1)
      (piece x 0 0 2) (piece x 0 1 2) (piece x 0 2 2) (piece x 0 3 2) (piece x 0 4 2) (piece x 0 5 2) (piece x 0 6 2)
      (piece x 0 7 2) (piece x 0 8 2) (piece x 0 9 2) (piece x 0 10 2) (piece x 0 11 2) (piece x 0 12 2)
      (piece x 0 13 2) (piece x 0 14 2) (piece x 0 15 2) (piece x 0 0 3) (piece x 0 1 3) (piece x 0 2 3)
      (piece x 0 3 3) (piece x 0 4 3) (piece x 0 5 3) (piece x 0 6 3) (piece x 0 7 3) (piece x 0 8 3) (piece x 0 9 3)
      (piece x 0 10 3) (piece x 0 11 3) (piece x 0 12 3) (piece x 0 13 3) (piece x 0 14 3) (piece x 0 15 3)
      (piece x 0 0 4) (piece x 0 1 4) (piece x 0 2 4) (piece x 0 3 4) (piece x 0 4 4) (piece x 0 5 4) (piece x 0 6 4)
      (piece x 0 7 4) (piece x 0 8 4) (piece x 0 9 4) (piece x 0 10 4) (piece x 0 11 4) (piece x 0 12 4)
      (piece x 0 13 4) (piece x 0 14 4) (piece x 0 15 4) (piece x 0 0 5) (piece x 0 1 5) (piece x 0 2 5)
      (piece x 0 3 5) (piece x 0 4 5) (piece x 0 5 5) (piece x 0 6 5) (piece x 0 7 5) (piece x 0 8 5) (piece x 0 9 5)
      (piece x 0 10 5) (piece x 0 11 5) (piece x 0 12 5) (piece x 0 13 5) (piece x 0 14 5) (piece x 0 15 5)
      (piece x 0 0 6) (piece x 0 1 6) (piece x 0 2 6) (piece x 0 3 6) (piece x 0 4 6) (piece x 0 5 6) (piece x 0 6 6)
      (piece x 0 7 6) (piece x 0 8 6) (piece x 0 9 6) (piece x 0 10 6) (piece x 0 11 6) (piece x 0 12 6)
      (piece x 0 13 6) (piece x 0 14 6) (piece x 0 15 6) (piece x 0 0 7) (piece x 0 1 7) (piece x 0 2 7)
      (piece x 0 3 7) (piece x 0 4 7) (piece x 0 5 7) (piece x 0 6 7) (piece x 0 7 7) (piece x 0 8 7) (piece x 0 9 7)
      (piece x 0 10 7) (piece x 0 11 7) (piece x 0 12 7) (piece x 0 13 7) (piece x 0 14 7)
      (View.ld x (Rect.unit (s := S2x1x16x8x8x128) ![0, 0, 15, 7, 0, 0] ![1, 1, 1, 1, 8, 128] inb_S2x1x16x8x8x128_S1x1x1x1x8x128_0_0_15_7_0_0))
      = fun i => upper (wordTile x 0 i) := by
  unfold k0_pay133
  dsimp only
  rw [words0]
  rfl

/-- The lower halves of the first pair's words. -/
theorem lower0 (x : Vec Ideal S2x1x16x8x8x128 .i32) :
    k0_pay134 (F := Ideal)
      (piece x 0 0 0) (piece x 0 1 0) (piece x 0 2 0) (piece x 0 3 0) (piece x 0 4 0) (piece x 0 5 0) (piece x 0 6 0)
      (piece x 0 7 0) (piece x 0 8 0) (piece x 0 9 0) (piece x 0 10 0) (piece x 0 11 0) (piece x 0 12 0)
      (piece x 0 13 0) (piece x 0 14 0) (piece x 0 15 0) (piece x 0 0 1) (piece x 0 1 1) (piece x 0 2 1)
      (piece x 0 3 1) (piece x 0 4 1) (piece x 0 5 1) (piece x 0 6 1) (piece x 0 7 1) (piece x 0 8 1) (piece x 0 9 1)
      (piece x 0 10 1) (piece x 0 11 1) (piece x 0 12 1) (piece x 0 13 1) (piece x 0 14 1) (piece x 0 15 1)
      (piece x 0 0 2) (piece x 0 1 2) (piece x 0 2 2) (piece x 0 3 2) (piece x 0 4 2) (piece x 0 5 2) (piece x 0 6 2)
      (piece x 0 7 2) (piece x 0 8 2) (piece x 0 9 2) (piece x 0 10 2) (piece x 0 11 2) (piece x 0 12 2)
      (piece x 0 13 2) (piece x 0 14 2) (piece x 0 15 2) (piece x 0 0 3) (piece x 0 1 3) (piece x 0 2 3)
      (piece x 0 3 3) (piece x 0 4 3) (piece x 0 5 3) (piece x 0 6 3) (piece x 0 7 3) (piece x 0 8 3) (piece x 0 9 3)
      (piece x 0 10 3) (piece x 0 11 3) (piece x 0 12 3) (piece x 0 13 3) (piece x 0 14 3) (piece x 0 15 3)
      (piece x 0 0 4) (piece x 0 1 4) (piece x 0 2 4) (piece x 0 3 4) (piece x 0 4 4) (piece x 0 5 4) (piece x 0 6 4)
      (piece x 0 7 4) (piece x 0 8 4) (piece x 0 9 4) (piece x 0 10 4) (piece x 0 11 4) (piece x 0 12 4)
      (piece x 0 13 4) (piece x 0 14 4) (piece x 0 15 4) (piece x 0 0 5) (piece x 0 1 5) (piece x 0 2 5)
      (piece x 0 3 5) (piece x 0 4 5) (piece x 0 5 5) (piece x 0 6 5) (piece x 0 7 5) (piece x 0 8 5) (piece x 0 9 5)
      (piece x 0 10 5) (piece x 0 11 5) (piece x 0 12 5) (piece x 0 13 5) (piece x 0 14 5) (piece x 0 15 5)
      (piece x 0 0 6) (piece x 0 1 6) (piece x 0 2 6) (piece x 0 3 6) (piece x 0 4 6) (piece x 0 5 6) (piece x 0 6 6)
      (piece x 0 7 6) (piece x 0 8 6) (piece x 0 9 6) (piece x 0 10 6) (piece x 0 11 6) (piece x 0 12 6)
      (piece x 0 13 6) (piece x 0 14 6) (piece x 0 15 6) (piece x 0 0 7) (piece x 0 1 7) (piece x 0 2 7)
      (piece x 0 3 7) (piece x 0 4 7) (piece x 0 5 7) (piece x 0 6 7) (piece x 0 7 7) (piece x 0 8 7) (piece x 0 9 7)
      (piece x 0 10 7) (piece x 0 11 7) (piece x 0 12 7) (piece x 0 13 7) (piece x 0 14 7)
      (View.ld x (Rect.unit (s := S2x1x16x8x8x128) ![0, 0, 15, 7, 0, 0] ![1, 1, 1, 1, 8, 128] inb_S2x1x16x8x8x128_S1x1x1x1x8x128_0_0_15_7_0_0))
      = fun i => lower (wordTile x 0 i) := by
  unfold k0_pay134
  dsimp only
  rw [words0]
  funext i
  exact congrArg (FloatOps.ofBits (F := Ideal) .f32) (shift_word _ _)

/-- A half of every word, the pairs' columns side by side, the upper half before the lower. -/
def halfTile (x : Vec Ideal S2x1x16x8x8x128 .i32) : FVec Ideal S1024x512 .bf16 := fun i =>
  half ((i 1).val / 128) (wordTile x ((i 1).val / 256) (ix2 (i 0) ⟨(i 1).val % 128, Nat.mod_lt _ (by decide)⟩))

/-- Columns `128 n …` of the tile. -/
def halves (x : Vec Ideal S2x1x16x8x8x128 .i32) (n : ℕ) : S1024x128.Idx → EReal := fun i => half n (wordTile x (n / 2) i)

/-- Four groups of columns side by side, the last two the halves of a tile of words. -/
def joined (a b : FVec Ideal S1024x128 .bf16) (w : IVec S1024x128 32) : FVec Ideal S1024x512 .bf16 :=
  concatenate S1024x512 1 [⟨S1024x128, a⟩, ⟨S1024x128, b⟩,
    ⟨S1024x128, truncf .bf16 (bitcastToFloat (F := Ideal) .f32 (andi w (broadcast S1024x128 4294901760#32))) bitsLt_bf16_f32⟩,
    ⟨S1024x128, truncf .bf16 (bitcastToFloat (F := Ideal) .f32 (shli w (broadcast S1024x128 16#32))) bitsLt_bf16_f32⟩]
    concatenates_S1024x128_S1024x128_S1024x128_S1024x128_S1024x512_d1

/-- Read at a column, the four groups are the tile. -/
theorem groups_eq (x : Vec Ideal S2x1x16x8x8x128 .i32)
    (h : Shape.Concatenates ((List.ofFn fun n : Fin 4 => (⟨S1024x128, halves x n.val⟩ : (s : Shape) × (s.Idx → EReal))).map (·.1)) S1024x512 1) :
    concatenate S1024x512 1 (List.ofFn fun n : Fin 4 => (⟨S1024x128, halves x n.val⟩ : (s : Shape) × (s.Idx → EReal))) h
      = halfTile x := by
  funext j
  have hj : (j 1).val < 512 := (j 1).isLt
  refine (concatenate_ofFn_apply (s₁ := S1024x128) (t := S1024x512) 1 (fun n : Fin 4 => halves x n.val) h rfl 128 rfl j
    ⟨(j 1).val / 128, by omega⟩ rfl (ix2 (n0 := 1024) (n1 := 128) (j 0) ⟨(j 1).val % 128, Nat.mod_lt _ (by decide)⟩) rfl ?_).trans ?_
  · intro b hb
    match b with
    | ⟨0, _⟩ => rfl
    | ⟨1, _⟩ => exact absurd rfl hb
  · show half _ (wordTile x ((j 1).val / 128 / 2) _) = half _ (wordTile x ((j 1).val / 256) _)
    rw [Nat.div_div_eq_div_mul]

/-- The halves of both pairs, side by side, are the tile. -/
theorem joined_eq (x : Vec Ideal S2x1x16x8x8x128 .i32) :
    joined (fun i => upper (wordTile x 0 i)) (fun i => lower (wordTile x 0 i)) (wordTile x 1) = halfTile x := by
  have e0 : (fun i => upper (wordTile x 0 i)) = halves x 0 := funext fun i =>
    (show half 0 (wordTile x 0 i) = upper (wordTile x 0 i) from if_pos (by decide)).symm
  have e1 : (fun i => lower (wordTile x 0 i)) = halves x 1 := funext fun i =>
    (show half 1 (wordTile x 0 i) = lower (wordTile x 0 i) from if_neg (by decide)).symm
  have e2 : (truncf .bf16 (bitcastToFloat (F := Ideal) .f32 (andi (wordTile x 1) (broadcast S1024x128 4294901760#32))) bitsLt_bf16_f32
      : FVec Ideal S1024x128 .bf16) = halves x 2 :=
    funext fun i => Eq.trans (show _ = upper (wordTile x 1 i) from rfl) (show half 2 (wordTile x 1 i) = upper (wordTile x 1 i) from if_pos (by decide)).symm
  have e3 : (truncf .bf16 (bitcastToFloat (F := Ideal) .f32 (shli (wordTile x 1) (broadcast S1024x128 16#32))) bitsLt_bf16_f32
      : FVec Ideal S1024x128 .bf16) = halves x 3 :=
    funext fun i => Eq.trans (congrArg (FloatOps.ofBits (F := Ideal) .f32) (shift_word _ _)) (show half 3 (wordTile x 1 i) = lower (wordTile x 1 i) from if_neg (by decide)).symm
  unfold joined
  rw [e0, e1, e2, e3]
  exact groups_eq x concatenates_S1024x128_S1024x128_S1024x128_S1024x128_S1024x512_d1

/-- The whole tile. -/
theorem tile_eq (x : Vec Ideal S2x1x16x8x8x128 .i32) :
    k0_pay260 (F := Ideal) (fun i => upper (wordTile x 0 i)) (fun i => lower (wordTile x 0 i))
      (piece x 1 0 0) (piece x 1 1 0) (piece x 1 2 0) (piece x 1 3 0) (piece x 1 4 0) (piece x 1 5 0) (piece x 1 6 0)
      (piece x 1 7 0) (piece x 1 8 0) (piece x 1 9 0) (piece x 1 10 0) (piece x 1 11 0) (piece x 1 12 0)
      (piece x 1 13 0) (piece x 1 14 0) (piece x 1 15 0) (piece x 1 0 1) (piece x 1 1 1) (piece x 1 2 1)
      (piece x 1 3 1) (piece x 1 4 1) (piece x 1 5 1) (piece x 1 6 1) (piece x 1 7 1) (piece x 1 8 1) (piece x 1 9 1)
      (piece x 1 10 1) (piece x 1 11 1) (piece x 1 12 1) (piece x 1 13 1) (piece x 1 14 1) (piece x 1 15 1)
      (piece x 1 0 2) (piece x 1 1 2) (piece x 1 2 2) (piece x 1 3 2) (piece x 1 4 2) (piece x 1 5 2) (piece x 1 6 2)
      (piece x 1 7 2) (piece x 1 8 2) (piece x 1 9 2) (piece x 1 10 2) (piece x 1 11 2) (piece x 1 12 2)
      (piece x 1 13 2) (piece x 1 14 2) (piece x 1 15 2) (piece x 1 0 3) (piece x 1 1 3) (piece x 1 2 3)
      (piece x 1 3 3) (piece x 1 4 3) (piece x 1 5 3) (piece x 1 6 3) (piece x 1 7 3) (piece x 1 8 3) (piece x 1 9 3)
      (piece x 1 10 3) (piece x 1 11 3) (piece x 1 12 3) (piece x 1 13 3) (piece x 1 14 3) (piece x 1 15 3)
      (piece x 1 0 4) (piece x 1 1 4) (piece x 1 2 4) (piece x 1 3 4) (piece x 1 4 4) (piece x 1 5 4) (piece x 1 6 4)
      (piece x 1 7 4) (piece x 1 8 4) (piece x 1 9 4) (piece x 1 10 4) (piece x 1 11 4) (piece x 1 12 4)
      (piece x 1 13 4) (piece x 1 14 4) (piece x 1 15 4) (piece x 1 0 5) (piece x 1 1 5) (piece x 1 2 5)
      (piece x 1 3 5) (piece x 1 4 5) (piece x 1 5 5) (piece x 1 6 5) (piece x 1 7 5) (piece x 1 8 5) (piece x 1 9 5)
      (piece x 1 10 5) (piece x 1 11 5) (piece x 1 12 5) (piece x 1 13 5) (piece x 1 14 5) (piece x 1 15 5)
      (piece x 1 0 6) (piece x 1 1 6) (piece x 1 2 6) (piece x 1 3 6) (piece x 1 4 6) (piece x 1 5 6) (piece x 1 6 6)
      (piece x 1 7 6) (piece x 1 8 6) (piece x 1 9 6) (piece x 1 10 6) (piece x 1 11 6) (piece x 1 12 6)
      (piece x 1 13 6) (piece x 1 14 6) (piece x 1 15 6) (piece x 1 0 7) (piece x 1 1 7) (piece x 1 2 7)
      (piece x 1 3 7) (piece x 1 4 7) (piece x 1 5 7) (piece x 1 6 7) (piece x 1 7 7) (piece x 1 8 7) (piece x 1 9 7)
      (piece x 1 10 7) (piece x 1 11 7) (piece x 1 12 7)
      (View.ld x (Rect.unit (s := S2x1x16x8x8x128) ![1, 0, 13, 7, 0, 0] ![1, 1, 1, 1, 8, 128] inb_S2x1x16x8x8x128_S1x1x1x1x8x128_1_0_13_7_0_0))
      (View.ld x (Rect.unit (s := S2x1x16x8x8x128) ![1, 0, 14, 7, 0, 0] ![1, 1, 1, 1, 8, 128] inb_S2x1x16x8x8x128_S1x1x1x1x8x128_1_0_14_7_0_0))
      (View.ld x (Rect.unit (s := S2x1x16x8x8x128) ![1, 0, 15, 7, 0, 0] ![1, 1, 1, 1, 8, 128] inb_S2x1x16x8x8x128_S1x1x1x1x8x128_1_0_15_7_0_0))
      = halfTile x := by
  unfold k0_pay260
  dsimp only
  rw [piece_ld, piece_ld, piece_ld]
  exact Eq.trans (congrArg (joined (fun i => upper (wordTile x 0 i)) (fun i => lower (wordTile x 0 i)))
    (stack_eq x 1 concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S1024x128_d0)) (joined_eq x)

end Cert.KernelCombineIdeal.Val

end
-- ==== Proof.CombBlock.lean ====
/-
  What one grid point of the combination kernel leaves in its buffers, as functions of the blocks it reads: the carried
  scratch holds the residual sum of the point's rows, and the output block the layer norm of what the scratch held before.
-/
module

public import proofs.«01_k».proof.Proof.CombTile

@[expose] public section

set_option maxRecDepth 16384

noncomputable section

open scoped BigOperators

namespace Cert.KernelCombineIdeal.Val

open Cert.KernelCombineIdeal Cert.KernelCombineIdeal.Gen Cert.FfnRow Cert.CombRow
open Idealize.ShloMosaic Idealize.ShloMosaic.TcCoe Idealize.SL.Sem

/-- The sums of the gated branches of a block of 1024 rows. -/
def sumBlock (g : Vec Ideal S1024x3072 .bf16) (ya yb : Vec Ideal S1024x512 .bf16) (yc : Vec Ideal S2x1x16x8x8x128 .i32)
    (wa wb wc : Vec Ideal S1x512x1024 .bf16) (p : Fin 1024) : Fin 1024 → EReal :=
  branches (fun k => g (ix2 p k)) (fun k => ya (ix2 p k)) (fun k => yb (ix2 p k)) (fun k => halfTile yc (ix2 p k))
    (fun k j => wa (ix3 0 k j)) (fun k j => wb (ix3 0 k j)) (fun k j => wc (ix3 0 k j))

/-- The residual sums of a block of 1024 rows. -/
def mixBlock (x : Vec Ideal S1024x1024 .f32) (g : Vec Ideal S1024x3072 .bf16) (ya yb : Vec Ideal S1024x512 .bf16)
    (yc : Vec Ideal S2x1x16x8x8x128 .i32) (wa wb wc : Vec Ideal S1x512x1024 .bf16) (wo : Vec Ideal S1x1024x1024 .bf16) :
    Vec Ideal S1024x1024 .f32 := fun i =>
  skipSum (fun k => x (ix2 (i 0) k)) (sumBlock g ya yb yc wa wb wc (i 0)) (fun j o => wo (ix3 0 j o)) (i 1)

/-- The layer norm of every row of a block of 1024 rows. -/
def normBlock (y : Vec Ideal S1024x1024 .f32) (g b : Vec Ideal S1x1024 .f32) : Vec Ideal S1024x1024 .f32 := fun i =>
  layerNorm (fun k => y (ix2 (i 0) k)) (fun k => g (ix2 0 k)) (fun k => b (ix2 0 k)) (i 1)

/-- Zero offsets on two axes, however they are spelt. -/
theorem off2 : (![0, 0] : Fin 2 → Nat) = fun _ => 0 := funext fun a => by fin_cases a <;> rfl

/-- Zero offsets on three axes. -/
theorem off3 : (![0, 0, 0] : Fin 3 → Nat) = fun _ => 0 := funext fun a => by fin_cases a <;> rfl

/-- A norm slice stored at rows `r0 …`, computed from the same rows of the block, is those rows of the block's norm. -/
theorem slice_norm (r0 : Nat) (h : ∀ a, (![r0, 0] : Fin 2 → Nat) a + (![128, 1024] : Fin 2 → Nat) a ≤ S1024x1024.size a)
    (y : Vec Ideal S1024x1024 .f32) (g b : Vec Ideal S1x1024 .f32)
    (x : (Rect.unit (s := S1024x1024) ![r0, 0] ![128, 1024] h).shape.Idx) :
    k0_pay266 (View.ld y (Rect.unit (s := S1024x1024) ![r0, 0] ![128, 1024] h)) g b x
      = normBlock y g b ((Rect.unit (s := S1024x1024) ![r0, 0] ![128, 1024] h).emb x) := by
  have hx : x = (ix2 (n0 := 128) (n1 := 1024) (x 0) (x 1) : S128x1024.Idx) := by
    funext a; match a with | ⟨0, _⟩ => rfl | ⟨1, _⟩ => rfl
  have h1 : (Rect.unit (s := S1024x1024) ![r0, 0] ![128, 1024] h).emb x 1 = x 1 :=
    Fin.ext (show 0 + 1 * (x 1).val = (x 1).val by omega)
  have hr : ∀ k : Fin 1024, (Rect.unit (s := S1024x1024) ![r0, 0] ![128, 1024] h).emb (ix2 (n0 := 128) (n1 := 1024) (x 0) k)
      = ix2 (n0 := 1024) (n1 := 1024) ((Rect.unit (s := S1024x1024) ![r0, 0] ![128, 1024] h).emb x 0) k := fun k => by
    funext a
    match a with
    | ⟨0, _⟩ => rfl
    | ⟨1, _⟩ => exact Fin.ext (show 0 + 1 * k.val = k.val by omega)
  refine (congrArg (k0_pay266 _ g b) hx).trans ((pay266_at _ g b (x 0) (x 1)).trans ?_)
  unfold normBlock
  rw [h1]
  exact congrArg (fun f => layerNorm f _ _ _) (funext fun k => congrArg y (hr k))

/-- A load of 1024 gates from column `c0` on. -/
theorem gate_ld (g : Vec Ideal S1024x3072 .bf16) (c0 : ℕ)
    (h : ∀ a, (![0, c0] : Fin 2 → Nat) a + (![1024, 1024] : Fin 2 → Nat) a ≤ S1024x3072.size a) (p q : Fin 1024) (hq : c0 + q.val < 3072) :
    View.ld g (Rect.unit (s := S1024x3072) ![0, c0] ![1024, 1024] h) (ix2 (n0 := 1024) (n1 := 1024) p q) = g (ix2 p ⟨c0 + q.val, hq⟩) := by
  show g _ = g _
  congr 1
  funext d
  apply Fin.ext
  match d with
  | ⟨0, _⟩ => show 0 + 1 * p.val = p.val; omega
  | ⟨1, _⟩ => show c0 + 1 * q.val = c0 + q.val; omega

/-- The residual sum from the blocks and the unpacked tile. -/
theorem mix_eq (x : Vec Ideal S1024x1024 .f32) (g : Vec Ideal S1024x3072 .bf16) (ya yb : Vec Ideal S1024x512 .bf16)
    (yc : Vec Ideal S2x1x16x8x8x128 .i32) (wa wb wc : Vec Ideal S1x512x1024 .bf16) (wo : Vec Ideal S1x1024x1024 .bf16) :
    k0_pay3 (k0_pay278 (halfTile yc)
        (k0_pay272 yb (k0_pay267 ya wa (View.ld g (Rect.unit (s := S1024x3072) ![0, 0] ![1024, 1024] inb_S1024x3072_S1024x1024_0_0)))
          wb (View.ld g (Rect.unit (s := S1024x3072) ![0, 1024] ![1024, 1024] inb_S1024x3072_S1024x1024_0_1024)))
        wc (View.ld g (Rect.unit (s := S1024x3072) ![0, 2048] ![1024, 1024] inb_S1024x3072_S1024x1024_0_2048))) wo x
      = mixBlock x g ya yb yc wa wb wc wo := by
  have hs : ∀ p j : Fin 1024, k0_pay278 (halfTile yc)
        (k0_pay272 yb (k0_pay267 ya wa (View.ld g (Rect.unit (s := S1024x3072) ![0, 0] ![1024, 1024] inb_S1024x3072_S1024x1024_0_0)))
          wb (View.ld g (Rect.unit (s := S1024x3072) ![0, 1024] ![1024, 1024] inb_S1024x3072_S1024x1024_0_1024)))
        wc (View.ld g (Rect.unit (s := S1024x3072) ![0, 2048] ![1024, 1024] inb_S1024x3072_S1024x1024_0_2048)) (ix2 p j)
      = sumBlock g ya yb yc wa wb wc p j := by
    intro p j
    have hj := j.isLt
    rw [pay278_at, pay272_at, pay267_at]
    refine congrArg₂ (· + ·) (congrArg₂ (· + ·) (congrArg (· * _) ?_) (congrArg (· * _) ?_)) (congrArg (· * _) ?_)
    · refine (gate_ld g 0 inb_S1024x3072_S1024x1024_0_0 p j (by omega)).trans ?_
      exact congrArg g (congrArg (ix2 p) (Fin.ext (Nat.zero_add _)))
    · exact gate_ld g 1024 inb_S1024x3072_S1024x1024_0_1024 p j (by omega)
    · exact gate_ld g 2048 inb_S1024x3072_S1024x1024_0_2048 p j (by omega)
  funext y
  have hy : y = (ix2 (n0 := 1024) (n1 := 1024) (y 0) (y 1) : S1024x1024.Idx) := by
    funext a; match a with | ⟨0, _⟩ => rfl | ⟨1, _⟩ => rfl
  refine (congrArg (k0_pay3 _ wo x) hy).trans ((pay3_at _ wo x (y 0) (y 1)).trans ?_)
  exact congrArg (Ideal.ofBits .f32 0x3FB504F3#32 * x (ix2 (y 0) (y 1)) + ·)
    (Finset.sum_congr rfl fun j _ => congrArg (· * wo (ix3 0 j (y 1))) (hs (y 0) j))

section Block

variable (c : Dev nD) (i : grid0.Coords)
  (arg1 : Memref sig .tc .vmem S1024x1024 .f32) (harg1 : arg1.IsWhole)
  (arg2 : Memref sig .tc .vmem S1024x3072 .bf16) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S2x1x16x8x8x128 .i32) (harg5 : arg5.IsWhole)
  (arg6 : Memref sig .tc .vmem S1x512x1024 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x1024x1024 .bf16) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1024x1024 .f32) (harg12 : arg12.IsWhole)
  (arg13 : Memref sig .tc .vmem S1024x1024 .f32) (harg13 : arg13.IsWhole)

/-- In the middle of the grid the output block is the norm of the scratch's contents. -/
theorem out_B (hc0 : ¬cond0_0 i) (hc1 : cond0_1 i) (hc2 : ¬cond0_2 i)
    (x0 : Vec Ideal S1024x1024 .f32) (x1 : Vec Ideal S1024x3072 .bf16) (x2 x3 : Vec Ideal S1024x512 .bf16)
    (x4 : Vec Ideal S2x1x16x8x8x128 .i32) (x5 x6 x7 : Vec Ideal S1x512x1024 .bf16) (x8 : Vec Ideal S1x1024x1024 .bf16)
    (x9 x10 : Vec Ideal S1x1024 .f32)
    (xs0 : Vec Ideal S1024x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0
      = normBlock xs0 x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0)]
  funext y
  refine View.canon_apply_of_pieces (normBlock xs0 x9 x10) _ ?_ y (cover0_B_11 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0 y)
  unfold kernelRun0_B
  dsimp only
  sl_unfold_words
  simp only [View.readAt_eq_ld, harg13.read_unread, harg10.read_unread, harg11.read_unread, View.ld_unit_zero (S := S1x1024) off2]
  exact List.forall_mem_cons.mpr ⟨fun x => slice_norm 896 inb_S1024x1024_S128x1024_896_0 xs0 x9 x10 x,
    List.forall_mem_cons.mpr ⟨fun x => slice_norm 768 inb_S1024x1024_S128x1024_768_0 xs0 x9 x10 x,
    List.forall_mem_cons.mpr ⟨fun x => slice_norm 640 inb_S1024x1024_S128x1024_640_0 xs0 x9 x10 x,
    List.forall_mem_cons.mpr ⟨fun x => slice_norm 512 inb_S1024x1024_S128x1024_512_0 xs0 x9 x10 x,
    List.forall_mem_cons.mpr ⟨fun x => slice_norm 384 inb_S1024x1024_S128x1024_384_0 xs0 x9 x10 x,
    List.forall_mem_cons.mpr ⟨fun x => slice_norm 256 inb_S1024x1024_S128x1024_256_0 xs0 x9 x10 x,
    List.forall_mem_cons.mpr ⟨fun x => slice_norm 128 inb_S1024x1024_S128x1024_128_0 xs0 x9 x10 x,
    List.forall_mem_cons.mpr ⟨fun x => slice_norm 0 inb_S1024x1024_S128x1024_0_0 xs0 x9 x10 x,
    List.forall_mem_nil _⟩⟩⟩⟩⟩⟩⟩⟩

/-- At the first point the scratch ends with the residual sums of the point's rows. -/
theorem sout_A (hc0 : cond0_0 i) (hc1 : cond0_1 i) (hc2 : ¬cond0_2 i)
    (x0 : Vec Ideal S1024x1024 .f32) (x1 : Vec Ideal S1024x3072 .bf16) (x2 x3 : Vec Ideal S1024x512 .bf16)
    (x4 : Vec Ideal S2x1x16x8x8x128 .i32) (x5 x6 x7 : Vec Ideal S1x512x1024 .bf16) (x8 : Vec Ideal S1x1024x1024 .bf16)
    (x9 x10 : Vec Ideal S1x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10
      = mixBlock x0 x1 x2 x3 x4 x5 x6 x7 x8 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10)]
  unfold kernelRun0_A
  dsimp only
  sl_unfold_words
  rw [View.canon_cons_unit_zero off2]
  simp only [View.readAt_eq_ld, harg1.read_unread, harg2.read_unread, harg3.read_unread, harg4.read_unread, harg5.read_unread,
    harg6.read_unread, harg7.read_unread, harg8.read_unread, harg9.read_unread,
    k0_pay135, k0_pay136, k0_pay137, k0_pay138, k0_pay139, piece_ld,
    View.ld_unit_zero (S := S1024x1024) off2, View.ld_unit_zero (S := S1024x512) off2,
    View.ld_unit_zero (S := S1x512x1024) off3, View.ld_unit_zero (S := S1x1024x1024) off3]
  rw [upper0, lower0, tile_eq]
  exact mix_eq x0 x1 x2 x3 x4 x5 x6 x7 x8

/-- In the middle of the grid the scratch ends with the residual sums of the point's rows. -/
theorem sout_B (hc0 : ¬cond0_0 i) (hc1 : cond0_1 i) (hc2 : ¬cond0_2 i)
    (x0 : Vec Ideal S1024x1024 .f32) (x1 : Vec Ideal S1024x3072 .bf16) (x2 x3 : Vec Ideal S1024x512 .bf16)
    (x4 : Vec Ideal S2x1x16x8x8x128 .i32) (x5 x6 x7 : Vec Ideal S1x512x1024 .bf16) (x8 : Vec Ideal S1x1024x1024 .bf16)
    (x9 x10 : Vec Ideal S1x1024 .f32)
    (xs0 : Vec Ideal S1024x1024 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0
      = mixBlock x0 x1 x2 x3 x4 x5 x6 x7 x8 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0)]
  unfold kernelRun0_B
  dsimp only
  sl_unfold_words
  rw [View.canon_cons_unit_zero off2]
  simp only [View.readAt_eq_ld, harg1.read_unread, harg2.read_unread, harg3.read_unread, harg4.read_unread, harg5.read_unread,
    harg6.read_unread, harg7.read_unread, harg8.read_unread, harg9.read_unread,
    k0_pay135, k0_pay136, k0_pay137, k0_pay138, k0_pay139, piece_ld,
    View.ld_unit_zero (S := S1024x1024) off2, View.ld_unit_zero (S := S1024x512) off2,
    View.ld_unit_zero (S := S1x512x1024) off3, View.ld_unit_zero (S := S1x1024x1024) off3]
  rw [upper0, lower0, tile_eq]
  exact mix_eq x0 x1 x2 x3 x4 x5 x6 x7 x8

/-- At the last point the output block is the norm of the scratch's contents. -/
theorem out_C (hc0 : ¬cond0_0 i) (hc1 : ¬cond0_1 i) (hc2 : cond0_2 i)
    (x0 : Vec Ideal S1024x1024 .f32) (x1 : Vec Ideal S1024x3072 .bf16) (x2 x3 : Vec Ideal S1024x512 .bf16)
    (x4 : Vec Ideal S2x1x16x8x8x128 .i32) (x5 x6 x7 : Vec Ideal S1x512x1024 .bf16) (x8 : Vec Ideal S1x1024x1024 .bf16)
    (x9 x10 : Vec Ideal S1x1024 .f32)
    (xs0 : Vec Ideal S1024x1024 .f32) :
    out0_C_11 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0
      = normBlock xs0 x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 x10 xs0)]
  unfold kernelRun0_C
  dsimp only
  sl_unfold_words
  rw [View.canon_cons_unit_zero off2]
  simp only [View.readAt_eq_ld, harg13.read_unread, harg10.read_unread, harg11.read_unread,
    View.ld_unit_zero (S := S1x1024) off2, View.ld_unit_zero (S := S1024x1024) off2]
  funext y
  have hy : y = (ix2 (n0 := 1024) (n1 := 1024) (y 0) (y 1) : S1024x1024.Idx) := by
    funext a; match a with | ⟨0, _⟩ => rfl | ⟨1, _⟩ => rfl
  exact (congrArg (k0_pay4 xs0 x9 x10) hy).trans (pay4_at xs0 x9 x10 (y 0) (y 1))

end Block

end Cert.KernelCombineIdeal.Val

end
-- ==== Proof.CombArray.lean ====
/-
  The array the combination kernel leaves: each grid point but the last stores the residual sums of its 1024 rows in a
  scratch buffer, each point but the first writes back the layer norm of what the scratch held, one tile late; together the
  32 write-backs fill the array with the row function of the arguments.
-/
module

public import proofs.«01_k».proof.Proof.CombBlock
public import Idealize.ShloMosaic.Lib.StableHlo.ReadAt

@[expose] public section

set_option maxRecDepth 16384

noncomputable section

open scoped BigOperators

namespace Cert.KernelCombineIdeal.Val

open Cert.KernelCombineIdeal Cert.KernelCombineIdeal.Gen Cert.FfnRow Cert.CombRow
open Idealize.ShloMosaic Idealize.ShloMosaic.TcCoe Idealize.SL.Sem

variable (m : (ℓ : Loc nD τ sig) → Buf (Elt Ideal) ℓ)

/-- The four weight operands are the arguments. -/
theorem V0_at (c : Dev nD) (i : S2x512x1024.Idx) : V m c main_v0 i = m ((c : Thread nD τ).loc main_arg5) i := by
  unfold V
  after_reads_at

theorem V1_at (c : Dev nD) (i : S2x512x1024.Idx) : V m c main_v1 i = m ((c : Thread nD τ).loc main_arg6) i := by
  unfold V
  after_reads_at

theorem V2_at (c : Dev nD) (i : S2x512x1024.Idx) : V m c main_v2 i = m ((c : Thread nD τ).loc main_arg7) i := by
  unfold V
  after_reads_at

theorem V3_at (c : Dev nD) (i : S2x1024x1024.Idx) : V m c main_v3 i = m ((c : Thread nD τ).loc main_arg8) i := by
  unfold V
  after_reads_at

/-- The norm's scale and shift are the first rows of the arguments. -/
theorem V6_at (c : Dev nD) (k : Fin 1024) : V m c main_v6 (ix2 0 k) = m ((c : Thread nD τ).loc main_arg9) (ix2 0 k) := by
  unfold V
  after_reads_at

theorem V9_at (c : Dev nD) (k : Fin 1024) : V m c main_v9 (ix2 0 k) = m ((c : Thread nD τ).loc main_arg10) (ix2 0 k) := by
  unfold V
  after_reads_at

/-- Where each window's block lies at a grid point. -/
theorem idx0 : ∀ t : Fin grid0.N, win0_0.index t 0 = min t.val 31 ∧ win0_0.index t 1 = 0 := by decide +kernel
theorem idx1 : ∀ t : Fin grid0.N, win0_1.index t 0 = min t.val 31 ∧ win0_1.index t 1 = 0 := by decide +kernel
theorem idx2 : ∀ t : Fin grid0.N, win0_2.index t 0 = min t.val 31 ∧ win0_2.index t 1 = 0 := by decide +kernel
theorem idx3 : ∀ t : Fin grid0.N, win0_3.index t 0 = min t.val 31 ∧ win0_3.index t 1 = 0 := by decide +kernel
theorem idx4 : ∀ t : Fin grid0.N, win0_4.index t 0 = 0 ∧ win0_4.index t 1 = min t.val 31 / 16 ∧ win0_4.index t 2 = 0
    ∧ win0_4.index t 3 = min t.val 31 % 16 ∧ win0_4.index t 4 = 0 ∧ win0_4.index t 5 = 0 := by decide +kernel
theorem idx5 : ∀ t : Fin grid0.N, win0_5.index t 0 = 0 ∧ win0_5.index t 1 = 0 ∧ win0_5.index t 2 = 0 := by decide +kernel
theorem idx6 : ∀ t : Fin grid0.N, win0_6.index t 0 = 0 ∧ win0_6.index t 1 = 0 ∧ win0_6.index t 2 = 0 := by decide +kernel
theorem idx7 : ∀ t : Fin grid0.N, win0_7.index t 0 = 0 ∧ win0_7.index t 1 = 0 ∧ win0_7.index t 2 = 0 := by decide +kernel
theorem idx8 : ∀ t : Fin grid0.N, win0_8.index t 0 = 0 ∧ win0_8.index t 1 = 0 ∧ win0_8.index t 2 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel
theorem idx11 : ∀ t : Fin grid0.N, win0_11.index t 0 = t.val - 1 ∧ win0_11.index t 1 = 0 := by decide +kernel
theorem flush11 : ∀ t : Fin grid0.N, win0_11.flush t = true ↔ 1 ≤ t.val := by decide +kernel

/-- Row `p` of the input block at point `t` is row `1024 t + p` of the input; likewise the gates and the first two branches. -/
theorem blk0_at (c : Dev nD) (t : Fin cfg0.N) (ht : t.val < 32) (p : Fin 1024) (k : Fin 1024) :
    iblk m c 0 t (ix2 p k) = m ((c : Thread nD τ).loc main_arg0) (ix2 ⟨1024 * t.val + p.val, by have := p.isLt; omega⟩ k) := by
  refine Eq.trans ?_ (congrFun (V_main_arg0 m c) _)
  show V m c main_arg0 ((win0_0.rect t).emb (ix2 p k)) = _
  congr 1
  funext a
  apply Fin.ext
  match a with
  | ⟨0, _⟩ => show win0_0.index t 0 * 1024 + 1 * p.val = 1024 * t.val + p.val; rw [(idx0 t).1]; omega
  | ⟨1, _⟩ => show win0_0.index t 1 * 1024 + 1 * k.val = k.val; rw [(idx0 t).2]; omega

theorem blk1_at (c : Dev nD) (t : Fin cfg0.N) (ht : t.val < 32) (p : Fin 1024) (k : Fin 3072) :
    iblk m c 1 t (ix2 p k) = m ((c : Thread nD τ).loc main_arg1) (ix2 ⟨1024 * t.val + p.val, by have := p.isLt; omega⟩ k) := by
  refine Eq.trans ?_ (congrFun (V_main_arg1 m c) _)
  show V m c main_arg1 ((win0_1.rect t).emb (ix2 p k)) = _
  congr 1
  funext a
  apply Fin.ext
  match a with
  | ⟨0, _⟩ => show win0_1.index t 0 * 1024 + 1 * p.val = 1024 * t.val + p.val; rw [(idx1 t).1]; omega
  | ⟨1, _⟩ => show win0_1.index t 1 * 3072 + 1 * k.val = k.val; rw [(idx1 t).2]; omega

theorem blk2_at (c : Dev nD) (t : Fin cfg0.N) (ht : t.val < 32) (p : Fin 1024) (k : Fin 512) :
    iblk m c 2 t (ix2 p k) = m ((c : Thread nD τ).loc main_arg2) (ix2 ⟨1024 * t.val + p.val, by have := p.isLt; omega⟩ k) := by
  refine Eq.trans ?_ (congrFun (V_main_arg2 m c) _)
  show V m c main_arg2 ((win0_2.rect t).emb (ix2 p k)) = _
  congr 1
  funext a
  apply Fin.ext
  match a with
  | ⟨0, _⟩ => show win0_2.index t 0 * 1024 + 1 * p.val = 1024 * t.val + p.val; rw [(idx2 t).1]; omega
  | ⟨1, _⟩ => show win0_2.index t 1 * 512 + 1 * k.val = k.val; rw [(idx2 t).2]; omega

theorem blk3_at (c : Dev nD) (t : Fin cfg0.N) (ht : t.val < 32) (p : Fin 1024) (k : Fin 512) :
    iblk m c 3 t (ix2 p k) = m ((c : Thread nD τ).loc main_arg3) (ix2 ⟨1024 * t.val + p.val, by have := p.isLt; omega⟩ k) := by
  refine Eq.trans ?_ (congrFun (V_main_arg3 m c) _)
  show V m c main_arg3 ((win0_3.rect t).emb (ix2 p k)) = _
  congr 1
  funext a
  apply Fin.ext
  match a with
  | ⟨0, _⟩ => show win0_3.index t 0 * 1024 + 1 * p.val = 1024 * t.val + p.val; rw [(idx3 t).1]; omega
  | ⟨1, _⟩ => show win0_3.index t 1 * 512 + 1 * k.val = k.val; rw [(idx3 t).2]; omega

/-- A word of the third branch's block at point `t`: eight groups of the sequence that the point's rows belong to. -/
theorem blk4_at (c : Dev nD) (t : Fin cfg0.N) (ht : t.val < 32) (p : Fin 2) (a : Fin 16) (k s : Fin 8) (l : Fin 128) :
    iblk m c 4 t (ix6 p 0 a k s l)
      = m ((c : Thread nD τ).loc main_arg4) (ix6 p ⟨t.val / 16, by omega⟩ a ⟨8 * (t.val % 16) + k.val, by have := k.isLt; omega⟩ s l) := by
  refine Eq.trans ?_ (congrFun (V_main_arg4 m c) _)
  show V m c main_arg4 ((win0_4.rect t).emb (ix6 p 0 a k s l)) = _
  congr 1
  funext d
  apply Fin.ext
  match d with
  | ⟨0, _⟩ => show win0_4.index t 0 * 2 + 1 * p.val = p.val; rw [(idx4 t).1]; omega
  | ⟨1, _⟩ => show win0_4.index t 1 * 1 + 1 * 0 = t.val / 16; rw [(idx4 t).2.1, Nat.min_eq_left (by omega)]; omega
  | ⟨2, _⟩ => show win0_4.index t 2 * 16 + 1 * a.val = a.val; rw [(idx4 t).2.2.1]; omega
  | ⟨3, _⟩ => show win0_4.index t 3 * 8 + 1 * k.val = 8 * (t.val % 16) + k.val; rw [(idx4 t).2.2.2.1, Nat.min_eq_left (by omega)]; omega
  | ⟨4, _⟩ => show win0_4.index t 4 * 8 + 1 * s.val = s.val; rw [(idx4 t).2.2.2.2.1]; omega
  | ⟨5, _⟩ => show win0_4.index t 5 * 128 + 1 * l.val = l.val; rw [(idx4 t).2.2.2.2.2]; omega

/-- Each weight's block is the first of the two stacked matrices, at every point; the norm's scale and shift likewise. -/
theorem blk5_at (c : Dev nD) (t : Fin cfg0.N) (k : Fin 512) (j : Fin 1024) :
    iblk m c 5 t (ix3 0 k j) = m ((c : Thread nD τ).loc main_arg5) (ix3 0 k j) := by
  refine Eq.trans ?_ (V0_at m c (ix3 0 k j))
  show V m c main_v0 ((win0_5.rect t).emb (ix3 0 k j)) = _
  congr 1
  funext a
  apply Fin.ext
  match a with
  | ⟨0, _⟩ => show win0_5.index t 0 * 1 + 1 * 0 = 0; rw [(idx5 t).1]
  | ⟨1, _⟩ => show win0_5.index t 1 * 512 + 1 * k.val = k.val; rw [(idx5 t).2.1]; omega
  | ⟨2, _⟩ => show win0_5.index t 2 * 1024 + 1 * j.val = j.val; rw [(idx5 t).2.2]; omega

theorem blk6_at (c : Dev nD) (t : Fin cfg0.N) (k : Fin 512) (j : Fin 1024) :
    iblk m c 6 t (ix3 0 k j) = m ((c : Thread nD τ).loc main_arg6) (ix3 0 k j) := by
  refine Eq.trans ?_ (V1_at m c (ix3 0 k j))
  show V m c main_v1 ((win0_6.rect t).emb (ix3 0 k j)) = _
  congr 1
  funext a
  apply Fin.ext
  match a with
  | ⟨0, _⟩ => show win0_6.index t 0 * 1 + 1 * 0 = 0; rw [(idx6 t).1]
  | ⟨1, _⟩ => show win0_6.index t 1 * 512 + 1 * k.val = k.val; rw [(idx6 t).2.1]; omega
  | ⟨2, _⟩ => show win0_6.index t 2 * 1024 + 1 * j.val = j.val; rw [(idx6 t).2.2]; omega

theorem blk7_at (c : Dev nD) (t : Fin cfg0.N) (k : Fin 512) (j : Fin 1024) :
    iblk m c 7 t (ix3 0 k j) = m ((c : Thread nD τ).loc main_arg7) (ix3 0 k j) := by
  refine Eq.trans ?_ (V2_at m c (ix3 0 k j))
  show V m c main_v2 ((win0_7.rect t).emb (ix3 0 k j)) = _
  congr 1
  funext a
  apply Fin.ext
  match a with
  | ⟨0, _⟩ => show win0_7.index t 0 * 1 + 1 * 0 = 0; rw [(idx7 t).1]
  | ⟨1, _⟩ => show win0_7.index t 1 * 512 + 1 * k.val = k.val; rw [(idx7 t).2.1]; omega
  | ⟨2, _⟩ => show win0_7.index t 2 * 1024 + 1 * j.val = j.val; rw [(idx7 t).2.2]; omega

theorem blk8_at (c : Dev nD) (t : Fin cfg0.N) (k : Fin 1024) (j : Fin 1024) :
    iblk m c 8 t (ix3 0 k j) = m ((c : Thread nD τ).loc main_arg8) (ix3 0 k j) := by
  refine Eq.trans ?_ (V3_at m c (ix3 0 k j))
  show V m c main_v3 ((win0_8.rect t).emb (ix3 0 k j)) = _
  congr 1
  funext a
  apply Fin.ext
  match a with
  | ⟨0, _⟩ => show win0_8.index t 0 * 1 + 1 * 0 = 0; rw [(idx8 t).1]
  | ⟨1, _⟩ => show win0_8.index t 1 * 1024 + 1 * k.val = k.val; rw [(idx8 t).2.1]; omega
  | ⟨2, _⟩ => show win0_8.index t 2 * 1024 + 1 * j.val = j.val; rw [(idx8 t).2.2]; omega

theorem blk9_at (c : Dev nD) (t : Fin cfg0.N) (k : Fin 1024) :
    iblk m c 9 t (ix2 0 k) = m ((c : Thread nD τ).loc main_arg9) (ix2 0 k) := by
  refine Eq.trans ?_ (V6_at m c k)
  show V m c main_v6 ((win0_9.rect t).emb (ix2 0 k)) = _
  congr 1
  funext a
  apply Fin.ext
  match a with
  | ⟨0, _⟩ => show win0_9.index t 0 * 1 + 1 * 0 = 0; rw [(idx9 t).1]
  | ⟨1, _⟩ => show win0_9.index t 1 * 1024 + 1 * k.val = k.val; rw [(idx9 t).2]; omega

theorem blk10_at (c : Dev nD) (t : Fin cfg0.N) (k : Fin 1024) :
    iblk m c 10 t (ix2 0 k) = m ((c : Thread nD τ).loc main_arg10) (ix2 0 k) := by
  refine Eq.trans ?_ (V9_at m c k)
  show V m c main_v9 ((win0_10.rect t).emb (ix2 0 k)) = _
  congr 1
  funext a
  apply Fin.ext
  match a with
  | ⟨0, _⟩ => show win0_10.index t 0 * 1 + 1 * 0 = 0; rw [(idx10 t).1]
  | ⟨1, _⟩ => show win0_10.index t 1 * 1024 + 1 * k.val = k.val; rw [(idx10 t).2]; omega

/-- A row of the unpacked tile is the third branch's row. -/
theorem half_at (c : Dev nD) (t : Fin cfg0.N) (ht : t.val < 32) (p : Fin 1024) (q : Fin 512) :
    halfTile (iblk m c 4 t) (ix2 p q)
      = fourier (m ((c : Thread nD τ).loc main_arg4)) ⟨1024 * t.val + p.val, by have := p.isLt; omega⟩ q := by
  have hp := p.isLt
  have hq := q.isLt
  refine congrArg (half (q.val / 128)) ((blk4_at m c t ht _ _ _ _ _).trans ?_)
  show m ((c : Thread nD τ).loc main_arg4) _ = m ((c : Thread nD τ).loc main_arg4) _
  congr 1
  funext d
  apply Fin.ext
  match d with
  | ⟨0, _⟩ => show q.val / 256 % 2 = q.val / 256; omega
  | ⟨1, _⟩ => show t.val / 16 = (1024 * t.val + p.val) / 16384; omega
  | ⟨2, _⟩ => show p.val / 8 % 16 = (1024 * t.val + p.val) / 8 % 16; omega
  | ⟨3, _⟩ => show 8 * (t.val % 16) + p.val / 128 % 8 = (1024 * t.val + p.val) / 128 % 128; omega
  | ⟨4, _⟩ => show p.val % 8 = (1024 * t.val + p.val) % 8; omega
  | ⟨5, _⟩ => rfl

/-- The residual sums of the rows of point `t`. -/
def tileSums (c : Dev nD) (t : Fin cfg0.N) : Vec Ideal S1024x1024 .f32 :=
  mixBlock (iblk m c 0 t) (iblk m c 1 t) (iblk m c 2 t) (iblk m c 3 t) (iblk m c 4 t) (iblk m c 5 t) (iblk m c 6 t) (iblk m c 7 t) (iblk m c 8 t)

/-- After every point but the last the scratch holds the residual sums of that point's rows. -/
theorem scratch_at (c : Dev nD) (t : Fin cfg0.N) (ht : t.val < 32) : (outsAt0 m c t.val t.isLt).2 = tileSums m c t := by
  have h2 : ¬t.val % 33 = 32 := by omega
  unfold tileSums
  by_cases h0 : t.val % 33 = 0
  · rw [outsAt0_A m c t h0 ht h2]
    dsimp only
    rw [sout_A]
  · rw [outsAt0_B m c t h0 ht h2]
    dsimp only
    rw [sout_B]

/-- The result array: the row function of the arguments. -/
def result (c : Dev nD) : Buf (Elt Ideal) ((c : Thread nD τ).loc main_v10) :=
  combine (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- One row of the norm of a scratch block is the row function, at the row the block came from. -/
theorem normBlock_at (c : Dev nD) (s t : Fin cfg0.N) (hs : s.val < 32) (p q : Fin 1024) :
    normBlock (tileSums m c s) (iblk m c 9 t) (iblk m c 10 t) (ix2 p q)
      = result m c (ix2 (n0 := 32768) (n1 := 1024) ⟨1024 * s.val + p.val, by have := p.isLt; omega⟩ q) := by
  show layerNorm (skipSum (fun k => iblk m c 0 s (ix2 p k))
      (branches (fun k => iblk m c 1 s (ix2 p k)) (fun k => iblk m c 2 s (ix2 p k)) (fun k => iblk m c 3 s (ix2 p k))
        (fun k => halfTile (iblk m c 4 s) (ix2 p k)) (fun k j => iblk m c 5 s (ix3 0 k j))
        (fun k j => iblk m c 6 s (ix3 0 k j)) (fun k j => iblk m c 7 s (ix3 0 k j)))
      (fun j o => iblk m c 8 s (ix3 0 j o)))
    (fun k => iblk m c 9 t (ix2 0 k)) (fun k => iblk m c 10 t (ix2 0 k)) q = _
  simp only [blk0_at m c s hs, blk1_at m c s hs, blk2_at m c s hs, blk3_at m c s hs, half_at m c s hs,
    blk5_at, blk6_at, blk7_at, blk8_at, blk9_at, blk10_at]
  rfl

/-- What each writing point writes back is its block of the result. -/
theorem flushed_eq (c : Dev nD) (t : Fin cfg0.N) (hf : (cfg0.win 11).flush t = true) :
    (dats m 0 c).flushed 11 t = ((cfg0.win 11).blk t).view.read (Elt Ideal) (result m c) := by
  have ht : 1 ≤ t.val := (flush11 t).mp hf
  have hN : cfg0.N = 33 := N_0
  have hlt : t.val < 33 := hN ▸ t.isLt
  have hs : t.val - 1 < 32 := by omega
  have hb : t.val - 1 < cfg0.N := by omega
  have h0 : ¬t.val % 33 = 0 := by omega
  have key : (dats m 0 c).flushed 11 t = (cfg0.win 11).cut (grid0.coords t)
      (normBlock (tileSums m c ⟨t.val - 1, hb⟩) (iblk m c 9 t) (iblk m c 10 t)) := by
    by_cases h1 : t.val < 32
    · rw [Value.flushed11_B m c t h0 h1 (by omega), out_B, scratch_at m c ⟨t.val - 1, hb⟩ hs]
    · rw [Value.flushed11_C m c t h0 h1 (by omega), out_C, scratch_at m c ⟨t.val - 1, hb⟩ hs]
  rw [key]
  funext y
  have hy : y = (ix2 (n0 := 1024) (n1 := 1024) (y 0) (y 1) : S1024x1024.Idx) := by
    funext a; match a with | ⟨0, _⟩ => rfl | ⟨1, _⟩ => rfl
  rw [hy]
  refine (normBlock_at m c ⟨t.val - 1, hb⟩ t hs (y 0) (y 1)).trans ?_
  show _ = result m c ((win0_11.rect t).emb (ix2 (n0 := 1024) (n1 := 1024) (y 0) (y 1)))
  congr 1
  funext a
  apply Fin.ext
  match a with
  | ⟨0, _⟩ => show 1024 * (t.val - 1) + (y 0).val = win0_11.index t 0 * 1024 + 1 * (y 0).val; rw [(idx11 t).1]; omega
  | ⟨1, _⟩ => show (y 1).val = win0_11.index t 1 * 1024 + 1 * (y 1).val; rw [(idx11 t).2]; omega

/-- So the array ends holding the result: row `r` is written at point `r / 1024 + 1`. -/
theorem final (c : Dev nD) : (dats m 0 c).arrAt 11 cfg0.N = result m c :=
  (dats m 0 c).arrAt_eq_of_cover 11 (result m c) (flushed_eq m c) fun i => by
    have hN : grid0.N = 33 := N_0
    have h0 : (i 0 : Nat) < 32768 := (i 0).isLt
    have h1 : (i 1 : Nat) < 1024 := (i 1).isLt
    refine ⟨⟨(i 0 : Nat) / 1024 + 1, by show _ < grid0.N; omega⟩, (flush11 _).mpr (by show 1 ≤ (i 0 : Nat) / 1024 + 1; omega), ?_⟩
    generalize ht : (⟨(i 0 : Nat) / 1024 + 1, _⟩ : Fin cfg0.N) = t
    have hv : t.val = (i 0 : Nat) / 1024 + 1 := by rw [← ht]
    show i ∈ ((View.whole main_v10).slice (win0_11.rect t)).set
    rw [View.set_slice_whole, Rect.mem_set_unit]
    intro a
    match a with
    | ⟨0, _⟩ =>
      show win0_11.index t 0 * 1024 ≤ (i 0 : Nat) ∧ (i 0 : Nat) < win0_11.index t 0 * 1024 + 1024
      rw [(idx11 t).1]; omega
    | ⟨1, _⟩ =>
      show win0_11.index t 1 * 1024 ≤ (i 1 : Nat) ∧ (i 1 : Nat) < win0_11.index t 1 * 1024 + 1024
      rw [(idx11 t).2]; omega

end Cert.KernelCombineIdeal.Val

end
-- ==== Proof.CombReference.lean ====
/-
  The plain combination read at an index: the same row function of the arguments.
-/
module

public import proofs.«01_k».proof.Proof.CombRow
public import proofs.«01_k».proof.Proof.Gen.ReferenceCombineIdeal.Run
public import Idealize.ShloMosaic.Lib.Pointwise

@[expose] public section

set_option maxRecDepth 16384

noncomputable section

open scoped BigOperators

namespace Cert.ReferenceCombineIdeal.Val

open Cert.ReferenceCombineIdeal Cert.ReferenceCombineIdeal.Gen Cert.FfnRow Cert.CombRow
open Idealize.ShloMosaic Idealize.ShloMosaic.TcCoe Idealize.SL.Sem

/-- The third branch in token order: the two halves of every word, stacked and transposed. -/
def fourArr (w : IVec S2x2x16x128x8x128 32) : FVec Ideal S32768x512 .f32 :=
  shapeCast S32768x512 (transpose S2x128x16x8x2x2x128 [2, 4, 3, 5, 0, 1, 6] (concatenate S2x2x2x16x128x8x128 1
    [⟨S2x1x2x16x128x8x128, (broadcastInDim S2x1x2x16x128x8x128 ![0, 2, 3, 4, 5, 6]
    bcast_S2x2x16x128x8x128_S2x1x2x16x128x8x128_0_2_3_4_5_6 (bitcastToFloat (F := Ideal) .f32 (andi w (broadcastInDim
    S2x2x16x128x8x128 ![] bcast_S_S2x2x16x128x8x128 (constantI S_ 32 4294901760#32)))))⟩, ⟨S2x1x2x16x128x8x128,
    (broadcastInDim S2x1x2x16x128x8x128 ![0, 2, 3, 4, 5, 6] bcast_S2x2x16x128x8x128_S2x1x2x16x128x8x128_0_2_3_4_5_6
    (bitcastToFloat (F := Ideal) .f32 (Host.shli w (broadcastInDim S2x2x16x128x8x128 ![] bcast_S_S2x2x16x128x8x128
    (constantI S_ 32 16#32)))))⟩] concatenates_S2x1x2x16x128x8x128_S2x1x2x16x128x8x128_S2x2x2x16x128x8x128_d1)
    transposes_S2x2x2x16x128x8x128_S2x128x16x8x2x2x128_2_4_3_5_0_1_6) shapeCasts_S2x128x16x8x2x2x128_S32768x512

/-- The residual sum of every token. -/
def mixArr (x : FVec Ideal S32768x1024 .f32) (g : FVec Ideal S32768x3072 .bf16) (ya yb : FVec Ideal S32768x512 .bf16)
    (yc : FVec Ideal S32768x512 .f32) (wa wb wc : FVec Ideal S2x512x1024 .f32) (wo : FVec Ideal S2x1024x1024 .f32) :
    FVec Ideal S32768x1024 .f32 :=
  addf (mulf (broadcastInDim S32768x1024 ![] bcast_S_S32768x1024 (constant S_ .f32 0x3FB504F3#32)) x) (Host.dotGeneral
    dot_S32768x1024_S1024x1024_S32768x1024_1_0_0_1_n_n none (addf (addf (mulf (extractStridedSlice S32768x1024 ![0, 0]
    (extf .f32 g bitsLt_bf16_f32) slices_S32768x3072_S32768x1024_0_0) (Host.dotGeneral
    dot_S32768x512_S512x1024_S32768x1024_1_0_0_1_n_n none (extf .f32 ya bitsLt_bf16_f32) (shapeCast _
    (extractStridedSlice S1x512x1024 ![0, 0, 0] wa slices_S2x512x1024_S1x512x1024_0_0_0)
    shapeCasts_S1x512x1024_S512x1024))) (mulf (extractStridedSlice S32768x1024 ![0, 1024] (extf .f32 g
    bitsLt_bf16_f32) slices_S32768x3072_S32768x1024_0_1024) (Host.dotGeneral
    dot_S32768x512_S512x1024_S32768x1024_1_0_0_1_n_n none (extf .f32 yb bitsLt_bf16_f32) (shapeCast _
    (extractStridedSlice S1x512x1024 ![0, 0, 0] wb slices_S2x512x1024_S1x512x1024_0_0_0)
    shapeCasts_S1x512x1024_S512x1024)))) (mulf (extractStridedSlice S32768x1024 ![0, 2048] (extf .f32 g
    bitsLt_bf16_f32) slices_S32768x3072_S32768x1024_0_2048) (Host.dotGeneral
    dot_S32768x512_S512x1024_S32768x1024_1_0_0_1_n_n none yc (shapeCast _ (extractStridedSlice S1x512x1024 ![0, 0, 0]
    wc slices_S2x512x1024_S1x512x1024_0_0_0) shapeCasts_S1x512x1024_S512x1024)))) (shapeCast _ (extractStridedSlice
    S1x1024x1024 ![0, 0, 0] wo slices_S2x1024x1024_S1x1024x1024_0_0_0) shapeCasts_S1x1024x1024_S1024x1024))

/-- The layer norm of every token. -/
def normArr (y : FVec Ideal S32768x1024 .f32) (s b : FVec Ideal S2x1024 .f32) : FVec Ideal S32768x1024 .f32 :=
  addf (mulf (mulf (subf y (broadcastInDim S32768x1024 ![0, 1] bcast_S32768x1_S32768x1024_0_1 (Host.divf
    (broadcastInDim S32768x1 ![0] bcast_S32768_S32768x1_0 (Host.reduceAdd y (constant S_ .f32 0x00000000#32)
    reducesTo_S32768x1024_S32768_d1 h_S_)) (broadcastInDim S32768x1 ![] bcast_S_S32768x1 (constant S_ .f32
    0x44800000#32))))) (broadcastInDim S32768x1024 ![0, 1] bcast_S32768x1_S32768x1024_0_1 (Host.rsqrt (addf (Host.divf
    (broadcastInDim S32768x1 ![0] bcast_S32768_S32768x1_0 (Host.reduceAdd (mulf (subf y (broadcastInDim S32768x1024
    ![0, 1] bcast_S32768x1_S32768x1024_0_1 (Host.divf (broadcastInDim S32768x1 ![0] bcast_S32768_S32768x1_0
    (Host.reduceAdd y (constant S_ .f32 0x00000000#32) reducesTo_S32768x1024_S32768_d1 h_S_)) (broadcastInDim S32768x1
    ![] bcast_S_S32768x1 (constant S_ .f32 0x44800000#32))))) (subf y (broadcastInDim S32768x1024 ![0, 1]
    bcast_S32768x1_S32768x1024_0_1 (Host.divf (broadcastInDim S32768x1 ![0] bcast_S32768_S32768x1_0 (Host.reduceAdd y
    (constant S_ .f32 0x00000000#32) reducesTo_S32768x1024_S32768_d1 h_S_)) (broadcastInDim S32768x1 ![]
    bcast_S_S32768x1 (constant S_ .f32 0x44800000#32)))))) (constant S_ .f32 0x00000000#32)
    reducesTo_S32768x1024_S32768_d1 h_S_)) (broadcastInDim S32768x1 ![] bcast_S_S32768x1 (constant S_ .f32
    0x44800000#32))) (broadcastInDim S32768x1 ![] bcast_S_S32768x1 (constant S_ .f32 0x3727C5AC#32))))))
    (broadcastInDim S32768x1024 ![0, 1] bcast_S1x1024_S32768x1024_0_1 (broadcastInDim S1x1024 ![1]
    bcast_S1024_S1x1024_1 (shapeCast _ (extractStridedSlice S1x1024 ![0, 0] s slices_S2x1024_S1x1024_0_0)
    shapeCasts_S1x1024_S1024)))) (broadcastInDim S32768x1024 ![0, 1] bcast_S1x1024_S32768x1024_0_1 (broadcastInDim
    S1x1024 ![1] bcast_S1024_S1x1024_1 (shapeCast _ (extractStridedSlice S1x1024 ![0, 0] b slices_S2x1024_S1x1024_0_0)
    shapeCasts_S1x1024_S1024)))

/-- A choice whose two branches are constants. -/
theorem dite_const (p : Prop) [Decidable p] (f : p → EReal) (g : ¬p → EReal) (a b : EReal) (hf : ∀ h, f h = a)
    (hg : ∀ h, g h = b) : dite p f g = if p then a else b := by
  by_cases h : p
  · rw [dif_pos h, if_pos h, hf]
  · rw [dif_neg h, if_neg h, hg]

theorem fourArr_at (w : IVec S2x2x16x128x8x128 32) (r : Fin 32768) (c : Fin 512) : fourArr w (ix2 r c) = fourier w r c := by
  unfold fourier half upper lower
  pointwise [fourArr]
  simp only [shift_word]
  exact dite_const _ _ _ _ _ (fun _ => rfl) (fun _ => rfl)

theorem mixArr_at (x : FVec Ideal S32768x1024 .f32) (g : FVec Ideal S32768x3072 .bf16) (ya yb : FVec Ideal S32768x512 .bf16)
    (yc : FVec Ideal S32768x512 .f32) (wa wb wc : FVec Ideal S2x512x1024 .f32) (wo : FVec Ideal S2x1024x1024 .f32)
    (r : Fin 32768) (q : Fin 1024) :
    mixArr x g ya yb yc wa wb wc wo (ix2 r q)
      = skipSum (fun k => x (ix2 r k))
          (branches (fun k => g (ix2 r k)) (fun k => ya (ix2 r k)) (fun k => yb (ix2 r k)) (fun k => yc (ix2 r k))
            (fun k j => wa (ix3 0 k j)) (fun k j => wb (ix3 0 k j)) (fun k j => wc (ix3 0 k j)))
          (fun j o => wo (ix3 0 j o)) q := by
  unfold skipSum branches gated
  pointwise [mixArr]

theorem normArr_at (y : FVec Ideal S32768x1024 .f32) (s b : FVec Ideal S2x1024 .f32) (r : Fin 32768) (q : Fin 1024) :
    normArr y s b (ix2 r q) = layerNorm (fun k => y (ix2 r k)) (fun k => s (ix2 0 k)) (fun k => b (ix2 0 k)) q := by
  unfold layerNorm mean
  pointwise [normArr]

/-- The three stages together are the row function. -/
theorem stages_eq (x : FVec Ideal S32768x1024 .f32) (g : FVec Ideal S32768x3072 .bf16) (ya yb : FVec Ideal S32768x512 .bf16)
    (w : IVec S2x2x16x128x8x128 32) (wa wb wc : FVec Ideal S2x512x1024 .f32) (wo : FVec Ideal S2x1024x1024 .f32)
    (s b : FVec Ideal S2x1024 .f32) :
    normArr (mixArr x g ya yb (fourArr w) wa wb wc wo) s b = combine x g ya yb w wa wb wc wo s b := by
  have e : ∀ r : Fin 32768, (fun k => fourArr w (ix2 r k)) = fourier w r := fun r => funext fun k => fourArr_at w r k
  have h : ∀ (r : Fin 32768) (q : Fin 1024),
      normArr (mixArr x g ya yb (fourArr w) wa wb wc wo) s b (ix2 r q) = combine x g ya yb w wa wb wc wo s b (ix2 r q) := by
    intro r q
    rw [normArr_at]
    simp only [mixArr_at, e]
    rfl
  funext i
  have hi : i = (ix2 (n0 := 32768) (n1 := 1024) (i 0) (i 1) : S32768x1024.Idx) := by
    funext a; match a with | ⟨0, _⟩ => rfl | ⟨1, _⟩ => rfl
  rw [hi]
  exact h (i 0) (i 1)

variable (m : (ℓ : Loc nD τ sig) → Buf (Elt Ideal) ℓ)

/-- The reference's result is the row function of its arguments. -/
theorem result_eq (c : Dev nD) :
    Value.res_out0 m c
      = combine (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) :=
  Eq.trans (by unfold Value.res_out0 Value.res_main_v64 normArr mixArr fourArr; rfl) (stages_eq _ _ _ _ _ _ _ _ _ _ _)

end Cert.ReferenceCombineIdeal.Val

end
-- ==== Proof.CombClaim.lean ====
/-
  The combination claims put together: the runs of the two programs end with equal results from equal arguments, and each
  program leaves its arguments as they were and every semaphore at zero.
-/
module

public import proofs.«01_k».proof.Proof.CombArray
public import proofs.«01_k».proof.Proof.CombReference
public import proofs.«01_k».proof.Proof.Gen.KernelCombine.Frame
public import proofs.«01_k».proof.Defs

@[expose] public section

noncomputable section

namespace Cert.Proof.CombClaim

open Idealize.ShloMosaic Idealize.ShloMosaic.TcCoe Idealize.SL.Sem

theorem frameKernel : Cert.quiescent_KernelCombine := fun m ρ _ => Cert.KernelCombine.Gen.frame m ρ
theorem frameIdeal : Cert.quiescent_KernelCombineIdeal := fun m ρ _ => Cert.KernelCombineIdeal.Gen.frame m ρ

/-- The reference is a run of host operations: its arguments stay, and it declares no semaphore. -/
theorem frameReference : Cert.quiescent_ReferenceCombineIdeal := fun m ρ _ =>
  (θ_run Cert.ReferenceCombineIdeal.defs _ _).mono (fun r h => ⟨fun c => (h c).2, sem_eq_zero_of_no_sems (by decide) r.2⟩)
    (Cert.ReferenceCombineIdeal.Value.run (F := Ideal) m ρ)

theorem preserves : Cert.preserves_KernelCombine_KernelCombineIdeal := trivial

/-- Both runs end at the row function of the arguments. -/
theorem algebraic : Cert.algebraic_KernelCombineIdeal_ReferenceCombineIdeal := fun m ρ m' ρ' _ hag =>
  ⟨fun c => Cert.KernelCombineIdeal.Val.result m c,
    (θ_run Cert.KernelCombineIdeal.defs _ _).mono
      (fun _ h c => ⟨(h c).1.trans (Cert.KernelCombineIdeal.Val.final m c), (h c).2⟩)
      (Cert.KernelCombineIdeal.Value.run_blocks m ρ),
    (θ_run Cert.ReferenceCombineIdeal.defs _ _).mono
      (fun _ h c => ⟨(h c).1.trans ((Cert.ReferenceCombineIdeal.Val.result_eq m' c).trans (by
        obtain ⟨e0, e1, e2, e3, e4, e5, e6, e7, e8, e9, e10⟩ := hag c
        unfold Cert.KernelCombineIdeal.Val.result
        rw [e0, e1, e2, e3, e4, e5, e6, e7, e8, e9, e10])), (h c).2⟩)
      (Cert.ReferenceCombineIdeal.Value.run (F := Ideal) m' ρ')⟩

end Cert.Proof.CombClaim

end
-- ==== Proof.FourRow.lean ====
/-
  The first stage of the Fourier mixing over the extended reals: for every channel and every place within a block of the
  sequence, the sum over the 128 blocks' entries times a row of a table of cosines or of sines. The entries come as words of 32
  bits, each holding the half-precision numbers of two channel groups. Nothing in this file mentions a tile, a grid or a program.
-/
module

public import proofs.«01_k».proof.Proof.CombRow

@[expose] public section

noncomputable section

open scoped BigOperators

namespace Cert.FourRow

open Idealize.ShloMosaic Cert.CombRow

/-- One entry of the transform: part `q` (cosines, then sines), channel group `g`, sequence `b`, block `e` of 8 places, row `r`
    (8 places to a frequency), channel `d`. -/
def rotAt (c s : (⟨2, ![128, 128]⟩ : Shape).Idx → EReal) (z : (⟨6, ![2, 2, 16, 128, 8, 128]⟩ : Shape).Idx → BitVec 32)
    (q : Fin 2) (g : Fin 4) (b : Fin 2) (e : Fin 16) (r : Fin 1024) (d : Fin 128) : EReal :=
  ∑ n : Fin 128, (if q.val < 1 then c (ix2 ⟨r.val / 8, by omega⟩ n) else s (ix2 ⟨r.val / 8, by omega⟩ n))
    * half g.val (z (ix6 ⟨g.val / 2, by omega⟩ b e n ⟨r.val % 8, by omega⟩ d))

/-- The whole result. -/
def rot (c s : (⟨2, ![128, 128]⟩ : Shape).Idx → EReal) (z : (⟨6, ![2, 2, 16, 128, 8, 128]⟩ : Shape).Idx → BitVec 32) :
    (⟨6, ![2, 4, 2, 16, 1024, 128]⟩ : Shape).Idx → EReal := fun i =>
  rotAt c s z (i 0) (i 1) (i 2) (i 3) (i 4) (i 5)

end Cert.FourRow

end
-- ==== Proof.FourTile.lean ====
/-
  The Fourier mixing's first stage, one store of the kernel at a time. For each sequence-block of the grid point and each of
  its eight places the kernel reads every eighth row of words, puts the four channel groups side by side and multiplies by the
  table; the rows of the eight places are put together and stored, one part and one channel group at a time.
-/
module

public import proofs.«01_k».proof.Proof.FourRow
public import proofs.«01_k».proof.Proof.Gen.KernelFourierIdeal.Value
public import Idealize.ShloMosaic.Lib.Pointwise

@[expose] public section

set_option maxRecDepth 16384

noncomputable section

open scoped BigOperators

namespace Cert.KernelFourierIdeal.Val

open Cert.KernelFourierIdeal Cert.KernelFourierIdeal.Gen Cert.CombRow Cert.FourRow
open Idealize.ShloMosaic Idealize.ShloMosaic.TcCoe Idealize.SL.Sem

/-- The rows of words read for one place: pair `a` and pair `b`. Channel group `g` of them. -/
def groupOf (a b : Vec Ideal S1x1x1x128x128 .i32) (g : ℕ) : S128x128.Idx → EReal := fun i =>
  half g ((if g < 2 then a else b) (ix5 0 0 0 (i 0) (i 1)))

/-- The four channel groups side by side. -/
def groupTile (a b : Vec Ideal S1x1x1x128x128 .i32) : FVec Ideal S128x512 .bf16 := fun i =>
  groupOf a b ((i 1).val / 128) (ix2 (i 0) ⟨(i 1).val % 128, Nat.mod_lt _ (by decide)⟩)

/-- The leading axes of the rows read hold one index each. -/
theorem drop_at (y : S1x1x1x128x128.Idx → BitVec 32) (n d : Fin 128) :
    shapeCast S128x128 y shapeCasts_S1x1x1x128x128_S128x128 (ix2 n d) = y (ix5 0 0 0 n d) := by
  pointwise

theorem drop_eq (y : S1x1x1x128x128.Idx → BitVec 32) :
    shapeCast S128x128 y shapeCasts_S1x1x1x128x128_S128x128 = fun i => y (ix5 0 0 0 (i 0) (i 1)) := by
  funext i
  have hi : i = (ix2 (n0 := 128) (n1 := 128) (i 0) (i 1) : S128x128.Idx) := by
    funext a; match a with | ⟨0, _⟩ => rfl | ⟨1, _⟩ => rfl
  exact (congrArg _ hi).trans (drop_at y (i 0) (i 1))

/-- Read at a column, the four groups are the tile. -/
theorem groups_eq (a b : Vec Ideal S1x1x1x128x128 .i32)
    (h : Shape.Concatenates ((List.ofFn fun n : Fin 4 => (⟨S128x128, groupOf a b n.val⟩ : (s : Shape) × (s.Idx → EReal))).map (·.1)) S128x512 1) :
    concatenate S128x512 1 (List.ofFn fun n : Fin 4 => (⟨S128x128, groupOf a b n.val⟩ : (s : Shape) × (s.Idx → EReal))) h
      = groupTile a b := by
  funext j
  have hj : (j 1).val < 512 := (j 1).isLt
  refine (concatenate_ofFn_apply (s₁ := S128x128) (t := S128x512) 1 (fun n : Fin 4 => groupOf a b n.val) h rfl 128 rfl j
    ⟨(j 1).val / 128, by omega⟩ rfl (ix2 (n0 := 128) (n1 := 128) (j 0) ⟨(j 1).val % 128, Nat.mod_lt _ (by decide)⟩) rfl ?_).trans rfl
  intro b hb
  match b with
  | ⟨0, _⟩ => rfl
  | ⟨1, _⟩ => exact absurd rfl hb

/-- The four groups as the kernel puts them together, from the words. -/
def joined (a b : IVec S128x128 32) : FVec Ideal S128x512 .bf16 :=
  concatenate S128x512 1
    [⟨S128x128, truncf .bf16 (bitcastToFloat (F := Ideal) .f32 (andi a (broadcast S128x128 4294901760#32))) bitsLt_bf16_f32⟩,
    ⟨S128x128, truncf .bf16 (bitcastToFloat (F := Ideal) .f32 (shli a (broadcast S128x128 16#32))) bitsLt_bf16_f32⟩,
    ⟨S128x128, truncf .bf16 (bitcastToFloat (F := Ideal) .f32 (andi b (broadcast S128x128 4294901760#32))) bitsLt_bf16_f32⟩,
    ⟨S128x128, truncf .bf16 (bitcastToFloat (F := Ideal) .f32 (shli b (broadcast S128x128 16#32))) bitsLt_bf16_f32⟩]
    concatenates_S128x128_S128x128_S128x128_S128x128_S128x512_d1

theorem joined_eq (a b : Vec Ideal S1x1x1x128x128 .i32) :
    joined (fun i => a (ix5 0 0 0 (i 0) (i 1))) (fun i => b (ix5 0 0 0 (i 0) (i 1))) = groupTile a b := by
  have e0 : (truncf .bf16 (bitcastToFloat (F := Ideal) .f32 (andi (fun i : S128x128.Idx => a (ix5 0 0 0 (i 0) (i 1))) (broadcast S128x128 4294901760#32))) bitsLt_bf16_f32
      : FVec Ideal S128x128 .bf16) = groupOf a b 0 := funext fun i => rfl
  have e1 : (truncf .bf16 (bitcastToFloat (F := Ideal) .f32 (shli (fun i : S128x128.Idx => a (ix5 0 0 0 (i 0) (i 1))) (broadcast S128x128 16#32))) bitsLt_bf16_f32
      : FVec Ideal S128x128 .bf16) = groupOf a b 1 := funext fun i =>
    Eq.trans (congrArg (FloatOps.ofBits (F := Ideal) .f32) (shift_word _ _)) rfl
  have e2 : (truncf .bf16 (bitcastToFloat (F := Ideal) .f32 (andi (fun i : S128x128.Idx => b (ix5 0 0 0 (i 0) (i 1))) (broadcast S128x128 4294901760#32))) bitsLt_bf16_f32
      : FVec Ideal S128x128 .bf16) = groupOf a b 2 := funext fun i => rfl
  have e3 : (truncf .bf16 (bitcastToFloat (F := Ideal) .f32 (shli (fun i : S128x128.Idx => b (ix5 0 0 0 (i 0) (i 1))) (broadcast S128x128 16#32))) bitsLt_bf16_f32
      : FVec Ideal S128x128 .bf16) = groupOf a b 3 := funext fun i =>
    Eq.trans (congrArg (FloatOps.ofBits (F := Ideal) .f32) (shift_word _ _)) rfl
  unfold joined
  rw [e0, e1, e2, e3]
  exact groups_eq a b concatenates_S128x128_S128x128_S128x128_S128x128_S128x512_d1

/-- The table times the four groups of one place. -/
def dotTile (a b : Vec Ideal S1x1x1x128x128 .i32) (f : Vec Ideal S256x128 .bf16) : FVec Ideal S256x512 .f32 :=
  matmul dot_S256x128_S128x512_S256x512_1_0_0_1_n_n none (shapeCast S256x128 f shapeCasts_S256x128_S256x128 : FVec Ideal S256x128 .bf16)
    (joined (shapeCast S128x128 a shapeCasts_S1x1x1x128x128_S128x128) (shapeCast S128x128 b shapeCasts_S1x1x1x128x128_S128x128))
    (constant S256x512 .f32 0x00000000#32)

theorem mul_at (f : Vec Ideal S256x128 .bf16) (z : FVec Ideal S128x512 .bf16) (k : Fin 256) (q : Fin 512) :
    matmul dot_S256x128_S128x512_S256x512_1_0_0_1_n_n none (shapeCast S256x128 f shapeCasts_S256x128_S256x128 : FVec Ideal S256x128 .bf16) z
      (constant S256x512 .f32 0x00000000#32) (ix2 k q) = ∑ n : Fin 128, f (ix2 k n) * z (ix2 n q) := by
  simp only [shapeCast_self]
  pointwise

theorem dotTile_at (a b : Vec Ideal S1x1x1x128x128 .i32) (f : Vec Ideal S256x128 .bf16) (k : Fin 256) (q : Fin 512) :
    dotTile a b f (ix2 k q) = ∑ n : Fin 128, f (ix2 k n) * groupTile a b (ix2 n q) := by
  unfold dotTile
  rw [drop_eq, drop_eq, joined_eq]
  exact mul_at f _ k q

theorem rows_ok (q : Fin 2) : S256x512.Slices ![q.val * 128, 0] S128x512 :=
  match q with
  | ⟨0, _⟩ => slices_S256x512_o0_0_S128x512
  | ⟨1, _⟩ => slices_S256x512_o128_0_S128x512

theorem cols_ok (g : Fin 4) : S128x512.Slices ![0, g.val * 128] S128x128 :=
  match g with
  | ⟨0, _⟩ => slices_S128x512_o0_0_S128x128
  | ⟨1, _⟩ => slices_S128x512_o0_128_S128x128
  | ⟨2, _⟩ => slices_S128x512_o0_256_S128x128
  | ⟨3, _⟩ => slices_S128x512_o0_384_S128x128

/-- One place's entries of part `q`, channel group `g`. -/
def placed (q : Fin 2) (g : Fin 4) (t : FVec Ideal S256x512 .f32) : FVec Ideal S128x1x128 .bf16 :=
  shapeCast S128x1x128 (extractStridedSlice S128x128 ![0, g.val * 128]
    (truncf .bf16 (extractStridedSlice S128x512 ![q.val * 128, 0] t (rows_ok q)) bitsLt_bf16_f32 : FVec Ideal S128x512 .bf16) (cols_ok g))
    shapeCasts_S128x128_S128x1x128

theorem placed_at (q : Fin 2) (g : Fin 4) (t : FVec Ideal S256x512 .f32) (k d : Fin 128) :
    placed q g t (ix3 k 0 d) = t (ix2 ⟨q.val * 128 + k.val, by omega⟩ ⟨g.val * 128 + d.val, by omega⟩) := by
  pointwise [placed]

/-- The eight places' entries, as stored: a row to a frequency and a place. -/
def stored (q : Fin 2) (g : Fin 4) (t : Fin 8 → FVec Ideal S256x512 .f32) : FVec Ideal S1x1x1x1x1024x128 .bf16 :=
  shapeCast S1x1x1x1x1024x128 (shapeCast S1024x128 (concatenate S128x8x128 1
    [⟨S128x1x128, placed q g (t 0)⟩, ⟨S128x1x128, placed q g (t 1)⟩, ⟨S128x1x128, placed q g (t 2)⟩, ⟨S128x1x128, placed q g (t 3)⟩,
      ⟨S128x1x128, placed q g (t 4)⟩, ⟨S128x1x128, placed q g (t 5)⟩, ⟨S128x1x128, placed q g (t 6)⟩, ⟨S128x1x128, placed q g (t 7)⟩]
    concatenates_S128x1x128_S128x1x128_S128x1x128_S128x1x128_S128x1x128_S128x1x128_S128x1x128_S128x1x128_S128x8x128_d1)
    shapeCasts_S128x8x128_S1024x128) shapeCasts_S1024x128_S1x1x1x1x1024x128

theorem spread_at (y : S128x8x128.Idx → EReal) (r : Fin 1024) (d : Fin 128) :
    shapeCast S1x1x1x1x1024x128 (shapeCast S1024x128 y shapeCasts_S128x8x128_S1024x128) shapeCasts_S1024x128_S1x1x1x1x1024x128
      (ix6 0 0 0 0 r d) = y (ix3 ⟨r.val / 8, by omega⟩ ⟨r.val % 8, by omega⟩ d) := by
  pointwise

theorem places_at (v : Fin 8 → FVec Ideal S128x1x128 .bf16)
    (h : Shape.Concatenates ((List.ofFn fun n : Fin 8 => (⟨S128x1x128, v n⟩ : (s : Shape) × (s.Idx → EReal))).map (·.1)) S128x8x128 1)
    (k : Fin 128) (s : Fin 8) (d : Fin 128) :
    concatenate S128x8x128 1 (List.ofFn fun n : Fin 8 => (⟨S128x1x128, v n⟩ : (s : Shape) × (s.Idx → EReal))) h (ix3 k s d)
      = v s (ix3 k 0 d) := by
  refine concatenate_ofFn_apply (s₁ := S128x1x128) (t := S128x8x128) 1 v h rfl 1 rfl (ix3 k s d) s
    (Nat.div_one _) (ix3 (n0 := 128) (n1 := 1) (n2 := 128) k 0 d) (Nat.mod_one _).symm ?_
  intro b hb
  match b with
  | ⟨0, _⟩ => rfl
  | ⟨1, _⟩ => exact absurd rfl hb
  | ⟨2, _⟩ => rfl

theorem stored_at (q : Fin 2) (g : Fin 4) (t : Fin 8 → FVec Ideal S256x512 .f32) (r : Fin 1024) (d : Fin 128) :
    stored q g t (ix6 0 0 0 0 r d)
      = t ⟨r.val % 8, by omega⟩ (ix2 ⟨q.val * 128 + r.val / 8, by omega⟩ ⟨g.val * 128 + d.val, by omega⟩) := by
  refine (spread_at _ r d).trans ((places_at (fun n => placed q g (t n)) _ _ _ _).trans (placed_at q g _ _ _))

end Cert.KernelFourierIdeal.Val

end
-- ==== Proof.FourBlock.lean ====
/-
  What one grid point of the Fourier mixing's first stage leaves in its output block, as a function of the blocks it reads.
-/
module

public import proofs.«01_k».proof.Proof.FourTile

@[expose] public section

set_option maxRecDepth 16384

noncomputable section

open scoped BigOperators

namespace Cert.KernelFourierIdeal.Val

open Cert.KernelFourierIdeal Cert.KernelFourierIdeal.Gen Cert.CombRow Cert.FourRow
open Idealize.ShloMosaic Idealize.ShloMosaic.TcCoe Idealize.SL.Sem

/-- The output block: part, channel group, sequence, block of places, frequency with place, channel. -/
def fourBlock (f : Vec Ideal S256x128 .bf16) (x : Vec Ideal S2x1x4x1024x128 .i32) : Vec Ideal S2x4x1x4x1024x128 .bf16 := fun i =>
  ∑ n : Fin 128, f (ix2 ⟨(i 0).val * 128 + (i 4).val / 8, by have h0 : (i 0).val < 2 := (i 0).isLt; have h4 : (i 4).val < 1024 := (i 4).isLt; omega⟩ n)
    * half (i 1).val (x (ix5 ⟨(i 1).val / 2, by have h1 : (i 1).val < 4 := (i 1).isLt; omega⟩ 0 (i 3) ⟨8 * n.val + (i 4).val % 8, by omega⟩ (i 5)))

/-- The rows read for one place. -/
def rowsAt (x : Vec Ideal S2x1x4x1024x128 .i32) (p s j : ℕ) : Vec Ideal S1x1x1x128x128 .i32 := fun i =>
  x (ix5 (Fin.ofNat 2 p) 0 (Fin.ofNat 4 s) (Fin.ofNat 1024 (8 * (i 3).val + j)) (i 4))

/-- Where the strided loads lie. -/
theorem rows_inb (p : Fin 2) (s : Fin 4) (j : Fin 8) (a : Fin 5) : (![1, 1, 1, 128, 128] : Fin 5 → Nat) a = 0
    ∨ (![p.val, 0, s.val, j.val, 0] : Fin 5 → Nat) a + (![1, 1, 1, 8, 1] : Fin 5 → Nat) a * ((![1, 1, 1, 128, 128] : Fin 5 → Nat) a - 1)
      < S2x1x4x1024x128.size a :=
  Or.inr (match a with
    | ⟨0, _⟩ => show p.val + 1 * 0 < 2 by omega
    | ⟨1, _⟩ => show 0 + 1 * 0 < 1 by omega
    | ⟨2, _⟩ => show s.val + 1 * 0 < 4 by omega
    | ⟨3, _⟩ => show j.val + 8 * 127 < 1024 by omega
    | ⟨4, _⟩ => show 0 + 1 * 127 < 128 by omega)

/-- A strided load. -/
def rowsLd (x : Vec Ideal S2x1x4x1024x128 .i32) (p : Fin 2) (s : Fin 4) (j : Fin 8) : Vec Ideal S1x1x1x128x128 .i32 := fun y =>
  x ((⟨![p.val, 0, s.val, j.val, 0], ![1, 1, 1, 128, 128], ![1, 1, 1, 8, 1], rows_inb p s j⟩ : LoadRect S2x1x4x1024x128).idx y)

/-- It reads the rows of its place. -/
theorem rows_ld (x : Vec Ideal S2x1x4x1024x128 .i32) (p : Fin 2) (s : Fin 4) (j : Fin 8) : rowsLd x p s j = rowsAt x p.val s.val j.val := by
  funext y
  have h0 : (y 0).val < 1 := (y 0).isLt
  have h1 : (y 1).val < 1 := (y 1).isLt
  have h2 : (y 2).val < 1 := (y 2).isLt
  have h3 : (y 3).val < 128 := (y 3).isLt
  show x _ = x _
  congr 1
  funext d
  apply Fin.ext
  match d with
  | ⟨0, _⟩ => show p.val + 1 * (y 0).val = p.val % 2; omega
  | ⟨1, _⟩ => show 0 + 1 * (y 1).val = 0; omega
  | ⟨2, _⟩ => show s.val + 1 * (y 2).val = s.val % 4; omega
  | ⟨3, _⟩ => show j.val + 8 * (y 3).val = (8 * (y 3).val + j.val) % 1024; omega
  | ⟨4, _⟩ => show 0 + 1 * (y 4).val = (y 4).val; omega

/-- A stored piece is its part of the output block. -/
theorem piece_eq (f : Vec Ideal S256x128 .bf16) (x : Vec Ideal S2x1x4x1024x128 .i32) (q : Fin 2) (g : Fin 4) (s : Fin 4)
    (h : ∀ a, (![q.val, g.val, 0, s.val, 0, 0] : Fin 6 → Nat) a + (![1, 1, 1, 1, 1024, 128] : Fin 6 → Nat) a ≤ S2x4x1x4x1024x128.size a)
    (y : (Rect.unit (s := S2x4x1x4x1024x128) ![q.val, g.val, 0, s.val, 0, 0] ![1, 1, 1, 1, 1024, 128] h).shape.Idx) :
    stored q g (fun j => dotTile (rowsAt x 0 s.val j.val) (rowsAt x 1 s.val j.val) f) y
      = fourBlock f x ((Rect.unit (s := S2x4x1x4x1024x128) ![q.val, g.val, 0, s.val, 0, 0] ![1, 1, 1, 1, 1024, 128] h).emb y) := by
  have hy : y = (ix6 (n0 := 1) (n1 := 1) (n2 := 1) (n3 := 1) (n4 := 1024) (n5 := 128) 0 0 0 0 (y 4) (y 5) : S1x1x1x1x1024x128.Idx) := by
    funext a
    apply Fin.ext
    match a with
    | ⟨0, _⟩ => have h0 : (y 0).val < 1 := (y 0).isLt; show (y 0).val = 0; omega
    | ⟨1, _⟩ => have h0 : (y 1).val < 1 := (y 1).isLt; show (y 1).val = 0; omega
    | ⟨2, _⟩ => have h0 : (y 2).val < 1 := (y 2).isLt; show (y 2).val = 0; omega
    | ⟨3, _⟩ => have h0 : (y 3).val < 1 := (y 3).isLt; show (y 3).val = 0; omega
    | ⟨4, _⟩ => rfl
    | ⟨5, _⟩ => rfl
  have he : (Rect.unit (s := S2x4x1x4x1024x128) ![q.val, g.val, 0, s.val, 0, 0] ![1, 1, 1, 1, 1024, 128] h).emb y
      = (ix6 (n0 := 2) (n1 := 4) (n2 := 1) (n3 := 4) (n4 := 1024) (n5 := 128) q g 0 s (y 4) (y 5) : S2x4x1x4x1024x128.Idx) := by
    funext a
    apply Fin.ext
    match a with
    | ⟨0, _⟩ => have h0 : (y 0).val < 1 := (y 0).isLt; show q.val + 1 * (y 0).val = q.val; omega
    | ⟨1, _⟩ => have h0 : (y 1).val < 1 := (y 1).isLt; show g.val + 1 * (y 1).val = g.val; omega
    | ⟨2, _⟩ => have h0 : (y 2).val < 1 := (y 2).isLt; show 0 + 1 * (y 2).val = 0; omega
    | ⟨3, _⟩ => have h0 : (y 3).val < 1 := (y 3).isLt; show s.val + 1 * (y 3).val = s.val; omega
    | ⟨4, _⟩ => show 0 + 1 * (y 4).val = (y 4).val; omega
    | ⟨5, _⟩ => show 0 + 1 * (y 5).val = (y 5).val; omega
  rw [he]
  refine (congrArg (stored q g _) hy).trans ((stored_at q g _ (y 4) (y 5)).trans ((dotTile_at _ _ _ _ _).trans ?_))
  have h5 : (y 5).val < 128 := (y 5).isLt
  have hg := g.isLt
  have hd : (g.val * 128 + (y 5).val) / 128 = g.val := by omega
  have hm : (g.val * 128 + (y 5).val) % 128 = (y 5).val := by omega
  refine Finset.sum_congr rfl fun n _ => congrArg (f _ * ·) ?_
  show half ((g.val * 128 + (y 5).val) / 128) ((if (g.val * 128 + (y 5).val) / 128 < 2 then rowsAt x 0 s.val ((y 4).val % 8)
    else rowsAt x 1 s.val ((y 4).val % 8)) (ix5 0 0 0 n ⟨(g.val * 128 + (y 5).val) % 128, _⟩)) = half g.val _
  simp only [hd, hm]
  refine congrArg (half g.val) ?_
  have hs := s.isLt
  have hn := n.isLt
  split
  · show x _ = x _
    congr 1
    funext d
    apply Fin.ext
    match d with
    | ⟨0, _⟩ => show 0 % 2 = g.val / 2; omega
    | ⟨1, _⟩ => rfl
    | ⟨2, _⟩ => show s.val % 4 = s.val; omega
    | ⟨3, _⟩ => show (8 * n.val + (y 4).val % 8) % 1024 = 8 * n.val + (y 4).val % 8; omega
    | ⟨4, _⟩ => rfl
  · show x _ = x _
    congr 1
    funext d
    apply Fin.ext
    match d with
    | ⟨0, _⟩ => show 1 % 2 = g.val / 2; omega
    | ⟨1, _⟩ => rfl
    | ⟨2, _⟩ => show s.val % 4 = s.val; omega
    | ⟨3, _⟩ => show (8 * n.val + (y 4).val % 8) % 1024 = 8 * n.val + (y 4).val % 8; omega
    | ⟨4, _⟩ => rfl

/-- Zero offsets on two axes, however they are spelt. -/
theorem off2 : (![0, 0] : Fin 2 → Nat) = fun _ => 0 := funext fun a => by fin_cases a <;> rfl

/-- The same of a piece computed from the loads. -/
theorem piece_ld (f : Vec Ideal S256x128 .bf16) (x : Vec Ideal S2x1x4x1024x128 .i32) (q : Fin 2) (g : Fin 4) (s : Fin 4)
    (h : ∀ a, (![q.val, g.val, 0, s.val, 0, 0] : Fin 6 → Nat) a + (![1, 1, 1, 1, 1024, 128] : Fin 6 → Nat) a ≤ S2x4x1x4x1024x128.size a)
    (y : (Rect.unit (s := S2x4x1x4x1024x128) ![q.val, g.val, 0, s.val, 0, 0] ![1, 1, 1, 1, 1024, 128] h).shape.Idx) :
    stored q g (fun j => dotTile (rowsLd x 0 s j) (rowsLd x 1 s j)
        (View.ld f (Rect.unit (s := S256x128) ![0, 0] ![256, 128] inb_S256x128_S256x128_0_0))) y
      = fourBlock f x ((Rect.unit (s := S2x4x1x4x1024x128) ![q.val, g.val, 0, s.val, 0, 0] ![1, 1, 1, 1, 1024, 128] h).emb y) := by
  rw [View.ld_unit_zero (S := S256x128) off2]
  simp only [rows_ld]
  exact piece_eq f x q g s h y

/-- Of a list of pieces, the first and the others. -/
theorem cons_pieces (G : Vec Ideal S2x4x1x4x1024x128 .bf16) (r : Rect S2x4x1x4x1024x128) (w : r.shape.Idx → Elt Ideal .bf16)
    (L : List (View.Piece (Elt Ideal) S2x4x1x4x1024x128 .bf16)) (h1 : ∀ y : r.shape.Idx, w y = G (r.emb y))
    (h2 : ∀ p ∈ L, ∀ y : p.1.shape.Idx, p.2 y = G (p.1.emb y)) :
    ∀ p ∈ (⟨r, w⟩ : View.Piece (Elt Ideal) S2x4x1x4x1024x128 .bf16) :: L, ∀ y : p.1.shape.Idx, p.2 y = G (p.1.emb y) :=
  List.forall_mem_cons.mpr ⟨h1, h2⟩

set_option maxHeartbeats 4000000 in
/-- The output block the point leaves. -/
theorem out_A (c : Dev nD) (i : grid0.Coords) (arg2 : Memref sig .tc .vmem S256x128 .bf16) (harg2 : arg2.IsWhole)
    (arg3 : Memref sig .tc .vmem S2x1x4x1024x128 .i32) (harg3 : arg3.IsWhole)
    (arg4 : Memref sig .tc .vmem S2x4x1x4x1024x128 .bf16) (harg4 : arg4.IsWhole)
    (x0 : Vec Ideal S256x128 .bf16) (x1 : Vec Ideal S2x1x4x1024x128 .i32) :
    out0_A_2 c i arg2 harg2 arg3 harg3 arg4 harg4 x0 x1 = fourBlock x0 x1 := by
  funext y
  unfold out0_A_2
  rw [View.read_writes_eq_canon _ _ _ (cover0_A_2 c i arg2 harg2 arg3 harg3 arg4 harg4 x0 x1)]
  refine Eq.trans (View.canon_apply_of_pieces
    (fourBlock (View.read (Elt Ideal) arg2.view (harg2.unread x0)) (View.read (Elt Ideal) arg3.view (harg3.unread x1))) _ ?_ y
    (cover0_A_2 c i arg2 harg2 arg3 harg3 arg4 harg4 x0 x1 y)) (by rw [harg2.read_unread, harg3.read_unread])
  unfold kernelRun0_A
  dsimp only
  sl_unfold_words
  dsimp only [
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49,
    k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96, k0_pay97,
    k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152,
    k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174,
    k0_pay175, k0_pay176, k0_pay177, k0_pay178, k0_pay179, k0_pay180, k0_pay181, k0_pay182, k0_pay183, k0_pay184, k0_pay185,
    k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207,
    k0_pay208, k0_pay209, k0_pay210, k0_pay211, k0_pay212, k0_pay213, k0_pay214, k0_pay215, k0_pay216, k0_pay217, k0_pay218,
    k0_pay219, k0_pay220, k0_pay221, k0_pay222, k0_pay223, k0_pay224, k0_pay225, k0_pay226, k0_pay227, k0_pay228, k0_pay229,
    k0_pay230, k0_pay231, k0_pay232, k0_pay233, k0_pay234, k0_pay235, k0_pay236, k0_pay237, k0_pay238, k0_pay239, k0_pay240,
    k0_pay241]
  refine cons_pieces _ _ _ _ ?_ ?_
  · intro y
    refine Eq.trans (congrFun ?_ y) (piece_ld _ _ ⟨1, by decide⟩ ⟨3, by decide⟩ ⟨3, by decide⟩ (by decide) y)
    dsimp only [stored, placed, dotTile, joined]
    rfl
  refine cons_pieces _ _ _ _ ?_ ?_
  · intro y
    refine Eq.trans (congrFun ?_ y) (piece_ld _ _ ⟨1, by decide⟩ ⟨2, by decide⟩ ⟨3, by decide⟩ (by decide) y)
    dsimp only [stored, placed, dotTile, joined]
    rfl
  refine cons_pieces _ _ _ _ ?_ ?_
  · intro y
    refine Eq.trans (congrFun ?_ y) (piece_ld _ _ ⟨1, by decide⟩ ⟨1, by decide⟩ ⟨3, by decide⟩ (by decide) y)
    dsimp only [stored, placed, dotTile, joined]
    rfl
  refine cons_pieces _ _ _ _ ?_ ?_
  · intro y
    refine Eq.trans (congrFun ?_ y) (piece_ld _ _ ⟨1, by decide⟩ ⟨0, by decide⟩ ⟨3, by decide⟩ (by decide) y)
    dsimp only [stored, placed, dotTile, joined]
    rfl
  refine cons_pieces _ _ _ _ ?_ ?_
  · intro y
    refine Eq.trans (congrFun ?_ y) (piece_ld _ _ ⟨0, by decide⟩ ⟨3, by decide⟩ ⟨3, by decide⟩ (by decide) y)
    dsimp only [stored, placed, dotTile, joined]
    rfl
  refine cons_pieces _ _ _ _ ?_ ?_
  · intro y
    refine Eq.trans (congrFun ?_ y) (piece_ld _ _ ⟨0, by decide⟩ ⟨2, by decide⟩ ⟨3, by decide⟩ (by decide) y)
    dsimp only [stored, placed, dotTile, joined]
    rfl
  refine cons_pieces _ _ _ _ ?_ ?_
  · intro y
    refine Eq.trans (congrFun ?_ y) (piece_ld _ _ ⟨0, by decide⟩ ⟨1, by decide⟩ ⟨3, by decide⟩ (by decide) y)
    dsimp only [stored, placed, dotTile, joined]
    rfl
  refine cons_pieces _ _ _ _ ?_ ?_
  · intro y
    refine Eq.trans (congrFun ?_ y) (piece_ld _ _ ⟨0, by decide⟩ ⟨0, by decide⟩ ⟨3, by decide⟩ (by decide) y)
    dsimp only [stored, placed, dotTile, joined]
    rfl
  refine cons_pieces _ _ _ _ ?_ ?_
  · intro y
    refine Eq.trans (congrFun ?_ y) (piece_ld _ _ ⟨1, by decide⟩ ⟨3, by decide⟩ ⟨2, by decide⟩ (by decide) y)
    dsimp only [stored, placed, dotTile, joined]
    rfl
  refine cons_pieces _ _ _ _ ?_ ?_
  · intro y
    refine Eq.trans (congrFun ?_ y) (piece_ld _ _ ⟨1, by decide⟩ ⟨2, by decide⟩ ⟨2, by decide⟩ (by decide) y)
    dsimp only [stored, placed, dotTile, joined]
    rfl
  refine cons_pieces _ _ _ _ ?_ ?_
  · intro y
    refine Eq.trans (congrFun ?_ y) (piece_ld _ _ ⟨1, by decide⟩ ⟨1, by decide⟩ ⟨2, by decide⟩ (by decide) y)
    dsimp only [stored, placed, dotTile, joined]
    rfl
  refine cons_pieces _ _ _ _ ?_ ?_
  · intro y
    refine Eq.trans (congrFun ?_ y) (piece_ld _ _ ⟨1, by decide⟩ ⟨0, by decide⟩ ⟨2, by decide⟩ (by decide) y)
    dsimp only [stored, placed, dotTile, joined]
    rfl
  refine cons_pieces _ _ _ _ ?_ ?_
  · intro y
    refine Eq.trans (congrFun ?_ y) (piece_ld _ _ ⟨0, by decide⟩ ⟨3, by decide⟩ ⟨2, by decide⟩ (by decide) y)
    dsimp only [stored, placed, dotTile, joined]
    rfl
  refine cons_pieces _ _ _ _ ?_ ?_
  · intro y
    refine Eq.trans (congrFun ?_ y) (piece_ld _ _ ⟨0, by decide⟩ ⟨2, by decide⟩ ⟨2, by decide⟩ (by decide) y)
    dsimp only [stored, placed, dotTile, joined]
    rfl
  refine cons_pieces _ _ _ _ ?_ ?_
  · intro y
    refine Eq.trans (congrFun ?_ y) (piece_ld _ _ ⟨0, by decide⟩ ⟨1, by decide⟩ ⟨2, by decide⟩ (by decide) y)
    dsimp only [stored, placed, dotTile, joined]
    rfl
  refine cons_pieces _ _ _ _ ?_ ?_
  · intro y
    refine Eq.trans (congrFun ?_ y) (piece_ld _ _ ⟨0, by decide⟩ ⟨0, by decide⟩ ⟨2, by decide⟩ (by decide) y)
    dsimp only [stored, placed, dotTile, joined]
    rfl
  refine cons_pieces _ _ _ _ ?_ ?_
  · intro y
    refine Eq.trans (congrFun ?_ y) (piece_ld _ _ ⟨1, by decide⟩ ⟨3, by decide⟩ ⟨1, by decide⟩ (by decide) y)
    dsimp only [stored, placed, dotTile, joined]
    rfl
  refine cons_pieces _ _ _ _ ?_ ?_
  · intro y
    refine Eq.trans (congrFun ?_ y) (piece_ld _ _ ⟨1, by decide⟩ ⟨2, by decide⟩ ⟨1, by decide⟩ (by decide) y)
    dsimp only [stored, placed, dotTile, joined]
    rfl
  refine cons_pieces _ _ _ _ ?_ ?_
  · intro y
    refine Eq.trans (congrFun ?_ y) (piece_ld _ _ ⟨1, by decide⟩ ⟨1, by decide⟩ ⟨1, by decide⟩ (by decide) y)
    dsimp only [stored, placed, dotTile, joined]
    rfl
  refine cons_pieces _ _ _ _ ?_ ?_
  · intro y
    refine Eq.trans (congrFun ?_ y) (piece_ld _ _ ⟨1, by decide⟩ ⟨0, by decide⟩ ⟨1, by decide⟩ (by decide) y)
    dsimp only [stored, placed, dotTile, joined]
    rfl
  refine cons_pieces _ _ _ _ ?_ ?_
  · intro y
    refine Eq.trans (congrFun ?_ y) (piece_ld _ _ ⟨0, by decide⟩ ⟨3, by decide⟩ ⟨1, by decide⟩ (by decide) y)
    dsimp only [stored, placed, dotTile, joined]
    rfl
  refine cons_pieces _ _ _ _ ?_ ?_
  · intro y
    refine Eq.trans (congrFun ?_ y) (piece_ld _ _ ⟨0, by decide⟩ ⟨2, by decide⟩ ⟨1, by decide⟩ (by decide) y)
    dsimp only [stored, placed, dotTile, joined]
    rfl
  refine cons_pieces _ _ _ _ ?_ ?_
  · intro y
    refine Eq.trans (congrFun ?_ y) (piece_ld _ _ ⟨0, by decide⟩ ⟨1, by decide⟩ ⟨1, by decide⟩ (by decide) y)
    dsimp only [stored, placed, dotTile, joined]
    rfl
  refine cons_pieces _ _ _ _ ?_ ?_
  · intro y
    refine Eq.trans (congrFun ?_ y) (piece_ld _ _ ⟨0, by decide⟩ ⟨0, by decide⟩ ⟨1, by decide⟩ (by decide) y)
    dsimp only [stored, placed, dotTile, joined]
    rfl
  refine cons_pieces _ _ _ _ ?_ ?_
  · intro y
    refine Eq.trans (congrFun ?_ y) (piece_ld _ _ ⟨1, by decide⟩ ⟨3, by decide⟩ ⟨0, by decide⟩ (by decide) y)
    dsimp only [stored, placed, dotTile, joined]
    rfl
  refine cons_pieces _ _ _ _ ?_ ?_
  · intro y
    refine Eq.trans (congrFun ?_ y) (piece_ld _ _ ⟨1, by decide⟩ ⟨2, by decide⟩ ⟨0, by decide⟩ (by decide) y)
    dsimp only [stored, placed, dotTile, joined]
    rfl
  refine cons_pieces _ _ _ _ ?_ ?_
  · intro y
    refine Eq.trans (congrFun ?_ y) (piece_ld _ _ ⟨1, by decide⟩ ⟨1, by decide⟩ ⟨0, by decide⟩ (by decide) y)
    dsimp only [stored, placed, dotTile, joined]
    rfl
  refine cons_pieces _ _ _ _ ?_ ?_
  · intro y
    refine Eq.trans (congrFun ?_ y) (piece_ld _ _ ⟨1, by decide⟩ ⟨0, by decide⟩ ⟨0, by decide⟩ (by decide) y)
    dsimp only [stored, placed, dotTile, joined]
    rfl
  refine cons_pieces _ _ _ _ ?_ ?_
  · intro y
    refine Eq.trans (congrFun ?_ y) (piece_ld _ _ ⟨0, by decide⟩ ⟨3, by decide⟩ ⟨0, by decide⟩ (by decide) y)
    dsimp only [stored, placed, dotTile, joined]
    rfl
  refine cons_pieces _ _ _ _ ?_ ?_
  · intro y
    refine Eq.trans (congrFun ?_ y) (piece_ld _ _ ⟨0, by decide⟩ ⟨2, by decide⟩ ⟨0, by decide⟩ (by decide) y)
    dsimp only [stored, placed, dotTile, joined]
    rfl
  refine cons_pieces _ _ _ _ ?_ ?_
  · intro y
    refine Eq.trans (congrFun ?_ y) (piece_ld _ _ ⟨0, by decide⟩ ⟨1, by decide⟩ ⟨0, by decide⟩ (by decide) y)
    dsimp only [stored, placed, dotTile, joined]
    rfl
  refine cons_pieces _ _ _ _ ?_ ?_
  · intro y
    refine Eq.trans (congrFun ?_ y) (piece_ld _ _ ⟨0, by decide⟩ ⟨0, by decide⟩ ⟨0, by decide⟩ (by decide) y)
    dsimp only [stored, placed, dotTile, joined]
    rfl
  exact fun p hp => absurd hp List.not_mem_nil

end Cert.KernelFourierIdeal.Val

end
-- ==== Proof.FourReference.lean ====
/-
  The plain transform read at an index: the same sum over the words' halves and the tables.
-/
module

public import proofs.«01_k».proof.Proof.FourRow
public import proofs.«01_k».proof.Proof.Gen.ReferenceFourierIdeal.Run
public import Idealize.ShloMosaic.Lib.Pointwise

@[expose] public section

set_option maxRecDepth 16384

noncomputable section

open scoped BigOperators

namespace Cert.ReferenceFourierIdeal.Val

open Cert.ReferenceFourierIdeal Cert.ReferenceFourierIdeal.Gen Cert.CombRow Cert.FourRow
open Idealize.ShloMosaic Idealize.ShloMosaic.TcCoe Idealize.SL.Sem

/-- The products of a frequency and a position. -/
def prodArr : IVec S128x128 32 :=
  muli (broadcastInDim S128x128 ![0, 1] bcast_S128x1_S128x128_0_1 (broadcastInDim S128x1 ![0] bcast_S128_S128x1_0
    (iotaInDim S128 32 0))) (broadcastInDim S128x128 ![0, 1] bcast_S1x128_S128x128_0_1 (broadcastInDim S1x128 ![1]
    bcast_S128_S1x128_1 (iotaInDim S128 32 0)))

/-- The modulus, 128. -/
def modArr : IVec S_ 32 :=
  select (cmpi .eq (id (constantI S_ 32 128#32)) (constantI S_ 32 0#32)) (constantI S_ 32 1#32) (id (constantI S_ 32
    128#32))

/-- The angles: the products' remainders times 2π / 128. -/
def angArr : FVec Ideal S128x128 .f32 :=
  mulf (sitofp .f32 (select (andi (cmpi .ne (cmpi .slt (Host.remsi prodArr (broadcastInDim S128x128 ![]
    bcast_S_S128x128 modArr)) (broadcastInDim S128x128 ![] bcast_S_S128x128 (constantI S_ 32 0#32))) (broadcastInDim
    S128x128 ![] bcast_S_S128x128 (cmpi .slt modArr (constantI S_ 32 0#32)))) (cmpi .ne (Host.remsi prodArr
    (broadcastInDim S128x128 ![] bcast_S_S128x128 modArr)) (broadcastInDim S128x128 ![] bcast_S_S128x128 (constantI S_
    32 0#32)))) (addi (Host.remsi prodArr (broadcastInDim S128x128 ![] bcast_S_S128x128 modArr)) (broadcastInDim
    S128x128 ![] bcast_S_S128x128 modArr)) (Host.remsi prodArr (broadcastInDim S128x128 ![] bcast_S_S128x128
    modArr)))) (broadcastInDim S128x128 ![] bcast_S_S128x128 (constant S_ .f32 0x3D490FDB#32))

/-- The table of cosines, scaled. -/
def cosArr : FVec Ideal S128x128 .f32 :=
  mulf (Host.cos angArr) (broadcastInDim S128x128 ![] bcast_S_S128x128 (constant S_ .f32 0x3DB504F3#32))

/-- The table of negated sines, scaled. -/
def sinArr : FVec Ideal S128x128 .f32 :=
  mulf (Host.negf (Host.sin angArr)) (broadcastInDim S128x128 ![] bcast_S_S128x128 (constant S_ .f32 0x3DB504F3#32))

/-- The two halves of every word: a row to a position, a column to a channel group, a sequence, a block, a place and a channel. -/
def groupArr (w : IVec S2x2x16x128x8x128 32) : FVec Ideal S128x131072 .f32 :=
  shapeCast S128x131072 (transpose S128x2x2x2x16x8x128 [4, 0, 1, 2, 3, 5, 6] (concatenate S2x2x2x16x128x8x128 1
    [⟨S2x1x2x16x128x8x128, (broadcastInDim S2x1x2x16x128x8x128 ![0, 2, 3, 4, 5, 6]
    bcast_S2x2x16x128x8x128_S2x1x2x16x128x8x128_0_2_3_4_5_6 (bitcastToFloat (F := Ideal) .f32 (andi w (broadcastInDim
    S2x2x16x128x8x128 ![] bcast_S_S2x2x16x128x8x128 (constantI S_ 32 4294901760#32)))))⟩, ⟨S2x1x2x16x128x8x128,
    (broadcastInDim S2x1x2x16x128x8x128 ![0, 2, 3, 4, 5, 6] bcast_S2x2x16x128x8x128_S2x1x2x16x128x8x128_0_2_3_4_5_6
    (bitcastToFloat (F := Ideal) .f32 (Host.shli w (broadcastInDim S2x2x16x128x8x128 ![] bcast_S_S2x2x16x128x8x128
    (constantI S_ 32 16#32)))))⟩] concatenates_S2x1x2x16x128x8x128_S2x1x2x16x128x8x128_S2x2x2x16x128x8x128_d1)
    transposes_S2x2x2x16x128x8x128_S128x2x2x2x16x8x128_4_0_1_2_3_5_6) shapeCasts_S128x2x2x2x16x8x128_S128x131072

/-- A table times the columns. -/
def dotArr (t : FVec Ideal S128x128 .f32) (z : FVec Ideal S128x131072 .f32) : FVec Ideal S128x131072 .f32 :=
  Host.dotGeneral dot_S128x128_S128x131072_S128x131072_1_0_0_1_n_n none t z

/-- The two parts, stacked. -/
def stackArr (re im : FVec Ideal S128x131072 .f32) : FVec Ideal S2x128x131072 .f32 :=
  concatenate S2x128x131072 0 [⟨S1x128x131072, (broadcastInDim S1x128x131072 ![1, 2]
    bcast_S128x131072_S1x128x131072_1_2 re)⟩, ⟨S1x128x131072, (broadcastInDim S1x128x131072 ![1, 2]
    bcast_S128x131072_S1x128x131072_1_2 im)⟩] concatenates_S1x128x131072_S1x128x131072_S2x128x131072_d0

/-- Both parts put in order: part, channel group, sequence, block, frequency with place, channel. -/
def orderArr (x : FVec Ideal S2x128x131072 .f32) : FVec Ideal S2x4x2x16x1024x128 .bf16 :=
  truncf .bf16 (shapeCast S2x4x2x16x1024x128 (transpose S2x4x2x16x128x8x128 [0, 2, 3, 4, 1, 5, 6] (shapeCast
    S2x128x4x2x16x8x128 x shapeCasts_S2x128x131072_S2x128x4x2x16x8x128)
    transposes_S2x128x4x2x16x8x128_S2x4x2x16x128x8x128_0_2_3_4_1_5_6)
    shapeCasts_S2x4x2x16x128x8x128_S2x4x2x16x1024x128) bitsLt_bf16_f32

/-- The column of a channel group, a sequence, a block, a place and a channel. -/
def col (g : Fin 4) (b : Fin 2) (e : Fin 16) (s : Fin 8) (d : Fin 128) : Fin 131072 :=
  ⟨g.val * 32768 + b.val * 16384 + e.val * 1024 + s.val * 128 + d.val, by omega⟩

/-- A choice whose two branches are known. -/
theorem dite_at (p : Prop) [Decidable p] (f : p → EReal) (g : ¬p → EReal) (a b : EReal) (hf : ∀ h, f h = a)
    (hg : ∀ h, g h = b) : dite p f g = if p then a else b := by
  by_cases h : p
  · rw [dif_pos h, if_pos h, hf]
  · rw [dif_neg h, if_neg h, hg]

theorem groupArr_at (w : IVec S2x2x16x128x8x128 32) (n : Fin 128) (g : Fin 4) (b : Fin 2) (e : Fin 16) (s : Fin 8) (d : Fin 128) :
    groupArr w (ix2 n (col g b e s d)) = half g.val (w (ix6 ⟨g.val / 2, by omega⟩ b e n s d)) := by
  have h1 : (g.val * 32768 + b.val * 16384 + e.val * 1024 + s.val * 128 + d.val) / 32768 % 2 = g.val % 2 := by omega
  have h2 : (g.val * 32768 + b.val * 16384 + e.val * 1024 + s.val * 128 + d.val) / 65536 = g.val / 2 := by omega
  unfold half upper lower col
  pointwise [groupArr]
  simp only [shift_word, h1, h2]
  exact dite_at _ _ _ _ _ (fun _ => rfl) (fun _ => rfl)

theorem dotArr_at (t : FVec Ideal S128x128 .f32) (z : FVec Ideal S128x131072 .f32) (k : Fin 128) (j : Fin 131072) :
    dotArr t z (ix2 k j) = ∑ n : Fin 128, t (ix2 k n) * z (ix2 n j) := by
  pointwise [dotArr]

theorem stackArr_at (re im : FVec Ideal S128x131072 .f32) (q : Fin 2) (k : Fin 128) (j : Fin 131072) :
    stackArr re im (ix3 q k j) = if q.val < 1 then re (ix2 k j) else im (ix2 k j) := by
  pointwise [stackArr]
  exact dite_at (q.val < 1) _ _ _ _ (fun _ => rfl) (fun _ => rfl)

theorem orderArr_at (x : FVec Ideal S2x128x131072 .f32)
    (q : Fin 2) (g : Fin 4) (b : Fin 2) (e : Fin 16) (r : Fin 1024) (d : Fin 128) :
    orderArr x (ix6 q g b e r d) = x (ix3 q ⟨r.val / 8, by omega⟩ (col g b e ⟨r.val % 8, by omega⟩ d)) := by
  unfold col
  pointwise [orderArr]

/-- The stages together. -/
theorem stages_eq (w : IVec S2x2x16x128x8x128 32) (c s : FVec Ideal S128x128 .f32) :
    orderArr (stackArr (dotArr c (groupArr w)) (dotArr s (groupArr w))) = rot c s w := by
  funext i
  have hi : i = (ix6 (n0 := 2) (n1 := 4) (n2 := 2) (n3 := 16) (n4 := 1024) (n5 := 128) (i 0) (i 1) (i 2) (i 3) (i 4) (i 5)
      : S2x4x2x16x1024x128.Idx) := by
    funext a
    match a with | ⟨0, _⟩ => rfl | ⟨1, _⟩ => rfl | ⟨2, _⟩ => rfl | ⟨3, _⟩ => rfl | ⟨4, _⟩ => rfl | ⟨5, _⟩ => rfl
  refine (congrArg (orderArr (stackArr (dotArr c (groupArr w)) (dotArr s (groupArr w)))) hi).trans
    ((orderArr_at _ (i 0) (i 1) (i 2) (i 3) (i 4) (i 5)).trans ((stackArr_at _ _ _ _ _).trans ?_))
  simp only [dotArr_at]
  unfold rot rotAt
  split
  · exact Finset.sum_congr rfl fun n _ => congrArg (c _ * ·) (groupArr_at w n _ _ _ _ _)
  · exact Finset.sum_congr rfl fun n _ => congrArg (s _ * ·) (groupArr_at w n _ _ _ _ _)

variable (m : (ℓ : Loc nD τ sig) → Buf (Elt Ideal) ℓ)

/-- The reference's result is the transform of its argument. -/
theorem result_eq (c : Dev nD) : Value.res_out0 m c = rot cosArr sinArr (m ((c : Thread nD τ).loc main_arg0)) :=
  Eq.trans (by unfold Value.res_out0 Value.res_main_v36 orderArr stackArr dotArr groupArr cosArr sinArr angArr prodArr modArr; rfl) (stages_eq _ _ _)

end Cert.ReferenceFourierIdeal.Val

end
-- ==== Proof.FourArray.lean ====
/-
  The array the Fourier mixing's first stage leaves: each of the eight grid points writes back the transform of four blocks of
  one sequence; together they fill the array with the transform of the argument.
-/
module

public import proofs.«01_k».proof.Proof.FourBlock
public import proofs.«01_k».proof.Proof.FourReference
public import Idealize.ShloMosaic.Lib.StableHlo.ReadAt

@[expose] public section

set_option maxRecDepth 16384

noncomputable section

open scoped BigOperators

namespace Cert.KernelFourierIdeal.Val

open Cert.KernelFourierIdeal Cert.KernelFourierIdeal.Gen Cert.CombRow Cert.FourRow
open Idealize.ShloMosaic Idealize.ShloMosaic.TcCoe Idealize.SL.Sem
open Cert.ReferenceFourierIdeal.Val (cosArr sinArr)

variable (m : (ℓ : Loc nD τ sig) → Buf (Elt Ideal) ℓ)

/-- The words, a row to a position and a place. -/
theorem V17_at (c : Dev nD) (p b : Fin 2) (e : Fin 16) (r : Fin 1024) (d : Fin 128) :
    V m c main_v17 (ix5 p b e r d)
      = m ((c : Thread nD τ).loc main_arg0) (ix6 p b e ⟨r.val / 8, by omega⟩ ⟨r.val % 8, by omega⟩ d) := by
  unfold V
  after_reads_at

/-- The table: the cosines above the sines. -/
theorem V16_at (c : Dev nD) (k : Fin 256) (n : Fin 128) :
    V m c main_v16 (ix2 k n) = if h : k.val < 128 then cosArr (ix2 ⟨k.val, h⟩ n) else sinArr (ix2 ⟨k.val - 128, by omega⟩ n) := by
  unfold V
  after_reads_at
  by_cases h : k.val < 128
  · rw [dif_pos h, dif_pos h]
    after_reads_at
    rfl
  · rw [dif_neg h, dif_neg h]
    after_reads_at
    rfl

/-- Where each window's block lies at a grid point. -/
theorem idx0 : ∀ t : Fin grid0.N, win0_0.index t 0 = 0 ∧ win0_0.index t 1 = 0 := by decide +kernel
theorem idx1 : ∀ t : Fin grid0.N, win0_1.index t 0 = 0 ∧ win0_1.index t 1 = t.val / 4 ∧ win0_1.index t 2 = t.val % 4
    ∧ win0_1.index t 3 = 0 ∧ win0_1.index t 4 = 0 := by decide +kernel
theorem idx2 : ∀ t : Fin grid0.N, win0_2.index t 0 = 0 ∧ win0_2.index t 1 = 0 ∧ win0_2.index t 2 = t.val / 4
    ∧ win0_2.index t 3 = t.val % 4 ∧ win0_2.index t 4 = 0 ∧ win0_2.index t 5 = 0 := by decide +kernel
theorem flush2 : ∀ t : Fin grid0.N, win0_2.flush t = true := by decide +kernel

/-- The table's block is the whole table at every point. -/
theorem blk0_at (c : Dev nD) (t : Fin cfg0.N) (k : Fin 256) (n : Fin 128) :
    iblk m c 0 t (ix2 k n) = if h : k.val < 128 then cosArr (ix2 ⟨k.val, h⟩ n) else sinArr (ix2 ⟨k.val - 128, by omega⟩ n) := by
  refine Eq.trans ?_ (V16_at m c k n)
  show V m c main_v16 ((win0_0.rect t).emb (ix2 k n)) = _
  congr 1
  funext a
  apply Fin.ext
  match a with
  | ⟨0, _⟩ => show win0_0.index t 0 * 256 + 1 * k.val = k.val; rw [(idx0 t).1]; omega
  | ⟨1, _⟩ => show win0_0.index t 1 * 128 + 1 * n.val = n.val; rw [(idx0 t).2]; omega

/-- A word of the block at point `t`: four blocks of the sequence `t / 4`. -/
theorem blk1_at (c : Dev nD) (t : Fin cfg0.N) (ht : t.val < 8) (p : Fin 2) (s : Fin 4) (r : Fin 1024) (d : Fin 128) :
    iblk m c 1 t (ix5 p 0 s r d)
      = m ((c : Thread nD τ).loc main_arg0) (ix6 p ⟨t.val / 4, by omega⟩ ⟨4 * (t.val % 4) + s.val, by have := s.isLt; omega⟩
          ⟨r.val / 8, by have := r.isLt; omega⟩ ⟨r.val % 8, by omega⟩ d) := by
  refine Eq.trans ?_ (V17_at m c p ⟨t.val / 4, by omega⟩ ⟨4 * (t.val % 4) + s.val, by have := s.isLt; omega⟩ r d)
  show V m c main_v17 ((win0_1.rect t).emb (ix5 p 0 s r d)) = _
  congr 1
  funext a
  apply Fin.ext
  match a with
  | ⟨0, _⟩ => show win0_1.index t 0 * 2 + 1 * p.val = p.val; rw [(idx1 t).1]; omega
  | ⟨1, _⟩ => show win0_1.index t 1 * 1 + 1 * 0 = t.val / 4; rw [(idx1 t).2.1]; omega
  | ⟨2, _⟩ => show win0_1.index t 2 * 4 + 1 * s.val = 4 * (t.val % 4) + s.val; rw [(idx1 t).2.2.1]; omega
  | ⟨3, _⟩ => show win0_1.index t 3 * 1024 + 1 * r.val = r.val; rw [(idx1 t).2.2.2.1]; omega
  | ⟨4, _⟩ => show win0_1.index t 4 * 128 + 1 * d.val = d.val; rw [(idx1 t).2.2.2.2]; omega

/-- The result array: the transform of the argument. -/
def result (c : Dev nD) : Buf (Elt Ideal) ((c : Thread nD τ).loc main_v18) :=
  rot cosArr sinArr (m ((c : Thread nD τ).loc main_arg0))

theorem fourBlock_at (f : Vec Ideal S256x128 .bf16) (x : Vec Ideal S2x1x4x1024x128 .i32) (q : Fin 2) (g s : Fin 4) (r : Fin 1024) (d : Fin 128) :
    fourBlock f x (ix6 q g 0 s r d) = ∑ n : Fin 128, f (ix2 ⟨q.val * 128 + r.val / 8, by omega⟩ n)
      * half g.val (x (ix5 ⟨g.val / 2, by omega⟩ 0 s ⟨8 * n.val + r.val % 8, by omega⟩ d)) := rfl

theorem rot_at (c s : S128x128.Idx → EReal) (z : S2x2x16x128x8x128.Idx → BitVec 32) (q : Fin 2) (g : Fin 4) (b : Fin 2) (e : Fin 16)
    (r : Fin 1024) (d : Fin 128) : rot c s z (ix6 q g b e r d) = rotAt c s z q g b e r d := rfl

/-- An entry of a point's output block is an entry of the transform. -/
theorem block_at (c : Dev nD) (t : Fin cfg0.N) (ht : t.val < 8) (q : Fin 2) (g s : Fin 4) (r : Fin 1024) (d : Fin 128) :
    fourBlock (iblk m c 0 t) (iblk m c 1 t) (ix6 q g 0 s r d)
      = result m c (ix6 (n0 := 2) (n1 := 4) (n2 := 2) (n3 := 16) (n4 := 1024) (n5 := 128) q g ⟨t.val / 4, by omega⟩
          ⟨4 * (t.val % 4) + s.val, by have := s.isLt; omega⟩ r d) := by
  have hq := q.isLt
  have hg := g.isLt
  have hr := r.isLt
  refine (fourBlock_at _ _ q g s r d).trans (Eq.trans ?_ (rot_at _ _ _ _ _ _ _ _ _).symm)
  unfold rotAt
  refine Finset.sum_congr rfl fun n _ => ?_
  have hn := n.isLt
  rw [blk0_at m c t, blk1_at m c t ht]
  have e1 : (if h : q.val * 128 + r.val / 8 < 128 then cosArr (ix2 ⟨q.val * 128 + r.val / 8, h⟩ n)
      else sinArr (ix2 ⟨q.val * 128 + r.val / 8 - 128, by omega⟩ n))
      = if q.val < 1 then cosArr (ix2 ⟨r.val / 8, by omega⟩ n) else sinArr (ix2 ⟨r.val / 8, by omega⟩ n) := by
    by_cases h : q.val < 1
    · rw [dif_pos (show q.val * 128 + r.val / 8 < 128 by omega), if_pos h]
      exact congrArg (fun k => cosArr (ix2 k n)) (Fin.ext (show q.val * 128 + r.val / 8 = r.val / 8 by omega))
    · rw [dif_neg (show ¬q.val * 128 + r.val / 8 < 128 by omega), if_neg h]
      exact congrArg (fun k => sinArr (ix2 k n)) (Fin.ext (show q.val * 128 + r.val / 8 - 128 = r.val / 8 by omega))
  have e2 : ∀ h : (8 * n.val + r.val % 8) / 8 < 128, (⟨(8 * n.val + r.val % 8) / 8, h⟩ : Fin 128) = n := fun _ =>
    Fin.ext (show (8 * n.val + r.val % 8) / 8 = n.val by omega)
  have e3 : (8 * n.val + r.val % 8) % 8 = r.val % 8 := by omega
  refine congrArg₂ (· * ·) e1 ?_
  simp only [e2, e3]

/-- What each point writes back is its block of the result. -/
theorem flushed_eq (c : Dev nD) (t : Fin cfg0.N) (hf : (cfg0.win 2).flush t = true) :
    (dats m 0 c).flushed 2 t = ((cfg0.win 2).blk t).view.read (Elt Ideal) (result m c) := by
  have hN : cfg0.N = 8 := N_0
  have ht : t.val < 8 := hN ▸ t.isLt
  rw [Value.flushed2_A m c t, out_A]
  funext y
  have hy : y = (ix6 (n0 := 2) (n1 := 4) (n2 := 1) (n3 := 4) (n4 := 1024) (n5 := 128) (y 0) (y 1) 0 (y 3) (y 4) (y 5) : S2x4x1x4x1024x128.Idx) := by
    funext a
    match a with
    | ⟨0, _⟩ => rfl
    | ⟨1, _⟩ => rfl
    | ⟨2, _⟩ => exact Fin.ext (by have h : (y 2).val < 1 := (y 2).isLt; show (y 2).val = 0; omega)
    | ⟨3, _⟩ => rfl
    | ⟨4, _⟩ => rfl
    | ⟨5, _⟩ => rfl
  rw [hy]
  refine (block_at m c t ht (y 0) (y 1) (y 3) (y 4) (y 5)).trans ?_
  show _ = result m c ((win0_2.rect t).emb (ix6 (n0 := 2) (n1 := 4) (n2 := 1) (n3 := 4) (n4 := 1024) (n5 := 128) (y 0) (y 1) 0 (y 3) (y 4) (y 5)))
  congr 1
  funext a
  apply Fin.ext
  match a with
  | ⟨0, _⟩ => show (y 0).val = win0_2.index t 0 * 2 + 1 * (y 0).val; rw [(idx2 t).1]; omega
  | ⟨1, _⟩ => show (y 1).val = win0_2.index t 1 * 4 + 1 * (y 1).val; rw [(idx2 t).2.1]; omega
  | ⟨2, _⟩ => show t.val / 4 = win0_2.index t 2 * 1 + 1 * 0; rw [(idx2 t).2.2.1]; omega
  | ⟨3, _⟩ => show 4 * (t.val % 4) + (y 3).val = win0_2.index t 3 * 4 + 1 * (y 3).val; rw [(idx2 t).2.2.2.1]; omega
  | ⟨4, _⟩ => show (y 4).val = win0_2.index t 4 * 1024 + 1 * (y 4).val; rw [(idx2 t).2.2.2.2.1]; omega
  | ⟨5, _⟩ => show (y 5).val = win0_2.index t 5 * 128 + 1 * (y 5).val; rw [(idx2 t).2.2.2.2.2]; omega

/-- So the array ends holding the result: sequence `b`, block `e` is written at point `4 b + e / 4`. -/
theorem final (c : Dev nD) : (dats m 0 c).arrAt 2 cfg0.N = result m c :=
  (dats m 0 c).arrAt_eq_of_cover 2 (result m c) (flushed_eq m c) fun i => by
    have hN : grid0.N = 8 := N_0
    have h0 : (i 0 : Nat) < 2 := (i 0).isLt
    have h1 : (i 1 : Nat) < 4 := (i 1).isLt
    have h2 : (i 2 : Nat) < 2 := (i 2).isLt
    have h3 : (i 3 : Nat) < 16 := (i 3).isLt
    have h4 : (i 4 : Nat) < 1024 := (i 4).isLt
    have h5 : (i 5 : Nat) < 128 := (i 5).isLt
    refine ⟨⟨4 * (i 2 : Nat) + (i 3 : Nat) / 4, by show _ < grid0.N; omega⟩, flush2 _, ?_⟩
    generalize ht : (⟨4 * (i 2 : Nat) + (i 3 : Nat) / 4, _⟩ : Fin cfg0.N) = t
    have hv : t.val = 4 * (i 2 : Nat) + (i 3 : Nat) / 4 := by rw [← ht]
    show i ∈ ((View.whole main_v18).slice (win0_2.rect t)).set
    rw [View.set_slice_whole, Rect.mem_set_unit]
    intro a
    match a with
    | ⟨0, _⟩ =>
      show win0_2.index t 0 * 2 ≤ (i 0 : Nat) ∧ (i 0 : Nat) < win0_2.index t 0 * 2 + 2
      rw [(idx2 t).1]; omega
    | ⟨1, _⟩ =>
      show win0_2.index t 1 * 4 ≤ (i 1 : Nat) ∧ (i 1 : Nat) < win0_2.index t 1 * 4 + 4
      rw [(idx2 t).2.1]; omega
    | ⟨2, _⟩ =>
      show win0_2.index t 2 * 1 ≤ (i 2 : Nat) ∧ (i 2 : Nat) < win0_2.index t 2 * 1 + 1
      rw [(idx2 t).2.2.1]; omega
    | ⟨3, _⟩ =>
      show win0_2.index t 3 * 4 ≤ (i 3 : Nat) ∧ (i 3 : Nat) < win0_2.index t 3 * 4 + 4
      rw [(idx2 t).2.2.2.1]; omega
    | ⟨4, _⟩ =>
      show win0_2.index t 4 * 1024 ≤ (i 4 : Nat) ∧ (i 4 : Nat) < win0_2.index t 4 * 1024 + 1024
      rw [(idx2 t).2.2.2.2.1]; omega
    | ⟨5, _⟩ =>
      show win0_2.index t 5 * 128 ≤ (i 5 : Nat) ∧ (i 5 : Nat) < win0_2.index t 5 * 128 + 128
      rw [(idx2 t).2.2.2.2.2]; omega

end Cert.KernelFourierIdeal.Val

end
-- ==== Proof.FourClaim.lean ====
/-
  The claims of the Fourier mixing's first stage put together: the runs of the two programs end with equal results from equal
  arguments, and each program leaves its argument as it was and every semaphore at zero.
-/
module

public import proofs.«01_k».proof.Proof.FourArray
public import proofs.«01_k».proof.Proof.Gen.KernelFourier.Frame
public import proofs.«01_k».proof.Defs

@[expose] public section

noncomputable section

namespace Cert.Proof.FourClaim

open Idealize.ShloMosaic Idealize.ShloMosaic.TcCoe Idealize.SL.Sem

theorem frameKernel : Cert.quiescent_KernelFourier := fun m ρ _ => Cert.KernelFourier.Gen.frame m ρ
theorem frameIdeal : Cert.quiescent_KernelFourierIdeal := fun m ρ _ => Cert.KernelFourierIdeal.Gen.frame m ρ

/-- The reference is a run of host operations: its argument stays, and it declares no semaphore. -/
theorem frameReference : Cert.quiescent_ReferenceFourierIdeal := fun m ρ _ =>
  (θ_run Cert.ReferenceFourierIdeal.defs _ _).mono (fun r h => ⟨fun c => (h c).2, sem_eq_zero_of_no_sems (by decide) r.2⟩)
    (Cert.ReferenceFourierIdeal.Value.run (F := Ideal) m ρ)

theorem preserves : Cert.preserves_KernelFourier_KernelFourierIdeal := trivial

/-- Both runs end at the transform of the argument. -/
theorem algebraic : Cert.algebraic_KernelFourierIdeal_ReferenceFourierIdeal := fun m ρ m' ρ' _ hag =>
  ⟨fun c => Cert.KernelFourierIdeal.Val.result m c,
    (θ_run Cert.KernelFourierIdeal.defs _ _).mono
      (fun _ h c => ⟨(h c).1.trans (Cert.KernelFourierIdeal.Val.final m c), (h c).2⟩)
      (Cert.KernelFourierIdeal.Value.run_blocks m ρ),
    (θ_run Cert.ReferenceFourierIdeal.defs _ _).mono
      (fun _ h c => ⟨(h c).1.trans ((Cert.ReferenceFourierIdeal.Val.result_eq m' c).trans (by
        have e0 := hag c
        unfold Cert.KernelFourierIdeal.Val.result
        rw [e0])), (h c).2⟩)
      (Cert.ReferenceFourierIdeal.Value.run (F := Ideal) m' ρ')⟩

end Cert.Proof.FourClaim

end
-- ==== Proof.lean ====
module

public import proofs.«01_k».proof.Defs
public import proofs.«01_k».proof.Proof.FfnClaim
public import proofs.«01_k».proof.Proof.RetClaim
public import proofs.«01_k».proof.Proof.ProjClaim
public import proofs.«01_k».proof.Proof.CombClaim
public import proofs.«01_k».proof.Proof.FourClaim

@[expose] public section

noncomputable section

namespace Cert.Proof

open Idealize.ShloMosaic Idealize.SL.Sem

/-- The relations of sizes and shapes that the precondition's operations ask for. -/
theorem factsFinite : Cert.Pre_finite_qkv.Facts where
  bitsLt_bf16_f32 := by decide
  bcast_S_S32768x512 := by decide
  reducesTo_S32768x512_S_d0_1 := by decide
  h_S_ := by decide

theorem claim : Cert.Claim :=
  haveI := factsFinite
  ⟨Cert.Kernel.Gen.facts, Cert.KernelIdeal.Gen.facts, Cert.ReferenceIdeal.Gen.facts, Cert.KernelFfn.Gen.facts,
    Cert.KernelFfnIdeal.Gen.facts, Cert.ReferenceFfnIdeal.Gen.facts, Cert.KernelProj.Gen.facts, Cert.KernelProjIdeal.Gen.facts,
    Cert.ReferenceProjIdeal.Gen.facts, Cert.KernelCombine.Gen.facts, Cert.KernelCombineIdeal.Gen.facts,
    Cert.ReferenceCombineIdeal.Gen.facts, Cert.KernelFourier.Gen.facts, Cert.KernelFourierIdeal.Gen.facts,
    Cert.ReferenceFourierIdeal.Gen.facts, factsFinite,
    RetClaim.frameKernel, RetClaim.frameIdeal, RetClaim.frameIdealPre, RetClaim.frameReference, RetClaim.frameReferencePre,
    FfnClaim.frameKernel, FfnClaim.frameIdeal, FfnClaim.frameReference,
    ProjClaim.frameKernel, ProjClaim.frameIdeal, ProjClaim.frameReference,
    CombClaim.frameKernel, CombClaim.frameIdeal, CombClaim.frameReference,
    FourClaim.frameKernel, FourClaim.frameIdeal, FourClaim.frameReference,
    trivial, RetClaim.algebraic, FfnClaim.preserves, FfnClaim.algebraic, ProjClaim.preserves,
    ProjClaim.algebraic, CombClaim.preserves, CombClaim.algebraic, FourClaim.preserves, FourClaim.algebraic⟩

end Cert.Proof

end
